-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.bf16_pair.Statement Cert.KernelIdeal.S64x256 Cert.KernelIdeal.S32x256
  ∧ IdealRules.bf16_pair.Statement Cert.KernelIdeal.S64x128 Cert.KernelIdeal.S32x128
  ∧ IdealRules.truncf_extf.Statement Cert.KernelIdeal.S8x128 .f32 .bf16

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v101) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x256x2880 : Shape := ⟨3, ![3, 256, 2880]⟩
abbrev S2880x5760 : Shape := ⟨2, ![2880, 5760]⟩
abbrev S3x2880x256 : Shape := ⟨3, ![3, 2880, 256]⟩
abbrev S768x5760 : Shape := ⟨2, ![768, 5760]⟩
abbrev S24x768x128 : Shape := ⟨3, ![24, 768, 128]⟩
abbrev S45x2x32x128 : Shape := ⟨4, ![45, 2, 32, 128]⟩
abbrev S2880x640 : Shape := ⟨2, ![2880, 640]⟩
abbrev S768x640 : Shape := ⟨2, ![768, 640]⟩
abbrev S3072x640 : Shape := ⟨2, ![3072, 640]⟩
abbrev S64x256 : Shape := ⟨2, ![64, 256]⟩
abbrev S1x64x256 : Shape := ⟨3, ![1, 64, 256]⟩
abbrev S32x256 : Shape := ⟨2, ![32, 256]⟩
abbrev S128x256 : Shape := ⟨2, ![128, 256]⟩
abbrev S256x128 : Shape := ⟨2, ![256, 128]⟩
abbrev S1x256x128 : Shape := ⟨3, ![1, 256, 128]⟩
abbrev S192x640 : Shape := ⟨2, ![192, 640]⟩
abbrev S32 : Shape := ⟨1, ![32]⟩
abbrev S32x1 : Shape := ⟨2, ![32, 1]⟩
abbrev S32x128 : Shape := ⟨2, ![32, 128]⟩
abbrev S1x1x32x128 : Shape := ⟨4, ![1, 1, 32, 128]⟩
abbrev S64x128 : Shape := ⟨2, ![64, 128]⟩
abbrev S128 : Shape := ⟨1, ![128]⟩
abbrev S1x128 : Shape := ⟨2, ![1, 128]⟩
abbrev S1x768x128 : Shape := ⟨3, ![1, 768, 128]⟩
abbrev S768x128 : Shape := ⟨2, ![768, 128]⟩
abbrev S768x256 : Shape := ⟨2, ![768, 256]⟩
abbrev S256x640 : Shape := ⟨2, ![256, 640]⟩
abbrev S20x5760 : Shape := ⟨2, ![20, 5760]⟩
abbrev S20x1440x5760 : Shape := ⟨3, ![20, 1440, 5760]⟩
abbrev S20x45x5760 : Shape := ⟨3, ![20, 45, 5760]⟩
abbrev S2x1440x640 : Shape := ⟨3, ![2, 1440, 640]⟩
abbrev S2x45x640 : Shape := ⟨3, ![2, 45, 640]⟩
abbrev S2x45x2x32x128 : Shape := ⟨5, ![2, 45, 2, 32, 128]⟩
abbrev S2x384x128 : Shape := ⟨3, ![2, 384, 128]⟩
abbrev S2x2x48x128 : Shape := ⟨4, ![2, 2, 48, 128]⟩
abbrev S2x2x3072x128 : Shape := ⟨4, ![2, 2, 3072, 128]⟩
abbrev S45x20x128 : Shape := ⟨3, ![45, 20, 128]⟩
abbrev S32x128x1 : Shape := ⟨3, ![32, 128, 1]⟩
abbrev S1x1x1x32x128 : Shape := ⟨5, ![1, 1, 1, 32, 128]⟩
abbrev S4x8x128 : Shape := ⟨3, ![4, 8, 128]⟩
abbrev S8x128 : Shape := ⟨2, ![8, 128]⟩
abbrev S1x8x128 : Shape := ⟨3, ![1, 8, 128]⟩
abbrev S1x1x8x128 : Shape := ⟨4, ![1, 1, 8, 128]⟩
abbrev S5x128 : Shape := ⟨2, ![5, 128]⟩
abbrev S1x5x128 : Shape := ⟨3, ![1, 5, 128]⟩
abbrev S1x1x1x128 : Shape := ⟨4, ![1, 1, 1, 128]⟩
abbrev S1x32x128 : Shape := ⟨3, ![1, 32, 128]⟩
abbrev S1x1x256x128 : Shape := ⟨4, ![1, 1, 256, 128]⟩
abbrev S256x256 : Shape := ⟨2, ![256, 256]⟩
abbrev S24x32x128 : Shape := ⟨3, ![24, 32, 128]⟩
abbrev S1x1x128 : Shape := ⟨3, ![1, 1, 128]⟩
abbrev S1x20x128 : Shape := ⟨3, ![1, 20, 128]⟩
abbrev S20x128 : Shape := ⟨2, ![20, 128]⟩

abbrev nBuf : Space → Nat
  | .hbm => 9
  | .vmem => 27
  | .smem => 0
  | _ => 0

abbrev bufTy : (tb : Table) → Fin (tcTables nBuf tb) → BufTy
  | .hbm, ⟨0, _⟩ => ⟨S3x256x2880, .bf16⟩
  | .hbm, ⟨1, _⟩ => ⟨S2880x5760, .bf16⟩
  | .hbm, ⟨2, _⟩ => ⟨S3x2880x256, .bf16⟩
  | .hbm, ⟨3, _⟩ => ⟨S768x5760, .f32⟩
  | .hbm, ⟨4, _⟩ => ⟨S24x768x128, .bf16⟩
  | .hbm, ⟨5, _⟩ => ⟨S45x2x32x128, .f32⟩
  | .hbm, ⟨6, _⟩ => ⟨S20x5760, .f32⟩
  | .hbm, ⟨7, _⟩ => ⟨S20x1440x5760, .i8⟩
  | .hbm, ⟨8, _⟩ => ⟨S20x45x5760, .f32⟩
  | .local _ .vmem, ⟨0, _⟩ => ⟨S3x2880x256, .bf16⟩
  | .local _ .vmem, ⟨1, _⟩ => ⟨S2880x640, .bf16⟩
  | .local _ .vmem, ⟨2, _⟩ => ⟨S2880x640, .bf16⟩
  | .local _ .vmem, ⟨3, _⟩ => ⟨S768x640, .f32⟩
  | .local _ .vmem, ⟨4, _⟩ => ⟨S768x640, .f32⟩
  | .local _ .vmem, ⟨5, _⟩ => ⟨S24x768x128, .bf16⟩
  | .local _ .vmem, ⟨6, _⟩ => ⟨S45x2x32x128, .f32⟩
  | .local _ .vmem, ⟨7, _⟩ => ⟨S45x2x32x128, .f32⟩
  | .local _ .vmem, ⟨8, _⟩ => ⟨S45x2x32x128, .f32⟩
  | .local _ .vmem, ⟨9, _⟩ => ⟨S3072x640, .bf16⟩
  | .local _ .vmem, ⟨10, _⟩ => ⟨S24x768x128, .bf16⟩
  | .local _ .vmem, ⟨11, _⟩ => ⟨S45x2x32x128, .f32⟩
  | .local _ .vmem, ⟨12, _⟩ => ⟨S768x5760, .f32⟩
  | .local _ .vmem, ⟨13, _⟩ => ⟨S2880x640, .bf16⟩
  | .local _ .vmem, ⟨14, _⟩ => ⟨S2880x640, .bf16⟩
  | .local _ .vmem, ⟨15, _⟩ => ⟨S20x5760, .f32⟩
  | .local _ .vmem, ⟨16, _⟩ => ⟨S2x1440x640, .i8⟩
  | .local _ .vmem, ⟨17, _⟩ => ⟨S2x1440x640, .i8⟩
  | .local _ .vmem, ⟨18, _⟩ => ⟨S2x45x640, .f32⟩
  | .local _ .vmem, ⟨19, _⟩ => ⟨S2x45x640, .f32⟩
  | .local _ .vmem, ⟨20, _⟩ => ⟨S2x45x2x32x128, .f32⟩
  | .local _ .vmem, ⟨21, _⟩ => ⟨S2x45x2x32x128, .bf16⟩
  | .local _ .vmem, ⟨22, _⟩ => ⟨S2x45x2x32x128, .f32⟩
  | .local _ .vmem, ⟨23, _⟩ => ⟨S2x384x128, .f32⟩
  | .local _ .vmem, ⟨24, _⟩ => ⟨S2x2x48x128, .f32⟩
  | .local _ .vmem, ⟨25, _⟩ => ⟨S2x2x3072x128, .bf16⟩
  | .local _ .vmem, ⟨26, _⟩ => ⟨S45x20x128, .f32⟩
  | _, _ => ⟨S3x256x2880, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc1_scratch3 : Ref sig .tc := ⟨.vmem, 23, rfl⟩
abbrev cc1_scratch4 : Ref sig .tc := ⟨.vmem, 24, rfl⟩
abbrev cc1_scratch5 : Ref sig .tc := ⟨.vmem, 25, rfl⟩
abbrev cc1_scratch6 : Ref sig .tc := ⟨.vmem, 26, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem6_1 : DmaSem sig := 16

abbrev nD : Nat := 1
abbrev τ : Topo := Topo.v7x

variable {F : FTy → Type} [BitOps F]

abbrev grid0 : Pipeline.Grid := ⟨1, ![9], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_942 : BitVec 32 := 0#32
  let c45_i32_943 : BitVec 32 := 45#32
  let v1759 : BitVec 32 := Scalar.addi c0_i32_942 c45_i32_943
  let c1_i32_944 : BitVec 32 := 1#32
  ⟨c0_i32_942, v1759, c1_i32_944⟩
def k0_mult1 (k0_t1 : Fin k0_t1_loop.trips) : BitVec 32 :=
  let c0_i32_942 : BitVec 32 := 0#32
  let c1_i32_944 : BitVec 32 := 1#32
  let arg9 : BitVec 32 := Scf.iv c0_i32_942 c1_i32_944 k0_t1
  let c64_i32 : BitVec 32 := 64#32
  let v1762 : BitVec 32 := Scalar.muli arg9 c64_i32
  v1762
def k0_off1 (k0_t1 : Fin k0_t1_loop.trips) : Fin 3 → Nat :=
  let c0_948 : Index := 0#32
  let c0_i32_942 : BitVec 32 := 0#32
  let c1_i32_944 : BitVec 32 := 1#32
  let arg9 : BitVec 32 := Scf.iv c0_i32_942 c1_i32_944 k0_t1
  let c64_i32 : BitVec 32 := 64#32
  let v1762 : BitVec 32 := Scalar.muli arg9 c64_i32
  let v1763 : BitVec 32 := v1762
  let v1764 : Index := Scalar.indexCast v1763
  let c0_949 : Index := 0#32
  ![0, v1764.toNat, 0]
def k0_mult2 (k0_t1 : Fin k0_t1_loop.trips) : BitVec 32 :=
  let c0_i32_942 : BitVec 32 := 0#32
  let c1_i32_944 : BitVec 32 := 1#32
  let arg9 : BitVec 32 := Scf.iv c0_i32_942 c1_i32_944 k0_t1
  let c64_i32_952 : BitVec 32 := 64#32
  let v1778 : BitVec 32 := Scalar.muli arg9 c64_i32_952
  v1778
def k0_off2 (k0_t1 : Fin k0_t1_loop.trips) : Fin 3 → Nat :=
  let c1_953 : Index := 1#32
  let c0_i32_942 : BitVec 32 := 0#32
  let c1_i32_944 : BitVec 32 := 1#32
  let arg9 : BitVec 32 := Scf.iv c0_i32_942 c1_i32_944 k0_t1
  let c64_i32_952 : BitVec 32 := 64#32
  let v1778 : BitVec 32 := Scalar.muli arg9 c64_i32_952
  let v1779 : BitVec 32 := v1778
  let v1780 : Index := Scalar.indexCast v1779
  let c0_954 : Index := 0#32
  ![1, v1780.toNat, 0]
def k0_mult3 (k0_t1 : Fin k0_t1_loop.trips) : BitVec 32 :=
  let c0_i32_942 : BitVec 32 := 0#32
  let c1_i32_944 : BitVec 32 := 1#32
  let arg9 : BitVec 32 := Scf.iv c0_i32_942 c1_i32_944 k0_t1
  let c64_i32_957 : BitVec 32 := 64#32
  let v1794 : BitVec 32 := Scalar.muli arg9 c64_i32_957
  v1794
def k0_off3 (k0_t1 : Fin k0_t1_loop.trips) : Fin 3 → Nat :=
  let c2_958 : Index := 2#32
  let c0_i32_942 : BitVec 32 := 0#32
  let c1_i32_944 : BitVec 32 := 1#32
  let arg9 : BitVec 32 := Scf.iv c0_i32_942 c1_i32_944 k0_t1
  let c64_i32_957 : BitVec 32 := 64#32
  let v1794 : BitVec 32 := Scalar.muli arg9 c64_i32_957
  let v1795 : BitVec 32 := v1794
  let v1796 : Index := Scalar.indexCast v1795
  let c0_959 : Index := 0#32
  ![2, v1796.toNat, 0]
def k0_off4 (k0_t1 : Fin k0_t1_loop.trips) : Fin 4 → Nat :=
  let c0_i32_942 : BitVec 32 := 0#32
  let c1_i32_944 : BitVec 32 := 1#32
  let arg9 : BitVec 32 := Scf.iv c0_i32_942 c1_i32_944 k0_t1
  let v1816 : Index := Scalar.indexCast arg9
  let c0_964 : Index := 0#32
  let c0_965 : Index := 0#32
  let c0_966 : Index := 0#32
  ![v1816.toNat, 0, 0, 0]
def k0_off5 (k0_t1 : Fin k0_t1_loop.trips) : Fin 4 → Nat :=
  let c0_i32_942 : BitVec 32 := 0#32
  let c1_i32_944 : BitVec 32 := 1#32
  let arg9 : BitVec 32 := Scf.iv c0_i32_942 c1_i32_944 k0_t1
  let v1826 : Index := Scalar.indexCast arg9
  let c1_969 : Index := 1#32
  let c0_970 : Index := 0#32
  let c0_971 : Index := 0#32
  ![v1826.toNat, 1, 0, 0]
@[reducible] def k0_t2_loop : Scf.Loop 32 :=
  let c0_i32_1 : BitVec 32 := 0#32
  let c45_i32 : BitVec 32 := 45#32
  let v3 : BitVec 32 := Scalar.addi c0_i32_1 c45_i32
  let c1_i32 : BitVec 32 := 1#32
  ⟨c0_i32_1, v3, c1_i32⟩
def k0_mult4 (k0_t2 : Fin k0_t2_loop.trips) : BitVec 32 :=
  let c0_i32_1 : BitVec 32 := 0#32
  let c1_i32 : BitVec 32 := 1#32
  let arg9 : BitVec 32 := Scf.iv c0_i32_1 c1_i32 k0_t2
  let c64_i32 : BitVec 32 := 64#32
  let v103 : BitVec 32 := Scalar.muli arg9 c64_i32
  v103
def k0_off6 (k0_t2 : Fin k0_t2_loop.trips) : Fin 2 → Nat :=
  let c0_i32_1 : BitVec 32 := 0#32
  let c1_i32 : BitVec 32 := 1#32
  let arg9 : BitVec 32 := Scf.iv c0_i32_1 c1_i32 k0_t2
  let c64_i32 : BitVec 32 := 64#32
  let v103 : BitVec 32 := Scalar.muli arg9 c64_i32
  let v104 : BitVec 32 := v103
  let v105 : Index := Scalar.indexCast v104
  let c0_78 : Index := 0#32
  ![v105.toNat, 0]
def k0_off7 (k0_t2 : Fin k0_t2_loop.trips) : Fin 2 → Nat :=
  let c0_i32_1 : BitVec 32 := 0#32
  let c1_i32 : BitVec 32 := 1#32
  let arg9 : BitVec 32 := Scf.iv c0_i32_1 c1_i32 k0_t2
  let c64_i32 : BitVec 32 := 64#32
  let v103 : BitVec 32 := Scalar.muli arg9 c64_i32
  let v104 : BitVec 32 := v103
  let v115 : Index := Scalar.indexCast v104
  let c0_79 : Index := 0#32
  ![v115.toNat, 0]
def k0_off8 (k0_t2 : Fin k0_t2_loop.trips) : Fin 2 → Nat :=
  let c0_i32_1 : BitVec 32 := 0#32
  let c1_i32 : BitVec 32 := 1#32
  let arg9 : BitVec 32 := Scf.iv c0_i32_1 c1_i32 k0_t2
  let c64_i32 : BitVec 32 := 64#32
  let v103 : BitVec 32 := Scalar.muli arg9 c64_i32
  let v104 : BitVec 32 := v103
  let c32_i32 : BitVec 32 := 32#32
  let v120 : BitVec 32 := Scalar.addi v104 c32_i32
  let v121 : Index := Scalar.indexCast v120
  let c0_80 : Index := 0#32
  ![v121.toNat, 0]
def k0_off9 (k0_t2 : Fin k0_t2_loop.trips) : Fin 4 → Nat :=
  let c0_i32_1 : BitVec 32 := 0#32
  let c1_i32 : BitVec 32 := 1#32
  let arg9 : BitVec 32 := Scf.iv c0_i32_1 c1_i32 k0_t2
  let v134 : Index := Scalar.indexCast arg9
  let c0_84 : Index := 0#32
  let c0_85 : Index := 0#32
  let c0_86 : Index := 0#32
  ![v134.toNat, 0, 0, 0]
def k0_off10 (k0_t2 : Fin k0_t2_loop.trips) : Fin 4 → Nat :=
  let c0_i32_1 : BitVec 32 := 0#32
  let c1_i32 : BitVec 32 := 1#32
  let arg9 : BitVec 32 := Scf.iv c0_i32_1 c1_i32 k0_t2
  let v144 : Index := Scalar.indexCast arg9
  let c1_90 : Index := 1#32
  let c0_91 : Index := 0#32
  let c0_92 : Index := 0#32
  ![v144.toNat, 1, 0, 0]
def k0_off11 (k0_t2 : Fin k0_t2_loop.trips) : Fin 2 → Nat :=
  let c0_i32_1 : BitVec 32 := 0#32
  let c1_i32 : BitVec 32 := 1#32
  let arg9 : BitVec 32 := Scf.iv c0_i32_1 c1_i32 k0_t2
  let c64_i32 : BitVec 32 := 64#32
  let v103 : BitVec 32 := Scalar.muli arg9 c64_i32
  let v104 : BitVec 32 := v103
  let v154 : Index := Scalar.indexCast v104
  let c128 : Index := 128#32
  ![v154.toNat, 128]
def k0_off12 (k0_t2 : Fin k0_t2_loop.trips) : Fin 2 → Nat :=
  let c0_i32_1 : BitVec 32 := 0#32
  let c1_i32 : BitVec 32 := 1#32
  let arg9 : BitVec 32 := Scf.iv c0_i32_1 c1_i32 k0_t2
  let c64_i32 : BitVec 32 := 64#32
  let v103 : BitVec 32 := Scalar.muli arg9 c64_i32
  let v104 : BitVec 32 := v103
  let v164 : Index := Scalar.indexCast v104
  let c128_98 : Index := 128#32
  ![v164.toNat, 128]
def k0_off13 (k0_t2 : Fin k0_t2_loop.trips) : Fin 2 → Nat :=
  let c0_i32_1 : BitVec 32 := 0#32
  let c1_i32 : BitVec 32 := 1#32
  let arg9 : BitVec 32 := Scf.iv c0_i32_1 c1_i32 k0_t2
  let c64_i32 : BitVec 32 := 64#32
  let v103 : BitVec 32 := Scalar.muli arg9 c64_i32
  let v104 : BitVec 32 := v103
  let c32_i32_99 : BitVec 32 := 32#32
  let v169 : BitVec 32 := Scalar.addi v104 c32_i32_99
  let v170 : Index := Scalar.indexCast v169
  let c128_100 : Index := 128#32
  ![v170.toNat, 128]
def k0_off14 (k0_t2 : Fin k0_t2_loop.trips) : Fin 2 → Nat :=
  let c0_i32_1 : BitVec 32 := 0#32
  let c1_i32 : BitVec 32 := 1#32
  let arg9 : BitVec 32 := Scf.iv c0_i32_1 c1_i32 k0_t2
  let c64_i32 : BitVec 32 := 64#32
  let v103 : BitVec 32 := Scalar.muli arg9 c64_i32
  let v104 : BitVec 32 := v103
  let v203 : Index := Scalar.indexCast v104
  let c256_116 : Index := 256#32
  ![v203.toNat, 256]
def k0_off15 (k0_t2 : Fin k0_t2_loop.trips) : Fin 2 → Nat :=
  let c0_i32_1 : BitVec 32 := 0#32
  let c1_i32 : BitVec 32 := 1#32
  let arg9 : BitVec 32 := Scf.iv c0_i32_1 c1_i32 k0_t2
  let c64_i32 : BitVec 32 := 64#32
  let v103 : BitVec 32 := Scalar.muli arg9 c64_i32
  let v104 : BitVec 32 := v103
  let v213 : Index := Scalar.indexCast v104
  let c256_119 : Index := 256#32
  ![v213.toNat, 256]
def k0_off16 (k0_t2 : Fin k0_t2_loop.trips) : Fin 2 → Nat :=
  let c0_i32_1 : BitVec 32 := 0#32
  let c1_i32 : BitVec 32 := 1#32
  let arg9 : BitVec 32 := Scf.iv c0_i32_1 c1_i32 k0_t2
  let c64_i32 : BitVec 32 := 64#32
  let v103 : BitVec 32 := Scalar.muli arg9 c64_i32
  let v104 : BitVec 32 := v103
  let c32_i32_120 : BitVec 32 := 32#32
  let v218 : BitVec 32 := Scalar.addi v104 c32_i32_120
  let v219 : Index := Scalar.indexCast v218
  let c256_121 : Index := 256#32
  ![v219.toNat, 256]
def k0_off17 (k0_t2 : Fin k0_t2_loop.trips) : Fin 2 → Nat :=
  let c0_i32_1 : BitVec 32 := 0#32
  let c1_i32 : BitVec 32 := 1#32
  let arg9 : BitVec 32 := Scf.iv c0_i32_1 c1_i32 k0_t2
  let c64_i32 : BitVec 32 := 64#32
  let v103 : BitVec 32 := Scalar.muli arg9 c64_i32
  let v104 : BitVec 32 := v103
  let v252 : Index := Scalar.indexCast v104
  let c384 : Index := 384#32
  ![v252.toNat, 384]
def k0_off18 (k0_t2 : Fin k0_t2_loop.trips) : Fin 2 → Nat :=
  let c0_i32_1 : BitVec 32 := 0#32
  let c1_i32 : BitVec 32 := 1#32
  let arg9 : BitVec 32 := Scf.iv c0_i32_1 c1_i32 k0_t2
  let c64_i32 : BitVec 32 := 64#32
  let v103 : BitVec 32 := Scalar.muli arg9 c64_i32
  let v104 : BitVec 32 := v103
  let v262 : Index := Scalar.indexCast v104
  let c384_139 : Index := 384#32
  ![v262.toNat, 384]
def k0_off19 (k0_t2 : Fin k0_t2_loop.trips) : Fin 2 → Nat :=
  let c0_i32_1 : BitVec 32 := 0#32
  let c1_i32 : BitVec 32 := 1#32
  let arg9 : BitVec 32 := Scf.iv c0_i32_1 c1_i32 k0_t2
  let c64_i32 : BitVec 32 := 64#32
  let v103 : BitVec 32 := Scalar.muli arg9 c64_i32
  let v104 : BitVec 32 := v103
  let c32_i32_140 : BitVec 32 := 32#32
  let v267 : BitVec 32 := Scalar.addi v104 c32_i32_140
  let v268 : Index := Scalar.indexCast v267
  let c384_141 : Index := 384#32
  ![v268.toNat, 384]
def k0_off20 (k0_t2 : Fin k0_t2_loop.trips) : Fin 2 → Nat :=
  let c0_i32_1 : BitVec 32 := 0#32
  let c1_i32 : BitVec 32 := 1#32
  let arg9 : BitVec 32 := Scf.iv c0_i32_1 c1_i32 k0_t2
  let c64_i32 : BitVec 32 := 64#32
  let v103 : BitVec 32 := Scalar.muli arg9 c64_i32
  let v104 : BitVec 32 := v103
  let v301 : Index := Scalar.indexCast v104
  let c512_157 : Index := 512#32
  ![v301.toNat, 512]
def k0_off21 (k0_t2 : Fin k0_t2_loop.trips) : Fin 2 → Nat :=
  let c0_i32_1 : BitVec 32 := 0#32
  let c1_i32 : BitVec 32 := 1#32
  let arg9 : BitVec 32 := Scf.iv c0_i32_1 c1_i32 k0_t2
  let c64_i32 : BitVec 32 := 64#32
  let v103 : BitVec 32 := Scalar.muli arg9 c64_i32
  let v104 : BitVec 32 := v103
  let v311 : Index := Scalar.indexCast v104
  let c512_160 : Index := 512#32
  ![v311.toNat, 512]
def k0_off22 (k0_t2 : Fin k0_t2_loop.trips) : Fin 2 → Nat :=
  let c0_i32_1 : BitVec 32 := 0#32
  let c1_i32 : BitVec 32 := 1#32
  let arg9 : BitVec 32 := Scf.iv c0_i32_1 c1_i32 k0_t2
  let c64_i32 : BitVec 32 := 64#32
  let v103 : BitVec 32 := Scalar.muli arg9 c64_i32
  let v104 : BitVec 32 := v103
  let c32_i32_161 : BitVec 32 := 32#32
  let v316 : BitVec 32 := Scalar.addi v104 c32_i32_161
  let v317 : Index := Scalar.indexCast v316
  let c512_162 : Index := 512#32
  ![v317.toNat, 512]
def k0_cond2 (i : grid0.Coords) : BitVec 1 :=
  let arg0 : BitVec 32 := BitVec.ofNat 32 (i 0).val
  let c8_i32 : BitVec 32 := 8#32
  let v100 : BitVec 1 := Scalar.cmpi .eq arg0 c8_i32
  let v101 : BitVec 32 := Scalar.extui v100
  let c0_i32_77 : BitVec 32 := 0#32
  let v102 : BitVec 1 := Scalar.cmpi .ne v101 c0_i32_77
  v102

@[reducible] def k0_t3_loop : Scf.Loop 32 :=
  let c0_i32_82 : BitVec 32 := 0#32
  let c45_i32_83 : BitVec 32 := 45#32
  let v111 : BitVec 32 := Scalar.addi c0_i32_82 c45_i32_83
  let c1_i32_84 : BitVec 32 := 1#32
  ⟨c0_i32_82, v111, c1_i32_84⟩
def k0_off23 (k0_t3 : Fin k0_t3_loop.trips) : Fin 4 → Nat :=
  let c0_i32_82 : BitVec 32 := 0#32
  let c1_i32_84 : BitVec 32 := 1#32
  let arg9 : BitVec 32 := Scf.iv c0_i32_82 c1_i32_84 k0_t3
  let v116 : Index := Scalar.indexCast arg9
  let c0_90 : Index := 0#32
  let c0_91 : Index := 0#32
  let c0_92 : Index := 0#32
  ![v116.toNat, 0, 0, 0]
def k0_off24 (k0_t3 : Fin k0_t3_loop.trips) : Fin 4 → Nat :=
  let c0_i32_82 : BitVec 32 := 0#32
  let c1_i32_84 : BitVec 32 := 1#32
  let arg9 : BitVec 32 := Scf.iv c0_i32_82 c1_i32_84 k0_t3
  let v171 : Index := Scalar.indexCast arg9
  let c1_118 : Index := 1#32
  let c0_119 : Index := 0#32
  let c0_120 : Index := 0#32
  ![v171.toNat, 1, 0, 0]
@[reducible] def k0_t4_loop : Scf.Loop 32 :=
  let c0_i32_86 : BitVec 32 := 0#32
  let c45_i32_87 : BitVec 32 := 45#32
  let v115 : BitVec 32 := Scalar.addi c0_i32_86 c45_i32_87
  let c1_i32_88 : BitVec 32 := 1#32
  ⟨c0_i32_86, v115, c1_i32_88⟩
def k0_off25 (k0_t4 : Fin k0_t4_loop.trips) : Fin 4 → Nat :=
  let c0_i32_86 : BitVec 32 := 0#32
  let c1_i32_88 : BitVec 32 := 1#32
  let arg9 : BitVec 32 := Scf.iv c0_i32_86 c1_i32_88 k0_t4
  let v116 : Index := Scalar.indexCast arg9
  let c0_90 : Index := 0#32
  let c0_91 : Index := 0#32
  let c0_92 : Index := 0#32
  ![v116.toNat, 0, 0, 0]
def k0_off26 (k0_t4 : Fin k0_t4_loop.trips) : Fin 4 → Nat :=
  let c0_i32_86 : BitVec 32 := 0#32
  let c1_i32_88 : BitVec 32 := 1#32
  let arg9 : BitVec 32 := Scf.iv c0_i32_86 c1_i32_88 k0_t4
  let v125 : Index := Scalar.indexCast arg9
  let c1_96 : Index := 1#32
  let c0_97 : Index := 0#32
  let c0_98 : Index := 0#32
  ![v125.toNat, 1, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 1 → Memref sig .tc .vmem S3x2880x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2880x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S24x768x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S45x2x32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨2, ![10, 9], ![false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k1_t1_loop : Scf.Loop 32 :=
  let c0_i32_7 : BitVec 32 := 0#32
  let c45_i32 : BitVec 32 := 45#32
  let v14 : BitVec 32 := Scalar.addi c0_i32_7 c45_i32
  let c1_i32_8 : BitVec 32 := 1#32
  ⟨c0_i32_7, v14, c1_i32_8⟩
def k1_off1 (k1_t1 : Fin k1_t1_loop.trips) : Fin 4 → Nat :=
  let c0_i32_7 : BitVec 32 := 0#32
  let c1_i32_8 : BitVec 32 := 1#32
  let arg16 : BitVec 32 := Scf.iv c0_i32_7 c1_i32_8 k1_t1
  let v18 : Index := Scalar.indexCast arg16
  let c0 : Index := 0#32
  let c0_11 : Index := 0#32
  let c0_12 : Index := 0#32
  ![v18.toNat, 0, 0, 0]
def k1_off2 (k1_t1 : Fin k1_t1_loop.trips) : Fin 5 → Nat :=
  let c0_14 : Index := 0#32
  let c0_i32_7 : BitVec 32 := 0#32
  let c1_i32_8 : BitVec 32 := 1#32
  let arg16 : BitVec 32 := Scf.iv c0_i32_7 c1_i32_8 k1_t1
  let v29 : Index := Scalar.indexCast arg16
  let c0_15 : Index := 0#32
  let c0_16 : Index := 0#32
  let c0_17 : Index := 0#32
  ![0, v29.toNat, 0, 0, 0]
def k1_off3 (k1_t1 : Fin k1_t1_loop.trips) : Fin 4 → Nat :=
  let c0_i32_7 : BitVec 32 := 0#32
  let c1_i32_8 : BitVec 32 := 1#32
  let arg16 : BitVec 32 := Scf.iv c0_i32_7 c1_i32_8 k1_t1
  let v40 : Index := Scalar.indexCast arg16
  let c1 : Index := 1#32
  let c0_22 : Index := 0#32
  let c0_23 : Index := 0#32
  ![v40.toNat, 1, 0, 0]
def k1_off4 (k1_t1 : Fin k1_t1_loop.trips) : Fin 5 → Nat :=
  let c0_26 : Index := 0#32
  let c0_i32_7 : BitVec 32 := 0#32
  let c1_i32_8 : BitVec 32 := 1#32
  let arg16 : BitVec 32 := Scf.iv c0_i32_7 c1_i32_8 k1_t1
  let v51 : Index := Scalar.indexCast arg16
  let c1_27 : Index := 1#32
  let c0_28 : Index := 0#32
  let c0_29 : Index := 0#32
  ![0, v51.toNat, 1, 0, 0]
def k1_off5 (k1_t1 : Fin k1_t1_loop.trips) : Fin 5 → Nat :=
  let c1_42 : Index := 1#32
  let c0_i32_7 : BitVec 32 := 0#32
  let c1_i32_8 : BitVec 32 := 1#32
  let arg16 : BitVec 32 := Scf.iv c0_i32_7 c1_i32_8 k1_t1
  let v76 : Index := Scalar.indexCast arg16
  let c0_43 : Index := 0#32
  let c0_44 : Index := 0#32
  let c0_45 : Index := 0#32
  ![1, v76.toNat, 0, 0, 0]
def k1_off6 (k1_t1 : Fin k1_t1_loop.trips) : Fin 5 → Nat :=
  let c1_56 : Index := 1#32
  let c0_i32_7 : BitVec 32 := 0#32
  let c1_i32_8 : BitVec 32 := 1#32
  let arg16 : BitVec 32 := Scf.iv c0_i32_7 c1_i32_8 k1_t1
  let v98 : Index := Scalar.indexCast arg16
  let c1_57 : Index := 1#32
  let c0_58 : Index := 0#32
  let c0_59 : Index := 0#32
  ![1, v98.toNat, 1, 0, 0]
@[reducible] def k1_t2_loop : Scf.Loop 32 :=
  let c0_i32_4 : BitVec 32 := 0#32
  let c5_i32 : BitVec 32 := 5#32
  let v8 : BitVec 32 := Scalar.addi c0_i32_4 c5_i32
  let c1_i32 : BitVec 32 := 1#32
  ⟨c0_i32_4, v8, c1_i32⟩
def k1_mult1 (k1_t2 : Fin k1_t2_loop.trips) : BitVec 32 :=
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  v19
def k1_off7 (k1_t2 : Fin k1_t2_loop.trips) : Fin 2 → Nat :=
  let c0 : Index := 0#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v21 : Index := Scalar.indexCast v20
  ![0, v21.toNat]
def k1_off8 (k1_t2 : Fin k1_t2_loop.trips) : Fin 2 → Nat :=
  let c64 : Index := 64#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v70 : Index := Scalar.indexCast v20
  ![64, v70.toNat]
def k1_off9 (k1_t2 : Fin k1_t2_loop.trips) : Fin 2 → Nat :=
  let c128 : Index := 128#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v119 : Index := Scalar.indexCast v20
  ![128, v119.toNat]
def k1_off10 (k1_t2 : Fin k1_t2_loop.trips) : Fin 2 → Nat :=
  let c192 : Index := 192#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v168 : Index := Scalar.indexCast v20
  ![192, v168.toNat]
def k1_off11 (k1_t2 : Fin k1_t2_loop.trips) : Fin 2 → Nat :=
  let c256 : Index := 256#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v217 : Index := Scalar.indexCast v20
  ![256, v217.toNat]
def k1_off12 (k1_t2 : Fin k1_t2_loop.trips) : Fin 2 → Nat :=
  let c320 : Index := 320#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v266 : Index := Scalar.indexCast v20
  ![320, v266.toNat]
def k1_off13 (k1_t2 : Fin k1_t2_loop.trips) : Fin 2 → Nat :=
  let c384 : Index := 384#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v315 : Index := Scalar.indexCast v20
  ![384, v315.toNat]
def k1_off14 (k1_t2 : Fin k1_t2_loop.trips) : Fin 2 → Nat :=
  let c448 : Index := 448#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v364 : Index := Scalar.indexCast v20
  ![448, v364.toNat]
def k1_off15 (k1_t2 : Fin k1_t2_loop.trips) : Fin 2 → Nat :=
  let c512 : Index := 512#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v413 : Index := Scalar.indexCast v20
  ![512, v413.toNat]
def k1_off16 (k1_t2 : Fin k1_t2_loop.trips) : Fin 2 → Nat :=
  let c576 : Index := 576#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v462 : Index := Scalar.indexCast v20
  ![576, v462.toNat]
def k1_off17 (k1_t2 : Fin k1_t2_loop.trips) : Fin 2 → Nat :=
  let c640 : Index := 640#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v511 : Index := Scalar.indexCast v20
  ![640, v511.toNat]
def k1_off18 (k1_t2 : Fin k1_t2_loop.trips) : Fin 2 → Nat :=
  let c704 : Index := 704#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v560 : Index := Scalar.indexCast v20
  ![704, v560.toNat]
def k1_off19 (k1_t2 : Fin k1_t2_loop.trips) : Fin 2 → Nat :=
  let c768 : Index := 768#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v609 : Index := Scalar.indexCast v20
  ![768, v609.toNat]
def k1_off20 (k1_t2 : Fin k1_t2_loop.trips) : Fin 2 → Nat :=
  let c832 : Index := 832#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v658 : Index := Scalar.indexCast v20
  ![832, v658.toNat]
def k1_off21 (k1_t2 : Fin k1_t2_loop.trips) : Fin 2 → Nat :=
  let c896 : Index := 896#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v707 : Index := Scalar.indexCast v20
  ![896, v707.toNat]
def k1_off22 (k1_t2 : Fin k1_t2_loop.trips) : Fin 2 → Nat :=
  let c960 : Index := 960#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v756 : Index := Scalar.indexCast v20
  ![960, v756.toNat]
def k1_off23 (k1_t2 : Fin k1_t2_loop.trips) : Fin 2 → Nat :=
  let c1024 : Index := 1024#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v805 : Index := Scalar.indexCast v20
  ![1024, v805.toNat]
def k1_off24 (k1_t2 : Fin k1_t2_loop.trips) : Fin 2 → Nat :=
  let c1088 : Index := 1088#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v854 : Index := Scalar.indexCast v20
  ![1088, v854.toNat]
def k1_off25 (k1_t2 : Fin k1_t2_loop.trips) : Fin 2 → Nat :=
  let c1152 : Index := 1152#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v903 : Index := Scalar.indexCast v20
  ![1152, v903.toNat]
def k1_off26 (k1_t2 : Fin k1_t2_loop.trips) : Fin 2 → Nat :=
  let c1216 : Index := 1216#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v952 : Index := Scalar.indexCast v20
  ![1216, v952.toNat]
def k1_off27 (k1_t2 : Fin k1_t2_loop.trips) : Fin 2 → Nat :=
  let c1280 : Index := 1280#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v1001 : Index := Scalar.indexCast v20
  ![1280, v1001.toNat]
def k1_off28 (k1_t2 : Fin k1_t2_loop.trips) : Fin 2 → Nat :=
  let c1344 : Index := 1344#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v1050 : Index := Scalar.indexCast v20
  ![1344, v1050.toNat]
def k1_off29 (k1_t2 : Fin k1_t2_loop.trips) : Fin 2 → Nat :=
  let c1408 : Index := 1408#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v1099 : Index := Scalar.indexCast v20
  ![1408, v1099.toNat]
def k1_off30 (k1_t2 : Fin k1_t2_loop.trips) : Fin 2 → Nat :=
  let c1472 : Index := 1472#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v1148 : Index := Scalar.indexCast v20
  ![1472, v1148.toNat]
def k1_off31 (k1_t2 : Fin k1_t2_loop.trips) : Fin 2 → Nat :=
  let c1536 : Index := 1536#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v1197 : Index := Scalar.indexCast v20
  ![1536, v1197.toNat]
def k1_off32 (k1_t2 : Fin k1_t2_loop.trips) : Fin 2 → Nat :=
  let c1600 : Index := 1600#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v1246 : Index := Scalar.indexCast v20
  ![1600, v1246.toNat]
def k1_off33 (k1_t2 : Fin k1_t2_loop.trips) : Fin 2 → Nat :=
  let c1664 : Index := 1664#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v1295 : Index := Scalar.indexCast v20
  ![1664, v1295.toNat]
def k1_off34 (k1_t2 : Fin k1_t2_loop.trips) : Fin 2 → Nat :=
  let c1728 : Index := 1728#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v1344 : Index := Scalar.indexCast v20
  ![1728, v1344.toNat]
def k1_off35 (k1_t2 : Fin k1_t2_loop.trips) : Fin 2 → Nat :=
  let c1792 : Index := 1792#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v1393 : Index := Scalar.indexCast v20
  ![1792, v1393.toNat]
def k1_off36 (k1_t2 : Fin k1_t2_loop.trips) : Fin 2 → Nat :=
  let c1856 : Index := 1856#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v1442 : Index := Scalar.indexCast v20
  ![1856, v1442.toNat]
def k1_off37 (k1_t2 : Fin k1_t2_loop.trips) : Fin 2 → Nat :=
  let c1920 : Index := 1920#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v1491 : Index := Scalar.indexCast v20
  ![1920, v1491.toNat]
def k1_off38 (k1_t2 : Fin k1_t2_loop.trips) : Fin 2 → Nat :=
  let c1984 : Index := 1984#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v1540 : Index := Scalar.indexCast v20
  ![1984, v1540.toNat]
def k1_off39 (k1_t2 : Fin k1_t2_loop.trips) : Fin 2 → Nat :=
  let c2048 : Index := 2048#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v1589 : Index := Scalar.indexCast v20
  ![2048, v1589.toNat]
def k1_off40 (k1_t2 : Fin k1_t2_loop.trips) : Fin 2 → Nat :=
  let c2112 : Index := 2112#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v1638 : Index := Scalar.indexCast v20
  ![2112, v1638.toNat]
def k1_off41 (k1_t2 : Fin k1_t2_loop.trips) : Fin 2 → Nat :=
  let c2176 : Index := 2176#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v1687 : Index := Scalar.indexCast v20
  ![2176, v1687.toNat]
def k1_off42 (k1_t2 : Fin k1_t2_loop.trips) : Fin 2 → Nat :=
  let c2240 : Index := 2240#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v1736 : Index := Scalar.indexCast v20
  ![2240, v1736.toNat]
def k1_off43 (k1_t2 : Fin k1_t2_loop.trips) : Fin 2 → Nat :=
  let c2304 : Index := 2304#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v1785 : Index := Scalar.indexCast v20
  ![2304, v1785.toNat]
def k1_off44 (k1_t2 : Fin k1_t2_loop.trips) : Fin 2 → Nat :=
  let c2368 : Index := 2368#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v1834 : Index := Scalar.indexCast v20
  ![2368, v1834.toNat]
def k1_off45 (k1_t2 : Fin k1_t2_loop.trips) : Fin 2 → Nat :=
  let c2432 : Index := 2432#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v1883 : Index := Scalar.indexCast v20
  ![2432, v1883.toNat]
def k1_off46 (k1_t2 : Fin k1_t2_loop.trips) : Fin 2 → Nat :=
  let c2496 : Index := 2496#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v1932 : Index := Scalar.indexCast v20
  ![2496, v1932.toNat]
def k1_off47 (k1_t2 : Fin k1_t2_loop.trips) : Fin 2 → Nat :=
  let c2560 : Index := 2560#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v1981 : Index := Scalar.indexCast v20
  ![2560, v1981.toNat]
def k1_off48 (k1_t2 : Fin k1_t2_loop.trips) : Fin 2 → Nat :=
  let c2624 : Index := 2624#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v2030 : Index := Scalar.indexCast v20
  ![2624, v2030.toNat]
def k1_off49 (k1_t2 : Fin k1_t2_loop.trips) : Fin 2 → Nat :=
  let c2688 : Index := 2688#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v2079 : Index := Scalar.indexCast v20
  ![2688, v2079.toNat]
def k1_off50 (k1_t2 : Fin k1_t2_loop.trips) : Fin 2 → Nat :=
  let c2752 : Index := 2752#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v2128 : Index := Scalar.indexCast v20
  ![2752, v2128.toNat]
def k1_off51 (k1_t2 : Fin k1_t2_loop.trips) : Fin 2 → Nat :=
  let c2816 : Index := 2816#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v2177 : Index := Scalar.indexCast v20
  ![2816, v2177.toNat]
def k1_off52 (k1_t2 : Fin k1_t2_loop.trips) : Fin 3 → Nat :=
  let c0_2206 : Index := 0#32
  let c0_2207 : Index := 0#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v2255 : Index := Scalar.indexCast v20
  ![0, 0, v2255.toNat]
def k1_off53 (k1_t2 : Fin k1_t2_loop.trips) : Fin 3 → Nat :=
  let c1_2244 : Index := 1#32
  let c0_2245 : Index := 0#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v2298 : Index := Scalar.indexCast v20
  ![1, 0, v2298.toNat]
def k1_off54 (k1_t2 : Fin k1_t2_loop.trips) : Fin 3 → Nat :=
  let c0_2275 : Index := 0#32
  let c8_2276 : Index := 8#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v2341 : Index := Scalar.indexCast v20
  ![0, 8, v2341.toNat]
def k1_off55 (k1_t2 : Fin k1_t2_loop.trips) : Fin 3 → Nat :=
  let c1_2313 : Index := 1#32
  let c8_2314 : Index := 8#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v2384 : Index := Scalar.indexCast v20
  ![1, 8, v2384.toNat]
def k1_off56 (k1_t2 : Fin k1_t2_loop.trips) : Fin 3 → Nat :=
  let c0_2344 : Index := 0#32
  let c16_2345 : Index := 16#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v2427 : Index := Scalar.indexCast v20
  ![0, 16, v2427.toNat]
def k1_off57 (k1_t2 : Fin k1_t2_loop.trips) : Fin 3 → Nat :=
  let c1_2382 : Index := 1#32
  let c16_2383 : Index := 16#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v2470 : Index := Scalar.indexCast v20
  ![1, 16, v2470.toNat]
def k1_off58 (k1_t2 : Fin k1_t2_loop.trips) : Fin 3 → Nat :=
  let c0_2413 : Index := 0#32
  let c24_2414 : Index := 24#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v2513 : Index := Scalar.indexCast v20
  ![0, 24, v2513.toNat]
def k1_off59 (k1_t2 : Fin k1_t2_loop.trips) : Fin 3 → Nat :=
  let c1_2451 : Index := 1#32
  let c24_2452 : Index := 24#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v2556 : Index := Scalar.indexCast v20
  ![1, 24, v2556.toNat]
def k1_off60 (k1_t2 : Fin k1_t2_loop.trips) : Fin 3 → Nat :=
  let c0_2482 : Index := 0#32
  let c32_2483 : Index := 32#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v2599 : Index := Scalar.indexCast v20
  ![0, 32, v2599.toNat]
def k1_off61 (k1_t2 : Fin k1_t2_loop.trips) : Fin 3 → Nat :=
  let c1_2520 : Index := 1#32
  let c32_2521 : Index := 32#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v2642 : Index := Scalar.indexCast v20
  ![1, 32, v2642.toNat]
def k1_off62 (k1_t2 : Fin k1_t2_loop.trips) : Fin 3 → Nat :=
  let c0_2551 : Index := 0#32
  let c40_2552 : Index := 40#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v2686 : Index := Scalar.indexCast v20
  ![0, 40, v2686.toNat]
def k1_off63 (k1_t2 : Fin k1_t2_loop.trips) : Fin 3 → Nat :=
  let c1_2589 : Index := 1#32
  let c40_2590 : Index := 40#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v2730 : Index := Scalar.indexCast v20
  ![1, 40, v2730.toNat]
def k1_off64 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v2768 : Index := Scalar.indexCast v18
  let c0_2620 : Index := 0#32
  let c0_2621 : Index := 0#32
  let c0_2622 : Index := 0#32
  ![v2768.toNat, 0, 0, 0]
def k1_off65 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v2787 : Index := Scalar.indexCast v18
  let c0_2635 : Index := 0#32
  let c32_2636 : Index := 32#32
  let c0_2637 : Index := 0#32
  ![v2787.toNat, 0, 32, 0]
def k1_off66 (k1_t2 : Fin k1_t2_loop.trips) : Fin 3 → Nat :=
  let c0_2638 : Index := 0#32
  let c0_2639 : Index := 0#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v2799 : Index := Scalar.indexCast v20
  ![0, 0, v2799.toNat]
def k1_off67 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v2827 : Index := Scalar.indexCast v18
  let c1_2660 : Index := 1#32
  let c0_2661 : Index := 0#32
  let c0_2662 : Index := 0#32
  ![v2827.toNat, 1, 0, 0]
def k1_off68 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v2846 : Index := Scalar.indexCast v18
  let c1_2675 : Index := 1#32
  let c32_2676 : Index := 32#32
  let c0_2677 : Index := 0#32
  ![v2846.toNat, 1, 32, 0]
def k1_off69 (k1_t2 : Fin k1_t2_loop.trips) : Fin 3 → Nat :=
  let c1_2681 : Index := 1#32
  let c0_2682 : Index := 0#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v2858 : Index := Scalar.indexCast v20
  ![1, 0, v2858.toNat]
def k1_off70 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v2886 : Index := Scalar.indexCast v18
  let c0_2703 : Index := 0#32
  let c64_2704 : Index := 64#32
  let c0_2705 : Index := 0#32
  ![v2886.toNat, 0, 64, 0]
def k1_off71 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v2905 : Index := Scalar.indexCast v18
  let c0_2718 : Index := 0#32
  let c96_2719 : Index := 96#32
  let c0_2720 : Index := 0#32
  ![v2905.toNat, 0, 96, 0]
def k1_off72 (k1_t2 : Fin k1_t2_loop.trips) : Fin 3 → Nat :=
  let c0_2724 : Index := 0#32
  let c32_2725 : Index := 32#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v2917 : Index := Scalar.indexCast v20
  ![0, 32, v2917.toNat]
def k1_off73 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v2945 : Index := Scalar.indexCast v18
  let c1_2746 : Index := 1#32
  let c64_2747 : Index := 64#32
  let c0_2748 : Index := 0#32
  ![v2945.toNat, 1, 64, 0]
def k1_off74 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v2964 : Index := Scalar.indexCast v18
  let c1_2761 : Index := 1#32
  let c96_2762 : Index := 96#32
  let c0_2763 : Index := 0#32
  ![v2964.toNat, 1, 96, 0]
def k1_off75 (k1_t2 : Fin k1_t2_loop.trips) : Fin 3 → Nat :=
  let c1_2767 : Index := 1#32
  let c32_2768 : Index := 32#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v2976 : Index := Scalar.indexCast v20
  ![1, 32, v2976.toNat]
def k1_off76 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v3004 : Index := Scalar.indexCast v18
  let c0_2789 : Index := 0#32
  let c128_2790 : Index := 128#32
  let c0_2791 : Index := 0#32
  ![v3004.toNat, 0, 128, 0]
def k1_off77 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v3023 : Index := Scalar.indexCast v18
  let c0_2804 : Index := 0#32
  let c160_2805 : Index := 160#32
  let c0_2806 : Index := 0#32
  ![v3023.toNat, 0, 160, 0]
def k1_off78 (k1_t2 : Fin k1_t2_loop.trips) : Fin 3 → Nat :=
  let c0_2810 : Index := 0#32
  let c64_2811 : Index := 64#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v3035 : Index := Scalar.indexCast v20
  ![0, 64, v3035.toNat]
def k1_off79 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v3063 : Index := Scalar.indexCast v18
  let c1_2832 : Index := 1#32
  let c128_2833 : Index := 128#32
  let c0_2834 : Index := 0#32
  ![v3063.toNat, 1, 128, 0]
def k1_off80 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v3082 : Index := Scalar.indexCast v18
  let c1_2847 : Index := 1#32
  let c160_2848 : Index := 160#32
  let c0_2849 : Index := 0#32
  ![v3082.toNat, 1, 160, 0]
def k1_off81 (k1_t2 : Fin k1_t2_loop.trips) : Fin 3 → Nat :=
  let c1_2853 : Index := 1#32
  let c64_2854 : Index := 64#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v3094 : Index := Scalar.indexCast v20
  ![1, 64, v3094.toNat]
def k1_off82 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v3122 : Index := Scalar.indexCast v18
  let c0_2875 : Index := 0#32
  let c192_2876 : Index := 192#32
  let c0_2877 : Index := 0#32
  ![v3122.toNat, 0, 192, 0]
def k1_off83 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v3141 : Index := Scalar.indexCast v18
  let c0_2890 : Index := 0#32
  let c224_2891 : Index := 224#32
  let c0_2892 : Index := 0#32
  ![v3141.toNat, 0, 224, 0]
def k1_off84 (k1_t2 : Fin k1_t2_loop.trips) : Fin 3 → Nat :=
  let c0_2896 : Index := 0#32
  let c96_2897 : Index := 96#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v3153 : Index := Scalar.indexCast v20
  ![0, 96, v3153.toNat]
def k1_off85 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v3181 : Index := Scalar.indexCast v18
  let c1_2918 : Index := 1#32
  let c192_2919 : Index := 192#32
  let c0_2920 : Index := 0#32
  ![v3181.toNat, 1, 192, 0]
def k1_off86 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v3200 : Index := Scalar.indexCast v18
  let c1_2933 : Index := 1#32
  let c224_2934 : Index := 224#32
  let c0_2935 : Index := 0#32
  ![v3200.toNat, 1, 224, 0]
def k1_off87 (k1_t2 : Fin k1_t2_loop.trips) : Fin 3 → Nat :=
  let c1_2939 : Index := 1#32
  let c96_2940 : Index := 96#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v3212 : Index := Scalar.indexCast v20
  ![1, 96, v3212.toNat]
def k1_off88 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v3240 : Index := Scalar.indexCast v18
  let c0_2961 : Index := 0#32
  let c256_2962 : Index := 256#32
  let c0_2963 : Index := 0#32
  ![v3240.toNat, 0, 256, 0]
def k1_off89 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v3259 : Index := Scalar.indexCast v18
  let c0_2976 : Index := 0#32
  let c288_2977 : Index := 288#32
  let c0_2978 : Index := 0#32
  ![v3259.toNat, 0, 288, 0]
def k1_off90 (k1_t2 : Fin k1_t2_loop.trips) : Fin 3 → Nat :=
  let c0_2982 : Index := 0#32
  let c128_2983 : Index := 128#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v3271 : Index := Scalar.indexCast v20
  ![0, 128, v3271.toNat]
def k1_off91 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v3299 : Index := Scalar.indexCast v18
  let c1_3004 : Index := 1#32
  let c256_3005 : Index := 256#32
  let c0_3006 : Index := 0#32
  ![v3299.toNat, 1, 256, 0]
def k1_off92 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v3318 : Index := Scalar.indexCast v18
  let c1_3019 : Index := 1#32
  let c288_3020 : Index := 288#32
  let c0_3021 : Index := 0#32
  ![v3318.toNat, 1, 288, 0]
def k1_off93 (k1_t2 : Fin k1_t2_loop.trips) : Fin 3 → Nat :=
  let c1_3025 : Index := 1#32
  let c128_3026 : Index := 128#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v3330 : Index := Scalar.indexCast v20
  ![1, 128, v3330.toNat]
def k1_off94 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v3358 : Index := Scalar.indexCast v18
  let c0_3047 : Index := 0#32
  let c320_3048 : Index := 320#32
  let c0_3049 : Index := 0#32
  ![v3358.toNat, 0, 320, 0]
def k1_off95 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v3377 : Index := Scalar.indexCast v18
  let c0_3062 : Index := 0#32
  let c352_3063 : Index := 352#32
  let c0_3064 : Index := 0#32
  ![v3377.toNat, 0, 352, 0]
def k1_off96 (k1_t2 : Fin k1_t2_loop.trips) : Fin 3 → Nat :=
  let c0_3068 : Index := 0#32
  let c160_3069 : Index := 160#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v3389 : Index := Scalar.indexCast v20
  ![0, 160, v3389.toNat]
def k1_off97 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v3417 : Index := Scalar.indexCast v18
  let c1_3090 : Index := 1#32
  let c320_3091 : Index := 320#32
  let c0_3092 : Index := 0#32
  ![v3417.toNat, 1, 320, 0]
def k1_off98 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v3436 : Index := Scalar.indexCast v18
  let c1_3105 : Index := 1#32
  let c352_3106 : Index := 352#32
  let c0_3107 : Index := 0#32
  ![v3436.toNat, 1, 352, 0]
def k1_off99 (k1_t2 : Fin k1_t2_loop.trips) : Fin 3 → Nat :=
  let c1_3111 : Index := 1#32
  let c160_3112 : Index := 160#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v3448 : Index := Scalar.indexCast v20
  ![1, 160, v3448.toNat]
def k1_off100 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v3476 : Index := Scalar.indexCast v18
  let c0_3133 : Index := 0#32
  let c384_3134 : Index := 384#32
  let c0_3135 : Index := 0#32
  ![v3476.toNat, 0, 384, 0]
def k1_off101 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v3495 : Index := Scalar.indexCast v18
  let c0_3148 : Index := 0#32
  let c416 : Index := 416#32
  let c0_3149 : Index := 0#32
  ![v3495.toNat, 0, 416, 0]
def k1_off102 (k1_t2 : Fin k1_t2_loop.trips) : Fin 3 → Nat :=
  let c0_3153 : Index := 0#32
  let c192_3154 : Index := 192#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v3507 : Index := Scalar.indexCast v20
  ![0, 192, v3507.toNat]
def k1_off103 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v3535 : Index := Scalar.indexCast v18
  let c1_3175 : Index := 1#32
  let c384_3176 : Index := 384#32
  let c0_3177 : Index := 0#32
  ![v3535.toNat, 1, 384, 0]
def k1_off104 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v3554 : Index := Scalar.indexCast v18
  let c1_3190 : Index := 1#32
  let c416_3191 : Index := 416#32
  let c0_3192 : Index := 0#32
  ![v3554.toNat, 1, 416, 0]
def k1_off105 (k1_t2 : Fin k1_t2_loop.trips) : Fin 3 → Nat :=
  let c1_3196 : Index := 1#32
  let c192_3197 : Index := 192#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v3566 : Index := Scalar.indexCast v20
  ![1, 192, v3566.toNat]
def k1_off106 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v3594 : Index := Scalar.indexCast v18
  let c0_3218 : Index := 0#32
  let c448_3219 : Index := 448#32
  let c0_3220 : Index := 0#32
  ![v3594.toNat, 0, 448, 0]
def k1_off107 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v3613 : Index := Scalar.indexCast v18
  let c0_3233 : Index := 0#32
  let c480 : Index := 480#32
  let c0_3234 : Index := 0#32
  ![v3613.toNat, 0, 480, 0]
def k1_off108 (k1_t2 : Fin k1_t2_loop.trips) : Fin 3 → Nat :=
  let c0_3238 : Index := 0#32
  let c224_3239 : Index := 224#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v3625 : Index := Scalar.indexCast v20
  ![0, 224, v3625.toNat]
def k1_off109 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v3653 : Index := Scalar.indexCast v18
  let c1_3260 : Index := 1#32
  let c448_3261 : Index := 448#32
  let c0_3262 : Index := 0#32
  ![v3653.toNat, 1, 448, 0]
def k1_off110 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v3672 : Index := Scalar.indexCast v18
  let c1_3275 : Index := 1#32
  let c480_3276 : Index := 480#32
  let c0_3277 : Index := 0#32
  ![v3672.toNat, 1, 480, 0]
def k1_off111 (k1_t2 : Fin k1_t2_loop.trips) : Fin 3 → Nat :=
  let c1_3281 : Index := 1#32
  let c224_3282 : Index := 224#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v3684 : Index := Scalar.indexCast v20
  ![1, 224, v3684.toNat]
def k1_off112 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v3712 : Index := Scalar.indexCast v18
  let c0_3303 : Index := 0#32
  let c512_3304 : Index := 512#32
  let c0_3305 : Index := 0#32
  ![v3712.toNat, 0, 512, 0]
def k1_off113 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v3731 : Index := Scalar.indexCast v18
  let c0_3318 : Index := 0#32
  let c544 : Index := 544#32
  let c0_3319 : Index := 0#32
  ![v3731.toNat, 0, 544, 0]
def k1_off114 (k1_t2 : Fin k1_t2_loop.trips) : Fin 3 → Nat :=
  let c0_3323 : Index := 0#32
  let c256_3324 : Index := 256#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v3743 : Index := Scalar.indexCast v20
  ![0, 256, v3743.toNat]
def k1_off115 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v3771 : Index := Scalar.indexCast v18
  let c1_3345 : Index := 1#32
  let c512_3346 : Index := 512#32
  let c0_3347 : Index := 0#32
  ![v3771.toNat, 1, 512, 0]
def k1_off116 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v3790 : Index := Scalar.indexCast v18
  let c1_3360 : Index := 1#32
  let c544_3361 : Index := 544#32
  let c0_3362 : Index := 0#32
  ![v3790.toNat, 1, 544, 0]
def k1_off117 (k1_t2 : Fin k1_t2_loop.trips) : Fin 3 → Nat :=
  let c1_3366 : Index := 1#32
  let c256_3367 : Index := 256#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v3802 : Index := Scalar.indexCast v20
  ![1, 256, v3802.toNat]
def k1_off118 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v3830 : Index := Scalar.indexCast v18
  let c0_3388 : Index := 0#32
  let c576_3389 : Index := 576#32
  let c0_3390 : Index := 0#32
  ![v3830.toNat, 0, 576, 0]
def k1_off119 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v3849 : Index := Scalar.indexCast v18
  let c0_3403 : Index := 0#32
  let c608 : Index := 608#32
  let c0_3404 : Index := 0#32
  ![v3849.toNat, 0, 608, 0]
def k1_off120 (k1_t2 : Fin k1_t2_loop.trips) : Fin 3 → Nat :=
  let c0_3408 : Index := 0#32
  let c288_3409 : Index := 288#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v3861 : Index := Scalar.indexCast v20
  ![0, 288, v3861.toNat]
def k1_off121 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v3889 : Index := Scalar.indexCast v18
  let c1_3430 : Index := 1#32
  let c576_3431 : Index := 576#32
  let c0_3432 : Index := 0#32
  ![v3889.toNat, 1, 576, 0]
def k1_off122 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v3908 : Index := Scalar.indexCast v18
  let c1_3445 : Index := 1#32
  let c608_3446 : Index := 608#32
  let c0_3447 : Index := 0#32
  ![v3908.toNat, 1, 608, 0]
def k1_off123 (k1_t2 : Fin k1_t2_loop.trips) : Fin 3 → Nat :=
  let c1_3451 : Index := 1#32
  let c288_3452 : Index := 288#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v3920 : Index := Scalar.indexCast v20
  ![1, 288, v3920.toNat]
def k1_off124 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v3948 : Index := Scalar.indexCast v18
  let c0_3473 : Index := 0#32
  let c640_3474 : Index := 640#32
  let c0_3475 : Index := 0#32
  ![v3948.toNat, 0, 640, 0]
def k1_off125 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v3967 : Index := Scalar.indexCast v18
  let c0_3488 : Index := 0#32
  let c672 : Index := 672#32
  let c0_3489 : Index := 0#32
  ![v3967.toNat, 0, 672, 0]
def k1_off126 (k1_t2 : Fin k1_t2_loop.trips) : Fin 3 → Nat :=
  let c0_3493 : Index := 0#32
  let c320_3494 : Index := 320#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v3979 : Index := Scalar.indexCast v20
  ![0, 320, v3979.toNat]
def k1_off127 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v4007 : Index := Scalar.indexCast v18
  let c1_3515 : Index := 1#32
  let c640_3516 : Index := 640#32
  let c0_3517 : Index := 0#32
  ![v4007.toNat, 1, 640, 0]
def k1_off128 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v4026 : Index := Scalar.indexCast v18
  let c1_3530 : Index := 1#32
  let c672_3531 : Index := 672#32
  let c0_3532 : Index := 0#32
  ![v4026.toNat, 1, 672, 0]
def k1_off129 (k1_t2 : Fin k1_t2_loop.trips) : Fin 3 → Nat :=
  let c1_3536 : Index := 1#32
  let c320_3537 : Index := 320#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v4038 : Index := Scalar.indexCast v20
  ![1, 320, v4038.toNat]
def k1_off130 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v4066 : Index := Scalar.indexCast v18
  let c0_3558 : Index := 0#32
  let c704_3559 : Index := 704#32
  let c0_3560 : Index := 0#32
  ![v4066.toNat, 0, 704, 0]
def k1_off131 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v4085 : Index := Scalar.indexCast v18
  let c0_3573 : Index := 0#32
  let c736 : Index := 736#32
  let c0_3574 : Index := 0#32
  ![v4085.toNat, 0, 736, 0]
def k1_off132 (k1_t2 : Fin k1_t2_loop.trips) : Fin 3 → Nat :=
  let c0_3578 : Index := 0#32
  let c352_3579 : Index := 352#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v4097 : Index := Scalar.indexCast v20
  ![0, 352, v4097.toNat]
def k1_off133 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v4125 : Index := Scalar.indexCast v18
  let c1_3600 : Index := 1#32
  let c704_3601 : Index := 704#32
  let c0_3602 : Index := 0#32
  ![v4125.toNat, 1, 704, 0]
def k1_off134 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v4144 : Index := Scalar.indexCast v18
  let c1_3615 : Index := 1#32
  let c736_3616 : Index := 736#32
  let c0_3617 : Index := 0#32
  ![v4144.toNat, 1, 736, 0]
def k1_off135 (k1_t2 : Fin k1_t2_loop.trips) : Fin 3 → Nat :=
  let c1_3621 : Index := 1#32
  let c352_3622 : Index := 352#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v4156 : Index := Scalar.indexCast v20
  ![1, 352, v4156.toNat]
def k1_off136 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v4184 : Index := Scalar.indexCast v18
  let c0_3643 : Index := 0#32
  let c768_3644 : Index := 768#32
  let c0_3645 : Index := 0#32
  ![v4184.toNat, 0, 768, 0]
def k1_off137 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v4203 : Index := Scalar.indexCast v18
  let c0_3658 : Index := 0#32
  let c800 : Index := 800#32
  let c0_3659 : Index := 0#32
  ![v4203.toNat, 0, 800, 0]
def k1_off138 (k1_t2 : Fin k1_t2_loop.trips) : Fin 3 → Nat :=
  let c0_3663 : Index := 0#32
  let c384_3664 : Index := 384#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v4215 : Index := Scalar.indexCast v20
  ![0, 384, v4215.toNat]
def k1_off139 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v4243 : Index := Scalar.indexCast v18
  let c1_3685 : Index := 1#32
  let c768_3686 : Index := 768#32
  let c0_3687 : Index := 0#32
  ![v4243.toNat, 1, 768, 0]
def k1_off140 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v4262 : Index := Scalar.indexCast v18
  let c1_3700 : Index := 1#32
  let c800_3701 : Index := 800#32
  let c0_3702 : Index := 0#32
  ![v4262.toNat, 1, 800, 0]
def k1_off141 (k1_t2 : Fin k1_t2_loop.trips) : Fin 3 → Nat :=
  let c1_3706 : Index := 1#32
  let c384_3707 : Index := 384#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v4274 : Index := Scalar.indexCast v20
  ![1, 384, v4274.toNat]
def k1_off142 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v4302 : Index := Scalar.indexCast v18
  let c0_3728 : Index := 0#32
  let c832_3729 : Index := 832#32
  let c0_3730 : Index := 0#32
  ![v4302.toNat, 0, 832, 0]
def k1_off143 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v4321 : Index := Scalar.indexCast v18
  let c0_3743 : Index := 0#32
  let c864 : Index := 864#32
  let c0_3744 : Index := 0#32
  ![v4321.toNat, 0, 864, 0]
def k1_off144 (k1_t2 : Fin k1_t2_loop.trips) : Fin 3 → Nat :=
  let c0_3748 : Index := 0#32
  let c416_3749 : Index := 416#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v4333 : Index := Scalar.indexCast v20
  ![0, 416, v4333.toNat]
def k1_off145 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v4361 : Index := Scalar.indexCast v18
  let c1_3770 : Index := 1#32
  let c832_3771 : Index := 832#32
  let c0_3772 : Index := 0#32
  ![v4361.toNat, 1, 832, 0]
def k1_off146 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v4380 : Index := Scalar.indexCast v18
  let c1_3785 : Index := 1#32
  let c864_3786 : Index := 864#32
  let c0_3787 : Index := 0#32
  ![v4380.toNat, 1, 864, 0]
def k1_off147 (k1_t2 : Fin k1_t2_loop.trips) : Fin 3 → Nat :=
  let c1_3791 : Index := 1#32
  let c416_3792 : Index := 416#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v4392 : Index := Scalar.indexCast v20
  ![1, 416, v4392.toNat]
def k1_off148 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v4420 : Index := Scalar.indexCast v18
  let c0_3813 : Index := 0#32
  let c896_3814 : Index := 896#32
  let c0_3815 : Index := 0#32
  ![v4420.toNat, 0, 896, 0]
def k1_off149 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v4439 : Index := Scalar.indexCast v18
  let c0_3828 : Index := 0#32
  let c928 : Index := 928#32
  let c0_3829 : Index := 0#32
  ![v4439.toNat, 0, 928, 0]
def k1_off150 (k1_t2 : Fin k1_t2_loop.trips) : Fin 3 → Nat :=
  let c0_3833 : Index := 0#32
  let c448_3834 : Index := 448#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v4451 : Index := Scalar.indexCast v20
  ![0, 448, v4451.toNat]
def k1_off151 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v4479 : Index := Scalar.indexCast v18
  let c1_3855 : Index := 1#32
  let c896_3856 : Index := 896#32
  let c0_3857 : Index := 0#32
  ![v4479.toNat, 1, 896, 0]
def k1_off152 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v4498 : Index := Scalar.indexCast v18
  let c1_3870 : Index := 1#32
  let c928_3871 : Index := 928#32
  let c0_3872 : Index := 0#32
  ![v4498.toNat, 1, 928, 0]
def k1_off153 (k1_t2 : Fin k1_t2_loop.trips) : Fin 3 → Nat :=
  let c1_3876 : Index := 1#32
  let c448_3877 : Index := 448#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v4510 : Index := Scalar.indexCast v20
  ![1, 448, v4510.toNat]
def k1_off154 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v4538 : Index := Scalar.indexCast v18
  let c0_3898 : Index := 0#32
  let c960_3899 : Index := 960#32
  let c0_3900 : Index := 0#32
  ![v4538.toNat, 0, 960, 0]
def k1_off155 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v4557 : Index := Scalar.indexCast v18
  let c0_3913 : Index := 0#32
  let c992 : Index := 992#32
  let c0_3914 : Index := 0#32
  ![v4557.toNat, 0, 992, 0]
def k1_off156 (k1_t2 : Fin k1_t2_loop.trips) : Fin 3 → Nat :=
  let c0_3918 : Index := 0#32
  let c480_3919 : Index := 480#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v4569 : Index := Scalar.indexCast v20
  ![0, 480, v4569.toNat]
def k1_off157 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v4597 : Index := Scalar.indexCast v18
  let c1_3940 : Index := 1#32
  let c960_3941 : Index := 960#32
  let c0_3942 : Index := 0#32
  ![v4597.toNat, 1, 960, 0]
def k1_off158 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v4616 : Index := Scalar.indexCast v18
  let c1_3955 : Index := 1#32
  let c992_3956 : Index := 992#32
  let c0_3957 : Index := 0#32
  ![v4616.toNat, 1, 992, 0]
def k1_off159 (k1_t2 : Fin k1_t2_loop.trips) : Fin 3 → Nat :=
  let c1_3961 : Index := 1#32
  let c480_3962 : Index := 480#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v4628 : Index := Scalar.indexCast v20
  ![1, 480, v4628.toNat]
def k1_off160 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v4656 : Index := Scalar.indexCast v18
  let c0_3983 : Index := 0#32
  let c1024_3984 : Index := 1024#32
  let c0_3985 : Index := 0#32
  ![v4656.toNat, 0, 1024, 0]
def k1_off161 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v4675 : Index := Scalar.indexCast v18
  let c0_3998 : Index := 0#32
  let c1056 : Index := 1056#32
  let c0_3999 : Index := 0#32
  ![v4675.toNat, 0, 1056, 0]
def k1_off162 (k1_t2 : Fin k1_t2_loop.trips) : Fin 3 → Nat :=
  let c0_4003 : Index := 0#32
  let c512_4004 : Index := 512#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v4687 : Index := Scalar.indexCast v20
  ![0, 512, v4687.toNat]
def k1_off163 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v4715 : Index := Scalar.indexCast v18
  let c1_4025 : Index := 1#32
  let c1024_4026 : Index := 1024#32
  let c0_4027 : Index := 0#32
  ![v4715.toNat, 1, 1024, 0]
def k1_off164 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v4734 : Index := Scalar.indexCast v18
  let c1_4040 : Index := 1#32
  let c1056_4041 : Index := 1056#32
  let c0_4042 : Index := 0#32
  ![v4734.toNat, 1, 1056, 0]
def k1_off165 (k1_t2 : Fin k1_t2_loop.trips) : Fin 3 → Nat :=
  let c1_4046 : Index := 1#32
  let c512_4047 : Index := 512#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v4746 : Index := Scalar.indexCast v20
  ![1, 512, v4746.toNat]
def k1_off166 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v4774 : Index := Scalar.indexCast v18
  let c0_4068 : Index := 0#32
  let c1088_4069 : Index := 1088#32
  let c0_4070 : Index := 0#32
  ![v4774.toNat, 0, 1088, 0]
def k1_off167 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v4793 : Index := Scalar.indexCast v18
  let c0_4083 : Index := 0#32
  let c1120 : Index := 1120#32
  let c0_4084 : Index := 0#32
  ![v4793.toNat, 0, 1120, 0]
def k1_off168 (k1_t2 : Fin k1_t2_loop.trips) : Fin 3 → Nat :=
  let c0_4088 : Index := 0#32
  let c544_4089 : Index := 544#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v4805 : Index := Scalar.indexCast v20
  ![0, 544, v4805.toNat]
def k1_off169 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v4833 : Index := Scalar.indexCast v18
  let c1_4110 : Index := 1#32
  let c1088_4111 : Index := 1088#32
  let c0_4112 : Index := 0#32
  ![v4833.toNat, 1, 1088, 0]
def k1_off170 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v4852 : Index := Scalar.indexCast v18
  let c1_4125 : Index := 1#32
  let c1120_4126 : Index := 1120#32
  let c0_4127 : Index := 0#32
  ![v4852.toNat, 1, 1120, 0]
def k1_off171 (k1_t2 : Fin k1_t2_loop.trips) : Fin 3 → Nat :=
  let c1_4131 : Index := 1#32
  let c544_4132 : Index := 544#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v4864 : Index := Scalar.indexCast v20
  ![1, 544, v4864.toNat]
def k1_off172 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v4892 : Index := Scalar.indexCast v18
  let c0_4153 : Index := 0#32
  let c1152_4154 : Index := 1152#32
  let c0_4155 : Index := 0#32
  ![v4892.toNat, 0, 1152, 0]
def k1_off173 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v4911 : Index := Scalar.indexCast v18
  let c0_4168 : Index := 0#32
  let c1184 : Index := 1184#32
  let c0_4169 : Index := 0#32
  ![v4911.toNat, 0, 1184, 0]
def k1_off174 (k1_t2 : Fin k1_t2_loop.trips) : Fin 3 → Nat :=
  let c0_4173 : Index := 0#32
  let c576_4174 : Index := 576#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v4923 : Index := Scalar.indexCast v20
  ![0, 576, v4923.toNat]
def k1_off175 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v4951 : Index := Scalar.indexCast v18
  let c1_4195 : Index := 1#32
  let c1152_4196 : Index := 1152#32
  let c0_4197 : Index := 0#32
  ![v4951.toNat, 1, 1152, 0]
def k1_off176 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v4970 : Index := Scalar.indexCast v18
  let c1_4210 : Index := 1#32
  let c1184_4211 : Index := 1184#32
  let c0_4212 : Index := 0#32
  ![v4970.toNat, 1, 1184, 0]
def k1_off177 (k1_t2 : Fin k1_t2_loop.trips) : Fin 3 → Nat :=
  let c1_4216 : Index := 1#32
  let c576_4217 : Index := 576#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v4982 : Index := Scalar.indexCast v20
  ![1, 576, v4982.toNat]
def k1_off178 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v5010 : Index := Scalar.indexCast v18
  let c0_4238 : Index := 0#32
  let c1216_4239 : Index := 1216#32
  let c0_4240 : Index := 0#32
  ![v5010.toNat, 0, 1216, 0]
def k1_off179 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v5029 : Index := Scalar.indexCast v18
  let c0_4253 : Index := 0#32
  let c1248 : Index := 1248#32
  let c0_4254 : Index := 0#32
  ![v5029.toNat, 0, 1248, 0]
def k1_off180 (k1_t2 : Fin k1_t2_loop.trips) : Fin 3 → Nat :=
  let c0_4258 : Index := 0#32
  let c608_4259 : Index := 608#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v5041 : Index := Scalar.indexCast v20
  ![0, 608, v5041.toNat]
def k1_off181 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v5069 : Index := Scalar.indexCast v18
  let c1_4280 : Index := 1#32
  let c1216_4281 : Index := 1216#32
  let c0_4282 : Index := 0#32
  ![v5069.toNat, 1, 1216, 0]
def k1_off182 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v5088 : Index := Scalar.indexCast v18
  let c1_4295 : Index := 1#32
  let c1248_4296 : Index := 1248#32
  let c0_4297 : Index := 0#32
  ![v5088.toNat, 1, 1248, 0]
def k1_off183 (k1_t2 : Fin k1_t2_loop.trips) : Fin 3 → Nat :=
  let c1_4301 : Index := 1#32
  let c608_4302 : Index := 608#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v5100 : Index := Scalar.indexCast v20
  ![1, 608, v5100.toNat]
def k1_off184 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v5128 : Index := Scalar.indexCast v18
  let c0_4323 : Index := 0#32
  let c1280_4324 : Index := 1280#32
  let c0_4325 : Index := 0#32
  ![v5128.toNat, 0, 1280, 0]
def k1_off185 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v5147 : Index := Scalar.indexCast v18
  let c0_4338 : Index := 0#32
  let c1312 : Index := 1312#32
  let c0_4339 : Index := 0#32
  ![v5147.toNat, 0, 1312, 0]
def k1_off186 (k1_t2 : Fin k1_t2_loop.trips) : Fin 3 → Nat :=
  let c0_4343 : Index := 0#32
  let c640_4344 : Index := 640#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v5159 : Index := Scalar.indexCast v20
  ![0, 640, v5159.toNat]
def k1_off187 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v5187 : Index := Scalar.indexCast v18
  let c1_4365 : Index := 1#32
  let c1280_4366 : Index := 1280#32
  let c0_4367 : Index := 0#32
  ![v5187.toNat, 1, 1280, 0]
def k1_off188 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v5206 : Index := Scalar.indexCast v18
  let c1_4380 : Index := 1#32
  let c1312_4381 : Index := 1312#32
  let c0_4382 : Index := 0#32
  ![v5206.toNat, 1, 1312, 0]
def k1_off189 (k1_t2 : Fin k1_t2_loop.trips) : Fin 3 → Nat :=
  let c1_4386 : Index := 1#32
  let c640_4387 : Index := 640#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v5218 : Index := Scalar.indexCast v20
  ![1, 640, v5218.toNat]
def k1_off190 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v5246 : Index := Scalar.indexCast v18
  let c0_4408 : Index := 0#32
  let c1344_4409 : Index := 1344#32
  let c0_4410 : Index := 0#32
  ![v5246.toNat, 0, 1344, 0]
def k1_off191 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v5265 : Index := Scalar.indexCast v18
  let c0_4423 : Index := 0#32
  let c1376 : Index := 1376#32
  let c0_4424 : Index := 0#32
  ![v5265.toNat, 0, 1376, 0]
def k1_off192 (k1_t2 : Fin k1_t2_loop.trips) : Fin 3 → Nat :=
  let c0_4428 : Index := 0#32
  let c672_4429 : Index := 672#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v5277 : Index := Scalar.indexCast v20
  ![0, 672, v5277.toNat]
def k1_off193 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v5305 : Index := Scalar.indexCast v18
  let c1_4450 : Index := 1#32
  let c1344_4451 : Index := 1344#32
  let c0_4452 : Index := 0#32
  ![v5305.toNat, 1, 1344, 0]
def k1_off194 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v5324 : Index := Scalar.indexCast v18
  let c1_4465 : Index := 1#32
  let c1376_4466 : Index := 1376#32
  let c0_4467 : Index := 0#32
  ![v5324.toNat, 1, 1376, 0]
def k1_off195 (k1_t2 : Fin k1_t2_loop.trips) : Fin 3 → Nat :=
  let c1_4471 : Index := 1#32
  let c672_4472 : Index := 672#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v5336 : Index := Scalar.indexCast v20
  ![1, 672, v5336.toNat]
def k1_off196 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v5364 : Index := Scalar.indexCast v18
  let c0_4493 : Index := 0#32
  let c1408_4494 : Index := 1408#32
  let c0_4495 : Index := 0#32
  ![v5364.toNat, 0, 1408, 0]
def k1_off197 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v5383 : Index := Scalar.indexCast v18
  let c0_4508 : Index := 0#32
  let c1440 : Index := 1440#32
  let c0_4509 : Index := 0#32
  ![v5383.toNat, 0, 1440, 0]
def k1_off198 (k1_t2 : Fin k1_t2_loop.trips) : Fin 3 → Nat :=
  let c0_4513 : Index := 0#32
  let c704_4514 : Index := 704#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v5395 : Index := Scalar.indexCast v20
  ![0, 704, v5395.toNat]
def k1_off199 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v5423 : Index := Scalar.indexCast v18
  let c1_4535 : Index := 1#32
  let c1408_4536 : Index := 1408#32
  let c0_4537 : Index := 0#32
  ![v5423.toNat, 1, 1408, 0]
def k1_off200 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v5442 : Index := Scalar.indexCast v18
  let c1_4550 : Index := 1#32
  let c1440_4551 : Index := 1440#32
  let c0_4552 : Index := 0#32
  ![v5442.toNat, 1, 1440, 0]
def k1_off201 (k1_t2 : Fin k1_t2_loop.trips) : Fin 3 → Nat :=
  let c1_4556 : Index := 1#32
  let c704_4557 : Index := 704#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v5454 : Index := Scalar.indexCast v20
  ![1, 704, v5454.toNat]
def k1_off202 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v5482 : Index := Scalar.indexCast v18
  let c0_4578 : Index := 0#32
  let c1472_4579 : Index := 1472#32
  let c0_4580 : Index := 0#32
  ![v5482.toNat, 0, 1472, 0]
def k1_off203 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v5501 : Index := Scalar.indexCast v18
  let c0_4593 : Index := 0#32
  let c1504 : Index := 1504#32
  let c0_4594 : Index := 0#32
  ![v5501.toNat, 0, 1504, 0]
def k1_off204 (k1_t2 : Fin k1_t2_loop.trips) : Fin 3 → Nat :=
  let c0_4598 : Index := 0#32
  let c736_4599 : Index := 736#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v5513 : Index := Scalar.indexCast v20
  ![0, 736, v5513.toNat]
def k1_off205 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v5541 : Index := Scalar.indexCast v18
  let c1_4620 : Index := 1#32
  let c1472_4621 : Index := 1472#32
  let c0_4622 : Index := 0#32
  ![v5541.toNat, 1, 1472, 0]
def k1_off206 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v5560 : Index := Scalar.indexCast v18
  let c1_4635 : Index := 1#32
  let c1504_4636 : Index := 1504#32
  let c0_4637 : Index := 0#32
  ![v5560.toNat, 1, 1504, 0]
def k1_off207 (k1_t2 : Fin k1_t2_loop.trips) : Fin 3 → Nat :=
  let c1_4641 : Index := 1#32
  let c736_4642 : Index := 736#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v5572 : Index := Scalar.indexCast v20
  ![1, 736, v5572.toNat]
def k1_off208 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v5600 : Index := Scalar.indexCast v18
  let c0_4663 : Index := 0#32
  let c1536_4664 : Index := 1536#32
  let c0_4665 : Index := 0#32
  ![v5600.toNat, 0, 1536, 0]
def k1_off209 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v5619 : Index := Scalar.indexCast v18
  let c0_4678 : Index := 0#32
  let c1568 : Index := 1568#32
  let c0_4679 : Index := 0#32
  ![v5619.toNat, 0, 1568, 0]
def k1_off210 (k1_t2 : Fin k1_t2_loop.trips) : Fin 3 → Nat :=
  let c0_4683 : Index := 0#32
  let c768_4684 : Index := 768#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v5631 : Index := Scalar.indexCast v20
  ![0, 768, v5631.toNat]
def k1_off211 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v5659 : Index := Scalar.indexCast v18
  let c1_4705 : Index := 1#32
  let c1536_4706 : Index := 1536#32
  let c0_4707 : Index := 0#32
  ![v5659.toNat, 1, 1536, 0]
def k1_off212 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v5678 : Index := Scalar.indexCast v18
  let c1_4720 : Index := 1#32
  let c1568_4721 : Index := 1568#32
  let c0_4722 : Index := 0#32
  ![v5678.toNat, 1, 1568, 0]
def k1_off213 (k1_t2 : Fin k1_t2_loop.trips) : Fin 3 → Nat :=
  let c1_4726 : Index := 1#32
  let c768_4727 : Index := 768#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v5690 : Index := Scalar.indexCast v20
  ![1, 768, v5690.toNat]
def k1_off214 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v5718 : Index := Scalar.indexCast v18
  let c0_4748 : Index := 0#32
  let c1600_4749 : Index := 1600#32
  let c0_4750 : Index := 0#32
  ![v5718.toNat, 0, 1600, 0]
def k1_off215 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v5737 : Index := Scalar.indexCast v18
  let c0_4763 : Index := 0#32
  let c1632 : Index := 1632#32
  let c0_4764 : Index := 0#32
  ![v5737.toNat, 0, 1632, 0]
def k1_off216 (k1_t2 : Fin k1_t2_loop.trips) : Fin 3 → Nat :=
  let c0_4768 : Index := 0#32
  let c800_4769 : Index := 800#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v5749 : Index := Scalar.indexCast v20
  ![0, 800, v5749.toNat]
def k1_off217 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v5777 : Index := Scalar.indexCast v18
  let c1_4790 : Index := 1#32
  let c1600_4791 : Index := 1600#32
  let c0_4792 : Index := 0#32
  ![v5777.toNat, 1, 1600, 0]
def k1_off218 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v5796 : Index := Scalar.indexCast v18
  let c1_4805 : Index := 1#32
  let c1632_4806 : Index := 1632#32
  let c0_4807 : Index := 0#32
  ![v5796.toNat, 1, 1632, 0]
def k1_off219 (k1_t2 : Fin k1_t2_loop.trips) : Fin 3 → Nat :=
  let c1_4811 : Index := 1#32
  let c800_4812 : Index := 800#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v5808 : Index := Scalar.indexCast v20
  ![1, 800, v5808.toNat]
def k1_off220 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v5836 : Index := Scalar.indexCast v18
  let c0_4833 : Index := 0#32
  let c1664_4834 : Index := 1664#32
  let c0_4835 : Index := 0#32
  ![v5836.toNat, 0, 1664, 0]
def k1_off221 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v5855 : Index := Scalar.indexCast v18
  let c0_4848 : Index := 0#32
  let c1696 : Index := 1696#32
  let c0_4849 : Index := 0#32
  ![v5855.toNat, 0, 1696, 0]
def k1_off222 (k1_t2 : Fin k1_t2_loop.trips) : Fin 3 → Nat :=
  let c0_4853 : Index := 0#32
  let c832_4854 : Index := 832#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v5867 : Index := Scalar.indexCast v20
  ![0, 832, v5867.toNat]
def k1_off223 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v5895 : Index := Scalar.indexCast v18
  let c1_4875 : Index := 1#32
  let c1664_4876 : Index := 1664#32
  let c0_4877 : Index := 0#32
  ![v5895.toNat, 1, 1664, 0]
def k1_off224 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v5914 : Index := Scalar.indexCast v18
  let c1_4890 : Index := 1#32
  let c1696_4891 : Index := 1696#32
  let c0_4892 : Index := 0#32
  ![v5914.toNat, 1, 1696, 0]
def k1_off225 (k1_t2 : Fin k1_t2_loop.trips) : Fin 3 → Nat :=
  let c1_4896 : Index := 1#32
  let c832_4897 : Index := 832#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v5926 : Index := Scalar.indexCast v20
  ![1, 832, v5926.toNat]
def k1_off226 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v5954 : Index := Scalar.indexCast v18
  let c0_4918 : Index := 0#32
  let c1728_4919 : Index := 1728#32
  let c0_4920 : Index := 0#32
  ![v5954.toNat, 0, 1728, 0]
def k1_off227 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v5973 : Index := Scalar.indexCast v18
  let c0_4933 : Index := 0#32
  let c1760 : Index := 1760#32
  let c0_4934 : Index := 0#32
  ![v5973.toNat, 0, 1760, 0]
def k1_off228 (k1_t2 : Fin k1_t2_loop.trips) : Fin 3 → Nat :=
  let c0_4938 : Index := 0#32
  let c864_4939 : Index := 864#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v5985 : Index := Scalar.indexCast v20
  ![0, 864, v5985.toNat]
def k1_off229 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v6013 : Index := Scalar.indexCast v18
  let c1_4960 : Index := 1#32
  let c1728_4961 : Index := 1728#32
  let c0_4962 : Index := 0#32
  ![v6013.toNat, 1, 1728, 0]
def k1_off230 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v6032 : Index := Scalar.indexCast v18
  let c1_4975 : Index := 1#32
  let c1760_4976 : Index := 1760#32
  let c0_4977 : Index := 0#32
  ![v6032.toNat, 1, 1760, 0]
def k1_off231 (k1_t2 : Fin k1_t2_loop.trips) : Fin 3 → Nat :=
  let c1_4981 : Index := 1#32
  let c864_4982 : Index := 864#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v6044 : Index := Scalar.indexCast v20
  ![1, 864, v6044.toNat]
def k1_off232 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v6072 : Index := Scalar.indexCast v18
  let c0_5003 : Index := 0#32
  let c1792_5004 : Index := 1792#32
  let c0_5005 : Index := 0#32
  ![v6072.toNat, 0, 1792, 0]
def k1_off233 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v6091 : Index := Scalar.indexCast v18
  let c0_5018 : Index := 0#32
  let c1824 : Index := 1824#32
  let c0_5019 : Index := 0#32
  ![v6091.toNat, 0, 1824, 0]
def k1_off234 (k1_t2 : Fin k1_t2_loop.trips) : Fin 3 → Nat :=
  let c0_5023 : Index := 0#32
  let c896_5024 : Index := 896#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v6103 : Index := Scalar.indexCast v20
  ![0, 896, v6103.toNat]
def k1_off235 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v6131 : Index := Scalar.indexCast v18
  let c1_5045 : Index := 1#32
  let c1792_5046 : Index := 1792#32
  let c0_5047 : Index := 0#32
  ![v6131.toNat, 1, 1792, 0]
def k1_off236 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v6150 : Index := Scalar.indexCast v18
  let c1_5060 : Index := 1#32
  let c1824_5061 : Index := 1824#32
  let c0_5062 : Index := 0#32
  ![v6150.toNat, 1, 1824, 0]
def k1_off237 (k1_t2 : Fin k1_t2_loop.trips) : Fin 3 → Nat :=
  let c1_5066 : Index := 1#32
  let c896_5067 : Index := 896#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v6162 : Index := Scalar.indexCast v20
  ![1, 896, v6162.toNat]
def k1_off238 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v6190 : Index := Scalar.indexCast v18
  let c0_5088 : Index := 0#32
  let c1856_5089 : Index := 1856#32
  let c0_5090 : Index := 0#32
  ![v6190.toNat, 0, 1856, 0]
def k1_off239 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v6209 : Index := Scalar.indexCast v18
  let c0_5103 : Index := 0#32
  let c1888 : Index := 1888#32
  let c0_5104 : Index := 0#32
  ![v6209.toNat, 0, 1888, 0]
def k1_off240 (k1_t2 : Fin k1_t2_loop.trips) : Fin 3 → Nat :=
  let c0_5108 : Index := 0#32
  let c928_5109 : Index := 928#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v6221 : Index := Scalar.indexCast v20
  ![0, 928, v6221.toNat]
def k1_off241 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v6249 : Index := Scalar.indexCast v18
  let c1_5130 : Index := 1#32
  let c1856_5131 : Index := 1856#32
  let c0_5132 : Index := 0#32
  ![v6249.toNat, 1, 1856, 0]
def k1_off242 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v6268 : Index := Scalar.indexCast v18
  let c1_5145 : Index := 1#32
  let c1888_5146 : Index := 1888#32
  let c0_5147 : Index := 0#32
  ![v6268.toNat, 1, 1888, 0]
def k1_off243 (k1_t2 : Fin k1_t2_loop.trips) : Fin 3 → Nat :=
  let c1_5151 : Index := 1#32
  let c928_5152 : Index := 928#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v6280 : Index := Scalar.indexCast v20
  ![1, 928, v6280.toNat]
def k1_off244 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v6308 : Index := Scalar.indexCast v18
  let c0_5173 : Index := 0#32
  let c1920_5174 : Index := 1920#32
  let c0_5175 : Index := 0#32
  ![v6308.toNat, 0, 1920, 0]
def k1_off245 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v6327 : Index := Scalar.indexCast v18
  let c0_5188 : Index := 0#32
  let c1952 : Index := 1952#32
  let c0_5189 : Index := 0#32
  ![v6327.toNat, 0, 1952, 0]
def k1_off246 (k1_t2 : Fin k1_t2_loop.trips) : Fin 3 → Nat :=
  let c0_5193 : Index := 0#32
  let c960_5194 : Index := 960#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v6339 : Index := Scalar.indexCast v20
  ![0, 960, v6339.toNat]
def k1_off247 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v6367 : Index := Scalar.indexCast v18
  let c1_5215 : Index := 1#32
  let c1920_5216 : Index := 1920#32
  let c0_5217 : Index := 0#32
  ![v6367.toNat, 1, 1920, 0]
def k1_off248 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v6386 : Index := Scalar.indexCast v18
  let c1_5230 : Index := 1#32
  let c1952_5231 : Index := 1952#32
  let c0_5232 : Index := 0#32
  ![v6386.toNat, 1, 1952, 0]
def k1_off249 (k1_t2 : Fin k1_t2_loop.trips) : Fin 3 → Nat :=
  let c1_5236 : Index := 1#32
  let c960_5237 : Index := 960#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v6398 : Index := Scalar.indexCast v20
  ![1, 960, v6398.toNat]
def k1_off250 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v6426 : Index := Scalar.indexCast v18
  let c0_5258 : Index := 0#32
  let c1984_5259 : Index := 1984#32
  let c0_5260 : Index := 0#32
  ![v6426.toNat, 0, 1984, 0]
def k1_off251 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v6445 : Index := Scalar.indexCast v18
  let c0_5273 : Index := 0#32
  let c2016 : Index := 2016#32
  let c0_5274 : Index := 0#32
  ![v6445.toNat, 0, 2016, 0]
def k1_off252 (k1_t2 : Fin k1_t2_loop.trips) : Fin 3 → Nat :=
  let c0_5278 : Index := 0#32
  let c992_5279 : Index := 992#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v6457 : Index := Scalar.indexCast v20
  ![0, 992, v6457.toNat]
def k1_off253 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v6485 : Index := Scalar.indexCast v18
  let c1_5300 : Index := 1#32
  let c1984_5301 : Index := 1984#32
  let c0_5302 : Index := 0#32
  ![v6485.toNat, 1, 1984, 0]
def k1_off254 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v6504 : Index := Scalar.indexCast v18
  let c1_5315 : Index := 1#32
  let c2016_5316 : Index := 2016#32
  let c0_5317 : Index := 0#32
  ![v6504.toNat, 1, 2016, 0]
def k1_off255 (k1_t2 : Fin k1_t2_loop.trips) : Fin 3 → Nat :=
  let c1_5321 : Index := 1#32
  let c992_5322 : Index := 992#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v6516 : Index := Scalar.indexCast v20
  ![1, 992, v6516.toNat]
def k1_off256 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v6544 : Index := Scalar.indexCast v18
  let c0_5343 : Index := 0#32
  let c2048_5344 : Index := 2048#32
  let c0_5345 : Index := 0#32
  ![v6544.toNat, 0, 2048, 0]
def k1_off257 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v6563 : Index := Scalar.indexCast v18
  let c0_5358 : Index := 0#32
  let c2080 : Index := 2080#32
  let c0_5359 : Index := 0#32
  ![v6563.toNat, 0, 2080, 0]
def k1_off258 (k1_t2 : Fin k1_t2_loop.trips) : Fin 3 → Nat :=
  let c0_5363 : Index := 0#32
  let c1024_5364 : Index := 1024#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v6575 : Index := Scalar.indexCast v20
  ![0, 1024, v6575.toNat]
def k1_off259 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v6603 : Index := Scalar.indexCast v18
  let c1_5385 : Index := 1#32
  let c2048_5386 : Index := 2048#32
  let c0_5387 : Index := 0#32
  ![v6603.toNat, 1, 2048, 0]
def k1_off260 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v6622 : Index := Scalar.indexCast v18
  let c1_5400 : Index := 1#32
  let c2080_5401 : Index := 2080#32
  let c0_5402 : Index := 0#32
  ![v6622.toNat, 1, 2080, 0]
def k1_off261 (k1_t2 : Fin k1_t2_loop.trips) : Fin 3 → Nat :=
  let c1_5406 : Index := 1#32
  let c1024_5407 : Index := 1024#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v6634 : Index := Scalar.indexCast v20
  ![1, 1024, v6634.toNat]
def k1_off262 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v6662 : Index := Scalar.indexCast v18
  let c0_5428 : Index := 0#32
  let c2112_5429 : Index := 2112#32
  let c0_5430 : Index := 0#32
  ![v6662.toNat, 0, 2112, 0]
def k1_off263 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v6681 : Index := Scalar.indexCast v18
  let c0_5443 : Index := 0#32
  let c2144 : Index := 2144#32
  let c0_5444 : Index := 0#32
  ![v6681.toNat, 0, 2144, 0]
def k1_off264 (k1_t2 : Fin k1_t2_loop.trips) : Fin 3 → Nat :=
  let c0_5448 : Index := 0#32
  let c1056_5449 : Index := 1056#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v6693 : Index := Scalar.indexCast v20
  ![0, 1056, v6693.toNat]
def k1_off265 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v6721 : Index := Scalar.indexCast v18
  let c1_5470 : Index := 1#32
  let c2112_5471 : Index := 2112#32
  let c0_5472 : Index := 0#32
  ![v6721.toNat, 1, 2112, 0]
def k1_off266 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v6740 : Index := Scalar.indexCast v18
  let c1_5485 : Index := 1#32
  let c2144_5486 : Index := 2144#32
  let c0_5487 : Index := 0#32
  ![v6740.toNat, 1, 2144, 0]
def k1_off267 (k1_t2 : Fin k1_t2_loop.trips) : Fin 3 → Nat :=
  let c1_5491 : Index := 1#32
  let c1056_5492 : Index := 1056#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v6752 : Index := Scalar.indexCast v20
  ![1, 1056, v6752.toNat]
def k1_off268 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v6780 : Index := Scalar.indexCast v18
  let c0_5513 : Index := 0#32
  let c2176_5514 : Index := 2176#32
  let c0_5515 : Index := 0#32
  ![v6780.toNat, 0, 2176, 0]
def k1_off269 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v6799 : Index := Scalar.indexCast v18
  let c0_5528 : Index := 0#32
  let c2208 : Index := 2208#32
  let c0_5529 : Index := 0#32
  ![v6799.toNat, 0, 2208, 0]
def k1_off270 (k1_t2 : Fin k1_t2_loop.trips) : Fin 3 → Nat :=
  let c0_5533 : Index := 0#32
  let c1088_5534 : Index := 1088#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v6811 : Index := Scalar.indexCast v20
  ![0, 1088, v6811.toNat]
def k1_off271 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v6839 : Index := Scalar.indexCast v18
  let c1_5555 : Index := 1#32
  let c2176_5556 : Index := 2176#32
  let c0_5557 : Index := 0#32
  ![v6839.toNat, 1, 2176, 0]
def k1_off272 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v6858 : Index := Scalar.indexCast v18
  let c1_5570 : Index := 1#32
  let c2208_5571 : Index := 2208#32
  let c0_5572 : Index := 0#32
  ![v6858.toNat, 1, 2208, 0]
def k1_off273 (k1_t2 : Fin k1_t2_loop.trips) : Fin 3 → Nat :=
  let c1_5576 : Index := 1#32
  let c1088_5577 : Index := 1088#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v6870 : Index := Scalar.indexCast v20
  ![1, 1088, v6870.toNat]
def k1_off274 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v6898 : Index := Scalar.indexCast v18
  let c0_5598 : Index := 0#32
  let c2240_5599 : Index := 2240#32
  let c0_5600 : Index := 0#32
  ![v6898.toNat, 0, 2240, 0]
def k1_off275 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v6917 : Index := Scalar.indexCast v18
  let c0_5613 : Index := 0#32
  let c2272 : Index := 2272#32
  let c0_5614 : Index := 0#32
  ![v6917.toNat, 0, 2272, 0]
def k1_off276 (k1_t2 : Fin k1_t2_loop.trips) : Fin 3 → Nat :=
  let c0_5618 : Index := 0#32
  let c1120_5619 : Index := 1120#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v6929 : Index := Scalar.indexCast v20
  ![0, 1120, v6929.toNat]
def k1_off277 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v6957 : Index := Scalar.indexCast v18
  let c1_5640 : Index := 1#32
  let c2240_5641 : Index := 2240#32
  let c0_5642 : Index := 0#32
  ![v6957.toNat, 1, 2240, 0]
def k1_off278 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v6976 : Index := Scalar.indexCast v18
  let c1_5655 : Index := 1#32
  let c2272_5656 : Index := 2272#32
  let c0_5657 : Index := 0#32
  ![v6976.toNat, 1, 2272, 0]
def k1_off279 (k1_t2 : Fin k1_t2_loop.trips) : Fin 3 → Nat :=
  let c1_5661 : Index := 1#32
  let c1120_5662 : Index := 1120#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v6988 : Index := Scalar.indexCast v20
  ![1, 1120, v6988.toNat]
def k1_off280 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v7016 : Index := Scalar.indexCast v18
  let c0_5683 : Index := 0#32
  let c2304_5684 : Index := 2304#32
  let c0_5685 : Index := 0#32
  ![v7016.toNat, 0, 2304, 0]
def k1_off281 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v7035 : Index := Scalar.indexCast v18
  let c0_5698 : Index := 0#32
  let c2336 : Index := 2336#32
  let c0_5699 : Index := 0#32
  ![v7035.toNat, 0, 2336, 0]
def k1_off282 (k1_t2 : Fin k1_t2_loop.trips) : Fin 3 → Nat :=
  let c0_5703 : Index := 0#32
  let c1152_5704 : Index := 1152#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v7047 : Index := Scalar.indexCast v20
  ![0, 1152, v7047.toNat]
def k1_off283 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v7075 : Index := Scalar.indexCast v18
  let c1_5725 : Index := 1#32
  let c2304_5726 : Index := 2304#32
  let c0_5727 : Index := 0#32
  ![v7075.toNat, 1, 2304, 0]
def k1_off284 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v7094 : Index := Scalar.indexCast v18
  let c1_5740 : Index := 1#32
  let c2336_5741 : Index := 2336#32
  let c0_5742 : Index := 0#32
  ![v7094.toNat, 1, 2336, 0]
def k1_off285 (k1_t2 : Fin k1_t2_loop.trips) : Fin 3 → Nat :=
  let c1_5746 : Index := 1#32
  let c1152_5747 : Index := 1152#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v7106 : Index := Scalar.indexCast v20
  ![1, 1152, v7106.toNat]
def k1_off286 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v7134 : Index := Scalar.indexCast v18
  let c0_5768 : Index := 0#32
  let c2368_5769 : Index := 2368#32
  let c0_5770 : Index := 0#32
  ![v7134.toNat, 0, 2368, 0]
def k1_off287 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v7153 : Index := Scalar.indexCast v18
  let c0_5783 : Index := 0#32
  let c2400 : Index := 2400#32
  let c0_5784 : Index := 0#32
  ![v7153.toNat, 0, 2400, 0]
def k1_off288 (k1_t2 : Fin k1_t2_loop.trips) : Fin 3 → Nat :=
  let c0_5788 : Index := 0#32
  let c1184_5789 : Index := 1184#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v7165 : Index := Scalar.indexCast v20
  ![0, 1184, v7165.toNat]
def k1_off289 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v7193 : Index := Scalar.indexCast v18
  let c1_5810 : Index := 1#32
  let c2368_5811 : Index := 2368#32
  let c0_5812 : Index := 0#32
  ![v7193.toNat, 1, 2368, 0]
def k1_off290 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v7212 : Index := Scalar.indexCast v18
  let c1_5825 : Index := 1#32
  let c2400_5826 : Index := 2400#32
  let c0_5827 : Index := 0#32
  ![v7212.toNat, 1, 2400, 0]
def k1_off291 (k1_t2 : Fin k1_t2_loop.trips) : Fin 3 → Nat :=
  let c1_5831 : Index := 1#32
  let c1184_5832 : Index := 1184#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v7224 : Index := Scalar.indexCast v20
  ![1, 1184, v7224.toNat]
def k1_off292 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v7252 : Index := Scalar.indexCast v18
  let c0_5853 : Index := 0#32
  let c2432_5854 : Index := 2432#32
  let c0_5855 : Index := 0#32
  ![v7252.toNat, 0, 2432, 0]
def k1_off293 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v7271 : Index := Scalar.indexCast v18
  let c0_5868 : Index := 0#32
  let c2464 : Index := 2464#32
  let c0_5869 : Index := 0#32
  ![v7271.toNat, 0, 2464, 0]
def k1_off294 (k1_t2 : Fin k1_t2_loop.trips) : Fin 3 → Nat :=
  let c0_5873 : Index := 0#32
  let c1216_5874 : Index := 1216#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v7283 : Index := Scalar.indexCast v20
  ![0, 1216, v7283.toNat]
def k1_off295 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v7311 : Index := Scalar.indexCast v18
  let c1_5895 : Index := 1#32
  let c2432_5896 : Index := 2432#32
  let c0_5897 : Index := 0#32
  ![v7311.toNat, 1, 2432, 0]
def k1_off296 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v7330 : Index := Scalar.indexCast v18
  let c1_5910 : Index := 1#32
  let c2464_5911 : Index := 2464#32
  let c0_5912 : Index := 0#32
  ![v7330.toNat, 1, 2464, 0]
def k1_off297 (k1_t2 : Fin k1_t2_loop.trips) : Fin 3 → Nat :=
  let c1_5916 : Index := 1#32
  let c1216_5917 : Index := 1216#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v7342 : Index := Scalar.indexCast v20
  ![1, 1216, v7342.toNat]
def k1_off298 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v7370 : Index := Scalar.indexCast v18
  let c0_5938 : Index := 0#32
  let c2496_5939 : Index := 2496#32
  let c0_5940 : Index := 0#32
  ![v7370.toNat, 0, 2496, 0]
def k1_off299 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v7389 : Index := Scalar.indexCast v18
  let c0_5953 : Index := 0#32
  let c2528 : Index := 2528#32
  let c0_5954 : Index := 0#32
  ![v7389.toNat, 0, 2528, 0]
def k1_off300 (k1_t2 : Fin k1_t2_loop.trips) : Fin 3 → Nat :=
  let c0_5958 : Index := 0#32
  let c1248_5959 : Index := 1248#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v7401 : Index := Scalar.indexCast v20
  ![0, 1248, v7401.toNat]
def k1_off301 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v7429 : Index := Scalar.indexCast v18
  let c1_5980 : Index := 1#32
  let c2496_5981 : Index := 2496#32
  let c0_5982 : Index := 0#32
  ![v7429.toNat, 1, 2496, 0]
def k1_off302 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v7448 : Index := Scalar.indexCast v18
  let c1_5995 : Index := 1#32
  let c2528_5996 : Index := 2528#32
  let c0_5997 : Index := 0#32
  ![v7448.toNat, 1, 2528, 0]
def k1_off303 (k1_t2 : Fin k1_t2_loop.trips) : Fin 3 → Nat :=
  let c1_6001 : Index := 1#32
  let c1248_6002 : Index := 1248#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v7460 : Index := Scalar.indexCast v20
  ![1, 1248, v7460.toNat]
def k1_off304 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v7488 : Index := Scalar.indexCast v18
  let c0_6023 : Index := 0#32
  let c2560_6024 : Index := 2560#32
  let c0_6025 : Index := 0#32
  ![v7488.toNat, 0, 2560, 0]
def k1_off305 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v7507 : Index := Scalar.indexCast v18
  let c0_6038 : Index := 0#32
  let c2592 : Index := 2592#32
  let c0_6039 : Index := 0#32
  ![v7507.toNat, 0, 2592, 0]
def k1_off306 (k1_t2 : Fin k1_t2_loop.trips) : Fin 3 → Nat :=
  let c0_6043 : Index := 0#32
  let c1280_6044 : Index := 1280#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v7519 : Index := Scalar.indexCast v20
  ![0, 1280, v7519.toNat]
def k1_off307 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v7547 : Index := Scalar.indexCast v18
  let c1_6065 : Index := 1#32
  let c2560_6066 : Index := 2560#32
  let c0_6067 : Index := 0#32
  ![v7547.toNat, 1, 2560, 0]
def k1_off308 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v7566 : Index := Scalar.indexCast v18
  let c1_6080 : Index := 1#32
  let c2592_6081 : Index := 2592#32
  let c0_6082 : Index := 0#32
  ![v7566.toNat, 1, 2592, 0]
def k1_off309 (k1_t2 : Fin k1_t2_loop.trips) : Fin 3 → Nat :=
  let c1_6086 : Index := 1#32
  let c1280_6087 : Index := 1280#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v7578 : Index := Scalar.indexCast v20
  ![1, 1280, v7578.toNat]
def k1_off310 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v7606 : Index := Scalar.indexCast v18
  let c0_6108 : Index := 0#32
  let c2624_6109 : Index := 2624#32
  let c0_6110 : Index := 0#32
  ![v7606.toNat, 0, 2624, 0]
def k1_off311 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v7625 : Index := Scalar.indexCast v18
  let c0_6123 : Index := 0#32
  let c2656 : Index := 2656#32
  let c0_6124 : Index := 0#32
  ![v7625.toNat, 0, 2656, 0]
def k1_off312 (k1_t2 : Fin k1_t2_loop.trips) : Fin 3 → Nat :=
  let c0_6128 : Index := 0#32
  let c1312_6129 : Index := 1312#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v7637 : Index := Scalar.indexCast v20
  ![0, 1312, v7637.toNat]
def k1_off313 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v7665 : Index := Scalar.indexCast v18
  let c1_6150 : Index := 1#32
  let c2624_6151 : Index := 2624#32
  let c0_6152 : Index := 0#32
  ![v7665.toNat, 1, 2624, 0]
def k1_off314 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v7684 : Index := Scalar.indexCast v18
  let c1_6165 : Index := 1#32
  let c2656_6166 : Index := 2656#32
  let c0_6167 : Index := 0#32
  ![v7684.toNat, 1, 2656, 0]
def k1_off315 (k1_t2 : Fin k1_t2_loop.trips) : Fin 3 → Nat :=
  let c1_6171 : Index := 1#32
  let c1312_6172 : Index := 1312#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v7696 : Index := Scalar.indexCast v20
  ![1, 1312, v7696.toNat]
def k1_off316 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v7724 : Index := Scalar.indexCast v18
  let c0_6193 : Index := 0#32
  let c2688_6194 : Index := 2688#32
  let c0_6195 : Index := 0#32
  ![v7724.toNat, 0, 2688, 0]
def k1_off317 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v7743 : Index := Scalar.indexCast v18
  let c0_6208 : Index := 0#32
  let c2720 : Index := 2720#32
  let c0_6209 : Index := 0#32
  ![v7743.toNat, 0, 2720, 0]
def k1_off318 (k1_t2 : Fin k1_t2_loop.trips) : Fin 3 → Nat :=
  let c0_6213 : Index := 0#32
  let c1344_6214 : Index := 1344#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v7755 : Index := Scalar.indexCast v20
  ![0, 1344, v7755.toNat]
def k1_off319 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v7783 : Index := Scalar.indexCast v18
  let c1_6235 : Index := 1#32
  let c2688_6236 : Index := 2688#32
  let c0_6237 : Index := 0#32
  ![v7783.toNat, 1, 2688, 0]
def k1_off320 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v7802 : Index := Scalar.indexCast v18
  let c1_6250 : Index := 1#32
  let c2720_6251 : Index := 2720#32
  let c0_6252 : Index := 0#32
  ![v7802.toNat, 1, 2720, 0]
def k1_off321 (k1_t2 : Fin k1_t2_loop.trips) : Fin 3 → Nat :=
  let c1_6256 : Index := 1#32
  let c1344_6257 : Index := 1344#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v7814 : Index := Scalar.indexCast v20
  ![1, 1344, v7814.toNat]
def k1_off322 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v7842 : Index := Scalar.indexCast v18
  let c0_6278 : Index := 0#32
  let c2752_6279 : Index := 2752#32
  let c0_6280 : Index := 0#32
  ![v7842.toNat, 0, 2752, 0]
def k1_off323 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v7861 : Index := Scalar.indexCast v18
  let c0_6293 : Index := 0#32
  let c2784 : Index := 2784#32
  let c0_6294 : Index := 0#32
  ![v7861.toNat, 0, 2784, 0]
def k1_off324 (k1_t2 : Fin k1_t2_loop.trips) : Fin 3 → Nat :=
  let c0_6298 : Index := 0#32
  let c1376_6299 : Index := 1376#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v7873 : Index := Scalar.indexCast v20
  ![0, 1376, v7873.toNat]
def k1_off325 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v7901 : Index := Scalar.indexCast v18
  let c1_6320 : Index := 1#32
  let c2752_6321 : Index := 2752#32
  let c0_6322 : Index := 0#32
  ![v7901.toNat, 1, 2752, 0]
def k1_off326 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v7920 : Index := Scalar.indexCast v18
  let c1_6335 : Index := 1#32
  let c2784_6336 : Index := 2784#32
  let c0_6337 : Index := 0#32
  ![v7920.toNat, 1, 2784, 0]
def k1_off327 (k1_t2 : Fin k1_t2_loop.trips) : Fin 3 → Nat :=
  let c1_6341 : Index := 1#32
  let c1376_6342 : Index := 1376#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v7932 : Index := Scalar.indexCast v20
  ![1, 1376, v7932.toNat]
def k1_off328 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v7960 : Index := Scalar.indexCast v18
  let c0_6363 : Index := 0#32
  let c2816_6364 : Index := 2816#32
  let c0_6365 : Index := 0#32
  ![v7960.toNat, 0, 2816, 0]
def k1_off329 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v7979 : Index := Scalar.indexCast v18
  let c0_6378 : Index := 0#32
  let c2848 : Index := 2848#32
  let c0_6379 : Index := 0#32
  ![v7979.toNat, 0, 2848, 0]
def k1_off330 (k1_t2 : Fin k1_t2_loop.trips) : Fin 3 → Nat :=
  let c0_6383 : Index := 0#32
  let c1408_6384 : Index := 1408#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v7991 : Index := Scalar.indexCast v20
  ![0, 1408, v7991.toNat]
def k1_off331 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v8019 : Index := Scalar.indexCast v18
  let c1_6405 : Index := 1#32
  let c2816_6406 : Index := 2816#32
  let c0_6407 : Index := 0#32
  ![v8019.toNat, 1, 2816, 0]
def k1_off332 (i : grid1.Coords) (k1_t2 : Fin k1_t2_loop.trips) : Fin 4 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v8038 : Index := Scalar.indexCast v18
  let c1_6420 : Index := 1#32
  let c2848_6421 : Index := 2848#32
  let c0_6422 : Index := 0#32
  ![v8038.toNat, 1, 2848, 0]
def k1_off333 (k1_t2 : Fin k1_t2_loop.trips) : Fin 3 → Nat :=
  let c1_6426 : Index := 1#32
  let c1408_6427 : Index := 1408#32
  let c0_i32_4 : BitVec 32 := 0#32
  let c1_i32 : BitVec 32 := 1#32
  let arg16 : BitVec 32 := Scf.iv c0_i32_4 c1_i32 k1_t2
  let c128_i32 : BitVec 32 := 128#32
  let v19 : BitVec 32 := Scalar.muli arg16 c128_i32
  let v20 : BitVec 32 := v19
  let v8050 : Index := Scalar.indexCast v20
  ![1, 1408, v8050.toNat]
def k1_mult2 (i : grid1.Coords) (k1_t2 : Fin k1_t2_loop.trips) : BitVec 32 :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_6429 : BitVec 32 := 1#32
  let v8055 : BitVec 32 := Scalar.subi v17 c1_i32_6429
  let c0_i32_6430 : BitVec 32 := 0#32
  let v8056 : BitVec 32 := Scalar.maxsi v8055 c0_i32_6430
  let c0_i32_6431 : BitVec 32 := 0#32
  let v8058 : BitVec 1 := Scalar.cmpi .sgt v8056 c0_i32_6431
  let v8059 : BitVec 32 := Scalar.extui v8058
  let c0_i32_6432 : BitVec 32 := 0#32
  let v8060 : BitVec 1 := Scalar.cmpi .slt v8056 c0_i32_6432
  let v8061 : BitVec 32 := Scalar.extui v8060
  let v8062 : BitVec 32 := Scalar.subi v8059 v8061
  let c45_i32 : BitVec 32 := 45#32
  let c0_i32_6433 : BitVec 32 := 0#32
  let v8063 : BitVec 1 := Scalar.cmpi .sgt c45_i32 c0_i32_6433
  let v8064 : BitVec 32 := Scalar.extui v8063
  let c0_i32_6434 : BitVec 32 := 0#32
  let v8065 : BitVec 1 := Scalar.cmpi .slt c45_i32 c0_i32_6434
  let v8066 : BitVec 32 := Scalar.extui v8065
  let v8067 : BitVec 32 := Scalar.subi v8064 v8066
  let v8068 : BitVec 1 := Scalar.cmpi .ne v8062 v8067
  let v8069 : BitVec 32 := Scalar.remsi v8056 c45_i32
  let c0_i32_6435 : BitVec 32 := 0#32
  let v8070 : BitVec 1 := Scalar.cmpi .ne v8069 c0_i32_6435
  let v8071 : BitVec 1 := Scalar.andi v8068 v8070
  let v8057 : BitVec 32 := Scalar.divsi v8056 c45_i32
  let c1_i32_6436 : BitVec 32 := 1#32
  let v8072 : BitVec 32 := Scalar.subi v8057 c1_i32_6436
  let v8073 : BitVec 32 := Scalar.select v8071 v8072 v8057
  let c45_i32_6437 : BitVec 32 := 45#32
  let v8074 : BitVec 32 := Scalar.muli v8073 c45_i32_6437
  let v8075 : BitVec 32 := Scalar.subi v8056 v8074
  let c128_i32_6438 : BitVec 32 := 128#32
  let v8076 : BitVec 32 := Scalar.muli v8075 c128_i32_6438
  v8076
def k1_off334 (i : grid1.Coords) (k1_t2 : Fin k1_t2_loop.trips) : Fin 4 → Nat :=
  let c1_i32_6428 : BitVec 32 := 1#32
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v8054 : BitVec 32 := Scalar.subi c1_i32_6428 v18
  let v8083 : Index := Scalar.indexCast v8054
  let c0_6445 : Index := 0#32
  let c0_6446 : Index := 0#32
  let c0_6447 : Index := 0#32
  ![v8083.toNat, 0, 0, 0]
def k1_off335 (i : grid1.Coords) (k1_t2 : Fin k1_t2_loop.trips) : Fin 4 → Nat :=
  let c1_i32_6428 : BitVec 32 := 1#32
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v8054 : BitVec 32 := Scalar.subi c1_i32_6428 v18
  let v8086 : Index := Scalar.indexCast v8054
  let c1_6448 : Index := 1#32
  let c0_6449 : Index := 0#32
  let c0_6450 : Index := 0#32
  ![v8086.toNat, 1, 0, 0]
def k1_off336 (i : grid1.Coords) (k1_t2 : Fin k1_t2_loop.trips) : Fin 4 → Nat :=
  let c1_i32_6428 : BitVec 32 := 1#32
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v8054 : BitVec 32 := Scalar.subi c1_i32_6428 v18
  let v8096 : Index := Scalar.indexCast v8054
  let c0_6458 : Index := 0#32
  let c256_6459 : Index := 256#32
  let c0_6460 : Index := 0#32
  ![v8096.toNat, 0, 256, 0]
def k1_off337 (i : grid1.Coords) (k1_t2 : Fin k1_t2_loop.trips) : Fin 4 → Nat :=
  let c1_i32_6428 : BitVec 32 := 1#32
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v8054 : BitVec 32 := Scalar.subi c1_i32_6428 v18
  let v8099 : Index := Scalar.indexCast v8054
  let c1_6461 : Index := 1#32
  let c256_6462 : Index := 256#32
  let c0_6463 : Index := 0#32
  ![v8099.toNat, 1, 256, 0]
def k1_off338 (i : grid1.Coords) (k1_t2 : Fin k1_t2_loop.trips) : Fin 4 → Nat :=
  let c1_i32_6428 : BitVec 32 := 1#32
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v8054 : BitVec 32 := Scalar.subi c1_i32_6428 v18
  let v8110 : Index := Scalar.indexCast v8054
  let c0_6471 : Index := 0#32
  let c512_6472 : Index := 512#32
  let c0_6473 : Index := 0#32
  ![v8110.toNat, 0, 512, 0]
def k1_off339 (i : grid1.Coords) (k1_t2 : Fin k1_t2_loop.trips) : Fin 4 → Nat :=
  let c1_i32_6428 : BitVec 32 := 1#32
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v8054 : BitVec 32 := Scalar.subi c1_i32_6428 v18
  let v8113 : Index := Scalar.indexCast v8054
  let c1_6474 : Index := 1#32
  let c512_6475 : Index := 512#32
  let c0_6476 : Index := 0#32
  ![v8113.toNat, 1, 512, 0]
def k1_off340 (i : grid1.Coords) (k1_t2 : Fin k1_t2_loop.trips) : Fin 4 → Nat :=
  let c1_i32_6428 : BitVec 32 := 1#32
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v8054 : BitVec 32 := Scalar.subi c1_i32_6428 v18
  let v8124 : Index := Scalar.indexCast v8054
  let c0_6484 : Index := 0#32
  let c768_6485 : Index := 768#32
  let c0_6486 : Index := 0#32
  ![v8124.toNat, 0, 768, 0]
def k1_off341 (i : grid1.Coords) (k1_t2 : Fin k1_t2_loop.trips) : Fin 4 → Nat :=
  let c1_i32_6428 : BitVec 32 := 1#32
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v8054 : BitVec 32 := Scalar.subi c1_i32_6428 v18
  let v8127 : Index := Scalar.indexCast v8054
  let c1_6487 : Index := 1#32
  let c768_6488 : Index := 768#32
  let c0_6489 : Index := 0#32
  ![v8127.toNat, 1, 768, 0]
def k1_off342 (i : grid1.Coords) (k1_t2 : Fin k1_t2_loop.trips) : Fin 4 → Nat :=
  let c1_i32_6428 : BitVec 32 := 1#32
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v8054 : BitVec 32 := Scalar.subi c1_i32_6428 v18
  let v8138 : Index := Scalar.indexCast v8054
  let c0_6497 : Index := 0#32
  let c1024_6498 : Index := 1024#32
  let c0_6499 : Index := 0#32
  ![v8138.toNat, 0, 1024, 0]
def k1_off343 (i : grid1.Coords) (k1_t2 : Fin k1_t2_loop.trips) : Fin 4 → Nat :=
  let c1_i32_6428 : BitVec 32 := 1#32
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v8054 : BitVec 32 := Scalar.subi c1_i32_6428 v18
  let v8141 : Index := Scalar.indexCast v8054
  let c1_6500 : Index := 1#32
  let c1024_6501 : Index := 1024#32
  let c0_6502 : Index := 0#32
  ![v8141.toNat, 1, 1024, 0]
def k1_off344 (i : grid1.Coords) (k1_t2 : Fin k1_t2_loop.trips) : Fin 4 → Nat :=
  let c1_i32_6428 : BitVec 32 := 1#32
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v8054 : BitVec 32 := Scalar.subi c1_i32_6428 v18
  let v8152 : Index := Scalar.indexCast v8054
  let c0_6510 : Index := 0#32
  let c1280_6511 : Index := 1280#32
  let c0_6512 : Index := 0#32
  ![v8152.toNat, 0, 1280, 0]
def k1_off345 (i : grid1.Coords) (k1_t2 : Fin k1_t2_loop.trips) : Fin 4 → Nat :=
  let c1_i32_6428 : BitVec 32 := 1#32
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v8054 : BitVec 32 := Scalar.subi c1_i32_6428 v18
  let v8155 : Index := Scalar.indexCast v8054
  let c1_6513 : Index := 1#32
  let c1280_6514 : Index := 1280#32
  let c0_6515 : Index := 0#32
  ![v8155.toNat, 1, 1280, 0]
def k1_off346 (i : grid1.Coords) (k1_t2 : Fin k1_t2_loop.trips) : Fin 4 → Nat :=
  let c1_i32_6428 : BitVec 32 := 1#32
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v8054 : BitVec 32 := Scalar.subi c1_i32_6428 v18
  let v8166 : Index := Scalar.indexCast v8054
  let c0_6523 : Index := 0#32
  let c1536_6524 : Index := 1536#32
  let c0_6525 : Index := 0#32
  ![v8166.toNat, 0, 1536, 0]
def k1_off347 (i : grid1.Coords) (k1_t2 : Fin k1_t2_loop.trips) : Fin 4 → Nat :=
  let c1_i32_6428 : BitVec 32 := 1#32
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v8054 : BitVec 32 := Scalar.subi c1_i32_6428 v18
  let v8169 : Index := Scalar.indexCast v8054
  let c1_6526 : Index := 1#32
  let c1536_6527 : Index := 1536#32
  let c0_6528 : Index := 0#32
  ![v8169.toNat, 1, 1536, 0]
def k1_off348 (i : grid1.Coords) (k1_t2 : Fin k1_t2_loop.trips) : Fin 4 → Nat :=
  let c1_i32_6428 : BitVec 32 := 1#32
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v8054 : BitVec 32 := Scalar.subi c1_i32_6428 v18
  let v8180 : Index := Scalar.indexCast v8054
  let c0_6536 : Index := 0#32
  let c1792_6537 : Index := 1792#32
  let c0_6538 : Index := 0#32
  ![v8180.toNat, 0, 1792, 0]
def k1_off349 (i : grid1.Coords) (k1_t2 : Fin k1_t2_loop.trips) : Fin 4 → Nat :=
  let c1_i32_6428 : BitVec 32 := 1#32
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v8054 : BitVec 32 := Scalar.subi c1_i32_6428 v18
  let v8183 : Index := Scalar.indexCast v8054
  let c1_6539 : Index := 1#32
  let c1792_6540 : Index := 1792#32
  let c0_6541 : Index := 0#32
  ![v8183.toNat, 1, 1792, 0]
def k1_off350 (i : grid1.Coords) (k1_t2 : Fin k1_t2_loop.trips) : Fin 4 → Nat :=
  let c1_i32_6428 : BitVec 32 := 1#32
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v8054 : BitVec 32 := Scalar.subi c1_i32_6428 v18
  let v8194 : Index := Scalar.indexCast v8054
  let c0_6549 : Index := 0#32
  let c2048_6550 : Index := 2048#32
  let c0_6551 : Index := 0#32
  ![v8194.toNat, 0, 2048, 0]
def k1_off351 (i : grid1.Coords) (k1_t2 : Fin k1_t2_loop.trips) : Fin 4 → Nat :=
  let c1_i32_6428 : BitVec 32 := 1#32
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v8054 : BitVec 32 := Scalar.subi c1_i32_6428 v18
  let v8197 : Index := Scalar.indexCast v8054
  let c1_6552 : Index := 1#32
  let c2048_6553 : Index := 2048#32
  let c0_6554 : Index := 0#32
  ![v8197.toNat, 1, 2048, 0]
def k1_off352 (i : grid1.Coords) (k1_t2 : Fin k1_t2_loop.trips) : Fin 4 → Nat :=
  let c1_i32_6428 : BitVec 32 := 1#32
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v8054 : BitVec 32 := Scalar.subi c1_i32_6428 v18
  let v8208 : Index := Scalar.indexCast v8054
  let c0_6562 : Index := 0#32
  let c2304_6563 : Index := 2304#32
  let c0_6564 : Index := 0#32
  ![v8208.toNat, 0, 2304, 0]
def k1_off353 (i : grid1.Coords) (k1_t2 : Fin k1_t2_loop.trips) : Fin 4 → Nat :=
  let c1_i32_6428 : BitVec 32 := 1#32
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v8054 : BitVec 32 := Scalar.subi c1_i32_6428 v18
  let v8211 : Index := Scalar.indexCast v8054
  let c1_6565 : Index := 1#32
  let c2304_6566 : Index := 2304#32
  let c0_6567 : Index := 0#32
  ![v8211.toNat, 1, 2304, 0]
def k1_off354 (i : grid1.Coords) (k1_t2 : Fin k1_t2_loop.trips) : Fin 4 → Nat :=
  let c1_i32_6428 : BitVec 32 := 1#32
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v8054 : BitVec 32 := Scalar.subi c1_i32_6428 v18
  let v8222 : Index := Scalar.indexCast v8054
  let c0_6575 : Index := 0#32
  let c2560_6576 : Index := 2560#32
  let c0_6577 : Index := 0#32
  ![v8222.toNat, 0, 2560, 0]
def k1_off355 (i : grid1.Coords) (k1_t2 : Fin k1_t2_loop.trips) : Fin 4 → Nat :=
  let c1_i32_6428 : BitVec 32 := 1#32
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v8054 : BitVec 32 := Scalar.subi c1_i32_6428 v18
  let v8225 : Index := Scalar.indexCast v8054
  let c1_6578 : Index := 1#32
  let c2560_6579 : Index := 2560#32
  let c0_6580 : Index := 0#32
  ![v8225.toNat, 1, 2560, 0]
def k1_off356 (i : grid1.Coords) (k1_t2 : Fin k1_t2_loop.trips) : Fin 4 → Nat :=
  let c1_i32_6428 : BitVec 32 := 1#32
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v8054 : BitVec 32 := Scalar.subi c1_i32_6428 v18
  let v8236 : Index := Scalar.indexCast v8054
  let c0_6588 : Index := 0#32
  let c2816_6589 : Index := 2816#32
  let c0_6590 : Index := 0#32
  ![v8236.toNat, 0, 2816, 0]
def k1_off357 (i : grid1.Coords) (k1_t2 : Fin k1_t2_loop.trips) : Fin 4 → Nat :=
  let c1_i32_6428 : BitVec 32 := 1#32
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_9 : BitVec 32 := 1#32
  let v18 : BitVec 32 := Scalar.andi v17 c1_i32_9
  let v8054 : BitVec 32 := Scalar.subi c1_i32_6428 v18
  let v8239 : Index := Scalar.indexCast v8054
  let c1_6591 : Index := 1#32
  let c2816_6592 : Index := 2816#32
  let c0_6593 : Index := 0#32
  ![v8239.toNat, 1, 2816, 0]
def k1_off358 (i : grid1.Coords) (k1_t2 : Fin k1_t2_loop.trips) : Fin 2 → Nat :=
  let c0_6595 : Index := 0#32
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_6429 : BitVec 32 := 1#32
  let v8055 : BitVec 32 := Scalar.subi v17 c1_i32_6429
  let c0_i32_6430 : BitVec 32 := 0#32
  let v8056 : BitVec 32 := Scalar.maxsi v8055 c0_i32_6430
  let c0_i32_6431 : BitVec 32 := 0#32
  let v8058 : BitVec 1 := Scalar.cmpi .sgt v8056 c0_i32_6431
  let v8059 : BitVec 32 := Scalar.extui v8058
  let c0_i32_6432 : BitVec 32 := 0#32
  let v8060 : BitVec 1 := Scalar.cmpi .slt v8056 c0_i32_6432
  let v8061 : BitVec 32 := Scalar.extui v8060
  let v8062 : BitVec 32 := Scalar.subi v8059 v8061
  let c45_i32 : BitVec 32 := 45#32
  let c0_i32_6433 : BitVec 32 := 0#32
  let v8063 : BitVec 1 := Scalar.cmpi .sgt c45_i32 c0_i32_6433
  let v8064 : BitVec 32 := Scalar.extui v8063
  let c0_i32_6434 : BitVec 32 := 0#32
  let v8065 : BitVec 1 := Scalar.cmpi .slt c45_i32 c0_i32_6434
  let v8066 : BitVec 32 := Scalar.extui v8065
  let v8067 : BitVec 32 := Scalar.subi v8064 v8066
  let v8068 : BitVec 1 := Scalar.cmpi .ne v8062 v8067
  let v8069 : BitVec 32 := Scalar.remsi v8056 c45_i32
  let c0_i32_6435 : BitVec 32 := 0#32
  let v8070 : BitVec 1 := Scalar.cmpi .ne v8069 c0_i32_6435
  let v8071 : BitVec 1 := Scalar.andi v8068 v8070
  let v8057 : BitVec 32 := Scalar.divsi v8056 c45_i32
  let c1_i32_6436 : BitVec 32 := 1#32
  let v8072 : BitVec 32 := Scalar.subi v8057 c1_i32_6436
  let v8073 : BitVec 32 := Scalar.select v8071 v8072 v8057
  let c45_i32_6437 : BitVec 32 := 45#32
  let v8074 : BitVec 32 := Scalar.muli v8073 c45_i32_6437
  let v8075 : BitVec 32 := Scalar.subi v8056 v8074
  let c128_i32_6438 : BitVec 32 := 128#32
  let v8076 : BitVec 32 := Scalar.muli v8075 c128_i32_6438
  let v8077 : BitVec 32 := v8076
  let v8245 : Index := Scalar.indexCast v8077
  ![0, v8245.toNat]
def k1_off359 (i : grid1.Coords) (k1_t2 : Fin k1_t2_loop.trips) (c0_i32_6599 : BitVec 32) : Fin 3 → Nat :=
  let arg0 : BitVec 32 := BitVec.ofNat 32 (i 0).val
  let c9_i32_7 : BitVec 32 := 9#32
  let v14 : BitVec 32 := Scalar.muli arg0 c9_i32_7
  let arg1 : BitVec 32 := BitVec.ofNat 32 (i 1).val
  let v15 : BitVec 32 := Scalar.addi v14 arg1
  let c5_i32_8 : BitVec 32 := 5#32
  let v16 : BitVec 32 := Scalar.muli v15 c5_i32_8
  let c0_i32_4 : BitVec 32 := 0#32
  let c1_i32 : BitVec 32 := 1#32
  let arg16 : BitVec 32 := Scf.iv c0_i32_4 c1_i32 k1_t2
  let v17 : BitVec 32 := Scalar.addi v16 arg16
  let c1_i32_6429 : BitVec 32 := 1#32
  let v8055 : BitVec 32 := Scalar.subi v17 c1_i32_6429
  let c0_i32_6430 : BitVec 32 := 0#32
  let v8056 : BitVec 32 := Scalar.maxsi v8055 c0_i32_6430
  let c0_i32_6431 : BitVec 32 := 0#32
  let v8058 : BitVec 1 := Scalar.cmpi .sgt v8056 c0_i32_6431
  let v8059 : BitVec 32 := Scalar.extui v8058
  let c0_i32_6432 : BitVec 32 := 0#32
  let v8060 : BitVec 1 := Scalar.cmpi .slt v8056 c0_i32_6432
  let v8061 : BitVec 32 := Scalar.extui v8060
  let v8062 : BitVec 32 := Scalar.subi v8059 v8061
  let c45_i32 : BitVec 32 := 45#32
  let c0_i32_6433 : BitVec 32 := 0#32
  let v8063 : BitVec 1 := Scalar.cmpi .sgt c45_i32 c0_i32_6433
  let v8064 : BitVec 32 := Scalar.extui v8063
  let c0_i32_6434 : BitVec 32 := 0#32
  let v8065 : BitVec 1 := Scalar.cmpi .slt c45_i32 c0_i32_6434
  let v8066 : BitVec 32 := Scalar.extui v8065
  let v8067 : BitVec 32 := Scalar.subi v8064 v8066
  let v8068 : BitVec 1 := Scalar.cmpi .ne v8062 v8067
  let v8069 : BitVec 32 := Scalar.remsi v8056 c45_i32
  let c0_i32_6435 : BitVec 32 := 0#32
  let v8070 : BitVec 1 := Scalar.cmpi .ne v8069 c0_i32_6435
  let v8071 : BitVec 1 := Scalar.andi v8068 v8070
  let v8057 : BitVec 32 := Scalar.divsi v8056 c45_i32
  let c1_i32_6436 : BitVec 32 := 1#32
  let v8072 : BitVec 32 := Scalar.subi v8057 c1_i32_6436
  let v8073 : BitVec 32 := Scalar.select v8071 v8072 v8057
  let c45_i32_6437 : BitVec 32 := 45#32
  let v8074 : BitVec 32 := Scalar.muli v8073 c45_i32_6437
  let v8075 : BitVec 32 := Scalar.subi v8056 v8074
  let v8259 : Index := Scalar.indexCast v8075
  let c2_i32 : BitVec 32 := 2#32
  let v8257 : BitVec 32 := Scalar.muli c2_i32 v8073
  let v8258 : BitVec 32 := Scalar.addi v8257 c0_i32_6599
  let v8260 : Index := Scalar.indexCast v8258
  let c0_6600 : Index := 0#32
  ![v8259.toNat, v8260.toNat, 0]
def k1_cond3 (i : grid1.Coords) : BitVec 1 :=
  let arg0 : BitVec 32 := BitVec.ofNat 32 (i 0).val
  let c9_i32 : BitVec 32 := 9#32
  let v9 : BitVec 1 := Scalar.cmpi .eq arg0 c9_i32
  let arg1 : BitVec 32 := BitVec.ofNat 32 (i 1).val
  let c8_i32 : BitVec 32 := 8#32
  let v10 : BitVec 1 := Scalar.cmpi .eq arg1 c8_i32
  let v11 : BitVec 1 := Scalar.andi v9 v10
  let v12 : BitVec 32 := Scalar.extui v11
  let c0_i32_6 : BitVec 32 := 0#32
  let v13 : BitVec 1 := Scalar.cmpi .ne v12 c0_i32_6
  v13

def k1_mult3 : BitVec 32 :=
  let c449_i32_14 : BitVec 32 := 449#32
  let c449_i32 : BitVec 32 := 449#32
  let c0_i32_7 : BitVec 32 := 0#32
  let v15 : BitVec 1 := Scalar.cmpi .sgt c449_i32 c0_i32_7
  let v16 : BitVec 32 := Scalar.extui v15
  let c0_i32_8 : BitVec 32 := 0#32
  let v17 : BitVec 1 := Scalar.cmpi .slt c449_i32 c0_i32_8
  let v18 : BitVec 32 := Scalar.extui v17
  let v19 : BitVec 32 := Scalar.subi v16 v18
  let c45_i32 : BitVec 32 := 45#32
  let c0_i32_9 : BitVec 32 := 0#32
  let v20 : BitVec 1 := Scalar.cmpi .sgt c45_i32 c0_i32_9
  let v21 : BitVec 32 := Scalar.extui v20
  let c0_i32_10 : BitVec 32 := 0#32
  let v22 : BitVec 1 := Scalar.cmpi .slt c45_i32 c0_i32_10
  let v23 : BitVec 32 := Scalar.extui v22
  let v24 : BitVec 32 := Scalar.subi v21 v23
  let v25 : BitVec 1 := Scalar.cmpi .ne v19 v24
  let v26 : BitVec 32 := Scalar.remsi c449_i32 c45_i32
  let c0_i32_11 : BitVec 32 := 0#32
  let v27 : BitVec 1 := Scalar.cmpi .ne v26 c0_i32_11
  let v28 : BitVec 1 := Scalar.andi v25 v27
  let v14 : BitVec 32 := Scalar.divsi c449_i32 c45_i32
  let c1_i32_12 : BitVec 32 := 1#32
  let v29 : BitVec 32 := Scalar.subi v14 c1_i32_12
  let v30 : BitVec 32 := Scalar.select v28 v29 v14
  let c45_i32_13 : BitVec 32 := 45#32
  let v31 : BitVec 32 := Scalar.muli v30 c45_i32_13
  let v32 : BitVec 32 := Scalar.subi c449_i32_14 v31
  let c128_i32 : BitVec 32 := 128#32
  let v33 : BitVec 32 := Scalar.muli v32 c128_i32
  v33
def k1_off360 : Fin 2 → Nat :=
  let c0_159 : Index := 0#32
  let c449_i32_14 : BitVec 32 := 449#32
  let c449_i32 : BitVec 32 := 449#32
  let c0_i32_7 : BitVec 32 := 0#32
  let v15 : BitVec 1 := Scalar.cmpi .sgt c449_i32 c0_i32_7
  let v16 : BitVec 32 := Scalar.extui v15
  let c0_i32_8 : BitVec 32 := 0#32
  let v17 : BitVec 1 := Scalar.cmpi .slt c449_i32 c0_i32_8
  let v18 : BitVec 32 := Scalar.extui v17
  let v19 : BitVec 32 := Scalar.subi v16 v18
  let c45_i32 : BitVec 32 := 45#32
  let c0_i32_9 : BitVec 32 := 0#32
  let v20 : BitVec 1 := Scalar.cmpi .sgt c45_i32 c0_i32_9
  let v21 : BitVec 32 := Scalar.extui v20
  let c0_i32_10 : BitVec 32 := 0#32
  let v22 : BitVec 1 := Scalar.cmpi .slt c45_i32 c0_i32_10
  let v23 : BitVec 32 := Scalar.extui v22
  let v24 : BitVec 32 := Scalar.subi v21 v23
  let v25 : BitVec 1 := Scalar.cmpi .ne v19 v24
  let v26 : BitVec 32 := Scalar.remsi c449_i32 c45_i32
  let c0_i32_11 : BitVec 32 := 0#32
  let v27 : BitVec 1 := Scalar.cmpi .ne v26 c0_i32_11
  let v28 : BitVec 1 := Scalar.andi v25 v27
  let v14 : BitVec 32 := Scalar.divsi c449_i32 c45_i32
  let c1_i32_12 : BitVec 32 := 1#32
  let v29 : BitVec 32 := Scalar.subi v14 c1_i32_12
  let v30 : BitVec 32 := Scalar.select v28 v29 v14
  let c45_i32_13 : BitVec 32 := 45#32
  let v31 : BitVec 32 := Scalar.muli v30 c45_i32_13
  let v32 : BitVec 32 := Scalar.subi c449_i32_14 v31
  let c128_i32 : BitVec 32 := 128#32
  let v33 : BitVec 32 := Scalar.muli v32 c128_i32
  let v34 : BitVec 32 := v33
  let v178 : Index := Scalar.indexCast v34
  ![0, v178.toNat]
def k1_off361 (c0_i32_163 : BitVec 32) : Fin 3 → Nat :=
  let c449_i32_14 : BitVec 32 := 449#32
  let c449_i32 : BitVec 32 := 449#32
  let c0_i32_7 : BitVec 32 := 0#32
  let v15 : BitVec 1 := Scalar.cmpi .sgt c449_i32 c0_i32_7
  let v16 : BitVec 32 := Scalar.extui v15
  let c0_i32_8 : BitVec 32 := 0#32
  let v17 : BitVec 1 := Scalar.cmpi .slt c449_i32 c0_i32_8
  let v18 : BitVec 32 := Scalar.extui v17
  let v19 : BitVec 32 := Scalar.subi v16 v18
  let c45_i32 : BitVec 32 := 45#32
  let c0_i32_9 : BitVec 32 := 0#32
  let v20 : BitVec 1 := Scalar.cmpi .sgt c45_i32 c0_i32_9
  let v21 : BitVec 32 := Scalar.extui v20
  let c0_i32_10 : BitVec 32 := 0#32
  let v22 : BitVec 1 := Scalar.cmpi .slt c45_i32 c0_i32_10
  let v23 : BitVec 32 := Scalar.extui v22
  let v24 : BitVec 32 := Scalar.subi v21 v23
  let v25 : BitVec 1 := Scalar.cmpi .ne v19 v24
  let v26 : BitVec 32 := Scalar.remsi c449_i32 c45_i32
  let c0_i32_11 : BitVec 32 := 0#32
  let v27 : BitVec 1 := Scalar.cmpi .ne v26 c0_i32_11
  let v28 : BitVec 1 := Scalar.andi v25 v27
  let v14 : BitVec 32 := Scalar.divsi c449_i32 c45_i32
  let c1_i32_12 : BitVec 32 := 1#32
  let v29 : BitVec 32 := Scalar.subi v14 c1_i32_12
  let v30 : BitVec 32 := Scalar.select v28 v29 v14
  let c45_i32_13 : BitVec 32 := 45#32
  let v31 : BitVec 32 := Scalar.muli v30 c45_i32_13
  let v32 : BitVec 32 := Scalar.subi c449_i32_14 v31
  let v192 : Index := Scalar.indexCast v32
  let c2_i32 : BitVec 32 := 2#32
  let v190 : BitVec 32 := Scalar.muli c2_i32 v30
  let v191 : BitVec 32 := Scalar.addi v190 c0_i32_163
  let v193 : Index := Scalar.indexCast v191
  let c0_164 : Index := 0#32
  ![v192.toNat, v193.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 1 → Memref sig .tc .vmem S24x768x128 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S45x2x32x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S768x5760 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2880x640 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S20x5760 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S2x1440x640 .i8 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S2x45x640 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== KernelIdeal.lean ====
variable {F : FTy → Type} [FloatOps F]
-- ==== ReferenceIdeal.lean ====
abbrev S3x256x2880 : Shape := ⟨3, ![3, 256, 2880]⟩
abbrev S2880x5760 : Shape := ⟨2, ![2880, 5760]⟩
abbrev S768x2880 : Shape := ⟨2, ![768, 2880]⟩
abbrev S_ : Shape := ⟨0, ![]⟩
abbrev S2880 : Shape := ⟨1, ![2880]⟩
abbrev S45x64x5760 : Shape := ⟨3, ![45, 64, 5760]⟩
abbrev S45x5760 : Shape := ⟨2, ![45, 5760]⟩
abbrev S45x1x5760 : Shape := ⟨3, ![45, 1, 5760]⟩
abbrev S45x64 : Shape := ⟨2, ![45, 64]⟩
abbrev S20 : Shape := ⟨1, ![20]⟩
abbrev S20x1 : Shape := ⟨2, ![20, 1]⟩
abbrev S1x2880 : Shape := ⟨2, ![1, 2880]⟩
abbrev S20x2880 : Shape := ⟨2, ![20, 2880]⟩
abbrev S1x2880x5760 : Shape := ⟨3, ![1, 2880, 5760]⟩
abbrev S20x2880x1 : Shape := ⟨3, ![20, 2880, 1]⟩
abbrev S20x2880x5760 : Shape := ⟨3, ![20, 2880, 5760]⟩
abbrev S20x45x64x5760 : Shape := ⟨4, ![20, 45, 64, 5760]⟩
abbrev S20x45x5760 : Shape := ⟨3, ![20, 45, 5760]⟩
abbrev S20x45x1x5760 : Shape := ⟨4, ![20, 45, 1, 5760]⟩
abbrev S768x5760 : Shape := ⟨2, ![768, 5760]⟩
abbrev S768x20x5760 : Shape := ⟨3, ![768, 20, 5760]⟩
abbrev S768x1x5760 : Shape := ⟨3, ![768, 1, 5760]⟩
abbrev S20x5760 : Shape := ⟨2, ![20, 5760]⟩
abbrev S20x1440x2x5760 : Shape := ⟨4, ![20, 1440, 2, 5760]⟩
abbrev S20x1440x1x5760 : Shape := ⟨4, ![20, 1440, 1, 5760]⟩
abbrev S20x1440x5760 : Shape := ⟨3, ![20, 1440, 5760]⟩

abbrev nBuf : Space → Nat
  | .hbm => 135
  | .vmem => 0
  | .smem => 0
  | _ => 0

abbrev hbmTy0_0 (i : Nat) : BufTy := match i % 128 with
  | 0 => ⟨S3x256x2880, .bf16⟩
  | 1 => ⟨S2880x5760, .bf16⟩
  | 2 => ⟨S768x2880, .bf16⟩
  | 3 => ⟨S768x2880, .f32⟩
  | 4 => ⟨S768x2880, .f32⟩
  | 5 => ⟨S_, .f32⟩
  | 6 => ⟨S2880, .f32⟩
  | 7 => ⟨S_, .f32⟩
  | 8 => ⟨S2880, .f32⟩
  | 9 => ⟨S2880, .f32⟩
  | 10 => ⟨S2880x5760, .f32⟩
  | 11 => ⟨S2880x5760, .f32⟩
  | 12 => ⟨S45x64x5760, .f32⟩
  | 13 => ⟨S_, .f32⟩
  | 14 => ⟨S45x5760, .f32⟩
  | 15 => ⟨S45x1x5760, .f32⟩
  | 16 => ⟨S_, .f32⟩
  | 17 => ⟨S45x1x5760, .f32⟩
  | 18 => ⟨S45x1x5760, .f32⟩
  | 19 => ⟨S45x64x5760, .f32⟩
  | 20 => ⟨S45x64x5760, .f32⟩
  | 21 => ⟨S_, .f32⟩
  | 22 => ⟨S45x64, .f32⟩
  | 23 => ⟨S2880, .f32⟩
  | 24 => ⟨S_, .f32⟩
  | 25 => ⟨S2880, .f32⟩
  | 26 => ⟨S2880, .f32⟩
  | 27 => ⟨S20, .i32⟩
  | 28 => ⟨S20, .f32⟩
  | 29 => ⟨S20x1, .f32⟩
  | 30 => ⟨S_, .f32⟩
  | 31 => ⟨S20x1, .f32⟩
  | 32 => ⟨S20x1, .f32⟩
  | 33 => ⟨S1x2880, .f32⟩
  | 34 => ⟨S20x2880, .f32⟩
  | 35 => ⟨S20x2880, .f32⟩
  | 36 => ⟨S20x2880, .f32⟩
  | 37 => ⟨S1x2880, .f32⟩
  | 38 => ⟨S_, .f32⟩
  | 39 => ⟨S20x1, .f32⟩
  | 40 => ⟨S20x1, .f32⟩
  | 41 => ⟨S20x2880, .f32⟩
  | 42 => ⟨S20x2880, .f32⟩
  | 43 => ⟨S20x2880, .f32⟩
  | 44 => ⟨S_, .f32⟩
  | 45 => ⟨S20x2880, .f32⟩
  | 46 => ⟨S20x2880, .f32⟩
  | 47 => ⟨S20x2880, .f32⟩
  | 48 => ⟨S_, .f32⟩
  | 49 => ⟨S20x2880, .f32⟩
  | 50 => ⟨S20x2880, .f32⟩
  | 51 => ⟨S_, .f32⟩
  | 52 => ⟨S20, .f32⟩
  | 53 => ⟨S20x1, .f32⟩
  | 54 => ⟨S_, .f32⟩
  | 55 => ⟨S20, .f32⟩
  | 56 => ⟨S20x1, .f32⟩
  | 57 => ⟨S20x1, .f32⟩
  | 58 => ⟨S20x1, .f32⟩
  | 59 => ⟨S20x2880, .f32⟩
  | 60 => ⟨S20x2880, .f32⟩
  | 61 => ⟨S1x2880x5760, .f32⟩
  | 62 => ⟨S20x2880x1, .f32⟩
  | 63 => ⟨S20x2880x5760, .f32⟩
  | 64 => ⟨S20x2880x5760, .f32⟩
  | 65 => ⟨S20x2880x5760, .f32⟩
  | 66 => ⟨S20x45x64x5760, .f32⟩
  | 67 => ⟨S20x45x64x5760, .f32⟩
  | 68 => ⟨S_, .f32⟩
  | 69 => ⟨S20x45x5760, .f32⟩
  | 70 => ⟨S_, .f32⟩
  | 71 => ⟨S20x45x5760, .f32⟩
  | 72 => ⟨S20x45x5760, .i1⟩
  | 73 => ⟨S_, .f32⟩
  | 74 => ⟨S20x45x5760, .f32⟩
  | 75 => ⟨S20x45x5760, .f32⟩
  | 76 => ⟨S_, .f32⟩
  | 77 => ⟨S_, .f32⟩
  | 78 => ⟨S20x45x5760, .f32⟩
  | 79 => ⟨S20x45x5760, .f32⟩
  | 80 => ⟨S20x45x1x5760, .f32⟩
  | 81 => ⟨S20x45x64x5760, .f32⟩
  | 82 => ⟨S20x45x64x5760, .f32⟩
  | 83 => ⟨S20x45x64x5760, .f32⟩
  | 84 => ⟨S_, .f32⟩
  | 85 => ⟨S_, .f32⟩
  | 86 => ⟨S_, .f32⟩
  | 87 => ⟨S20x45x64x5760, .f32⟩
  | 88 => ⟨S20x45x64x5760, .f32⟩
  | 89 => ⟨S_, .f32⟩
  | 90 => ⟨S20x45x64x5760, .f32⟩
  | 91 => ⟨S20x45x64x5760, .f32⟩
  | 92 => ⟨S20x45x64x5760, .i32⟩
  | 93 => ⟨S20x2880x5760, .i32⟩
  | 94 => ⟨S768x5760, .f32⟩
  | 95 => ⟨S_, .f32⟩
  | 96 => ⟨S20x2880, .f32⟩
  | 97 => ⟨S20x2880, .f32⟩
  | 98 => ⟨S20x2880, .bf16⟩
  | 99 => ⟨S20x2880x5760, .bf16⟩
  | 100 => ⟨S20x45x64x5760, .bf16⟩
  | 101 => ⟨S20x45x5760, .bf16⟩
  | 102 => ⟨S20x45x1x5760, .bf16⟩
  | 103 => ⟨S20x45x64x5760, .bf16⟩
  | 104 => ⟨S20x45x64x5760, .bf16⟩
  | 105 => ⟨S20x2880x5760, .bf16⟩
  | 106 => ⟨S20x2880x1, .bf16⟩
  | 107 => ⟨S20x2880x5760, .bf16⟩
  | 108 => ⟨S20x2880x5760, .bf16⟩
  | 109 => ⟨S768x20x5760, .f32⟩
  | 110 => ⟨S768x1x5760, .f32⟩
  | 111 => ⟨S768x20x5760, .f32⟩
  | 112 => ⟨S768x20x5760, .f32⟩
  | 113 => ⟨S768x20x5760, .f32⟩
  | 114 => ⟨S_, .f32⟩
  | 115 => ⟨S20x5760, .f32⟩
  | 116 => ⟨S_, .f32⟩
  | 117 => ⟨S20x5760, .f32⟩
  | 118 => ⟨S20x5760, .f32⟩
  | 119 => ⟨S20x1440x2x5760, .i32⟩
  | 120 => ⟨S20x1440x1x5760, .i32⟩
  | 121 => ⟨S20x1440x5760, .i32⟩
  | 122 => ⟨S20x1440x1x5760, .i32⟩
  | 123 => ⟨S20x1440x5760, .i32⟩
  | 124 => ⟨S_, .i32⟩
  | 125 => ⟨S20x1440x5760, .i32⟩
  | 126 => ⟨S20x1440x5760, .i32⟩
  | 127 => ⟨S_, .i32⟩
  | _ => ⟨S3x256x2880, .bf16⟩

abbrev hbmTy0_1 (i : Nat) : BufTy := match i % 128 with
  | 0 => ⟨S20x1440x5760, .i32⟩
  | 1 => ⟨S20x1440x5760, .i32⟩
  | 2 => ⟨S_, .i32⟩
  | 3 => ⟨S20x1440x5760, .i32⟩
  | 4 => ⟨S20x1440x5760, .i32⟩
  | 5 => ⟨S20x1440x5760, .i32⟩
  | 6 => ⟨S20x1440x5760, .i8⟩
  | _ => ⟨S3x256x2880, .bf16⟩

abbrev hbmTy (i : Nat) : BufTy := match i / 128 with
  | 0 => hbmTy0_0 i
  | 1 => hbmTy0_1 i
  | _ => ⟨S3x256x2880, .bf16⟩

abbrev bufTy : (tb : Table) → Fin (tcTables nBuf tb) → BufTy
  | .hbm, ⟨i, _⟩ => hbmTy i
  | _, _ => ⟨S3x256x2880, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_6 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_7 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_8 : Ref sig .tc := ⟨.hbm, 48, rfl⟩
abbrev main_v37 : Ref sig .tc := ⟨.hbm, 49, rfl⟩
abbrev main_v38 : Ref sig .tc := ⟨.hbm, 50, rfl⟩
abbrev main_cst_9 : Ref sig .tc := ⟨.hbm, 51, rfl⟩
abbrev main_v39 : Ref sig .tc := ⟨.hbm, 52, rfl⟩
abbrev main_v40 : Ref sig .tc := ⟨.hbm, 53, rfl⟩
abbrev main_cst_10 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_11 : Ref sig .tc := ⟨.hbm, 68, rfl⟩
abbrev main_v54 : Ref sig .tc := ⟨.hbm, 69, rfl⟩
abbrev main_cst_12 : Ref sig .tc := ⟨.hbm, 70, rfl⟩
abbrev main_v55 : Ref sig .tc := ⟨.hbm, 71, rfl⟩
abbrev main_v56 : Ref sig .tc := ⟨.hbm, 72, rfl⟩
abbrev main_cst_13 : Ref sig .tc := ⟨.hbm, 73, rfl⟩
abbrev main_v57 : Ref sig .tc := ⟨.hbm, 74, rfl⟩
abbrev main_v58 : Ref sig .tc := ⟨.hbm, 75, rfl⟩
abbrev main_cst_14 : Ref sig .tc := ⟨.hbm, 76, rfl⟩
abbrev main_call0_v0 : Ref sig .tc := ⟨.hbm, 77, rfl⟩
abbrev main_call0_v1 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_15 : Ref sig .tc := ⟨.hbm, 84, rfl⟩
abbrev main_cst_16 : Ref sig .tc := ⟨.hbm, 85, rfl⟩
abbrev main_call2_v0 : Ref sig .tc := ⟨.hbm, 86, rfl⟩
abbrev main_call2_v1 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_17 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_18 : Ref sig .tc := ⟨.hbm, 114, rfl⟩
abbrev main_v86 : Ref sig .tc := ⟨.hbm, 115, rfl⟩
abbrev main_cst_19 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_c : Ref sig .tc := ⟨.hbm, 124, rfl⟩
abbrev main_v94 : Ref sig .tc := ⟨.hbm, 125, rfl⟩
abbrev main_v95 : Ref sig .tc := ⟨.hbm, 126, rfl⟩
abbrev main_c_20 : Ref sig .tc := ⟨.hbm, 127, rfl⟩
abbrev main_v96 : Ref sig .tc := ⟨.hbm, 128, rfl⟩
abbrev main_v97 : Ref sig .tc := ⟨.hbm, 129, rfl⟩
abbrev main_c_21 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩

abbrev nD : Nat := 1
abbrev τ : Topo := Topo.v7x

variable {F : FTy → Type} [FloatOps F]
-- ==== Proof.Mem.lean ====
/-
  Memory held as values. A family `M` of memrefs held whole on one core, each at a value (`ownF`); the two steps of a kernel body
  on such a family, a load and an unmasked store of a rectangle (`Tri.load`, `Tri.store`); and `Tri`, which says that a program
  acts on the family as a given function of the values. Programs built from these steps by sequencing, by `scf.for` and by
  `scf.if` act as the corresponding function built by composition, so that what a body computes becomes a statement about
  functions.
-/
module

public import Idealize.ShloMosaic.Rules.Step
public import Idealize.ShloMosaic.Lib.Memref
public import Idealize.ShloMosaic.Lib.Scf
public import Idealize.ShloMosaic.Lib.Tactic

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-! ## Replacing a rectangle of a value -/

/-- `X` with the elements of the unit-stride rectangle at `off` of extents `size` replaced by those of `w`. -/
def putU {s : Shape} {α : Type} (off size : Fin s.rank → ℕ) (w : ((a : Fin s.rank) → Fin (size a)) → α) (X : s.Idx → α) : s.Idx → α :=
  fun i => if h : ∀ a, off a ≤ (i a).val ∧ (i a).val < off a + size a then w (fun a => ⟨(i a).val - off a, by have := h a; omega⟩) else X i

theorem putU_in {s : Shape} {α : Type} (off size : Fin s.rank → ℕ) (w : ((a : Fin s.rank) → Fin (size a)) → α) (X : s.Idx → α) (i : s.Idx)
    (j : (a : Fin s.rank) → Fin (size a)) (h : ∀ a, (i a).val = off a + (j a).val) : putU off size w X i = w j := by
  have hh : ∀ a, off a ≤ (i a).val ∧ (i a).val < off a + size a := fun a => by have := h a; have := (j a).isLt; omega
  unfold putU
  rw [dif_pos hh]
  congr 1
  funext a
  apply Fin.ext
  have := h a
  show (i a).val - off a = (j a).val
  omega

theorem putU_out {s : Shape} {α : Type} (off size : Fin s.rank → ℕ) (w : ((a : Fin s.rank) → Fin (size a)) → α) (X : s.Idx → α) (i : s.Idx)
    (a : Fin s.rank) (h : (i a).val < off a ∨ off a + size a ≤ (i a).val) : putU off size w X i = X i := by
  unfold putU
  rw [dif_neg (fun hh => by have := hh a; omega)]

section

variable {nD : Nat} {τ : Topo} {sig : RefSig} {Ix : Type} [DecidableEq Ix]
variable {Val : EltTy → Type} {Name : Type} [DecidableEq Name]
variable {U : Type} [URA U] {Lvl : Type} [Preorder Lvl] {Λ : Labels}
local notation "𝕄" => MT nD τ sig Ix Val Name U Lvl

theorem read_write_unit {κ : Kind} {sp : Space} {s : Shape} {e : EltTy} (v : View sig κ sp s e) (off size : Fin s.rank → ℕ)
    (inb : ∀ a, off a + size a ≤ s.size a) (f : v.ty.Contents Val) (w : (Rect.unit (s := s) off size inb).shape.Idx → Val e) :
    v.read Val ((v.slice (Rect.unit (s := s) off size inb)).write Val f w Finset.univ) = putU off size w (v.read Val f) := by
  funext i
  by_cases h : ∀ a, off a ≤ (i a).val ∧ (i a).val < off a + size a
  · have hi : (Rect.unit (s := s) off size inb).emb (fun a => ⟨(i a).val - off a, by have := h a; show _ < size a; omega⟩) = i := by
      funext a; apply Fin.ext
      show off a + 1 * ((i a).val - off a) = (i a).val
      have := h a; omega
    rw [putU_in off size w _ i (fun a => ⟨(i a).val - off a, by have := h a; omega⟩) (fun a => by
      have := h a
      show (i a).val = off a + ((i a).val - off a)
      omega)]
    conv_lhs => rw [← hi]
    rw [View.read_slice_write_emb _ _ _ (Finset.mem_univ _)]
  · unfold putU
    rw [dif_neg h, View.read_slice_write_of_not_mem]
    intro hm
    obtain ⟨j, -, rfl⟩ := Finset.mem_map.mp hm
    apply h
    intro a
    have := (j a).isLt
    have h2 : ((Rect.unit (s := s) off size inb).emb j a).val = off a + 1 * (j a).val := rfl
    have h3 : (Rect.unit (s := s) off size inb).shape.size a = size a := rfl
    omega

/-! ## The two steps -/

variable {defs : Defs nD τ sig Val Λ} (𝒱 : Variants) (c : Thread nD τ) (bd : Option 𝒱.V) {Γ : PendingWaitsCtx sig Ix} (E : Set Name)
variable {s : Shape} {e : EltTy} {α : Type}

/-- A load from a memref held at `X` reads `X` at the load's places. -/
theorem load_owns {Q : α → sProp 𝕄} {cs : CoreSpace} {m : Memref sig c.2.kind cs s e} {r : LoadRect s} {hl : m.view.LoadsAt r}
    {k : (r.shape.Idx → Val e) → Prog (TpuEff nD τ sig Val Λ c.2) α} (X : s.Idx → Val e) :
    (owns c m fullShare X : sProp 𝕄)
      ⊢ iprop((owns c m fullShare X -∗ wp frame (wpE' (Lvl := Lvl) defs 𝒱 c bd Γ) E (k (fun j => X (r.idx j))) Q)
        -∗ wp frame (wpE' defs 𝒱 c bd Γ) E (.op (.load m r hl) k) Q) := by
  unfold owns
  iintro ⟨%f, %hf, H⟩ HK
  subst hf
  ihave HW := (wp_load (defs := defs) 𝒱 c bd (Γ := Γ) E (Q := Q) (m := m) (r := r) (hl := hl) (k := k) (S := m.view.set) (q := fullShare) (f := f)
    (View.setOn_subset_set _ _)) $$ H
  iapply HW
  iintro H
  iapply HK
  iexists f
  isplitr; · ipureintro; rfl
  iexact H

/-- An unmasked store of a rectangle replaces that rectangle of the value held. -/
theorem store_owns {Q : α → sProp 𝕄} {cs : CoreSpace} {m : Memref sig c.2.kind cs s e} {off size : Fin s.rank → ℕ} {inb : ∀ a, off a + size a ≤ s.size a}
    {w : (Rect.unit (s := s) off size inb).shape.Idx → Val e} {hx : (m.access (Rect.unit (s := s) off size inb)).Stores Finset.univ}
    {hm : Finset.univ = Finset.univ ∨ ∀ a, (Rect.unit (s := s) off size inb).stride a = 1}
    {k : PUnit → Prog (TpuEff nD τ sig Val Λ c.2) α} (X : s.Idx → Val e) :
    (owns c m fullShare X : sProp 𝕄)
      ⊢ iprop((owns c m fullShare (putU off size w X) -∗ wp frame (wpE' (Lvl := Lvl) defs 𝒱 c bd Γ) E (k ⟨⟩) Q)
        -∗ wp frame (wpE' defs 𝒱 c bd Γ) E (.op (.store m (Rect.unit (s := s) off size inb) w Finset.univ hx hm) k) Q) := by
  unfold owns
  iintro ⟨%f, %hf, H⟩ HK
  subst hf
  ihave HW := (wp_store (defs := defs) 𝒱 c bd (Γ := Γ) E (Q := Q) (m := m) (r := Rect.unit (s := s) off size inb) (w := w) (hx := hx) (hm := hm)
    (k := k) (S := m.view.set) (f := f) (by
      rw [show (m.access (Rect.unit (s := s) off size inb)).setOn Finset.univ = (m.view.slice (Rect.unit (s := s) off size inb)).set from rfl]
      exact View.set_slice_subset _ _)) $$ H
  iapply HW
  iintro H
  iapply HK
  iexists _
  isplitr; swap; · iexact H
  ipureintro
  exact read_write_unit m.view off size inb f w

/-! ## A family of memrefs, held at values -/

section Family

variable {n : ℕ} {S : Fin n → Shape} {T : Fin n → EltTy}

/-- Every memref of the family held whole, at the values `H`. -/
def ownF (M : (k : Fin n) → Memref sig c.2.kind .vmem (S k) (T k)) (H : (k : Fin n) → (S k).Idx → Val (T k)) : sProp 𝕄 :=
  bigSep Finset.univ fun k => owns c (M k) fullShare (H k)

variable {M : (k : Fin n) → Memref sig c.2.kind .vmem (S k) (T k)}

theorem ownF_split (H : (k : Fin n) → (S k).Idx → Val (T k)) (k : Fin n) :
    (ownF c M H : sProp 𝕄) = iprop(owns c (M k) fullShare (H k)
      ∗ bigSep (Finset.univ.erase k) fun j => owns c (M j) fullShare (H j)) := by
  unfold ownF; exact bigSep_erase (Finset.mem_univ k)

theorem ownF_update (H : (k : Fin n) → (S k).Idx → Val (T k)) (k : Fin n) (X : (S k).Idx → Val (T k)) :
    (ownF c M (Function.update H k X) : sProp 𝕄) = iprop(owns c (M k) fullShare X
      ∗ bigSep (Finset.univ.erase k) fun j => owns c (M j) fullShare (H j)) := by
  rw [ownF_split c _ k, Function.update_self]
  congr 1
  refine bigSep_congr fun j hj => ?_
  rw [Function.update_of_ne (Finset.ne_of_mem_erase hj)]

variable (M) {K : Type} (fam : K → (k : Fin n) → (S k).Idx → Val (T k))

/-- On the family held at the values of `h`, the program `p` runs to its end, returns `(f h).1` and leaves the family at the values of
`(f h).2`; `fam` reads the family's values off the record `h`. -/
def Tri {α : Type} (p : Prog (TpuEff nD τ sig Val Λ c.2) α) (f : K → α × K) : Prop :=
  ∀ (h : K) (Q : α → sProp 𝕄),
    iprop(ownF c M (fam h) ∗ (ownF c M (fam (f h).2) -∗ Q (f h).1)) ⊢ wp frame (wpE' (Lvl := Lvl) defs 𝒱 c bd Γ) E p Q

variable {M fam}

theorem Tri.congr {p : Prog (TpuEff nD τ sig Val Λ c.2) α} {f g : K → α × K}
    (hp : Tri (defs := defs) (Γ := Γ) (Ix := Ix) (Name := Name) (U := U) (Lvl := Lvl) 𝒱 c bd E M fam p f) (h : ∀ x, f x = g x) :
    Tri (defs := defs) (Γ := Γ) (Ix := Ix) (Name := Name) (U := U) (Lvl := Lvl) 𝒱 c bd E M fam p g := by
  rwa [← funext h]

theorem Tri.ret (a : α) :
    Tri (defs := defs) (Γ := Γ) (Ix := Ix) (Name := Name) (U := U) (Lvl := Lvl) 𝒱 c bd E M fam (.ret a) fun h => (a, h) := by
  intro h Q
  rw [wp_ret]
  iintro ⟨H, HK⟩
  imodintro
  iapply HK; iexact H

theorem Tri.bind {β : Type} {p : Prog (TpuEff nD τ sig Val Λ c.2) α} {q : α → Prog (TpuEff nD τ sig Val Λ c.2) β} {f : K → α × K} {g : α → K → β × K}
    (hp : Tri (defs := defs) (Γ := Γ) (Ix := Ix) (Name := Name) (U := U) (Lvl := Lvl) 𝒱 c bd E M fam p f)
    (hq : ∀ a, Tri (defs := defs) (Γ := Γ) (Ix := Ix) (Name := Name) (U := U) (Lvl := Lvl) 𝒱 c bd E M fam (q a) (g a)) :
    Tri (defs := defs) (Γ := Γ) (Ix := Ix) (Name := Name) (U := U) (Lvl := Lvl) 𝒱 c bd E M fam (p >>= q) fun h => g (f h).1 (f h).2 := by
  intro h Q
  rw [wp_bind]
  iintro ⟨H, HK⟩
  iapply (hp h _)
  isplitl [H]; · iexact H
  iintro H
  iapply (hq (f h).1 (f h).2 Q)
  isplitl [H] <;> iassumption

theorem Tri.load (k : Fin n) {r : LoadRect (S k)} {hl : (M k).view.LoadsAt r} :
    Tri (defs := defs) (Γ := Γ) (Ix := Ix) (Name := Name) (U := U) (Lvl := Lvl) 𝒱 c bd E M fam (Prog.lift (.load (M k) r hl))
      fun h => (fun j => fam h k (r.idx j), h) := by
  intro h Q
  rw [ownF_split c _ k]
  iintro ⟨⟨H, HR⟩, HK⟩
  ihave HW := (load_owns (defs := defs) (Γ := Γ) 𝒱 c bd E (m := M k) (r := r) (hl := hl) (Q := Q) (k := fun x => .ret x) (fam h k)) $$ H
  iapply HW
  iintro H
  rw [wp_ret]
  imodintro
  iapply HK
  isplitl [H] <;> iassumption

theorem Tri.store (k : Fin n) {off size : Fin (S k).rank → ℕ} {inb : ∀ a, off a + size a ≤ (S k).size a}
    {w : (Rect.unit (s := S k) off size inb).shape.Idx → Val (T k)} {hx : ((M k).access (Rect.unit (s := S k) off size inb)).Stores Finset.univ}
    {hm : Finset.univ = Finset.univ ∨ ∀ a, (Rect.unit (s := S k) off size inb).stride a = 1} (st : K → K)
    (hst : ∀ h, fam (st h) = Function.update (fam h) k (putU off size w (fam h k))) :
    Tri (defs := defs) (Γ := Γ) (Ix := Ix) (Name := Name) (U := U) (Lvl := Lvl) 𝒱 c bd E M fam
      (Prog.lift (.store (M k) (Rect.unit (s := S k) off size inb) w Finset.univ hx hm)) fun h => (⟨⟩, st h) := by
  intro h Q
  rw [hst, ownF_update, ownF_split c _ k]
  iintro ⟨⟨H, HR⟩, HK⟩
  ihave HW := (store_owns (defs := defs) (Γ := Γ) 𝒱 c bd E (m := M k) (off := off) (size := size) (inb := inb) (w := w) (hx := hx) (hm := hm)
    (Q := Q) (k := fun x => .ret x) (fam h k)) $$ H
  iapply HW
  iintro H
  rw [wp_ret]
  imodintro
  iapply HK
  isplitl [H] <;> iassumption

theorem Tri.forFrom {σ : Type} {m : ℕ} {body : Fin m → σ → Prog (TpuEff nD τ sig Val Λ c.2) σ} {g : Fin m → σ × K → σ × K}
    (hb : ∀ t a, Tri (defs := defs) (Γ := Γ) (Ix := Ix) (Name := Name) (U := U) (Lvl := Lvl) 𝒱 c bd E M fam (body t a) fun h => g t (a, h)) :
    ∀ (l : List (Fin m)) (a : σ), Tri (defs := defs) (Γ := Γ) (Ix := Ix) (Name := Name) (U := U) (Lvl := Lvl) 𝒱 c bd E M fam
      (Scf.forFrom body l a) fun h => l.foldl (fun x t => g t x) (a, h) := by
  intro l
  induction l with
  | nil => intro a; exact Tri.ret 𝒱 c bd E a
  | cons t l ih =>
    intro a
    rw [Scf.forFrom_cons]
    exact Tri.bind 𝒱 c bd E (f := fun h => g t (a, h)) (g := fun a' h => l.foldl (fun x t => g t x) (a', h)) (hb t a) ih

/-- A counted loop acts as the fold of its trips. -/
theorem Tri.for {σ : Type} {l : Scf.Loop 32} {hok : l.OK} {body : Fin l.trips → σ → Prog (TpuEff nD τ sig Val Λ c.2) σ} {g : Fin l.trips → σ × K → σ × K}
    (hb : ∀ t a, Tri (defs := defs) (Γ := Γ) (Ix := Ix) (Name := Name) (U := U) (Lvl := Lvl) 𝒱 c bd E M fam (body t a) fun h => g t (a, h)) (a : σ) :
    Tri (defs := defs) (Γ := Γ) (Ix := Ix) (Name := Name) (U := U) (Lvl := Lvl) 𝒱 c bd E M fam
      (Scf.Loop.for l hok a body) fun h => (List.finRange l.trips).foldl (fun x t => g t x) (a, h) := by
  unfold Scf.Loop.for
  rw [Scf.for_eq]
  exact Tri.forFrom 𝒱 c bd E hb _ a

end Family

end

end Cert.Proof
-- ==== Proof.Code.lean ====
/-
  Kernel bodies over a family of memrefs, as terms. `Code` is the straight-line language a kernel body on on-chip memory is
  written in: loads, unmasked stores, sequencing, counted loops and conditionals, over a family of memrefs of shapes `S` and
  element types `T`. `Code.prog` is the program such a term stands for on given memrefs, `Code.run` the function on the
  memrefs' values it computes, and `Code.tri` says the program computes that function.
-/
module

public import proofs.«01_k».proof.Proof.Mem

@[expose] public section

noncomputable section

namespace Cert.Proof

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {n : ℕ}

/-- The values of a family of memrefs. -/
abbrev Heap (S : Fin n → Shape) (T : Fin n → EltTy) (Val : EltTy → Type) : Type := (k : Fin n) → (S k).Idx → Val (T k)

/-- A kernel body on a family of memrefs of shapes `S` and element types `T`. -/
inductive Code (S : Fin n → Shape) (T : Fin n → EltTy) (Val : EltTy → Type) : Type → Type 1
  /-- Nothing done, `a` returned. -/
  | ret {α : Type} (a : α) : Code S T Val α
  /-- One body after another, given the first one's result. -/
  | bind {α β : Type} (p : Code S T Val α) (q : α → Code S T Val β) : Code S T Val β
  /-- A load of a rectangle. -/
  | load (k : Fin n) (r : LoadRect (S k)) (h : 0 < r.shape.numel) : Code S T Val (r.shape.Idx → Val (T k))
  /-- A store of a rectangle of whole words. -/
  | store (k : Fin n) (off size : Fin (S k).rank → ℕ) (inb : ∀ a, off a + size a ≤ (S k).size a)
      (w : (Rect.unit (s := S k) off size inb).shape.Idx → Val (T k)) (h : 0 < (Rect.unit (s := S k) off size inb).shape.numel)
      (hw : (Rect.unit (s := S k) off size inb).PackedRows (T k).packing) : Code S T Val PUnit
  /-- A counted loop. -/
  | loop {σ : Type} (l : Scf.Loop 32) (ok : l.OK) (init : σ) (body : Fin l.trips → σ → Code S T Val σ) : Code S T Val σ
  /-- A body run under a condition, before the rest. -/
  | when {α : Type} (P : Prop) [Decidable P] (p : P → Code S T Val PUnit) (q : Code S T Val α) : Code S T Val α
  /-- One body or another. -/
  | cond {α : Type} (P : Prop) [Decidable P] (p : P → Code S T Val α) (q : Code S T Val α) : Code S T Val α

namespace Code

variable {S : Fin n → Shape} {T : Fin n → EltTy} {Val : EltTy → Type}

/-- What a body computes: its result and the values it leaves, from the values it starts on. -/
def run {α : Type} : Code S T Val α → Heap S T Val → α × Heap S T Val
  | ret a, h => (a, h)
  | bind p q, h => (q (p.run h).1).run (p.run h).2
  | load k r _, h => (fun j => h k (r.idx j), h)
  | store k off size _ w _ _, h => (⟨⟩, Function.update h k (putU off size w (h k)))
  | loop l _ init body, h => (List.finRange l.trips).foldl (fun x t => (body t x.1).run x.2) (init, h)
  | when P p q, h => if hP : P then q.run ((p hP).run h).2 else q.run h
  | cond P p q, h => if hP : P then (p hP).run h else q.run h

variable {nD : ℕ} {τ : Topo} {sig : RefSig} {Λ : Labels}

/-- The program a body stands for, on the memrefs `M`, whole buffers of a core's on-chip memory. -/
def prog (M : (k : Fin n) → Memref sig .tc .vmem (S k) (T k)) (hM : ∀ k, (M k).IsWhole) {α : Type} :
    Code S T Val α → Prog (TpuEff nD τ sig Val Λ .tc) α
  | ret a => .ret a
  | bind p q => p.prog M hM >>= fun a => (q a).prog M hM
  | load k r h => Prog.lift (.load (M k) r (View.loadsAt_vmem h))
  | store k off size inb w h hw => Prog.lift (.store (M k) (Rect.unit (s := S k) off size inb) w Finset.univ
      (View.stores_vmem h ((hM k).storeExact_slice rfl _ hw) (fun _ => rfl)) (.inl rfl))
  | loop l ok init body => Scf.Loop.for l ok init fun t x => (body t x).prog M hM
  | when P p q => if hP : P then (p hP).prog M hM >>= fun _ => q.prog M hM else q.prog M hM
  | cond P p q => if hP : P then (p hP).prog M hM else q.prog M hM

variable {Ix : Type} [DecidableEq Ix] {Name : Type} [DecidableEq Name] {U : Type} [URA U] {Lvl : Type} [Preorder Lvl]
  {defs : Defs nD τ sig Val Λ} (𝒱 : Variants) (c : Dev nD) (bd : Option 𝒱.V) {Γ : PendingWaitsCtx sig Ix} (E : Set Name)

/-- On memrefs held at the values `h`, a body's program runs to its end, returns `(p.run h).1` and leaves the values `(p.run h).2`. -/
theorem tri (M : (k : Fin n) → Memref sig .tc .vmem (S k) (T k)) (hM : ∀ k, (M k).IsWhole) {α : Type} (p : Code S T Val α) :
    Tri (defs := defs) (Γ := Γ) (Ix := Ix) (Name := Name) (U := U) (Lvl := Lvl) 𝒱 (c : Thread nD τ) bd E M (fun h : Heap S T Val => h) (p.prog M hM) p.run := by
  induction p with
  | ret a =>
    have h1 : (ret a : Code S T Val _).run = fun h => (a, h) := by funext h; rw [run]
    rw [h1, prog]; exact Tri.ret 𝒱 (c : Thread nD τ) bd E a
  | bind p q hp hq =>
    have h1 : (bind p q).run = fun h => (q (p.run h).1).run (p.run h).2 := by funext h; rw [run]
    rw [h1, prog]
    exact Tri.bind (p := p.prog M hM) (q := fun a => (q a).prog M hM) (f := p.run) (g := fun a => (q a).run) 𝒱 (c : Thread nD τ) bd E hp hq
  | load k r h =>
    have h1 : (load k r h : Code S T Val _).run = fun H => (fun j => H k (r.idx j), H) := by funext h; rw [run]
    rw [h1, prog]; exact Tri.load 𝒱 (c : Thread nD τ) bd E k
  | store k off size inb w h hw =>
    have h1 : (store k off size inb w h hw).run = fun h => (⟨⟩, Function.update h k (putU off size w (h k))) := by funext h; rw [run]
    rw [h1, prog]
    have := Tri.store (defs := defs) (Γ := Γ) (Ix := Ix) (Name := Name) (U := U) (Lvl := Lvl) (M := M) (fam := fun h : Heap S T Val => h)
      (off := off) (size := size) (inb := inb) (w := w)
      (hx := View.stores_vmem h ((hM k).storeExact_slice rfl _ hw) (fun _ => rfl)) (hm := .inl rfl)
      𝒱 (c : Thread nD τ) bd E k (fun h => Function.update h k (putU off size w (h k))) (fun h => rfl)
    exact this
  | loop l ok init body hb =>
    have h1 : (loop l ok init body).run = fun h => (List.finRange l.trips).foldl (fun x t => (body t x.1).run x.2) (init, h) := by funext h; rw [run]
    rw [h1, prog]
    have hb' : ∀ t x, Tri (defs := defs) (Γ := Γ) (Ix := Ix) (Name := Name) (U := U) (Lvl := Lvl) 𝒱 (c : Thread nD τ) bd E M (fun h : Heap S T Val => h)
        ((body t x).prog M hM) fun h => (body t x).run h := hb
    have := Tri.for (defs := defs) (Γ := Γ) (Ix := Ix) (Name := Name) (U := U) (Lvl := Lvl) (M := M) (fam := fun h : Heap S T Val => h) (l := l) (hok := ok)
      (body := fun t x => (body t x).prog M hM) (g := fun t x => (body t x.1).run x.2) 𝒱 (c : Thread nD τ) bd E hb' init
    exact this
  | when P p q hp hq =>
    by_cases hP : P
    · have h1 : (when P p q).run = fun h => q.run ((p hP).run h).2 := by funext h; rw [run, dif_pos hP]
      have h2 : (when P p q).prog (nD := nD) (τ := τ) (Λ := Λ) M hM = ((p hP).prog M hM >>= fun _ => q.prog M hM) := by rw [prog, dif_pos hP]
      rw [h1, h2]
      exact Tri.bind (p := (p hP).prog M hM) (q := fun _ => q.prog M hM) (f := (p hP).run) (g := fun _ => q.run) 𝒱 (c : Thread nD τ) bd E (hp hP) fun _ => hq
    · have h1 : (when P p q).run = q.run := by funext h; rw [run, dif_neg hP]
      have h2 : (when P p q).prog (nD := nD) (τ := τ) (Λ := Λ) M hM = q.prog M hM := by rw [prog, dif_neg hP]
      rw [h1, h2]; exact hq
  | cond P p q hp hq =>
    by_cases hP : P
    · have h1 : (cond P p q).run = (p hP).run := by funext h; rw [run, dif_pos hP]
      have h2 : (cond P p q).prog (nD := nD) (τ := τ) (Λ := Λ) M hM = (p hP).prog M hM := by rw [prog, dif_pos hP]
      rw [h1, h2]; exact hp hP
    · have h1 : (cond P p q).run = q.run := by funext h; rw [run, dif_neg hP]
      have h2 : (cond P p q).prog (nD := nD) (τ := τ) (Λ := Λ) M hM = q.prog M hM := by rw [prog, dif_neg hP]
      rw [h1, h2]; exact hq

end Code

end Cert.Proof
-- ==== Proof.Shapes.lean ====
/-
  The shapes the two calls work on, the loads and stores a body is written from, and the two sequencing forms both bodies use: a
  list of steps numbered in order, and a running result over numbered steps.
-/
module

public import proofs.«01_k».proof.Proof.Code

@[expose] public section

noncomputable section

namespace Cert.Proof

open Idealize.ShloMosaic Idealize.ShloMosaic.TcCoe

abbrev S1x128 : Shape := ⟨2, ![1, 128]⟩
abbrev S5x128 : Shape := ⟨2, ![5, 128]⟩
abbrev S8x128 : Shape := ⟨2, ![8, 128]⟩
abbrev S20x128 : Shape := ⟨2, ![20, 128]⟩
abbrev S32x128 : Shape := ⟨2, ![32, 128]⟩
abbrev S64x128 : Shape := ⟨2, ![64, 128]⟩
abbrev S64x256 : Shape := ⟨2, ![64, 256]⟩
abbrev S32x256 : Shape := ⟨2, ![32, 256]⟩
abbrev S256x128 : Shape := ⟨2, ![256, 128]⟩
abbrev S256x256 : Shape := ⟨2, ![256, 256]⟩
abbrev S768x128 : Shape := ⟨2, ![768, 128]⟩
abbrev S768x256 : Shape := ⟨2, ![768, 256]⟩
abbrev S20x5760 : Shape := ⟨2, ![20, 5760]⟩
abbrev S768x5760 : Shape := ⟨2, ![768, 5760]⟩
abbrev S2880x640 : Shape := ⟨2, ![2880, 640]⟩
abbrev S1x1x128 : Shape := ⟨3, ![1, 1, 128]⟩
abbrev S1x5x128 : Shape := ⟨3, ![1, 5, 128]⟩
abbrev S1x8x128 : Shape := ⟨3, ![1, 8, 128]⟩
abbrev S1x20x128 : Shape := ⟨3, ![1, 20, 128]⟩
abbrev S1x32x128 : Shape := ⟨3, ![1, 32, 128]⟩
abbrev S1x768x128 : Shape := ⟨3, ![1, 768, 128]⟩
abbrev S4x8x128 : Shape := ⟨3, ![4, 8, 128]⟩
abbrev S24x32x128 : Shape := ⟨3, ![24, 32, 128]⟩
abbrev S24x768x128 : Shape := ⟨3, ![24, 768, 128]⟩
abbrev S32x128x1 : Shape := ⟨3, ![32, 128, 1]⟩
abbrev S2x45x640 : Shape := ⟨3, ![2, 45, 640]⟩
abbrev S2x1440x640 : Shape := ⟨3, ![2, 1440, 640]⟩
abbrev S2x384x128 : Shape := ⟨3, ![2, 384, 128]⟩
abbrev S45x20x128 : Shape := ⟨3, ![45, 20, 128]⟩
abbrev S1x1x1x128 : Shape := ⟨4, ![1, 1, 1, 128]⟩
abbrev S1x1x8x128 : Shape := ⟨4, ![1, 1, 8, 128]⟩
abbrev S1x1x32x128 : Shape := ⟨4, ![1, 1, 32, 128]⟩
abbrev S1x1x256x128 : Shape := ⟨4, ![1, 1, 256, 128]⟩
abbrev S45x2x32x128 : Shape := ⟨4, ![45, 2, 32, 128]⟩
abbrev S2x2x48x128 : Shape := ⟨4, ![2, 2, 48, 128]⟩
abbrev S2x2x3072x128 : Shape := ⟨4, ![2, 2, 3072, 128]⟩
abbrev S1x1x1x32x128 : Shape := ⟨5, ![1, 1, 1, 32, 128]⟩
abbrev S2x45x2x32x128 : Shape := ⟨5, ![2, 45, 2, 32, 128]⟩
abbrev S128 : Shape := ⟨1, ![128]⟩
abbrev S32 : Shape := ⟨1, ![32]⟩

theorem fits2 {a b s t m n : ℕ} (h0 : a + s ≤ m) (h1 : b + t ≤ n) :
    ∀ x : Fin 2, (![a, b] : Fin 2 → ℕ) x + (![s, t] : Fin 2 → ℕ) x ≤ (![m, n] : Fin 2 → ℕ) x :=
  Fin.forall_fin_two.mpr ⟨h0, h1⟩

theorem fits3 {a b c s t u m n k : ℕ} (h0 : a + s ≤ m) (h1 : b + t ≤ n) (h2 : c + u ≤ k) :
    ∀ x : Fin 3, (![a, b, c] : Fin 3 → ℕ) x + (![s, t, u] : Fin 3 → ℕ) x ≤ (![m, n, k] : Fin 3 → ℕ) x := by
  intro x; match x with | 0 => exact h0 | 1 => exact h1 | 2 => exact h2

theorem fits4 {a b c d s t u v m n k l : ℕ} (h0 : a + s ≤ m) (h1 : b + t ≤ n) (h2 : c + u ≤ k) (h3 : d + v ≤ l) :
    ∀ x : Fin 4, (![a, b, c, d] : Fin 4 → ℕ) x + (![s, t, u, v] : Fin 4 → ℕ) x ≤ (![m, n, k, l] : Fin 4 → ℕ) x := by
  intro x; match x with | 0 => exact h0 | 1 => exact h1 | 2 => exact h2 | 3 => exact h3

theorem fits5 {a b c d e s t u v w m n k l o : ℕ} (h0 : a + s ≤ m) (h1 : b + t ≤ n) (h2 : c + u ≤ k) (h3 : d + v ≤ l) (h4 : e + w ≤ o) :
    ∀ x : Fin 5, (![a, b, c, d, e] : Fin 5 → ℕ) x + (![s, t, u, v, w] : Fin 5 → ℕ) x ≤ (![m, n, k, l, o] : Fin 5 → ℕ) x := by
  intro x; match x with | 0 => exact h0 | 1 => exact h1 | 2 => exact h2 | 3 => exact h3 | 4 => exact h4

/-- Every rectangle is whole words of a word-wide element type. -/
theorem packed_one {s : Shape} (r : Rect s) (h : 2 ≤ s.rank) (hs : r.stride (s.rowAx h) = 1) : r.PackedRows 1 :=
  .inr ⟨h, hs, .inl ⟨one_dvd _, one_dvd _⟩⟩

/-- A rectangle whose rows come in whole words of `p`. -/
theorem packed_of {s : Shape} {p : ℕ} (r : Rect s) (h : 2 ≤ s.rank) (hs : r.stride (s.rowAx h) = 1) (h1 : p ∣ r.off (s.rowAx h)) (h2 : p ∣ r.size (s.rowAx h)) :
    r.PackedRows p :=
  .inr ⟨h, hs, .inl ⟨h1, h2⟩⟩

namespace Code

variable {n : ℕ} {S : Fin n → Shape} {T : Fin n → EltTy} {Val : EltTy → Type}

/-- A load of the unit-stride rectangle at `off` of shape `size`. -/
def ld (k : Fin n) (off size : Fin (S k).rank → ℕ) (inb : ∀ a, off a + size a ≤ (S k).size a) (h : 0 < Shape.numel ⟨(S k).rank, size⟩) :
    Code S T Val ((Rect.unit (s := S k) off size inb).shape.Idx → Val (T k)) :=
  .load k (Rect.unit (s := S k) off size inb).toLoadRect h

/-- A store of a rectangle, read first and the read discarded. -/
def st (k : Fin n) (off size : Fin (S k).rank → ℕ) (inb : ∀ a, off a + size a ≤ (S k).size a)
    (w : (Rect.unit (s := S k) off size inb).shape.Idx → Val (T k)) (h : 0 < Shape.numel ⟨(S k).rank, size⟩)
    (hw : (Rect.unit (s := S k) off size inb).PackedRows (T k).packing) : Code S T Val PUnit :=
  .bind (ld k off size inb h) fun _ => .store k off size inb w h hw

/-- The steps numbered `k, …, k + rem - 1`, in order. -/
def steps {N : ℕ} (f : (g : ℕ) → g < N → Code S T Val PUnit) : (k rem : ℕ) → k + rem = N → Code S T Val PUnit
  | _, 0, _ => .ret ⟨⟩
  | k, rem + 1, h => .bind (f k (by omega)) fun _ => steps f (k + 1) rem (by omega)

/-- The steps numbered `k, …, k + rem - 1`, in order, each given the result of the one before. -/
def accum {N : ℕ} {α : Type} (f : (g : ℕ) → g < N → α → Code S T Val α) : (k rem : ℕ) → k + rem = N → α → Code S T Val α
  | _, 0, _, a => .ret a
  | k, rem + 1, h, a => .bind (f k (by omega) a) fun a' => accum f (k + 1) rem (by omega) a'

end Code

end Cert.Proof
-- ==== Proof.Search.lean ====
/-
  The body of the search call. Its memrefs, in order: the padded tokens, the scale table, the reference output, the weight block,
  the three results (losses, codes, scales) and the seven scratch buffers (scales and inverse scales of the two candidates, the
  scaled weights, partial maxima, quantiser scales, dequantised weights, losses).
-/
module

public import proofs.«01_k».proof.Proof.Shapes

@[expose] public section

noncomputable section

namespace Cert.Proof.Search

open Idealize.ShloMosaic Idealize.ShloMosaic.TcCoe Cert.Proof

variable {F : FTy → Type} [FloatOps F]

/-- The shapes of the search call's memrefs. -/
def shp : Fin 14 → Shape :=
  ![S24x768x128, S45x2x32x128, S768x5760, S2880x640, S20x5760, S2x1440x640, S2x45x640, S2x45x2x32x128, S2x45x2x32x128, S2x45x2x32x128,
    S2x384x128, S2x2x48x128, S2x2x3072x128, S45x20x128]

/-- Their element types. -/
def elt : Fin 14 → EltTy :=
  ![.bf16, .f32, .f32, .bf16, .f32, .i8, .f32, .f32, .bf16, .f32, .f32, .f32, .bf16, .f32]

/-- How a program reads the even and the odd rows of a bf16 block, and how it rounds a quantiser scale to bf16 kept as f32. -/
structure Reads (F : FTy → Type) where
  even : Vec F S64x128 .bf16 → FVec F S32x128 .f32
  odd : Vec F S64x128 .bf16 → FVec F S32x128 .f32
  even' : Vec F S64x256 .bf16 → FVec F S32x256 .f32
  odd' : Vec F S64x256 .bf16 → FVec F S32x256 .f32
  round : FVec F S8x128 .f32 → FVec F S8x128 .f32

abbrev C (F : FTy → Type) := Code shp elt (Elt F)

/-- A load of a unit-stride rectangle of one of the call's memrefs. -/
abbrev ld (k : Fin 14) (off size : Fin (shp k).rank → ℕ) (inb : ∀ a, off a + size a ≤ (shp k).size a) (h : 0 < Shape.numel ⟨(shp k).rank, size⟩) :
    C F (((a : Fin (shp k).rank) → Fin (size a)) → Elt F (elt k)) :=
  Code.ld k off size inb h

/-- A store of a unit-stride rectangle of one of the call's memrefs. -/
abbrev st (k : Fin 14) (off size : Fin (shp k).rank → ℕ) (inb : ∀ a, off a + size a ≤ (shp k).size a)
    (w : ((a : Fin (shp k).rank) → Fin (size a)) → Elt F (elt k)) (h : 0 < Shape.numel ⟨(shp k).rank, size⟩)
    (hw : (Rect.unit (s := shp k) off size inb).PackedRows (elt k).packing) : C F PUnit :=
  Code.st k off size inb w h hw

/-- One candidate's half of a group: scale the even and the odd rows, keep them, and keep the groups' partial maxima. -/
def scaleHalf (g : ℕ) (hg : g < 45) (e o : FVec F S32x128 .f32) (a : ℕ) (ha : a < 2) : C F PUnit :=
  .bind (ld (F := F) 7 ![a, g, 0, 0, 0] S1x1x1x32x128.size (fits5 (by omega) (by omega) (by omega) (by omega) (by omega)) (by decide)) fun (s0 : Vec F S1x1x1x32x128 .f32) =>
  .bind (ld (F := F) 7 ![a, g, 1, 0, 0] S1x1x1x32x128.size (fits5 (by omega) (by omega) (by omega) (by omega) (by omega)) (by decide)) fun (s1 : Vec F S1x1x1x32x128 .f32) =>
  let ve : FVec F S32x128 .f32 := mulf e (shapeCast S32x128 s0 (by decide))
  let vo : FVec F S32x128 .f32 := mulf o (shapeCast S32x128 s1 (by decide))
  .bind (st (F := F) 9 ![a, g, 0, 0, 0] S1x1x1x32x128.size (fits5 (by omega) (by omega) (by omega) (by omega) (by omega))
    (shapeCast S1x1x1x32x128 ve (by decide)) (by decide) (packed_one _ (by decide) rfl)) fun _ =>
  .bind (st (F := F) 9 ![a, g, 1, 0, 0] S1x1x1x32x128.size (fits5 (by omega) (by omega) (by omega) (by omega) (by omega))
    (shapeCast S1x1x1x32x128 vo (by decide)) (by decide) (packed_one _ (by decide) rfl)) fun _ =>
  st (F := F) 10 ![a, 8 * g, 0] S1x8x128.size (fits3 (by omega) (by omega) (by omega))
    (shapeCast S1x8x128 (multiReduction .maximumf [0] S8x128 (shapeCast S4x8x128 (maximumf (absf ve) (absf vo)) (by decide) : FVec F S4x8x128 .f32)
      0xFF800000#32 (by decide) (.inl rfl) rfl) (by decide)) (by decide) (packed_one _ (by decide) rfl)

/-- A group of rows read, and scaled for both candidates; `col` is where the strip's columns start in the block. -/
def scaleGroup (R : Reads F) (col : ℕ) (hcol : col + 128 ≤ 640) (g : ℕ) (hg : g < 45) : C F PUnit :=
  .bind (ld (F := F) 3 ![64 * g, col] S64x128.size (fits2 (by omega) (by omega)) (by decide)) fun (w : Vec F S64x128 .bf16) =>
  .bind (scaleHalf g hg (R.even w) (R.odd w) 0 (by omega)) fun _ => scaleHalf g hg (R.even w) (R.odd w) 1 (by omega)

theorem part_inb (a : ℕ) (ha : a < 2) (b : ℕ) (hb : b < 6) (j : ℕ) (hj : j < 8) :
    ∀ x : Fin 3, (![1, 8, 128] : Fin 3 → ℕ) x = 0 ∨
      (![a, 64 * b + j, 0] : Fin 3 → ℕ) x + (![1, 8, 1] : Fin 3 → ℕ) x * ((![1, 8, 128] : Fin 3 → ℕ) x - 1) < (![2, 384, 128] : Fin 3 → ℕ) x := by
  intro x; right
  match x with
  | 0 => show a + 1 * 0 < 2; omega
  | 1 => show 64 * b + j + 8 * 7 < 384; omega
  | 2 => show 0 + 1 * 127 < 128; omega

theorem pos_part : 0 < Shape.numel S1x8x128 := by decide

/-- The `j`-th partial maxima of the eight groups of the block `b` of groups. -/
def part (a : ℕ) (ha : a < 2) (b : ℕ) (hb : b < 6) (j : ℕ) (hj : j < 8) : C F (FVec F S8x128 .f32) :=
  .bind (Code.load (S := shp) (T := elt) (Val := Elt F) 10 (⟨![a, 64 * b + j, 0], S1x8x128.size, ![1, 8, 1], part_inb a ha b hb j hj⟩ : LoadRect S2x384x128)
    pos_part) fun (v : Vec F S1x8x128 .f32) =>
  .ret (shapeCast S8x128 v (by decide))

/-- The maxima of the groups of a block of groups: the eight partial maxima, each against the running one. -/
def blockMax (a : ℕ) (ha : a < 2) (b : ℕ) (hb : b < 6) : C F (FVec F S8x128 .f32) :=
  .bind (part a ha b hb 0 (by omega)) fun m =>
  .accum (N := 8) (fun j hj m => .bind (part a ha b hb j hj) fun v => .ret (maximumf m v)) 1 7 rfl m

/-- The quantiser scales of a block of groups from the groups' maxima: a seventh of the maximum, and one where that is zero. -/
def scaleOf (m : FVec F S8x128 .f32) : FVec F S8x128 .f32 :=
  select (cmpf .ogt m (broadcast S8x128 (Scalar.ofBits .f32 0x00000000#32))) (divf m (broadcast S8x128 (Scalar.ofBits .f32 0x40E00000#32)))
    (broadcast S8x128 (Scalar.ofBits .f32 0x3F800000#32))

/-- The quantiser scales of a block of groups kept: their inverses, and themselves rounded to bf16. -/
def keepScales (R : Reads F) (a : ℕ) (ha : a < 2) (b : ℕ) (hb : b < 6) (s : FVec F S8x128 .f32) : C F PUnit :=
  .bind (st (F := F) 11 ![a, 0, 8 * b, 0] S1x1x8x128.size (fits4 (by omega) (by omega) (by omega) (by omega))
    (shapeCast S1x1x8x128 (divf (broadcast S8x128 (Scalar.ofBits .f32 0x3F800000#32)) s : FVec F S8x128 .f32) (by decide)) (by decide)
    (packed_one _ (by decide) rfl)) fun _ =>
  st (F := F) 11 ![a, 1, 8 * b, 0] S1x1x8x128.size (fits4 (by omega) (by omega) (by omega) (by omega))
    (shapeCast S1x1x8x128 (R.round s) (by decide)) (by decide) (packed_one _ (by decide) rfl)

/-- The quantiser scales of the block `b` of eight groups, written out and kept. -/
def scales (R : Reads F) (col : ℕ) (hcol : col + 128 ≤ 640) (b : ℕ) (hb : b < 5) (a : ℕ) (ha : a < 2) : C F PUnit :=
  .bind (blockMax a ha b (by omega)) fun m =>
  .bind (st (F := F) 6 ![a, 8 * b, col] S1x8x128.size (fits3 (by omega) (by omega) (by omega)) (shapeCast S1x8x128 (scaleOf m) (by decide)) (by decide)
    (packed_one _ (by decide) rfl)) fun _ =>
  keepScales R a ha b (by omega) (scaleOf m)

/-- The quantiser scales of the last block, of five groups. -/
def scalesLast (R : Reads F) (col : ℕ) (hcol : col + 128 ≤ 640) (a : ℕ) (ha : a < 2) : C F PUnit :=
  .bind (blockMax a ha 5 (by omega)) fun m =>
  .bind (st (F := F) 6 ![a, 40, col] S1x5x128.size (fits3 (by omega) (by omega) (by omega))
    (shapeCast S1x5x128 (extractStridedSlice S5x128 ![0, 0] (scaleOf m) (by decide) : FVec F S5x128 .f32) (by decide)) (by decide)
    (packed_one _ (by decide) rfl)) fun _ =>
  keepScales R a ha 5 (by omega) (scaleOf m)

/-- A row of the kept quantiser values, `q` being 0 for the inverses and 1 for the rounded scales, read for every row of a group's half. -/
def rowOf (v : Vec F S1x1x1x128 .f32) : FVec F S32x128 .f32 :=
  broadcastTo S32x128 (shapeCast S1x128 (shapeCast S1x128 v (by decide) : FVec F S1x128 .f32) (by decide) : FVec F S1x128 .f32) (by decide)

/-- The codes of a half of a group: scaled weights over the quantiser scale, rounded and clipped to `[-7, 7]`. -/
def codeOf (v : Vec F S1x1x1x32x128 .f32) (inv : FVec F S32x128 .f32) : IVec S32x128 8 :=
  fptosi 8 (minimumf (broadcast S32x128 (Scalar.ofBits .f32 0x40E00000#32)) (maximumf (broadcast S32x128 (Scalar.ofBits .f32 0xC0E00000#32))
    (roundeven (mulf (shapeCast S32x128 v (by decide) : FVec F S32x128 .f32) inv))) : FVec F S32x128 .f32)

/-- Two halves' codes packed four bits each, the first half's low. -/
def pack (lo hi : IVec S32x128 8) : IVec S32x128 8 :=
  bitcast S32x128 8 (ori (andi (bitcast S8x128 32 lo (by decide) : IVec S8x128 32) (broadcast S8x128 252645135#32))
    (andi (shli (bitcast S8x128 32 hi (by decide) : IVec S8x128 32) (broadcast S8x128 4#32)) (broadcast S8x128 4042322160#32))) (by decide)

/-- A half of a group quantised: its codes returned, its dequantised weights kept in the slot. -/
def quantHalf (slot : ℕ) (hslot : slot < 2) (g : ℕ) (hg : g < 45) (a : ℕ) (ha : a < 2) (inv : FVec F S32x128 .f32) (sb : FVec F S32x128 .bf16)
    (h : ℕ) (hh : h < 2) : C F (IVec S32x128 8) :=
  .bind (ld (F := F) 9 ![a, g, h, 0, 0] S1x1x1x32x128.size (fits5 (by omega) (by omega) (by omega) (by omega) (by omega)) (by decide)) fun (v : Vec F S1x1x1x32x128 .f32) =>
  .bind (ld (F := F) 8 ![a, g, h, 0, 0] S1x1x1x32x128.size (fits5 (by omega) (by omega) (by omega) (by omega) (by omega)) (by decide)) fun (r : Vec F S1x1x1x32x128 .bf16) =>
  .bind (st (F := F) 12 ![slot, a, 64 * g + 32 * h, 0] S1x1x32x128.size (fits4 (by omega) (by omega) (by omega) (by omega))
    (shapeCast S1x1x32x128 (mulf (mulf (sitofp .bf16 (codeOf v inv)) sb) (shapeCast S32x128 r (by decide)) : FVec F S32x128 .bf16) (by decide)) (by decide)
    (packed_of _ (Nat.le_of_ble_eq_true rfl) rfl (show 2 ∣ 64 * g + 32 * h by omega) (show 2 ∣ 32 by decide))) fun _ =>
  .ret (codeOf v inv)

/-- A group quantised for one candidate: both halves, and the packed codes written out. -/
def quantGroup (col : ℕ) (hcol : col + 128 ≤ 640) (slot : ℕ) (hslot : slot < 2) (g : ℕ) (hg : g < 45) (a : ℕ) (ha : a < 2) : C F PUnit :=
  .bind (ld (F := F) 11 ![a, 0, g, 0] S1x1x1x128.size (fits4 (by omega) (by omega) (by omega) (by omega)) (by decide)) fun (i : Vec F S1x1x1x128 .f32) =>
  .bind (ld (F := F) 11 ![a, 1, g, 0] S1x1x1x128.size (fits4 (by omega) (by omega) (by omega) (by omega)) (by decide)) fun (s : Vec F S1x1x1x128 .f32) =>
  .bind (quantHalf slot hslot g hg a ha (rowOf i) (truncf .bf16 (rowOf s) (by decide)) 0 (by omega)) fun lo =>
  .bind (quantHalf slot hslot g hg a ha (rowOf i) (truncf .bf16 (rowOf s) (by decide)) 1 (by omega)) fun hi =>
  st (F := F) 5 ![a, 32 * g, col] S1x32x128.size (fits3 (by omega) (by omega) (by omega)) (shapeCast S1x32x128 (pack lo hi) (by decide)) (by decide)
    (packed_of _ (Nat.le_of_ble_eq_true rfl) rfl (show 4 ∣ 32 * g by omega) (show 4 ∣ 32 by decide))

/-- A strip quantised for both candidates. -/
def quantise (R : Reads F) (col : ℕ) (hcol : col + 128 ≤ 640) (slot : ℕ) (hslot : slot < 2) : C F PUnit :=
  .bind (.steps (N := 45) (fun g hg => scaleGroup R col hcol g hg) 0 45 rfl) fun _ =>
  .bind (.steps (N := 5) (fun b hb => .bind (scales R col hcol b hb 0 (by omega)) fun _ => scales R col hcol b hb 1 (by omega)) 0 5 rfl) fun _ =>
  .bind (scalesLast R col hcol 0 (by omega)) fun _ =>
  .bind (scalesLast R col hcol 1 (by omega)) fun _ =>
  .steps (N := 45) (fun g hg => .bind (quantGroup col hcol slot hslot g hg 0 (by omega)) fun _ => quantGroup col hcol slot hslot g hg 1 (by omega)) 0 45 rfl

theorem concat_x : Shape.Concatenates [S768x128, S768x128] S768x256 1 := by decide
theorem concat_w : Shape.Concatenates [S256x128, S256x128] S256x256 1 := by decide

/-- The contraction of a 768×256 block with a 256×256 one. -/
def dots : DotDims S768x256 S256x256 S768x256 where
  lhsContracting := [1]
  rhsContracting := [0]
  lhsNonContracting := [0]
  rhsNonContracting := [1]
  lhsBatch := []
  rhsBatch := []
  wf := by decide

/-- The product of two tiles of tokens with the slot's dequantised weights for both candidates. -/
def product (slot : ℕ) (hslot : slot < 2) (p : ℕ) (hp : p < 12) : C F (FVec F S768x256 .f32) :=
  .bind (ld (F := F) 0 ![2 * p, 0, 0] S1x768x128.size (fits3 (by omega) (by omega) (by omega)) (by decide)) fun (x0 : Vec F S1x768x128 .bf16) =>
  .bind (ld (F := F) 0 ![2 * p + 1, 0, 0] S1x768x128.size (fits3 (by omega) (by omega) (by omega)) (by decide)) fun (x1 : Vec F S1x768x128 .bf16) =>
  .bind (ld (F := F) 12 ![slot, 0, 256 * p, 0] S1x1x256x128.size (fits4 (by omega) (by omega) (by omega) (by omega)) (by decide)) fun (w0 : Vec F S1x1x256x128 .bf16) =>
  .bind (ld (F := F) 12 ![slot, 1, 256 * p, 0] S1x1x256x128.size (fits4 (by omega) (by omega) (by omega) (by omega)) (by decide)) fun (w1 : Vec F S1x1x256x128 .bf16) =>
  .ret (matmul dots none
    (concatenate S768x256 1 [⟨S768x128, (shapeCast S768x128 x0 (by decide) : FVec F S768x128 .bf16)⟩, ⟨S768x128, (shapeCast S768x128 x1 (by decide) : FVec F S768x128 .bf16)⟩] concat_x : FVec F S768x256 .bf16)
    (concatenate S256x256 1 [⟨S256x128, (shapeCast S256x128 w0 (by decide) : FVec F S256x128 .bf16)⟩, ⟨S256x128, (shapeCast S256x128 w1 (by decide) : FVec F S256x128 .bf16)⟩] concat_w : FVec F S256x256 .bf16)
    (constant S768x256 .f32 0x00000000#32))

/-- The mean over tokens of the squares of a block of differences. -/
def meanSq (d : FVec F S768x128 .f32) : FVec F S1x128 .f32 :=
  mulf (shapeCast S1x128 (multiReduction .add [0] S128 (multiReduction .add [0] S32x128 (shapeCast S24x32x128 (mulf d d) (by decide) : FVec F S24x32x128 .f32)
    0x00000000#32 (by decide) (.inl rfl) rfl : FVec F S32x128 .f32) 0x00000000#32 (by decide) (.inl rfl) rfl : FVec F S128 .f32) (by decide))
    (broadcast S1x128 (Scalar.ofBits .f32 0x3AAAAAAB#32))

/-- The losses of the strip kept in the slot, for both candidates: strip number `strip`, columns from `ycol`, candidates `r0` and `r1`. -/
def loss (slot : ℕ) (hslot : slot < 2) (ycol : ℕ) (hycol : ycol + 128 ≤ 5760) (strip : ℕ) (hstrip : strip < 45) (r0 r1 : ℕ) (hr0 : r0 < 20) (hr1 : r1 < 20) :
    C F PUnit :=
  .bind (product slot hslot 0 (by omega)) fun a0 =>
  .bind (.accum (N := 12) (fun p hp a => .bind (product slot hslot p hp) fun d => .ret (addf a d)) 1 11 rfl a0) fun acc =>
  .bind (ld (F := F) 2 ![0, ycol] S768x128.size (fits2 (by omega) (by omega)) (by decide)) fun (y : Vec F S768x128 .f32) =>
  let y' : FVec F S768x128 .f32 := shapeCast S768x128 y (by decide)
  .bind (st (F := F) 13 ![strip, r0, 0] S1x1x128.size (fits3 (by omega) (by omega) (by omega))
    (shapeCast S1x1x128 (meanSq (subf y' (extractStridedSlice S768x128 ![0, 0] acc (by decide)))) (by decide)) (by decide) (packed_one _ (by decide) rfl)) fun _ =>
  st (F := F) 13 ![strip, r1, 0] S1x1x128.size (fits3 (by omega) (by omega) (by omega))
    (shapeCast S1x1x128 (meanSq (subf y' (extractStridedSlice S768x128 ![0, 128] acc (by decide)))) (by decide)) (by decide) (packed_one _ (by decide) rfl)

/-! ## The words the body computes -/

/-- The loop over the strips of a block, and over the groups of rows. -/
@[reducible] def strips : Scf.Loop 32 := ⟨0#32, Scalar.addi 0#32 5#32, 1#32⟩
@[reducible] def groups : Scf.Loop 32 := ⟨0#32, Scalar.addi 0#32 45#32, 1#32⟩

theorem strips_ok : strips.OK := by decide
theorem groups_ok : groups.OK := by decide

/-- A grid point's words. -/
def pairW (i0 : Fin 10) : BitVec 32 := BitVec.ofNat 32 i0.val
def blkW (i1 : Fin 9) : BitVec 32 := BitVec.ofNat 32 i1.val

/-- The number of a strip among all pairs' strips. -/
def tileW (i0 : Fin 10) (i1 : Fin 9) (t : Fin strips.trips) : BitVec 32 :=
  Scalar.addi (Scalar.muli (Scalar.addi (Scalar.muli (pairW i0) 9#32) (blkW i1)) 5#32) (Scf.iv 0#32 1#32 t)

/-- Where its columns start in the block, and the slot it is kept in. -/
def colN (t : Fin strips.trips) : ℕ := (Scalar.indexCast (Scalar.muli (Scf.iv 0#32 1#32 t) 128#32) : Index).toNat
def slotN (i0 : Fin 10) (i1 : Fin 9) (t : Fin strips.trips) : ℕ := (Scalar.indexCast (Scalar.andi (tileW i0 i1 t) 1#32) : Index).toNat

/-- The strip before it: its slot, its number (zero for the first), its pair, its number within the pair, and its columns. -/
def slotN' (i0 : Fin 10) (i1 : Fin 9) (t : Fin strips.trips) : ℕ :=
  (Scalar.indexCast (Scalar.subi 1#32 (Scalar.andi (tileW i0 i1 t) 1#32)) : Index).toNat
def prevW (i0 : Fin 10) (i1 : Fin 9) (t : Fin strips.trips) : BitVec 32 := Scalar.maxsi (Scalar.subi (tileW i0 i1 t) 1#32) 0#32
def floorW (p : BitVec 32) : BitVec 32 :=
  Scalar.select (Scalar.andi (Scalar.cmpi .ne (Scalar.subi (Scalar.extui (Scalar.cmpi .sgt p 0#32)) (Scalar.extui (Scalar.cmpi .slt p 0#32)))
    (Scalar.subi (Scalar.extui (Scalar.cmpi .sgt 45#32 0#32) : BitVec 32) (Scalar.extui (Scalar.cmpi .slt 45#32 0#32)))) (Scalar.cmpi .ne (Scalar.remsi p 45#32) 0#32))
    (Scalar.subi (Scalar.divsi p 45#32) 1#32) (Scalar.divsi p 45#32)
def stripW (i0 : Fin 10) (i1 : Fin 9) (t : Fin strips.trips) : BitVec 32 :=
  Scalar.subi (prevW i0 i1 t) (Scalar.muli (floorW (prevW i0 i1 t)) 45#32)
def stripN (i0 : Fin 10) (i1 : Fin 9) (t : Fin strips.trips) : ℕ := (Scalar.indexCast (stripW i0 i1 t) : Index).toNat
def ycolN (i0 : Fin 10) (i1 : Fin 9) (t : Fin strips.trips) : ℕ := (Scalar.indexCast (Scalar.muli (stripW i0 i1 t) 128#32) : Index).toNat
def rowN (i0 : Fin 10) (i1 : Fin 9) (t : Fin strips.trips) (a : BitVec 32) : ℕ :=
  (Scalar.indexCast (Scalar.addi (Scalar.muli 2#32 (floorW (prevW i0 i1 t))) a) : Index).toNat

/-- The number of a strip, as a number. -/
def tileN (i0 : Fin 10) (i1 : Fin 9) (t : ℕ) : ℕ := 45 * i0.val + 5 * i1.val + t

theorem colN_eq : ∀ t, colN t = 128 * t.val := by decide +kernel
theorem words_eq : ∀ i0 i1 t, slotN i0 i1 t = tileN i0 i1 t.val % 2 ∧ slotN' i0 i1 t = 1 - tileN i0 i1 t.val % 2
    ∧ stripN i0 i1 t = (tileN i0 i1 t.val - 1) % 45 ∧ ycolN i0 i1 t = 128 * ((tileN i0 i1 t.val - 1) % 45)
    ∧ rowN i0 i1 t 0#32 = 2 * ((tileN i0 i1 t.val - 1) / 45) ∧ rowN i0 i1 t 1#32 = 2 * ((tileN i0 i1 t.val - 1) / 45) + 1 := by decide +kernel

theorem strip_lt (t : Fin strips.trips) : t.val < 5 := t.isLt
theorem colN_le (t : Fin strips.trips) : colN t + 128 ≤ 640 := by rw [colN_eq]; have := strip_lt t; omega
theorem slotN_lt (i0 : Fin 10) (i1 : Fin 9) (t : Fin strips.trips) : slotN i0 i1 t < 2 := by rw [(words_eq i0 i1 t).1]; omega
theorem slotN'_lt (i0 : Fin 10) (i1 : Fin 9) (t : Fin strips.trips) : slotN' i0 i1 t < 2 := by rw [(words_eq i0 i1 t).2.1]; omega
theorem stripN_lt (i0 : Fin 10) (i1 : Fin 9) (t : Fin strips.trips) : stripN i0 i1 t < 45 := by rw [(words_eq i0 i1 t).2.2.1]; omega
theorem ycolN_le (i0 : Fin 10) (i1 : Fin 9) (t : Fin strips.trips) : ycolN i0 i1 t + 128 ≤ 5760 := by rw [(words_eq i0 i1 t).2.2.2.1]; omega
theorem rowN_lt (i0 : Fin 10) (i1 : Fin 9) (t : Fin strips.trips) : rowN i0 i1 t 0#32 < 20 ∧ rowN i0 i1 t 1#32 < 20 := by
  rw [(words_eq i0 i1 t).2.2.2.2.1, (words_eq i0 i1 t).2.2.2.2.2]
  have h0 := i0.isLt; have h1 := i1.isLt; have ht := strip_lt t
  have : (tileN i0 i1 t.val - 1) / 45 < 10 := by unfold tileN; omega
  omega

/-- The row of the scale table a group's trip works on. -/
def groupN (t : Fin groups.trips) : ℕ := (Scalar.indexCast (Scf.iv 0#32 1#32 t) : Index).toNat
theorem groupN_eq : ∀ t, groupN t = t.val := by decide +kernel
theorem groupN_lt (t : Fin groups.trips) : groupN t < 45 := by rw [groupN_eq]; exact t.isLt

/-! ## The body -/

/-- The lane each row reads: candidate `a` of the pair. -/
def laneOf (i0 : Fin 10) (a : BitVec 32) : IVec S32x128 32 :=
  let v : IVec S32x128 32 := broadcast S32x128 (Scalar.addi (Scalar.muli 2#32 (pairW i0)) a)
  let w : IVec S32x128 32 := select (cmpi .slt v (broadcast S32x128 0#32)) (addi v (broadcast S32x128 128#32)) v
  shapeCast S32x128 (shapeCast S32x128x1 w (by decide) : IVec S32x128x1 32) (by decide)

/-- A half of a group's scales for candidate `a`, spread over the lanes, and their inverses. -/
def spreadHalf (i0 : Fin 10) (g : ℕ) (hg : g < 45) (a : ℕ) (ha : a < 2) (aw : BitVec 32) (h : ℕ) (hh : h < 2) : C F PUnit :=
  .bind (ld (F := F) 1 ![g, h, 0, 0] S1x1x32x128.size (fits4 (by omega) (by omega) (by omega) (by omega)) (by decide)) fun (v : Vec F S1x1x32x128 .f32) =>
  let s : FVec F S32x128 .f32 := dynamicGather 1 (shapeCast S32x128 v (by decide) : FVec F S32x128 .f32) (laneOf i0 aw)
  .bind (st (F := F) 7 ![a, g, h, 0, 0] S1x1x1x32x128.size (fits5 (by omega) (by omega) (by omega) (by omega) (by omega))
    (shapeCast S1x1x1x32x128 s (by decide)) (by decide) (packed_one _ (by decide) rfl)) fun _ =>
  st (F := F) 8 ![a, g, h, 0, 0] S1x1x1x32x128.size (fits5 (by omega) (by omega) (by omega) (by omega) (by omega))
    (shapeCast S1x1x1x32x128 (truncf .bf16 (divf (broadcast S32x128 (Scalar.ofBits .f32 0x3F800000#32)) s : FVec F S32x128 .f32) (by decide) : FVec F S32x128 .bf16) (by decide))
    (by decide) (packed_of _ (Nat.le_of_ble_eq_true rfl) rfl (show 2 ∣ 0 by decide) (show 2 ∣ 32 by decide))

/-- A pair's scales spread. -/
def spread (i0 : Fin 10) : C F PUnit :=
  .loop groups groups_ok ⟨⟩ fun t _ =>
    .bind (spreadHalf i0 (groupN t) (groupN_lt t) 0 (by omega) 0#32 0 (by omega)) fun _ =>
    .bind (spreadHalf i0 (groupN t) (groupN_lt t) 0 (by omega) 0#32 1 (by omega)) fun _ =>
    .bind (spreadHalf i0 (groupN t) (groupN_lt t) 1 (by omega) 1#32 0 (by omega)) fun _ =>
    spreadHalf i0 (groupN t) (groupN_lt t) 1 (by omega) 1#32 1 (by omega)

/-- The dequantised weights and the partial maxima set to zero. -/
def clear : C F PUnit :=
  .bind (st (F := F) 12 ![0, 0, 0, 0] S2x2x3072x128.size (fits4 (by omega) (by omega) (by omega) (by omega))
    (shapeCast S2x2x3072x128 (broadcast S2x2x3072x128 (Scalar.ofBits .bf16 0x0000#16) : FVec F S2x2x3072x128 .bf16) (by decide)) (by decide)
    (packed_of _ (Nat.le_of_ble_eq_true rfl) rfl (show 2 ∣ 0 by decide) (show 2 ∣ 3072 by decide))) fun _ =>
  st (F := F) 10 ![0, 0, 0] S2x384x128.size (fits3 (by omega) (by omega) (by omega))
    (shapeCast S2x384x128 (broadcast S2x384x128 (Scalar.ofBits .f32 0x00000000#32) : FVec F S2x384x128 .f32) (by decide)) (by decide)
    (packed_one _ (by decide) rfl)

/-- One strip: quantised, and the strip before it scored. -/
def strip (R : Reads F) (i0 : Fin 10) (i1 : Fin 9) (t : Fin strips.trips) : C F PUnit :=
  .bind (quantise R (colN t) (colN_le t) (slotN i0 i1 t) (slotN_lt i0 i1 t)) fun _ =>
  loss (slotN' i0 i1 t) (slotN'_lt i0 i1 t) (ycolN i0 i1 t) (ycolN_le i0 i1 t) (stripN i0 i1 t) (stripN_lt i0 i1 t) (rowN i0 i1 t 0#32) (rowN i0 i1 t 1#32)
    (rowN_lt i0 i1 t).1 (rowN_lt i0 i1 t).2

/-- The losses of a strip number written out. -/
def flushStrip (j : ℕ) (hj : j < 45) : C F PUnit :=
  .bind (ld (F := F) 13 ![j, 0, 0] S1x20x128.size (fits3 (by omega) (by omega) (by omega)) (by decide)) fun (v : Vec F S1x20x128 .f32) =>
  st (F := F) 4 ![0, 128 * j] S20x128.size (fits2 (by omega) (by omega)) (shapeCast S20x128 v (by decide)) (by decide) (packed_one _ (by decide) rfl)

/-- The last strip scored, and the losses written out. -/
def flush : C F PUnit :=
  .bind (loss 1 (by omega) 5632 (by omega) 44 (by omega) 18 19 (by omega) (by omega)) fun _ => .steps (N := 45) flushStrip 0 45 rfl

/-- The body at the grid point `(i0, i1)`. -/
def body (R : Reads F) (i0 : Fin 10) (i1 : Fin 9) : C F PUnit :=
  .when (Scalar.cmpi .ne (Scalar.extui (Scalar.cmpi .eq (blkW i1) 0#32) : BitVec 32) 0#32 = 1#1) (fun _ => spread i0) <|
  .when (Scalar.cmpi .ne (Scalar.extui (Scalar.andi (Scalar.cmpi .eq (pairW i0) 0#32) (Scalar.cmpi .eq (blkW i1) 0#32)) : BitVec 32) 0#32 = 1#1) (fun _ => clear) <|
  .bind (.loop strips strips_ok ⟨⟩ fun t _ => strip R i0 i1 t) fun _ =>
  .when (Scalar.cmpi .ne (Scalar.extui (Scalar.andi (Scalar.cmpi .eq (pairW i0) 9#32) (Scalar.cmpi .eq (blkW i1) 8#32)) : BitVec 32) 0#32 = 1#1) (fun _ => flush) <|
  .ret ⟨⟩

/-! ## The family of memrefs -/

/-- The call's memrefs as a family. -/
def mems {sig : RefSig} (m0 : Memref sig .tc .vmem S24x768x128 .bf16) (m1 : Memref sig .tc .vmem S45x2x32x128 .f32) (m2 : Memref sig .tc .vmem S768x5760 .f32) (m3 : Memref sig .tc .vmem S2880x640 .bf16) (m4 : Memref sig .tc .vmem S20x5760 .f32) (m5 : Memref sig .tc .vmem S2x1440x640 .i8) (m6 : Memref sig .tc .vmem S2x45x640 .f32) (m7 : Memref sig .tc .vmem S2x45x2x32x128 .f32) (m8 : Memref sig .tc .vmem S2x45x2x32x128 .bf16) (m9 : Memref sig .tc .vmem S2x45x2x32x128 .f32) (m10 : Memref sig .tc .vmem S2x384x128 .f32) (m11 : Memref sig .tc .vmem S2x2x48x128 .f32) (m12 : Memref sig .tc .vmem S2x2x3072x128 .bf16) (m13 : Memref sig .tc .vmem S45x20x128 .f32) :
    (k : Fin 14) → Memref sig .tc .vmem (shp k) (elt k)
  | 0 => m0
  | 1 => m1
  | 2 => m2
  | 3 => m3
  | 4 => m4
  | 5 => m5
  | 6 => m6
  | 7 => m7
  | 8 => m8
  | 9 => m9
  | 10 => m10
  | 11 => m11
  | 12 => m12
  | 13 => m13

theorem mems_whole {sig : RefSig} {m0 : Memref sig .tc .vmem S24x768x128 .bf16} {m1 : Memref sig .tc .vmem S45x2x32x128 .f32} {m2 : Memref sig .tc .vmem S768x5760 .f32} {m3 : Memref sig .tc .vmem S2880x640 .bf16} {m4 : Memref sig .tc .vmem S20x5760 .f32} {m5 : Memref sig .tc .vmem S2x1440x640 .i8} {m6 : Memref sig .tc .vmem S2x45x640 .f32} {m7 : Memref sig .tc .vmem S2x45x2x32x128 .f32} {m8 : Memref sig .tc .vmem S2x45x2x32x128 .bf16} {m9 : Memref sig .tc .vmem S2x45x2x32x128 .f32} {m10 : Memref sig .tc .vmem S2x384x128 .f32} {m11 : Memref sig .tc .vmem S2x2x48x128 .f32} {m12 : Memref sig .tc .vmem S2x2x3072x128 .bf16} {m13 : Memref sig .tc .vmem S45x20x128 .f32} (h0 : m0.IsWhole) (h1 : m1.IsWhole) (h2 : m2.IsWhole) (h3 : m3.IsWhole) (h4 : m4.IsWhole) (h5 : m5.IsWhole) (h6 : m6.IsWhole) (h7 : m7.IsWhole) (h8 : m8.IsWhole) (h9 : m9.IsWhole) (h10 : m10.IsWhole) (h11 : m11.IsWhole) (h12 : m12.IsWhole) (h13 : m13.IsWhole) :
    ∀ k, (mems m0 m1 m2 m3 m4 m5 m6 m7 m8 m9 m10 m11 m12 m13 k).IsWhole
  | 0 => h0
  | 1 => h1
  | 2 => h2
  | 3 => h3
  | 4 => h4
  | 5 => h5
  | 6 => h6
  | 7 => h7
  | 8 => h8
  | 9 => h9
  | 10 => h10
  | 11 => h11
  | 12 => h12
  | 13 => h13

end Cert.Proof.Search
-- ==== Proof.Stats.lean ====
/-
  The body of the statistics call. Its memrefs, in order: the transposed tokens, the weight block, the three results (the reference
  output, the padded tokens, the scale table) and the three scratch buffers (token means, accumulated relative weights, the block's
  weights in the tokens' row order, padded).
-/
module

public import proofs.«01_k».proof.Proof.Search

@[expose] public section

noncomputable section

namespace Cert.Proof.Stats

open Idealize.ShloMosaic Idealize.ShloMosaic.TcCoe Cert.Proof
open Cert.Proof.Search (Reads groups groups_ok groupN groupN_eq groupN_lt concat_x)

variable {F : FTy → Type} [FloatOps F]

abbrev S32x1 : Shape := ⟨2, ![32, 1]⟩
abbrev S128x256 : Shape := ⟨2, ![128, 256]⟩
abbrev S192x640 : Shape := ⟨2, ![192, 640]⟩
abbrev S256x640 : Shape := ⟨2, ![256, 640]⟩
abbrev S768x640 : Shape := ⟨2, ![768, 640]⟩
abbrev S3072x640 : Shape := ⟨2, ![3072, 640]⟩
abbrev S1x64x256 : Shape := ⟨3, ![1, 64, 256]⟩
abbrev S1x256x128 : Shape := ⟨3, ![1, 256, 128]⟩
abbrev S3x2880x256 : Shape := ⟨3, ![3, 2880, 256]⟩

/-- The shapes of the statistics call's memrefs. -/
def shp : Fin 8 → Shape :=
  ![S3x2880x256, S2880x640, S768x640, S24x768x128, S45x2x32x128, S45x2x32x128, S45x2x32x128, S3072x640]

/-- Their element types. -/
def elt : Fin 8 → EltTy := ![.bf16, .bf16, .f32, .bf16, .f32, .f32, .f32, .bf16]

abbrev C (F : FTy → Type) := Code shp elt (Elt F)

/-- A load of a unit-stride rectangle of one of the call's memrefs. -/
abbrev ld (k : Fin 8) (off size : Fin (shp k).rank → ℕ) (inb : ∀ a, off a + size a ≤ (shp k).size a) (h : 0 < Shape.numel ⟨(shp k).rank, size⟩) :
    C F (((a : Fin (shp k).rank) → Fin (size a)) → Elt F (elt k)) :=
  Code.ld k off size inb h

/-- A store of a unit-stride rectangle of one of the call's memrefs. -/
abbrev st (k : Fin 8) (off size : Fin (shp k).rank → ℕ) (inb : ∀ a, off a + size a ≤ (shp k).size a)
    (w : ((a : Fin (shp k).rank) → Fin (size a)) → Elt F (elt k)) (h : 0 < Shape.numel ⟨(shp k).rank, size⟩)
    (hw : (Rect.unit (s := shp k) off size inb).PackedRows (elt k).packing) : C F PUnit :=
  Code.st k off size inb w h hw

/-! ## The tokens, padded and in the kernel's row order -/

/-- The 64 rows of the tokens of batch `b` starting at row `r`. -/
def rows (b : ℕ) (hb : b < 3) (r : ℕ) (hr : r + 64 ≤ 2880) : C F (FVec F S64x256 .bf16) :=
  .bind (ld (F := F) 0 ![b, r, 0] S1x64x256.size (fits3 (by omega) (by omega) (by omega)) (by decide)) fun (v : Vec F S1x64x256 .bf16) =>
  .ret (shapeCast S64x256 v (by decide))

theorem concat4 : Shape.Concatenates [S32x256, S32x256, S32x256, S32x256] S128x256 0 := by decide
theorem concat3 : Shape.Concatenates [S32x256, S32x256, S64x256] S128x256 0 := by decide
theorem concat2 : Shape.Concatenates [S64x256, S64x256] S128x256 0 := by decide

/-- The rows of zeros past the last group. -/
def zeros : FVec F S64x256 .f32 := broadcast S64x256 (Scalar.ofBits .f32 0x00000000#32)

/-- A tile of 128 rows, transposed and stored for batch `b`. -/
def keepTile (c : ℕ) (hc : c < 24) (b : ℕ) (hb : b < 3) (v : FVec F S128x256 .f32) : C F PUnit :=
  st (F := F) 3 ![c, 256 * b, 0] S1x256x128.size (fits3 (by omega) (by omega) (by omega))
    (shapeCast S1x256x128 (truncf .bf16 (transpose S256x128 [1, 0] v (by decide) : FVec F S256x128 .f32) (by decide) : FVec F S256x128 .bf16) (by decide)) (by decide)
    (packed_of _ (Nat.le_of_ble_eq_true rfl) rfl (show 2 ∣ 256 * b by omega) (show 2 ∣ 256 by decide))

/-- The tile of the groups `2 c` and `2 c + 1`. -/
def tile (R : Reads F) (c : ℕ) (hc : c < 22) (b : ℕ) (hb : b < 3) : C F PUnit :=
  .bind (rows b hb (128 * c) (by omega)) fun p =>
  .bind (rows b hb (128 * c + 64) (by omega)) fun q =>
  keepTile c (by omega) b hb (concatenate S128x256 0 [⟨S32x256, R.even' p⟩, ⟨S32x256, R.odd' p⟩, ⟨S32x256, R.even' q⟩, ⟨S32x256, R.odd' q⟩] concat4)

/-- The tile of the last group, and rows of zeros. -/
def tileLast (R : Reads F) (b : ℕ) (hb : b < 3) : C F PUnit :=
  .bind (rows b hb 2816 (by omega)) fun p =>
  keepTile 22 (by omega) b hb (concatenate S128x256 0 [⟨S32x256, R.even' p⟩, ⟨S32x256, R.odd' p⟩, ⟨S64x256, zeros⟩] concat3)

/-- The tile of zeros. -/
def tileZero (b : ℕ) (hb : b < 3) : C F PUnit :=
  keepTile (F := F) 23 (by omega) b hb (concatenate S128x256 0 [⟨S64x256, zeros⟩, ⟨S64x256, zeros⟩] concat2)

/-- All tiles. -/
def tiles (R : Reads F) : C F PUnit :=
  .bind (.steps (N := 22) (fun c hc => .bind (tile R c hc 0 (by omega)) fun _ => .bind (tile R c hc 1 (by omega)) fun _ => tile R c hc 2 (by omega)) 0 22 rfl) fun _ =>
  .bind (.bind (tileLast R 0 (by omega)) fun _ => .bind (tileLast R 1 (by omega)) fun _ => tileLast R 2 (by omega)) fun _ =>
  .bind (tileZero 0 (by omega)) fun _ => .bind (tileZero 1 (by omega)) fun _ => tileZero 2 (by omega)

/-- The accumulated relative weights, and the weights' rows past the last group, set to zero. -/
def clear : C F PUnit :=
  .bind (st (F := F) 6 ![0, 0, 0, 0] S45x2x32x128.size (fits4 (by omega) (by omega) (by omega) (by omega))
    (shapeCast S45x2x32x128 (broadcast S45x2x32x128 (Scalar.ofBits .f32 0x00000000#32) : FVec F S45x2x32x128 .f32) (by decide)) (by decide)
    (packed_one _ (by decide) rfl)) fun _ =>
  st (F := F) 7 ![2880, 0] S192x640.size (fits2 (by omega) (by omega))
    (shapeCast S192x640 (broadcast S192x640 (Scalar.ofBits .bf16 0x0000#16) : FVec F S192x640 .bf16) (by decide)) (by decide)
    (packed_of _ (Nat.le_of_ble_eq_true rfl) rfl (show 2 ∣ 2880 by decide) (show 2 ∣ 192 by decide))

/-! ## The token means -/

/-- Where a group's rows start, and where their second half goes. -/
def rowN (t : Fin groups.trips) : ℕ := (Scalar.indexCast (Scalar.muli (Scf.iv 0#32 1#32 t) 64#32) : Index).toNat
def rowN' (t : Fin groups.trips) : ℕ := (Scalar.indexCast (Scalar.addi (Scalar.muli (Scf.iv 0#32 1#32 t) 64#32) 32#32) : Index).toNat
theorem rowN_eq : ∀ t, rowN t = 64 * t.val ∧ rowN' t = 64 * t.val + 32 := by decide +kernel
theorem rowN_le (t : Fin groups.trips) : rowN t + 64 ≤ 2880 := by rw [(rowN_eq t).1]; have : t.val < 45 := t.isLt; omega
theorem rowN_le' (t : Fin groups.trips) : rowN t + 64 ≤ 2880 ∧ rowN t + 32 ≤ 3072 ∧ rowN' t + 32 ≤ 3072 := by
  rw [(rowN_eq t).1, (rowN_eq t).2]; have : t.val < 45 := t.isLt; omega
theorem rowN_even (t : Fin groups.trips) : 2 ∣ rowN t ∧ 2 ∣ rowN' t := by rw [(rowN_eq t).1, (rowN_eq t).2]; omega

/-- The sum of the magnitudes over the batches: `f` picks the even or the odd rows. -/
def sumAbs (f : Vec F S64x256 .bf16 → FVec F S32x256 .f32) (x y z : Vec F S64x256 .bf16) : FVec F S32x256 .f32 :=
  addf (addf (addf (broadcast S32x256 (Scalar.ofBits .f32 0x00000000#32)) (absf (f x))) (absf (f y))) (absf (f z))

/-- A row's mean over the tokens, spread over the lanes. -/
def meanOf (v : FVec F S32x256 .f32) : FVec F S32x128 .f32 :=
  broadcastTo S32x128 (shapeCast S32x1 (mulf (shapeCast S32x1 (multiReduction .add [1] S32 v 0x00000000#32 (by decide) (.inl rfl) rfl) (by decide) : FVec F S32x1 .f32)
    (broadcast S32x1 (Scalar.ofBits .f32 0x3AAAAAAB#32))) (by decide) : FVec F S32x1 .f32) (by decide)

/-- A group's token means. -/
def mean (R : Reads F) (t : Fin groups.trips) : C F PUnit :=
  .bind (rows 0 (by omega) (rowN t) (rowN_le t)) fun x =>
  .bind (rows 1 (by omega) (rowN t) (rowN_le t)) fun y =>
  .bind (rows 2 (by omega) (rowN t) (rowN_le t)) fun z =>
  .bind (st (F := F) 5 ![groupN t, 0, 0, 0] S1x1x32x128.size (fits4 (groupN_lt t) (by omega) (by omega) (by omega))
    (shapeCast S1x1x32x128 (meanOf (sumAbs R.even' x y z)) (by decide)) (by decide) (packed_one _ (by decide) rfl)) fun _ =>
  st (F := F) 5 ![groupN t, 1, 0, 0] S1x1x32x128.size (fits4 (groupN_lt t) (by omega) (by omega) (by omega))
    (shapeCast S1x1x32x128 (meanOf (sumAbs R.odd' x y z)) (by decide)) (by decide) (packed_one _ (by decide) rfl)

/-! ## The weights, and their relative magnitudes accumulated -/

/-- The reciprocal of a group's largest magnitude in each column, kept off zero. -/
def invTop (e o : FVec F S32x128 .f32) : FVec F S1x128 .f32 :=
  divf (broadcast S1x128 (Scalar.ofBits .f32 0x3F800000#32)) (addf (shapeCast S1x128 (multiReduction .maximumf [0] S128 (maximumf e o) 0xFF800000#32 (by decide) (.inl rfl) rfl : FVec F S128 .f32) (by decide))
    (broadcast S1x128 (Scalar.ofBits .f32 0x358637BD#32)))

/-- A half of a group's magnitudes, relative to its largest, added to the running sums. -/
def addRel (t : Fin groups.trips) (h : ℕ) (hh : h < 2) (v : FVec F S32x128 .f32) (inv : FVec F S1x128 .f32) : C F PUnit :=
  .bind (ld (F := F) 6 ![groupN t, h, 0, 0] S1x1x32x128.size (fits4 (groupN_lt t) (by omega) (by omega) (by omega)) (by decide)) fun (a : Vec F S1x1x32x128 .f32) =>
  st (F := F) 6 ![groupN t, h, 0, 0] S1x1x32x128.size (fits4 (groupN_lt t) (by omega) (by omega) (by omega))
    (shapeCast S1x1x32x128 (addf (shapeCast S32x128 a (by decide)) (mulf v (broadcastTo S32x128 inv (by decide))) : FVec F S32x128 .f32) (by decide)) (by decide)
    (packed_one _ (by decide) rfl)

/-- A group's rows in the strip of columns `k`: kept, and accumulated. -/
def groupStrip (R : Reads F) (t : Fin groups.trips) (k : ℕ) (hk : k < 5) : C F PUnit :=
  .bind (ld (F := F) 1 ![rowN t, 128 * k] S64x128.size (fits2 (rowN_le' t).1 (by omega)) (by decide)) fun (w : Vec F S64x128 .bf16) =>
  .bind (st (F := F) 7 ![rowN t, 128 * k] S32x128.size (fits2 (rowN_le' t).2.1 (by omega)) (shapeCast S32x128 (truncf .bf16 (R.even w) (by decide) : FVec F S32x128 .bf16) (by decide)) (by decide)
    (packed_of _ (Nat.le_of_ble_eq_true rfl) rfl (show 2 ∣ rowN t from (rowN_even t).1) (show 2 ∣ 32 by decide))) fun _ =>
  .bind (st (F := F) 7 ![rowN' t, 128 * k] S32x128.size (fits2 (rowN_le' t).2.2 (by omega)) (shapeCast S32x128 (truncf .bf16 (R.odd w) (by decide) : FVec F S32x128 .bf16) (by decide)) (by decide)
    (packed_of _ (Nat.le_of_ble_eq_true rfl) rfl (show 2 ∣ rowN' t from (rowN_even t).2) (show 2 ∣ 32 by decide))) fun _ =>
  .bind (addRel t 0 (by omega) (absf (R.even w)) (invTop (absf (R.even w)) (absf (R.odd w)))) fun _ =>
  addRel t 1 (by omega) (absf (R.odd w)) (invTop (absf (R.even w)) (absf (R.odd w)))

/-- A group's rows, all five strips. -/
def group (R : Reads F) (t : Fin groups.trips) : C F PUnit := .steps (N := 5) (fun k hk => groupStrip R t k hk) 0 5 rfl

/-! ## The reference output -/

/-- The contraction of a 768×256 block with a 256×640 one. -/
def dots : DotDims S768x256 S256x640 S768x640 where
  lhsContracting := [1]
  rhsContracting := [0]
  lhsNonContracting := [0]
  rhsNonContracting := [1]
  lhsBatch := []
  rhsBatch := []
  wf := by decide

/-- Two tiles of tokens side by side. -/
def lhs (p : ℕ) (hp : p < 12) : C F (FVec F S768x256 .bf16) :=
  .bind (ld (F := F) 3 ![2 * p, 0, 0] S1x768x128.size (fits3 (by omega) (by omega) (by omega)) (by decide)) fun (x0 : Vec F S1x768x128 .bf16) =>
  .bind (ld (F := F) 3 ![2 * p + 1, 0, 0] S1x768x128.size (fits3 (by omega) (by omega) (by omega)) (by decide)) fun (x1 : Vec F S1x768x128 .bf16) =>
  .ret (concatenate S768x256 1 [⟨S768x128, (shapeCast S768x128 x0 (by decide) : FVec F S768x128 .bf16)⟩, ⟨S768x128, (shapeCast S768x128 x1 (by decide) : FVec F S768x128 .bf16)⟩] concat_x)

/-- The block's weights for the same rows. -/
def rhs (p : ℕ) (hp : p < 12) : C F (Vec F S256x640 .bf16) :=
  ld (F := F) 7 ![256 * p, 0] S256x640.size (fits2 (by omega) (by omega)) (by decide)

/-- Their product. -/
def mul (x : FVec F S768x256 .bf16) (w : Vec F S256x640 .bf16) : FVec F S768x640 .f32 :=
  matmul dots none x w (constant S768x640 .f32 0x00000000#32)

/-- The product of two tiles of tokens with the block's weights. -/
def product (p : ℕ) (hp : p < 12) : C F (FVec F S768x640 .f32) :=
  .bind (lhs p hp) fun x => .bind (rhs p hp) fun w => .ret (mul x w)

/-- The block's reference output from the running sum of the first two products and the third one's operands. -/
def output (a : FVec F S768x640 .f32) (x : FVec F S768x256 .bf16) (w : Vec F S256x640 .bf16) : C F PUnit :=
  .bind (.accum (N := 12) (fun p hp a => .bind (product p hp) fun d => .ret (addf a d)) 3 9 rfl (addf a (mul x w))) fun acc =>
  st (F := F) 2 ![0, 0] S768x640.size (fits2 (by omega) (by omega)) acc (by decide) (packed_one _ (by decide) rfl)

/-! ## The scale table -/

/-- Each lane's exponent: a twentieth of its number, at most one. -/
def ratio : FVec F S32x128 .f32 :=
  minimumf (divf (sitofp .f32 (iota .tc S32x128 32 [1] (by decide) : IVec S32x128 32)) (broadcast S32x128 (Scalar.ofBits .f32 0x41A00000#32))) (broadcast S32x128 (Scalar.ofBits .f32 0x3F800000#32))

/-- A power, with the powers of zero told apart. -/
def power (b x : FVec F S32x128 .f32) : FVec F S32x128 .f32 :=
  select (cmpf .ogt b (broadcast S32x128 (Scalar.ofBits .f32 0x00000000#32)))
    (powf (select (cmpf .ogt b (broadcast S32x128 (Scalar.ofBits .f32 0x00000000#32))) b (broadcast S32x128 (Scalar.ofBits .f32 0x3F800000#32))) x)
    (select (cmpf .oeq x (broadcast S32x128 (Scalar.ofBits .f32 0x00000000#32))) (broadcast S32x128 (Scalar.ofBits .f32 0x3F800000#32))
      (broadcast S32x128 (Scalar.ofBits .f32 0x00000000#32)))

/-- The mean over the columns of a half of a group's relative weights, spread over the lanes. -/
def relMean (v : FVec F S32x128 .f32) : FVec F S32x128 .f32 :=
  broadcastTo S32x128 (shapeCast S32x1 (mulf (shapeCast S32x1 (multiReduction .add [1] S32 v 0x00000000#32 (by decide) (.inl rfl) rfl) (by decide) : FVec F S32x1 .f32)
    (broadcast S32x1 (Scalar.ofBits .f32 0x39360B61#32))) (by decide) : FVec F S32x1 .f32) (by decide)

/-- The scales before normalising, from the relative weights' sums and the token means. -/
def rawOf (g m : FVec F S32x128 .f32) : FVec F S32x128 .f32 :=
  maximumf (divf (power m ratio) (addf (power (relMean g) (subf (broadcast S32x128 (Scalar.ofBits .f32 0x3F800000#32)) ratio)) (broadcast S32x128 (Scalar.ofBits .f32 0x38D1B717#32))))
    (broadcast S32x128 (Scalar.ofBits .f32 0x38D1B717#32))

/-- The largest and the smallest of the scales so far. -/
abbrev Range (F : FTy → Type) := FVec F S1x128 .f32 × FVec F S1x128 .f32

def widen (x : Range F) (s : FVec F S32x128 .f32) : Range F :=
  (maximumf x.1 (shapeCast S1x128 (multiReduction .maximumf [0] S128 s 0xFF800000#32 (by decide) (.inl rfl) rfl : FVec F S128 .f32) (by decide)),
    minimumf x.2 (shapeCast S1x128 (multiReduction .minimumf [0] S128 s 0x7F800000#32 (by decide) (.inl rfl) rfl : FVec F S128 .f32) (by decide)))

/-- A half of a group's scales before normalising, stored. -/
def rawHalf (t : Fin groups.trips) (h : ℕ) (hh : h < 2) (x : Range F) : C F (Range F) :=
  .bind (ld (F := F) 6 ![groupN t, h, 0, 0] S1x1x32x128.size (fits4 (groupN_lt t) (by omega) (by omega) (by omega)) (by decide)) fun (g : Vec F S1x1x32x128 .f32) =>
  .bind (ld (F := F) 5 ![groupN t, h, 0, 0] S1x1x32x128.size (fits4 (groupN_lt t) (by omega) (by omega) (by omega)) (by decide)) fun (m : Vec F S1x1x32x128 .f32) =>
  let s : FVec F S32x128 .f32 := rawOf (shapeCast S32x128 g (by decide)) (shapeCast S32x128 m (by decide))
  .bind (st (F := F) 4 ![groupN t, h, 0, 0] S1x1x32x128.size (fits4 (groupN_lt t) (by omega) (by omega) (by omega))
    (shapeCast S1x1x32x128 s (by decide)) (by decide) (packed_one _ (by decide) rfl)) fun _ =>
  .ret (widen x s)

/-- A half of a group's scales divided by the norm. -/
def normHalf (t : Fin groups.trips) (h : ℕ) (hh : h < 2) (n : FVec F S1x128 .f32) : C F PUnit :=
  .bind (ld (F := F) 4 ![groupN t, h, 0, 0] S1x1x32x128.size (fits4 (groupN_lt t) (by omega) (by omega) (by omega)) (by decide)) fun (s : Vec F S1x1x32x128 .f32) =>
  st (F := F) 4 ![groupN t, h, 0, 0] S1x1x32x128.size (fits4 (groupN_lt t) (by omega) (by omega) (by omega))
    (shapeCast S1x1x32x128 (divf (shapeCast S32x128 s (by decide)) (broadcastTo S32x128 n (by decide)) : FVec F S32x128 .f32) (by decide)) (by decide)
    (packed_one _ (by decide) rfl)

/-- Where the range of the scales starts. -/
def range0 : Range F := (broadcast S1x128 (Scalar.ofBits .f32 0x00000000#32), broadcast S1x128 (Scalar.ofBits .f32 0x7F800000#32))

/-- The scale table. -/
def table : C F PUnit :=
  .bind (.loop groups groups_ok range0 fun t x => .bind (rawHalf t 0 (by omega) x) fun x => rawHalf t 1 (by omega) x) fun x =>
  .bind (.loop groups groups_ok ⟨⟩ fun t _ => .bind (normHalf t 0 (by omega) (sqrt (mulf x.1 x.2))) fun _ => normHalf t 1 (by omega) (sqrt (mulf x.1 x.2))) fun _ =>
  .ret ⟨⟩

/-! ## The body -/

/-- A grid point's word. -/
def stepW (i : Fin 9) : BitVec 32 := BitVec.ofNat 32 i.val

/-- What the body's first part hands on: the step's word, the sum of the first two products, and the third one's operands. -/
abbrev Head (F : FTy → Type) := Σ' (_ : BitVec 32) (_ : FVec F S768x640 .f32) (_ : FVec F S768x256 .bf16), Vec F S256x640 .bf16

/-- The body's first part: at the first step the tokens and their means; then the block's weights and the first products. -/
def head (R : Reads F) (i : Fin 9) : C F (Head F) :=
  .when (Scalar.cmpi .ne (Scalar.extui (Scalar.cmpi .eq (stepW i) 0#32) : BitVec 32) 0#32 = 1#1)
    (fun _ => .bind (tiles R) fun _ => .bind clear fun _ => .loop groups groups_ok ⟨⟩ fun t _ => mean R t) <|
  .bind (.loop groups groups_ok ⟨⟩ fun t _ => group R t) fun _ =>
  .bind (product 0 (by omega)) fun a =>
  .bind (product 1 (by omega)) fun d =>
  .bind (lhs 2 (by omega)) fun x =>
  .bind (rhs 2 (by omega)) fun w =>
  .ret ⟨stepW i, addf a d, x, w⟩

/-- The body at the grid point `i`. -/
def body (R : Reads F) (i : Fin 9) : C F PUnit :=
  .bind (head R i) fun x =>
  .bind (output x.2.1 x.2.2.1 x.2.2.2) fun _ =>
  .cond (Scalar.cmpi .ne (Scalar.extui (Scalar.cmpi .eq (stepW i) 8#32) : BitVec 32) 0#32 = 1#1) (fun _ => table) (.ret ⟨⟩)

/-! ## The family of memrefs -/

/-- The call's memrefs as a family. -/
def mems {sig : RefSig} (m0 : Memref sig .tc .vmem S3x2880x256 .bf16) (m1 : Memref sig .tc .vmem S2880x640 .bf16) (m2 : Memref sig .tc .vmem S768x640 .f32) (m3 : Memref sig .tc .vmem S24x768x128 .bf16) (m4 : Memref sig .tc .vmem S45x2x32x128 .f32) (m5 : Memref sig .tc .vmem S45x2x32x128 .f32) (m6 : Memref sig .tc .vmem S45x2x32x128 .f32) (m7 : Memref sig .tc .vmem S3072x640 .bf16) :
    (k : Fin 8) → Memref sig .tc .vmem (shp k) (elt k)
  | 0 => m0
  | 1 => m1
  | 2 => m2
  | 3 => m3
  | 4 => m4
  | 5 => m5
  | 6 => m6
  | 7 => m7

theorem mems_whole {sig : RefSig} {m0 : Memref sig .tc .vmem S3x2880x256 .bf16} {m1 : Memref sig .tc .vmem S2880x640 .bf16} {m2 : Memref sig .tc .vmem S768x640 .f32} {m3 : Memref sig .tc .vmem S24x768x128 .bf16} {m4 : Memref sig .tc .vmem S45x2x32x128 .f32} {m5 : Memref sig .tc .vmem S45x2x32x128 .f32} {m6 : Memref sig .tc .vmem S45x2x32x128 .f32} {m7 : Memref sig .tc .vmem S3072x640 .bf16} (h0 : m0.IsWhole) (h1 : m1.IsWhole) (h2 : m2.IsWhole) (h3 : m3.IsWhole) (h4 : m4.IsWhole) (h5 : m5.IsWhole) (h6 : m6.IsWhole) (h7 : m7.IsWhole) :
    ∀ k, (mems m0 m1 m2 m3 m4 m5 m6 m7 k).IsWhole
  | 0 => h0
  | 1 => h1
  | 2 => h2
  | 3 => h3
  | 4 => h4
  | 5 => h5
  | 6 => h6
  | 7 => h7

end Cert.Proof.Stats
-- ==== Proof.BodyKernel.lean ====
/-
  The two bodies of the program, as `Code` terms.
-/
module

public import proofs.«01_k».proof.Proof.Search
public import proofs.«01_k».proof.Proof.Stats
public import proofs.«01_k».proof.Kernel
public import Idealize.ShloMosaic.Lib.Pipeline.Regions

@[expose] public section

noncomputable section

namespace Cert.Proof.Exact

open Idealize.ShloMosaic Idealize.ShloMosaic.TcCoe Cert.Kernel

variable {F : FTy → Type} [BitOps F] [Facts]

/-- How the program reads the even and the odd rows of a block, and how it rounds a quantiser scale. -/
def reads : Search.Reads F where
  even v := bitcastToFloat .f32 (shli (bitcast S32x128 32 (bitcastToInt v) (by decide)) (broadcast S32x128 16#32))
  odd v := bitcastToFloat .f32 (andi (bitcast S32x128 32 (bitcastToInt v) (by decide)) (broadcast S32x128 4294901760#32))
  even' v := bitcastToFloat .f32 (shli (bitcast S32x256 32 (bitcastToInt v) (by decide)) (broadcast S32x256 16#32))
  odd' v := bitcastToFloat .f32 (andi (bitcast S32x256 32 (bitcastToInt v) (by decide)) (broadcast S32x256 4294901760#32))
  round s := extf .f32 (truncf .bf16 s (by decide))

/-- The statistics body. -/
theorem stats_eq (i : grid0.Coords) (arg1 : Memref sig .tc .vmem S3x2880x256 .bf16) (harg1 : arg1.IsWhole) (arg2 : Memref sig .tc .vmem S2880x640 .bf16) (harg2 : arg2.IsWhole) (arg3 : Memref sig .tc .vmem S768x640 .f32) (harg3 : arg3.IsWhole) (arg4 : Memref sig .tc .vmem S24x768x128 .bf16) (harg4 : arg4.IsWhole) (arg5 : Memref sig .tc .vmem S45x2x32x128 .f32) (harg5 : arg5.IsWhole) (arg6 : Memref sig .tc .vmem S45x2x32x128 .f32) (harg6 : arg6.IsWhole) (arg7 : Memref sig .tc .vmem S45x2x32x128 .f32) (harg7 : arg7.IsWhole) (arg8 : Memref sig .tc .vmem S3072x640 .bf16) (harg8 : arg8.IsWhole) :
    cc0_stats (F := F) i arg1 harg1 arg2 harg2 arg3 harg3 arg4 harg4 arg5 harg5 arg6 harg6 arg7 harg7 arg8 harg8 =
      (Stats.body (F := F) reads (i 0)).prog (Stats.mems arg1 arg2 arg3 arg4 arg5 arg6 arg7 arg8) (Stats.mems_whole harg1 harg2 harg3 harg4 harg5 harg6 harg7 harg8) := by
  chain_rfl

/-- The search body. -/
theorem search_eq (i : grid1.Coords) (arg2 : Memref sig .tc .vmem S24x768x128 .bf16) (harg2 : arg2.IsWhole) (arg3 : Memref sig .tc .vmem S45x2x32x128 .f32) (harg3 : arg3.IsWhole) (arg4 : Memref sig .tc .vmem S768x5760 .f32) (harg4 : arg4.IsWhole) (arg5 : Memref sig .tc .vmem S2880x640 .bf16) (harg5 : arg5.IsWhole) (arg6 : Memref sig .tc .vmem S20x5760 .f32) (harg6 : arg6.IsWhole) (arg7 : Memref sig .tc .vmem S2x1440x640 .i8) (harg7 : arg7.IsWhole) (arg8 : Memref sig .tc .vmem S2x45x640 .f32) (harg8 : arg8.IsWhole) (arg9 : Memref sig .tc .vmem S2x45x2x32x128 .f32) (harg9 : arg9.IsWhole) (arg10 : Memref sig .tc .vmem S2x45x2x32x128 .bf16) (harg10 : arg10.IsWhole) (arg11 : Memref sig .tc .vmem S2x45x2x32x128 .f32) (harg11 : arg11.IsWhole) (arg12 : Memref sig .tc .vmem S2x384x128 .f32) (harg12 : arg12.IsWhole) (arg13 : Memref sig .tc .vmem S2x2x48x128 .f32) (harg13 : arg13.IsWhole) (arg14 : Memref sig .tc .vmem S2x2x3072x128 .bf16) (harg14 : arg14.IsWhole) (arg15 : Memref sig .tc .vmem S45x20x128 .f32) (harg15 : arg15.IsWhole) :
    cc1_search (F := F) i arg2 harg2 arg3 harg3 arg4 harg4 arg5 harg5 arg6 harg6 arg7 harg7 arg8 harg8 arg9 harg9 arg10 harg10 arg11 harg11 arg12 harg12 arg13 harg13 arg14 harg14 arg15 harg15 =
      (Search.body (F := F) reads (i 0) (i 1)).prog (Search.mems arg2 arg3 arg4 arg5 arg6 arg7 arg8 arg9 arg10 arg11 arg12 arg13 arg14 arg15) (Search.mems_whole harg2 harg3 harg4 harg5 harg6 harg7 harg8 harg9 harg10 harg11 harg12 harg13 harg14 harg15) := by
  chain_rfl

end Cert.Proof.Exact
-- ==== Proof.Launch.lean ====
/-
  Running @main's kernel regions from any contents. A region entered with a core's unscoped buffers at a valuation `V` is left with
  them at some valuation that has every window's array at contents the region's proof data allows after the last grid point, and
  that agrees with `V` on every other buffer (`region_step`). Regions stepped one after another this way give a whole program's
  weakest precondition, which `launch` turns into the statement about every execution from a launch memory.
-/
module

public import Idealize.ShloMosaic.Lib.Pipeline.Frame
public import Idealize.ShloMosaic.Lib.Pipeline.FrameSuffix
public import Idealize.ShloMosaic.Lib.Pipeline.Regions
public import Idealize.ShloMosaic.Lib.Pipeline.RegionArrays
public import Idealize.ShloMosaic.Lib.Pipeline.RegionArraysF
public import Idealize.ShloMosaic.Lib.Pipeline.Kit

@[expose] public section

noncomputable section

namespace Cert.Proof.Launch

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type} [∀ e, Nonempty (Val e)]
variable {Λ₀ : Idealize.SL.Sem.Labels} {P : Type} [Fintype P] [DecidableEq P]

/-- The ghost state: one copy of the pipeline library's algebra for the launch theorem, one for the regions run here. -/
abbrev UU (nD : Nat) (τ : Topo) (sig : RefSig) : Type := UR sig nD τ × UR sig nD τ

local notation "𝕄" => MT nD τ sig Unit Val ℕ (UU nD τ sig) Unit

/-- No cell has a level. -/
abbrev L₀ : GSem nD τ sig → Finset Unit := fun _ => ∅
abbrev lv₀ : GSem nD τ sig → Unit → Unit := fun _ _ => ()

/-- A core's thread state between two regions: its unscoped buffers at `V`, nothing owed. -/
abbrev state (c : Dev nD) (V : Valuation τ sig Val) : sProp 𝕄 :=
  iprop(StableHlo.held (c.tc : Thread nD τ) (ucRefs τ sig) V ∗ ∃ W, owes (c.tc : Thread nD τ) (0 : CellTallies nD τ sig Unit) W)

section Step

variable (pcs : P → PCfg sig Λ₀ Val) (a : (p : P) → (pcs p).Adm)
variable (rdats : (p : P) → (c : Dev nD) → RDat τ Val Unit ℕ (UU nD τ sig) Unit (pin pcs a p) c)
variable (phinj : Function.Injective (cellOf (nD := nD) (τ := τ) (pin pcs a)))
variable (defs₀ : Defs nD τ sig Val Λ₀) (𝒱₀ : Variants)

/-- The second copy of the pipeline algebra. -/
abbrev EP : Emb (URounds (GSem nD τ sig) Unit) 𝕄 := embR

/-- The arrays at `A` and the other unscoped buffers at `V` are the unscoped buffers at `V` with the arrays replaced. -/
theorem left {p : P} (hw : WinFacts (pin pcs a p).spec) (harr : ∀ w, ((pin pcs a p).spec w).arr.IsWhole)
    (c : Dev nD) (hsh : ∀ w, (rdats p c).share w = fullShare) (V : Valuation τ sig Val)
    (A : (w : Fin (pin pcs a p).W) → Buf Val (((pin pcs a p).spec w).arr.view.loc (c.tc : Thread nD τ))) :
    iprop((rdats p c).arrays A ∗ unscopedRest (pin pcs a p).spec c (fun b => V b))
      ⊢ (StableHlo.held (c.tc : Thread nD τ) (ucRefs τ sig) (withArrays (pin pcs a p).spec c V A) : sProp 𝕄) := by
  have e1 := unscopedBufs_held (Ix := Unit) (Name := ℕ) (U := UU nD τ sig) (Lvl := Unit) c (withArrays (pin pcs a p).spec c V A)
  have e2 := unscopedBufs_split (Ix := Unit) (Name := ℕ) (U := UU nD τ sig) (Lvl := Unit) (pin pcs a) p hw.arr_unscoped hw.arr_inj c
    (fun b => withArrays (pin pcs a p).spec c V A (Proc.devRef .tc b))
  have e3 := RDat.arrays_eq pcs a rdats p c harr hsh A
  refine (show _ ⊢ _ from ?_ : BIBase.Entails _ _).trans (Entails.of_eq (e2.symm.trans e1))
  rw [e3]
  refine sep_mono (Entails.of_eq (bigSep_congr fun w _ => ?_)) (Entails.of_eq ?_)
  · exact congrArg (fun x => (_ ↦{fullShare} x : sProp 𝕄)) (withArrays_arr (pin pcs a p).spec hw.arr_inj c V A w).symm
  · unfold unscopedRest
    refine bigSep_congr fun b hb => ?_
    exact congrArg (fun x => (_ ↦{fullShare} x : sProp 𝕄)) (withArrays_of_ne (pin pcs a p).spec c V A b
      (fun w h => (Finset.mem_sdiff.mp hb).2 (Finset.mem_image.mpr ⟨w, Finset.mem_univ w, h⟩))).symm

/-- A region's record between two states of this module. -/
def record {p : P} (hw : WinFacts (pin pcs a p).spec) (harr : ∀ w, ((pin pcs a p).spec w).arr.IsWhole)
    (hbp : ∀ w : Fin (pin pcs a p).W, 0 < ((pin pcs a p).spec w).block.numel)
    (hst : ∀ (w : Fin (pin pcs a p).W) (s : Fin ((pin pcs a p).spec w).nbuf), (((pin pcs a p).spec w).stage s).IsWhole)
    (hK : (pcs p).pre.K = 0) (hsh : ∀ c w, (rdats p c).share w = fullShare) (ho : ∀ c t, (rdats p c).owed t = 0)
    (hr : ∀ c, (rdats p c).recorded 0 = Set.univ)
    (V : Valuation τ sig Val) (hA : ∀ c w, (rdats p c).A w = V (Proc.devRef .tc (arrRef (pin pcs a p).spec w)))
    (hbody : ∀ c, (rdats p c).BodyObligation defs₀ 𝒱₀ () Set.univ)
    (hin : ∀ c, (scopedRest (pin pcs a p).spec c : sProp 𝕄) ⊢ (rdats p c).Φ 0)
    (hout : ∀ c, (rdats p c).Φ (Fin.last (pin pcs a p).N) ⊢ (scopedRest (pin pcs a p).spec c : sProp 𝕄)) :
    RDat.RegionSeg pcs a rdats () defs₀ 𝒱₀ L₀ lv₀ p where
  win := hw.to₀
  block_pos := hbp
  stage_whole := hst
  K := PEmpty
  osem := fun k => k.elim
  ho := OwnSemFacts.none _
  hbody := hbody
  hwaits := RDat.hwaits_of_owed_zero pcs a rdats () L₀ lv₀ p ho
  pre c := state c V
  post c := iprop(∃ V' : Valuation τ sig Val, ⌜(∀ w, (rdats p c).ArrAt w (pin pcs a p).N (V' (Proc.devRef .tc (arrRef (pin pcs a p).spec w))))
    ∧ ∀ b : Ref sig .tc, (∀ w, arrRef (pin pcs a p).spec w ≠ b) → V' (Proc.devRef .tc b) = V (Proc.devRef .tc b)⌝ ∗ state c V')
  X _ := BI.emp
  Y _ := BI.emp
  Z c := unscopedRest (pin pcs a p).spec c (fun b => V b)
  hentry c := by
    rw [prefHeld_of_none _ hK]
    iintro ⟨⟨Hh, HO⟩, Hos, HL⟩
    ihave Hu := (show StableHlo.held (c.tc : Thread nD τ) (ucRefs τ sig) V ⊢ (unscopedBufs c (fun b => V b) : sProp 𝕄) from
      Entails.of_eq (unscopedBufs_held c V).symm) $$ Hh
    ihave Ha := (RDat.arrays_of_unscopedBufs pcs a rdats hw harr c (hsh c) (fun b => V b) (hA c)) $$ Hu
    icases Ha with ⟨Ha, Hz⟩
    imodintro
    isplitl [Ha]; · iexact Ha
    isplitr; · iempintro
    isplitl [HO]
    · unfold RDat.owesAt owesWithin RDat.bound
      rw [ho c 0, hr c]
      icases HO with ⟨%Wd, HO⟩; iexists Wd; isplitr; · ipureintro; exact fun _ _ => Or.inl trivial
      iexact HO
    isplitr; · iempintro
    iexact Hz
  hin c := by
    rw [prefHeld_of_none _ hK]
    iintro ⟨-, -, H⟩
    iapply (hin c) $$ H
  hout c := by
    iintro H
    isplitr; · iempintro
    isplitr
    · unfold ownSems0; rw [Finset.univ_eq_empty, BI.bigSep_empty]; iempintro
    iapply (hout c) $$ H
  hexit c := by
    unfold RDat.arraysAt
    iintro ⟨Ha, HO, -, Hz⟩
    ihave Ha := (BI.bigSep_exists_pi Finset.univ _) $$ Ha
    icases Ha with ⟨%A, Ha⟩
    ihave Ha := (BI.bigSep_pure_sep Finset.univ (fun w => (rdats p c).ArrAt w (pin pcs a p).N (A w)) _) $$ Ha
    icases Ha with ⟨%hA', Ha⟩
    imodintro
    iexists (withArrays (pin pcs a p).spec c V A)
    isplitr
    · ipureintro
      refine ⟨fun w => ?_, fun b hb => withArrays_of_ne _ c V A b hb⟩
      rw [withArrays_arr _ hw.arr_inj c V A w]
      exact hA' w (Finset.mem_univ w)
    isplitr [HO]
    · iapply (left pcs a rdats hw harr c (hsh c) V A)
      unfold RDat.arrays
      isplitl [Ha]; · iexact Ha
      iexact Hz
    · unfold RDat.owesAt owesWithin
      rw [ho c (Fin.last _)]
      icases HO with ⟨%Wd, -, HO⟩; iexists Wd; iexact HO

include phinj in
/-- A region from the unscoped buffers at `V`: what follows it runs from them at any valuation the region may leave. -/
theorem region_step {p : P} (hw : WinFacts (pin pcs a p).spec) (harr : ∀ w, ((pin pcs a p).spec w).arr.IsWhole)
    (hbp : ∀ w : Fin (pin pcs a p).W, 0 < ((pin pcs a p).spec w).block.numel)
    (hst : ∀ (w : Fin (pin pcs a p).W) (s : Fin ((pin pcs a p).spec w).nbuf), (((pin pcs a p).spec w).stage s).IsWhole)
    (hK : (pcs p).pre.K = 0) (hsh : ∀ c w, (rdats p c).share w = fullShare) (ho : ∀ c t, (rdats p c).owed t = 0)
    (hr : ∀ c, (rdats p c).recorded 0 = Set.univ)
    (V : Valuation τ sig Val) (hA : ∀ c w, (rdats p c).A w = V (Proc.devRef .tc (arrRef (pin pcs a p).spec w)))
    (hbody : ∀ c, (rdats p c).BodyObligation defs₀ 𝒱₀ () Set.univ)
    (hin : ∀ c, (scopedRest (pin pcs a p).spec c : sProp 𝕄) ⊢ (rdats p c).Φ 0)
    (hout : ∀ c, (rdats p c).Φ (Fin.last (pin pcs a p).N) ⊢ (scopedRest (pin pcs a p).spec c : sProp 𝕄))
    (c : Dev nD) {α : Type} (k : PUnit → Prog (TpuEff nD τ sig Val (Pipeline.Sig Λ₀ P fun p => (pcs p).Adm) .tc) α) (Q : α → sProp 𝕄) :
    iprop((∀ V' : Valuation τ sig Val, ⌜(∀ w, (rdats p c).ArrAt w (pin pcs a p).N (V' (Proc.devRef .tc (arrRef (pin pcs a p).spec w))))
          ∧ ∀ b : Ref sig .tc, (∀ w, arrRef (pin pcs a p).spec w ≠ b) → V' (Proc.devRef .tc b) = V (Proc.devRef .tc b)⌝
          -∗ iprop(boundary (c.tc : Thread nD τ) ∗ state c V') -∗ wp frame (wpE (Pipeline.defs pcs defs₀) (Variants.lift 𝒱₀) (c.tc : Thread nD τ) none) Set.univ (k ⟨⟩) Q)
        ∗ boundary (c.tc : Thread nD τ) ∗ state c V ∗ levAts L₀ lv₀
        ∗ cellsGhost (pin pcs a) EP p c ∗ toksInit (pin pcs a) EP p c)
      ⊢ wp frame (wpE (Pipeline.defs pcs defs₀) (Variants.lift 𝒱₀) (c.tc : Thread nD τ) none) Set.univ (.op (.customCall (entry p) ()) k) Q := by
  refine (show _ ⊢ _ from ?_ : BIBase.Entails _ _).trans (RDat.RegionSeg.wp pcs a rdats () phinj EP defs₀ 𝒱₀ L₀ lv₀
    (record pcs a rdats defs₀ 𝒱₀ hw harr hbp hst hK hsh ho hr V hA hbody hin hout) c none (fun _ h => nomatch h) k Q)
  dsimp only [record]
  iintro ⟨Hk, Hbd, Hst, Hla, Hg, Ht⟩
  isplitl [Hk]
  · iintro ⟨Hbd, ⟨%V', %hV', Hst⟩⟩
    iapply Hk $$ %V' %hV'
    isplitl [Hbd]; · iexact Hbd
    iexact Hst
  isplitl [Hbd]; · iexact Hbd
  isplitl [Hst]; · iexact Hst
  isplitl [Hla]; · iexact Hla
  isplitl [Hg]; · iexact Hg
  iexact Ht

end Step

section Whole

variable (pcs : P → PCfg sig Λ₀ Val) (a : (p : P) → (pcs p).Adm)
variable (rdats : (p : P) → (c : Dev nD) → RDat τ Val Unit ℕ (UU nD τ sig) Unit (pin pcs a p) c)
variable (phinj : Function.Injective (cellOf (nD := nD) (τ := τ) (pin pcs a)))
variable (defs₀ : Defs nD τ sig Val Λ₀) (𝒱₀ : Variants)

/-- What every region of a core still needs from the launch. -/
abbrev ghosts (c : Dev nD) : sProp 𝕄 :=
  iprop(bigSep Finset.univ (fun p => cellsGhost (pin pcs a) EP p c) ∗ bigSep Finset.univ (fun p => toksInit (pin pcs a) EP p c))

include rdats phinj in
/-- Every execution of `main` from the memory `m` ends, with the unscoped buffers at a valuation `fin` allows and every semaphore
    at zero, if on every core `main` takes the launch contents to such a valuation. -/
theorem launch (m : (ℓ : Loc nD τ sig) → Buf Val ℓ) (g : Dev nD → PrngReg)
    (main : Dev nD → Prog (TpuEff nD τ sig Val (Pipeline.Sig Λ₀ P fun p => (pcs p).Adm) .tc) PUnit)
    (body : Prog (TpuEff nD τ sig Val (Pipeline.Sig Λ₀ P fun p => (pcs p).Adm) .tc) PUnit) (hmain : ∀ c, main c = body)
    (fin : Dev nD → Valuation τ sig Val → Prop) (hsem : ∀ sm : SemLoc sig, sm.isScoped .tc = true)
    (hrun : ∀ (c : Dev nD) {β : Type} (k : PUnit → Prog (TpuEff nD τ sig Val (Pipeline.Sig Λ₀ P fun p => (pcs p).Adm) .tc) β) (K : β → sProp 𝕄),
      iprop((∀ V' : Valuation τ sig Val, ⌜fin c V'⌝ -∗ iprop(boundary (c.tc : Thread nD τ) ∗ state c V')
            -∗ wp frame (wpE (Pipeline.defs pcs defs₀) (Variants.lift 𝒱₀) (c.tc : Thread nD τ) none) Set.univ (k ⟨⟩) K)
          ∗ boundary (c.tc : Thread nD τ) ∗ state c (fun b => m (c, b)) ∗ levAts L₀ lv₀ ∗ ghosts pcs a c)
        ⊢ wp frame (wpE (Pipeline.defs pcs defs₀) (Variants.lift 𝒱₀) (c.tc : Thread nD τ) none) Set.univ (body >>= k) K) :
    θ_run (Pipeline.defs pcs defs₀) (onTc main) ⟨m, fun _ => 0, g⟩ (fun r => (∀ c : Dev nD, ∃ V', fin c V' ∧
      ∀ b : Ref sig .tc, b.isScoped = false → r.2.mem ((c.tc : Thread nD τ).loc b) = V' (Proc.devRef .tc b)) ∧ r.2.sem = fun _ => 0) := by
  let H : HostSeg (Ix := Unit) (Name := ℕ) (U := UU nD τ sig) (Lvl := Unit) pcs defs₀ 𝒱₀ L₀ lv₀ :=
    { prog := body
      pre := fun c => iprop(state c (fun b => m (c, b)) ∗ ghosts pcs a c)
      post := fun c => iprop((∃ V' : Valuation τ sig Val, ⌜fin c V'⌝ ∗ StableHlo.held (c.tc : Thread nD τ) (ucRefs τ sig) V')
        ∗ ∃ W, owes (c.tc : Thread nD τ) (0 : CellTallies nD τ sig Unit) W)
      run := fun c β k K => by
        refine (show _ ⊢ _ from ?_ : BIBase.Entails _ _).trans (hrun c k K)
        iintro ⟨Hk, Hbd, ⟨Hst, Hg⟩, Hla⟩
        isplitl [Hk]
        · iintro %V' %hV' ⟨Hbd, Hh, Ho⟩
          iapply Hk
          isplitl [Hbd]; · iexact Hbd
          isplitl [Hh]
          · iexists V'; isplitr; · ipureintro; exact hV'
            iexact Hh
          iexact Ho
        isplitl [Hbd]; · iexact Hbd
        isplitl [Hst]; · iexact Hst
        isplitl [Hla]; · iexact Hla
        iexact Hg }
  refine RDat.θ_run_regions_kit_dev_sems pcs a rdats () phinj (embL : Emb (URounds (GSem nD τ sig) Unit) 𝕄) defs₀ 𝒱₀ L₀ lv₀ m g main
    (fun _ => [.host H]) (fun c Q => ?_) (fun c => List.nodup_nil) 0 (fun _ _ => rfl) (ghosts pcs a)
    (initOf (cells (pin pcs a) phinj) (launchToks (pin pcs a) phinj), initOf (cells (pin pcs a) phinj) (launchToks (pin pcs a) phinj)) ?_
    (T₀ := H.pre) (Tₙ := fun c => iprop(∃ V' : Valuation τ sig Val, ⌜fin c V'⌝ ∗ StableHlo.held (c.tc : Thread nD τ) (ucRefs τ sig) V'))
    (hch := fun c => ⟨.rfl, .rfl⟩) (hinit := ?_)
    (QY := fun c s => ∃ V', fin c V' ∧ ∀ b : Ref sig .tc, b.isScoped = false → s.mem ((c.tc : Thread nD τ).loc b) = V' (Proc.devRef .tc b))
    (hfin := fun c s' => ?_) (hQ := fun _ h hz => ⟨h, funext fun g => hz g (.inr (hsem g.2))⟩)
  · rw [hmain c]
    show wp _ _ _ (body >>= fun _ => .ret ⟨⟩) Q ⊢ _
    rw [show (body >>= fun _ => Prog.ret ⟨⟩) = body from Prog.bind_pure body]
  · iintro Hu
    ihave Hu := (ownU_pair _ _) $$ Hu
    icases Hu with ⟨Hl, Hr⟩
    imod (fund_ghost (pin pcs a) (EP : Emb (URounds (GSem nD τ sig) Unit) 𝕄) phinj) $$ Hr with Hr
    imodintro
    isplitl [Hl]; · iexact Hl
    unfold ghosts
    rw [bigSep_sep']
    iexact Hr
  · have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred 0 c ∗ prngReg c (g c) ∗ ghosts pcs a c))
        ⊢ (bigSep Finset.univ fun c : Dev nD => iprop(state c (fun b => m (c, b)) ∗ ghosts pcs a c) : sProp 𝕄) :=
      bigSep_mono fun c _ => by
        show BIBase.Entails _ (iprop((StableHlo.held (c.tc : Thread nD τ) (ucRefs τ sig) (fun b => m (c, b)) ∗ _) ∗ _))
        rw [show StableHlo.held (c.tc : Thread nD τ) (ucRefs τ sig) (fun b => m (c, b)) = (unscopedBufs c (fun b => m ((c.tc : Thread nD τ).loc b)) : sProp 𝕄)
          from (unscopedBufs_held c (fun b => m (c, b))).symm]
        show BIBase.Entails _ _
        iintro ⟨Hu, -, Ho, -, -, Hg⟩
        isplitl [Hu Ho]
        · isplitl [Hu]; · iexact Hu
          iexists _; iexact Ho
        iexact Hg
    iintro ⟨H, -⟩
    imodintro
    iapply hsplit $$ H
  · unfold StableHlo.held
    iintro ⟨⟨%V', %hV', Hh⟩, HSI⟩
    ihave Hr := (pointsTo_read_all (ucRefs τ sig) (fun b => ((c.tc : Thread nD τ).1, b)) V' s') $$ [Hh HSI]
    · isplitl [Hh] <;> iassumption
    icases Hr with ⟨%h, HSI⟩
    imodintro
    isplitr
    · ipureintro
      exact ⟨V', hV', fun b hb => h (Proc.devRef .tc b) (Finset.mem_filter.mpr ⟨StableHlo.devRef_mem_tcRefs b, by simpa using hb⟩)⟩
    · iexact HSI

end Whole

end Cert.Proof.Launch

end

end
-- ==== Proof.RunKernel.lean ====
/-
  Running the exact program. For each of the two regions: proof data whose invariant is any predicate `inv` on the values held in the
  scratch buffers and whose windows are left as any relation `after` says, and its body obligation, from one step of the body as a
  function on values (`Step0`, `Step1`). Then the whole program (`run`).
-/
module

public import proofs.«01_k».proof.Proof.BodyKernel
public import proofs.«01_k».proof.Proof.Launch
public import Idealize.ShloMosaic.Lib.StableHlo.RunHlo
public import proofs.«01_k».proof.Proof.Gen.Kernel.Launch
public import proofs.«01_k».proof.Proof.Gen.Kernel.Regions
public import proofs.«01_k».proof.Proof.Gen.Kernel.Points

@[expose] public section

noncomputable section

namespace Cert.Proof.Exact

open Cert.Kernel
open Cert.Kernel.Gen (winFacts0 winFacts1 arr_whole0 arr_whole1 block_pos0 block_pos1 stage_whole0 stage_whole1 cellOf_inj bigSep_W0 bigSep_W1 scopedRest0_eq scopedRest1_eq hostOps0 hostOps0_sub hostOps0_fresh main_chain adm)
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)
open Cert.Proof.Launch (UU EP L₀ lv₀ state)

variable {F : FTy → Type} [BitOps F]

local notation "𝕄" => MT nD τ sig Unit (Elt F) ℕ (UU nD τ sig) Unit

/-- A buffer at some contents is held whole at the value it reads as. -/
theorem whole_owns (c : Dev nD) (b : Ref sig .tc) (f : Buf (Elt F) ((c : Thread nD τ).loc b)) :
    (((c : Thread nD τ).loc b) ↦{fullShare} f : sProp 𝕄) ⊢ owns (c : Thread nD τ) (Memref.whole b) fullShare ((Memref.whole b).view.read (Elt F) f) := by
  unfold owns
  iintro H
  iexists f
  isplitr; · ipureintro; rfl
  rw [(Memref.isWhole_whole b).set_eq_univ]
  iexact H

theorem owns_any (c : Dev nD) (b : Ref sig .tc) (X) :
    (owns (c : Thread nD τ) (Memref.whole b) fullShare X : sProp 𝕄) ⊢ iprop(∃ f : Buf (Elt F) ((c : Thread nD τ).loc b), ((c : Thread nD τ).loc b) ↦{fullShare} f) := by
  unfold owns
  iintro ⟨%f, -, H⟩
  iexists f
  rw [(Memref.isWhole_whole b).set_eq_univ]
  iexact H

/-! ## Region 0 -/

/-- The values a body starts from: the windows' at `Y`, the scratch buffers' at `H`. -/
def heap0 (Y : (w : Fin cfg0.W) → (cfg0.win w).block.Idx → Elt F (cfg0.win w).elt) (H : Heap Stats.shp Stats.elt (Elt F)) : Heap Stats.shp Stats.elt (Elt F)
  | 0 => Y 0
  | 1 => Y 1
  | 2 => Y 2
  | 3 => Y 3
  | 4 => Y 4
  | 5 => H 5
  | 6 => H 6
  | 7 => H 7

/-- The windows' values among all the body's. -/
def win0 (H : Heap Stats.shp Stats.elt (Elt F)) : (w : Fin cfg0.W) → (cfg0.win w).block.Idx → Elt F (cfg0.win w).elt
  | 0 => H 0
  | 1 => H 1
  | 2 => H 2
  | 3 => H 3
  | 4 => H 4
  | ⟨_ + 5, h⟩ => absurd h (Nat.not_lt.2 (Nat.le_add_left _ _))

/-- What the body at point `t` leaves. -/
def out0 (t : Fin cfg0.N) (Y : (w : Fin cfg0.W) → (cfg0.win w).block.Idx → Elt F (cfg0.win w).elt) (H : Heap Stats.shp Stats.elt (Elt F)) : Heap Stats.shp Stats.elt (Elt F) :=
  ((Stats.body (F := F) reads ((grid0.coords t) 0)).run (heap0 Y H)).2

/-- The core's other on-chip buffers, at any contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f) ∗ (∃ f : Buf (Elt F) ((c : Thread nD τ).loc cc1_scratch4), ((c : Thread nD τ).loc cc1_scratch4) ↦{fullShare} f) ∗ (∃ f : Buf (Elt F) ((c : Thread nD τ).loc cc1_scratch5), ((c : Thread nD τ).loc cc1_scratch5) ↦{fullShare} f) ∗ (∃ f : Buf (Elt F) ((c : Thread nD τ).loc cc1_scratch6), ((c : Thread nD τ).loc cc1_scratch6) ↦{fullShare} f))

/-- The scratch buffers at the values `H`. -/
def scratch0 (c : Dev nD) (H : Heap Stats.shp Stats.elt (Elt F)) : sProp 𝕄 :=
  iprop(owns (c : Thread nD τ) (Memref.whole cc0_scratch0) fullShare (H 5) ∗ owns (c : Thread nD τ) (Memref.whole cc0_scratch1) fullShare (H 6) ∗ owns (c : Thread nD τ) (Memref.whole cc0_scratch2) fullShare (H 7))

/-- The proof data of region 0 entered at `V`. -/
def rdat0 (V : Valuation τ sig (Elt F)) (inv : ℕ → Heap Stats.shp Stats.elt (Elt F) → Prop)
    (after : (w : Fin cfg0.W) → Fin cfg0.N → ((cfg0.win w).block.Idx → Elt F (cfg0.win w).elt) → ((cfg0.win w).block.Idx → Elt F (cfg0.win w).elt) → Prop)
    (c : Dev nD) : RDat τ (Elt F) Unit ℕ (UU nD τ sig) Unit cfg0 c where
  A w := V (Proc.devRef .tc (Pipeline.arrRef spec0 w))
  after := after
  Φ t := iprop((∃ H, ⌜inv t.val H⌝ ∗ scratch0 c H) ∗ rest0 c)
  q _ := fullShare
  owed _ := 0

/-- One point as a function on values: from windows found as the pipeline may hand them over and scratch values the invariant
allows, the scratch values left are allowed at the next point and every window is left as `after` says. -/
def Step0 (V : Valuation τ sig (Elt F)) (inv : ℕ → Heap Stats.shp Stats.elt (Elt F) → Prop)
    (after : (w : Fin cfg0.W) → Fin cfg0.N → ((cfg0.win w).block.Idx → Elt F (cfg0.win w).elt) → ((cfg0.win w).block.Idx → Elt F (cfg0.win w).elt) → Prop) : Prop :=
  ∀ (c : Dev nD) (t : Fin cfg0.N) (Y : (w : Fin cfg0.W) → (cfg0.win w).block.Idx → Elt F (cfg0.win w).elt) (H : Heap Stats.shp Stats.elt (Elt F)),
    (∀ w, (rdat0 V inv after c).Finds w t (Y w)) → inv t.val H →
    inv (t.val + 1) (out0 t Y H) ∧ ∀ w, after w t (Y w) (win0 (out0 t Y H) w)

/-- The body as the pipeline calls it is the body as a term. -/
theorem call0 (t : Fin cfg0.N) : defs₀ (F := F) .tc cfg0.body (cfg0.bodyArgs t (cfg0.slots t)) =
    (Stats.body (F := F) reads ((grid0.coords t) 0)).prog (Stats.mems (win0_0.stage (cfg0.slots t 0)) (win0_1.stage (cfg0.slots t 1)) (win0_2.stage (cfg0.slots t 2)) (win0_3.stage (cfg0.slots t 3)) (win0_4.stage (cfg0.slots t 4)) (Memref.whole cc0_scratch0) (Memref.whole cc0_scratch1) (Memref.whole cc0_scratch2)) (Stats.mems_whole (Gen.hstage0_0 ((cfg0.slots t 0).cast Gen.nbuf0_0)) (Gen.hstage0_1 ((cfg0.slots t 1).cast Gen.nbuf0_1)) (Gen.hstage0_2 ((cfg0.slots t 2).cast Gen.nbuf0_2)) (Gen.hstage0_3 ((cfg0.slots t 3).cast Gen.nbuf0_3)) (Gen.hstage0_4 ((cfg0.slots t 4).cast Gen.nbuf0_4)) (Memref.isWhole_whole _) (Memref.isWhole_whole _) (Memref.isWhole_whole _)) :=
  stats_eq (F := F) (grid0.coords t) (win0_0.stage (cfg0.slots t 0)) (Gen.hstage0_0 ((cfg0.slots t 0).cast Gen.nbuf0_0)) (win0_1.stage (cfg0.slots t 1)) (Gen.hstage0_1 ((cfg0.slots t 1).cast Gen.nbuf0_1)) (win0_2.stage (cfg0.slots t 2)) (Gen.hstage0_2 ((cfg0.slots t 2).cast Gen.nbuf0_2)) (win0_3.stage (cfg0.slots t 3)) (Gen.hstage0_3 ((cfg0.slots t 3).cast Gen.nbuf0_3)) (win0_4.stage (cfg0.slots t 4)) (Gen.hstage0_4 ((cfg0.slots t 4).cast Gen.nbuf0_4)) (Memref.whole cc0_scratch0) (Memref.isWhole_whole _) (Memref.whole cc0_scratch1) (Memref.isWhole_whole _) (Memref.whole cc0_scratch2) (Memref.isWhole_whole _)

/-- All the memrefs of the body's, held at the values of `H`, one by one. -/
theorem own0 (c : Dev nD) (t : Fin cfg0.N) (H : Heap Stats.shp Stats.elt (Elt F)) :
    (ownF (c : Thread nD τ) (Stats.mems (win0_0.stage (cfg0.slots t 0)) (win0_1.stage (cfg0.slots t 1)) (win0_2.stage (cfg0.slots t 2)) (win0_3.stage (cfg0.slots t 3)) (win0_4.stage (cfg0.slots t 4)) (Memref.whole cc0_scratch0) (Memref.whole cc0_scratch1) (Memref.whole cc0_scratch2)) H : sProp 𝕄)
      = iprop(owns (c : Thread nD τ) (win0_0.stage (cfg0.slots t 0)) fullShare (H 0) ∗ owns (c : Thread nD τ) (win0_1.stage (cfg0.slots t 1)) fullShare (H 1) ∗ owns (c : Thread nD τ) (win0_2.stage (cfg0.slots t 2)) fullShare (H 2) ∗ owns (c : Thread nD τ) (win0_3.stage (cfg0.slots t 3)) fullShare (H 3) ∗ owns (c : Thread nD τ) (win0_4.stage (cfg0.slots t 4)) fullShare (H 4) ∗ owns (c : Thread nD τ) (Memref.whole cc0_scratch0) fullShare (H 5) ∗ owns (c : Thread nD τ) (Memref.whole cc0_scratch1) fullShare (H 6) ∗ owns (c : Thread nD τ) (Memref.whole cc0_scratch2) fullShare (H 7)) := by
  unfold ownF
  rw [BI.bigSep_univ_eq_bigSepL [(0 : Fin 8), (1 : Fin 8), (2 : Fin 8), (3 : Fin 8), (4 : Fin 8), (5 : Fin 8), (6 : Fin 8), (7 : Fin 8)] (by decide) (by decide)]
  rfl

/-- The body obligation, from one step on values. -/
theorem body0 (V : Valuation τ sig (Elt F)) (inv : ℕ → Heap Stats.shp Stats.elt (Elt F) → Prop)
    (after : (w : Fin cfg0.W) → Fin cfg0.N → ((cfg0.win w).block.Idx → Elt F (cfg0.win w).elt) → ((cfg0.win w).block.Idx → Elt F (cfg0.win w).elt) → Prop)
    (h : Step0 V inv after) (c : Dev nD) : (rdat0 V inv after c).BodyObligation defs₀ Variants.none () Set.univ := by
  intro t Y hY
  have T := fun H : Heap Stats.shp Stats.elt (Elt F) => Code.tri (defs := defs₀ (F := F)) (Γ := .empty) (Ix := Unit) (Name := ℕ) (U := UU nD τ sig) (Lvl := Unit) Variants.none c none Set.univ
    (Stats.mems (win0_0.stage (cfg0.slots t 0)) (win0_1.stage (cfg0.slots t 1)) (win0_2.stage (cfg0.slots t 2)) (win0_3.stage (cfg0.slots t 3)) (win0_4.stage (cfg0.slots t 4)) (Memref.whole cc0_scratch0) (Memref.whole cc0_scratch1) (Memref.whole cc0_scratch2)) (Stats.mems_whole (Gen.hstage0_0 ((cfg0.slots t 0).cast Gen.nbuf0_0)) (Gen.hstage0_1 ((cfg0.slots t 1).cast Gen.nbuf0_1)) (Gen.hstage0_2 ((cfg0.slots t 2).cast Gen.nbuf0_2)) (Gen.hstage0_3 ((cfg0.slots t 3).cast Gen.nbuf0_3)) (Gen.hstage0_4 ((cfg0.slots t 4).cast Gen.nbuf0_4)) (Memref.isWhole_whole _) (Memref.isWhole_whole _) (Memref.isWhole_whole _)) (Stats.body (F := F) reads ((grid0.coords t) 0)) (heap0 Y H)
  rw [call0 t]
  show BIBase.Entails (iprop(((∃ H, ⌜inv t.val H⌝ ∗ scratch0 c H) ∗ rest0 c) ∗ _ ∗ _)) _
  rw [bigSep_W0]
  iintro ⟨⟨⟨%H, %hH, HS⟩, HR⟩, HO, HW⟩
  have hs := h c t Y H hY hH
  iapply (T H _)
  rw [own0 c t (heap0 Y H), own0 c t _]
  unfold scratch0
  icases HW with ⟨W0, W1, W2, W3, W4⟩
  icases HS with ⟨S0, S1, S2⟩
  isplitl [W0 W1 W2 W3 W4 S0 S1 S2]
  · isplitl [W0]; · iexact W0
    isplitl [W1]; · iexact W1
    isplitl [W2]; · iexact W2
    isplitl [W3]; · iexact W3
    isplitl [W4]; · iexact W4
    isplitl [S0]; · iexact S0
    isplitl [S1]; · iexact S1
    iexact S2
  iintro ⟨W0, W1, W2, W3, W4, S0, S1, S2⟩
  rw [show (rdat0 V inv after c).Φ t.succ = iprop((∃ H, ⌜inv (t.val + 1) H⌝ ∗ scratch0 c H) ∗ rest0 c) from rfl]
  unfold scratch0
  isplitl [S0 S1 S2 HR]
  · isplitl [S0 S1 S2]
    · iexists (out0 t Y H)
      isplitr; · ipureintro; exact hs.1
      isplitl [S0]; · iexact S0
      isplitl [S1]; · iexact S1
      iexact S2
    iexact HR
  isplitl [HO]; · iexact HO
  rw [bigSep_W0]
  isplitl [W0]
  · iexists (win0 (out0 t Y H) 0); isplitr; · ipureintro; exact hs.2 0
    iexact W0
  isplitl [W1]
  · iexists (win0 (out0 t Y H) 1); isplitr; · ipureintro; exact hs.2 1
    iexact W1
  isplitl [W2]
  · iexists (win0 (out0 t Y H) 2); isplitr; · ipureintro; exact hs.2 2
    iexact W2
  isplitl [W3]
  · iexists (win0 (out0 t Y H) 3); isplitr; · ipureintro; exact hs.2 3
    iexact W3
  iexists (win0 (out0 t Y H) 4); isplitr; · ipureintro; exact hs.2 4
  iexact W4

/-- At entry every on-chip buffer is at some contents. -/
theorem enter0 (V : Valuation τ sig (Elt F)) (inv : ℕ → Heap Stats.shp Stats.elt (Elt F) → Prop) (after) (h0 : ∀ H, inv 0 H) (c : Dev nD) :
    (Pipeline.scopedRest spec0 c : sProp 𝕄) ⊢ (rdat0 V inv after c).Φ 0 := by
  rw [show (Pipeline.scopedRest spec0 c : sProp 𝕄) = _ from scopedRest0_eq c]
  show BIBase.Entails _ (iprop((∃ H, ⌜inv 0 H⌝ ∗ scratch0 c H) ∗ rest0 c))
  unfold scratch0 rest0
  iintro ⟨⟨%fscratch0, Sscratch0⟩, ⟨%fscratch1, Sscratch1⟩, ⟨%fscratch2, Sscratch2⟩, Rstg0_0, Rstg1_0, Rstg2_0, Rstg3_0, Rstg3_1, Rstg4_0, Rstg5_0, Rstg5_1, Rstg6_0, Rstg6_1, Rscratch0, Rscratch1, Rscratch2, Rscratch3, Rscratch4, Rscratch5, Rscratch6⟩
  isplitl [Sscratch0 Sscratch1 Sscratch2]
  · iexists (fun
      | 0 => fun _ => Classical.choice inferInstance
      | 1 => fun _ => Classical.choice inferInstance
      | 2 => fun _ => Classical.choice inferInstance
      | 3 => fun _ => Classical.choice inferInstance
      | 4 => fun _ => Classical.choice inferInstance
      | 5 => (Memref.whole cc0_scratch0).view.read (Elt F) fscratch0
      | 6 => (Memref.whole cc0_scratch1).view.read (Elt F) fscratch1
      | 7 => (Memref.whole cc0_scratch2).view.read (Elt F) fscratch2)
    isplitr; · ipureintro; exact h0 _
    isplitl [Sscratch0]
    · iapply (whole_owns c cc0_scratch0 fscratch0); iexact Sscratch0
    isplitl [Sscratch1]
    · iapply (whole_owns c cc0_scratch1 fscratch1); iexact Sscratch1
    iapply (whole_owns c cc0_scratch2 fscratch2); iexact Sscratch2
  isplitl [Rstg0_0]; · iexact Rstg0_0
  isplitl [Rstg1_0]; · iexact Rstg1_0
  isplitl [Rstg2_0]; · iexact Rstg2_0
  isplitl [Rstg3_0]; · iexact Rstg3_0
  isplitl [Rstg3_1]; · iexact Rstg3_1
  isplitl [Rstg4_0]; · iexact Rstg4_0
  isplitl [Rstg5_0]; · iexact Rstg5_0
  isplitl [Rstg5_1]; · iexact Rstg5_1
  isplitl [Rstg6_0]; · iexact Rstg6_0
  isplitl [Rstg6_1]; · iexact Rstg6_1
  isplitl [Rscratch0]; · iexact Rscratch0
  isplitl [Rscratch1]; · iexact Rscratch1
  isplitl [Rscratch2]; · iexact Rscratch2
  isplitl [Rscratch3]; · iexact Rscratch3
  isplitl [Rscratch4]; · iexact Rscratch4
  isplitl [Rscratch5]; · iexact Rscratch5
  iexact Rscratch6

/-- At exit every on-chip buffer is at some contents. -/
theorem leave0 (V : Valuation τ sig (Elt F)) (inv : ℕ → Heap Stats.shp Stats.elt (Elt F) → Prop) (after) (c : Dev nD) :
    (rdat0 V inv after c).Φ (Fin.last _) ⊢ (Pipeline.scopedRest spec0 c : sProp 𝕄) := by
  rw [show (Pipeline.scopedRest spec0 c : sProp 𝕄) = _ from scopedRest0_eq c]
  show BIBase.Entails (iprop((∃ H, ⌜inv _ H⌝ ∗ scratch0 c H) ∗ rest0 c)) _
  unfold scratch0 rest0
  iintro ⟨⟨%H, -, Sscratch0, Sscratch1, Sscratch2⟩, Rstg0_0, Rstg1_0, Rstg2_0, Rstg3_0, Rstg3_1, Rstg4_0, Rstg5_0, Rstg5_1, Rstg6_0, Rstg6_1, Rscratch0, Rscratch1, Rscratch2, Rscratch3, Rscratch4, Rscratch5, Rscratch6⟩
  isplitl [Sscratch0]
  · iapply (owns_any c cc0_scratch0 _); iexact Sscratch0
  isplitl [Sscratch1]
  · iapply (owns_any c cc0_scratch1 _); iexact Sscratch1
  isplitl [Sscratch2]
  · iapply (owns_any c cc0_scratch2 _); iexact Sscratch2
  isplitl [Rstg0_0]
  · iexact Rstg0_0
  isplitl [Rstg1_0]
  · iexact Rstg1_0
  isplitl [Rstg2_0]
  · iexact Rstg2_0
  isplitl [Rstg3_0]
  · iexact Rstg3_0
  isplitl [Rstg3_1]
  · iexact Rstg3_1
  isplitl [Rstg4_0]
  · iexact Rstg4_0
  isplitl [Rstg5_0]
  · iexact Rstg5_0
  isplitl [Rstg5_1]
  · iexact Rstg5_1
  isplitl [Rstg6_0]
  · iexact Rstg6_0
  isplitl [Rstg6_1]
  · iexact Rstg6_1
  isplitl [Rscratch0]
  · iexact Rscratch0
  isplitl [Rscratch1]
  · iexact Rscratch1
  isplitl [Rscratch2]
  · iexact Rscratch2
  isplitl [Rscratch3]
  · iexact Rscratch3
  isplitl [Rscratch4]
  · iexact Rscratch4
  isplitl [Rscratch5]
  · iexact Rscratch5
  iexact Rscratch6

/-! ## Region 1 -/

/-- The values a body starts from: the windows' at `Y`, the scratch buffers' at `H`. -/
def heap1 (Y : (w : Fin cfg1.W) → (cfg1.win w).block.Idx → Elt F (cfg1.win w).elt) (H : Heap Search.shp Search.elt (Elt F)) : Heap Search.shp Search.elt (Elt F)
  | 0 => Y 0
  | 1 => Y 1
  | 2 => Y 2
  | 3 => Y 3
  | 4 => Y 4
  | 5 => Y 5
  | 6 => Y 6
  | 7 => H 7
  | 8 => H 8
  | 9 => H 9
  | 10 => H 10
  | 11 => H 11
  | 12 => H 12
  | 13 => H 13

/-- The windows' values among all the body's. -/
def win1 (H : Heap Search.shp Search.elt (Elt F)) : (w : Fin cfg1.W) → (cfg1.win w).block.Idx → Elt F (cfg1.win w).elt
  | 0 => H 0
  | 1 => H 1
  | 2 => H 2
  | 3 => H 3
  | 4 => H 4
  | 5 => H 5
  | 6 => H 6
  | ⟨_ + 7, h⟩ => absurd h (Nat.not_lt.2 (Nat.le_add_left _ _))

/-- What the body at point `t` leaves. -/
def out1 (t : Fin cfg1.N) (Y : (w : Fin cfg1.W) → (cfg1.win w).block.Idx → Elt F (cfg1.win w).elt) (H : Heap Search.shp Search.elt (Elt F)) : Heap Search.shp Search.elt (Elt F) :=
  ((Search.body (F := F) reads ((grid1.coords t) 0) ((grid1.coords t) 1)).run (heap1 Y H)).2

/-- The core's other on-chip buffers, at any contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f))

/-- The scratch buffers at the values `H`. -/
def scratch1 (c : Dev nD) (H : Heap Search.shp Search.elt (Elt F)) : sProp 𝕄 :=
  iprop(owns (c : Thread nD τ) (Memref.whole cc1_scratch0) fullShare (H 7) ∗ owns (c : Thread nD τ) (Memref.whole cc1_scratch1) fullShare (H 8) ∗ owns (c : Thread nD τ) (Memref.whole cc1_scratch2) fullShare (H 9) ∗ owns (c : Thread nD τ) (Memref.whole cc1_scratch3) fullShare (H 10) ∗ owns (c : Thread nD τ) (Memref.whole cc1_scratch4) fullShare (H 11) ∗ owns (c : Thread nD τ) (Memref.whole cc1_scratch5) fullShare (H 12) ∗ owns (c : Thread nD τ) (Memref.whole cc1_scratch6) fullShare (H 13))

/-- The proof data of region 1 entered at `V`. -/
def rdat1 (V : Valuation τ sig (Elt F)) (inv : ℕ → Heap Search.shp Search.elt (Elt F) → Prop)
    (after : (w : Fin cfg1.W) → Fin cfg1.N → ((cfg1.win w).block.Idx → Elt F (cfg1.win w).elt) → ((cfg1.win w).block.Idx → Elt F (cfg1.win w).elt) → Prop)
    (c : Dev nD) : RDat τ (Elt F) Unit ℕ (UU nD τ sig) Unit cfg1 c where
  A w := V (Proc.devRef .tc (Pipeline.arrRef spec1 w))
  after := after
  Φ t := iprop((∃ H, ⌜inv t.val H⌝ ∗ scratch1 c H) ∗ rest1 c)
  q _ := fullShare
  owed _ := 0

/-- One point as a function on values: from windows found as the pipeline may hand them over and scratch values the invariant
allows, the scratch values left are allowed at the next point and every window is left as `after` says. -/
def Step1 (V : Valuation τ sig (Elt F)) (inv : ℕ → Heap Search.shp Search.elt (Elt F) → Prop)
    (after : (w : Fin cfg1.W) → Fin cfg1.N → ((cfg1.win w).block.Idx → Elt F (cfg1.win w).elt) → ((cfg1.win w).block.Idx → Elt F (cfg1.win w).elt) → Prop) : Prop :=
  ∀ (c : Dev nD) (t : Fin cfg1.N) (Y : (w : Fin cfg1.W) → (cfg1.win w).block.Idx → Elt F (cfg1.win w).elt) (H : Heap Search.shp Search.elt (Elt F)),
    (∀ w, (rdat1 V inv after c).Finds w t (Y w)) → inv t.val H →
    inv (t.val + 1) (out1 t Y H) ∧ ∀ w, after w t (Y w) (win1 (out1 t Y H) w)

/-- The body as the pipeline calls it is the body as a term. -/
theorem call1 (t : Fin cfg1.N) : defs₀ (F := F) .tc cfg1.body (cfg1.bodyArgs t (cfg1.slots t)) =
    (Search.body (F := F) reads ((grid1.coords t) 0) ((grid1.coords t) 1)).prog (Search.mems (win1_0.stage (cfg1.slots t 0)) (win1_1.stage (cfg1.slots t 1)) (win1_2.stage (cfg1.slots t 2)) (win1_3.stage (cfg1.slots t 3)) (win1_4.stage (cfg1.slots t 4)) (win1_5.stage (cfg1.slots t 5)) (win1_6.stage (cfg1.slots t 6)) (Memref.whole cc1_scratch0) (Memref.whole cc1_scratch1) (Memref.whole cc1_scratch2) (Memref.whole cc1_scratch3) (Memref.whole cc1_scratch4) (Memref.whole cc1_scratch5) (Memref.whole cc1_scratch6)) (Search.mems_whole (Gen.hstage1_0 ((cfg1.slots t 0).cast Gen.nbuf1_0)) (Gen.hstage1_1 ((cfg1.slots t 1).cast Gen.nbuf1_1)) (Gen.hstage1_2 ((cfg1.slots t 2).cast Gen.nbuf1_2)) (Gen.hstage1_3 ((cfg1.slots t 3).cast Gen.nbuf1_3)) (Gen.hstage1_4 ((cfg1.slots t 4).cast Gen.nbuf1_4)) (Gen.hstage1_5 ((cfg1.slots t 5).cast Gen.nbuf1_5)) (Gen.hstage1_6 ((cfg1.slots t 6).cast Gen.nbuf1_6)) (Memref.isWhole_whole _) (Memref.isWhole_whole _) (Memref.isWhole_whole _) (Memref.isWhole_whole _) (Memref.isWhole_whole _) (Memref.isWhole_whole _) (Memref.isWhole_whole _)) :=
  search_eq (F := F) (grid1.coords t) (win1_0.stage (cfg1.slots t 0)) (Gen.hstage1_0 ((cfg1.slots t 0).cast Gen.nbuf1_0)) (win1_1.stage (cfg1.slots t 1)) (Gen.hstage1_1 ((cfg1.slots t 1).cast Gen.nbuf1_1)) (win1_2.stage (cfg1.slots t 2)) (Gen.hstage1_2 ((cfg1.slots t 2).cast Gen.nbuf1_2)) (win1_3.stage (cfg1.slots t 3)) (Gen.hstage1_3 ((cfg1.slots t 3).cast Gen.nbuf1_3)) (win1_4.stage (cfg1.slots t 4)) (Gen.hstage1_4 ((cfg1.slots t 4).cast Gen.nbuf1_4)) (win1_5.stage (cfg1.slots t 5)) (Gen.hstage1_5 ((cfg1.slots t 5).cast Gen.nbuf1_5)) (win1_6.stage (cfg1.slots t 6)) (Gen.hstage1_6 ((cfg1.slots t 6).cast Gen.nbuf1_6)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _)

/-- All the memrefs of the body's, held at the values of `H`, one by one. -/
theorem own1 (c : Dev nD) (t : Fin cfg1.N) (H : Heap Search.shp Search.elt (Elt F)) :
    (ownF (c : Thread nD τ) (Search.mems (win1_0.stage (cfg1.slots t 0)) (win1_1.stage (cfg1.slots t 1)) (win1_2.stage (cfg1.slots t 2)) (win1_3.stage (cfg1.slots t 3)) (win1_4.stage (cfg1.slots t 4)) (win1_5.stage (cfg1.slots t 5)) (win1_6.stage (cfg1.slots t 6)) (Memref.whole cc1_scratch0) (Memref.whole cc1_scratch1) (Memref.whole cc1_scratch2) (Memref.whole cc1_scratch3) (Memref.whole cc1_scratch4) (Memref.whole cc1_scratch5) (Memref.whole cc1_scratch6)) H : sProp 𝕄)
      = iprop(owns (c : Thread nD τ) (win1_0.stage (cfg1.slots t 0)) fullShare (H 0) ∗ owns (c : Thread nD τ) (win1_1.stage (cfg1.slots t 1)) fullShare (H 1) ∗ owns (c : Thread nD τ) (win1_2.stage (cfg1.slots t 2)) fullShare (H 2) ∗ owns (c : Thread nD τ) (win1_3.stage (cfg1.slots t 3)) fullShare (H 3) ∗ owns (c : Thread nD τ) (win1_4.stage (cfg1.slots t 4)) fullShare (H 4) ∗ owns (c : Thread nD τ) (win1_5.stage (cfg1.slots t 5)) fullShare (H 5) ∗ owns (c : Thread nD τ) (win1_6.stage (cfg1.slots t 6)) fullShare (H 6) ∗ owns (c : Thread nD τ) (Memref.whole cc1_scratch0) fullShare (H 7) ∗ owns (c : Thread nD τ) (Memref.whole cc1_scratch1) fullShare (H 8) ∗ owns (c : Thread nD τ) (Memref.whole cc1_scratch2) fullShare (H 9) ∗ owns (c : Thread nD τ) (Memref.whole cc1_scratch3) fullShare (H 10) ∗ owns (c : Thread nD τ) (Memref.whole cc1_scratch4) fullShare (H 11) ∗ owns (c : Thread nD τ) (Memref.whole cc1_scratch5) fullShare (H 12) ∗ owns (c : Thread nD τ) (Memref.whole cc1_scratch6) fullShare (H 13)) := by
  unfold ownF
  rw [BI.bigSep_univ_eq_bigSepL [(0 : Fin 14), (1 : Fin 14), (2 : Fin 14), (3 : Fin 14), (4 : Fin 14), (5 : Fin 14), (6 : Fin 14), (7 : Fin 14), (8 : Fin 14), (9 : Fin 14), (10 : Fin 14), (11 : Fin 14), (12 : Fin 14), (13 : Fin 14)] (by decide) (by decide)]
  rfl

/-- The body obligation, from one step on values. -/
theorem body1 (V : Valuation τ sig (Elt F)) (inv : ℕ → Heap Search.shp Search.elt (Elt F) → Prop)
    (after : (w : Fin cfg1.W) → Fin cfg1.N → ((cfg1.win w).block.Idx → Elt F (cfg1.win w).elt) → ((cfg1.win w).block.Idx → Elt F (cfg1.win w).elt) → Prop)
    (h : Step1 V inv after) (c : Dev nD) : (rdat1 V inv after c).BodyObligation defs₀ Variants.none () Set.univ := by
  intro t Y hY
  have T := fun H : Heap Search.shp Search.elt (Elt F) => Code.tri (defs := defs₀ (F := F)) (Γ := .empty) (Ix := Unit) (Name := ℕ) (U := UU nD τ sig) (Lvl := Unit) Variants.none c none Set.univ
    (Search.mems (win1_0.stage (cfg1.slots t 0)) (win1_1.stage (cfg1.slots t 1)) (win1_2.stage (cfg1.slots t 2)) (win1_3.stage (cfg1.slots t 3)) (win1_4.stage (cfg1.slots t 4)) (win1_5.stage (cfg1.slots t 5)) (win1_6.stage (cfg1.slots t 6)) (Memref.whole cc1_scratch0) (Memref.whole cc1_scratch1) (Memref.whole cc1_scratch2) (Memref.whole cc1_scratch3) (Memref.whole cc1_scratch4) (Memref.whole cc1_scratch5) (Memref.whole cc1_scratch6)) (Search.mems_whole (Gen.hstage1_0 ((cfg1.slots t 0).cast Gen.nbuf1_0)) (Gen.hstage1_1 ((cfg1.slots t 1).cast Gen.nbuf1_1)) (Gen.hstage1_2 ((cfg1.slots t 2).cast Gen.nbuf1_2)) (Gen.hstage1_3 ((cfg1.slots t 3).cast Gen.nbuf1_3)) (Gen.hstage1_4 ((cfg1.slots t 4).cast Gen.nbuf1_4)) (Gen.hstage1_5 ((cfg1.slots t 5).cast Gen.nbuf1_5)) (Gen.hstage1_6 ((cfg1.slots t 6).cast Gen.nbuf1_6)) (Memref.isWhole_whole _) (Memref.isWhole_whole _) (Memref.isWhole_whole _) (Memref.isWhole_whole _) (Memref.isWhole_whole _) (Memref.isWhole_whole _) (Memref.isWhole_whole _)) (Search.body (F := F) reads ((grid1.coords t) 0) ((grid1.coords t) 1)) (heap1 Y H)
  rw [call1 t]
  show BIBase.Entails (iprop(((∃ H, ⌜inv t.val H⌝ ∗ scratch1 c H) ∗ rest1 c) ∗ _ ∗ _)) _
  rw [bigSep_W1]
  iintro ⟨⟨⟨%H, %hH, HS⟩, HR⟩, HO, HW⟩
  have hs := h c t Y H hY hH
  iapply (T H _)
  rw [own1 c t (heap1 Y H), own1 c t _]
  unfold scratch1
  icases HW with ⟨W0, W1, W2, W3, W4, W5, W6⟩
  icases HS with ⟨S0, S1, S2, S3, S4, S5, S6⟩
  isplitl [W0 W1 W2 W3 W4 W5 W6 S0 S1 S2 S3 S4 S5 S6]
  · isplitl [W0]; · iexact W0
    isplitl [W1]; · iexact W1
    isplitl [W2]; · iexact W2
    isplitl [W3]; · iexact W3
    isplitl [W4]; · iexact W4
    isplitl [W5]; · iexact W5
    isplitl [W6]; · iexact W6
    isplitl [S0]; · iexact S0
    isplitl [S1]; · iexact S1
    isplitl [S2]; · iexact S2
    isplitl [S3]; · iexact S3
    isplitl [S4]; · iexact S4
    isplitl [S5]; · iexact S5
    iexact S6
  iintro ⟨W0, W1, W2, W3, W4, W5, W6, S0, S1, S2, S3, S4, S5, S6⟩
  rw [show (rdat1 V inv after c).Φ t.succ = iprop((∃ H, ⌜inv (t.val + 1) H⌝ ∗ scratch1 c H) ∗ rest1 c) from rfl]
  unfold scratch1
  isplitl [S0 S1 S2 S3 S4 S5 S6 HR]
  · isplitl [S0 S1 S2 S3 S4 S5 S6]
    · iexists (out1 t Y H)
      isplitr; · ipureintro; exact hs.1
      isplitl [S0]; · iexact S0
      isplitl [S1]; · iexact S1
      isplitl [S2]; · iexact S2
      isplitl [S3]; · iexact S3
      isplitl [S4]; · iexact S4
      isplitl [S5]; · iexact S5
      iexact S6
    iexact HR
  isplitl [HO]; · iexact HO
  rw [bigSep_W1]
  isplitl [W0]
  · iexists (win1 (out1 t Y H) 0); isplitr; · ipureintro; exact hs.2 0
    iexact W0
  isplitl [W1]
  · iexists (win1 (out1 t Y H) 1); isplitr; · ipureintro; exact hs.2 1
    iexact W1
  isplitl [W2]
  · iexists (win1 (out1 t Y H) 2); isplitr; · ipureintro; exact hs.2 2
    iexact W2
  isplitl [W3]
  · iexists (win1 (out1 t Y H) 3); isplitr; · ipureintro; exact hs.2 3
    iexact W3
  isplitl [W4]
  · iexists (win1 (out1 t Y H) 4); isplitr; · ipureintro; exact hs.2 4
    iexact W4
  isplitl [W5]
  · iexists (win1 (out1 t Y H) 5); isplitr; · ipureintro; exact hs.2 5
    iexact W5
  iexists (win1 (out1 t Y H) 6); isplitr; · ipureintro; exact hs.2 6
  iexact W6

/-- At entry every on-chip buffer is at some contents. -/
theorem enter1 (V : Valuation τ sig (Elt F)) (inv : ℕ → Heap Search.shp Search.elt (Elt F) → Prop) (after) (h0 : ∀ H, inv 0 H) (c : Dev nD) :
    (Pipeline.scopedRest spec1 c : sProp 𝕄) ⊢ (rdat1 V inv after c).Φ 0 := by
  rw [show (Pipeline.scopedRest spec1 c : sProp 𝕄) = _ from scopedRest1_eq c]
  show BIBase.Entails _ (iprop((∃ H, ⌜inv 0 H⌝ ∗ scratch1 c H) ∗ rest1 c))
  unfold scratch1 rest1
  iintro ⟨Rstg0_0, Rstg1_0, Rstg1_1, Rstg2_0, Rstg2_1, Rstg3_0, Rstg4_0, Rscratch0, Rscratch1, Rscratch2, ⟨%fscratch0, Sscratch0⟩, ⟨%fscratch1, Sscratch1⟩, ⟨%fscratch2, Sscratch2⟩, ⟨%fscratch3, Sscratch3⟩, ⟨%fscratch4, Sscratch4⟩, ⟨%fscratch5, Sscratch5⟩, ⟨%fscratch6, Sscratch6⟩⟩
  isplitl [Sscratch0 Sscratch1 Sscratch2 Sscratch3 Sscratch4 Sscratch5 Sscratch6]
  · iexists (fun
      | 0 => fun _ => Classical.choice inferInstance
      | 1 => fun _ => Classical.choice inferInstance
      | 2 => fun _ => Classical.choice inferInstance
      | 3 => fun _ => Classical.choice inferInstance
      | 4 => fun _ => Classical.choice inferInstance
      | 5 => fun _ => Classical.choice inferInstance
      | 6 => fun _ => Classical.choice inferInstance
      | 7 => (Memref.whole cc1_scratch0).view.read (Elt F) fscratch0
      | 8 => (Memref.whole cc1_scratch1).view.read (Elt F) fscratch1
      | 9 => (Memref.whole cc1_scratch2).view.read (Elt F) fscratch2
      | 10 => (Memref.whole cc1_scratch3).view.read (Elt F) fscratch3
      | 11 => (Memref.whole cc1_scratch4).view.read (Elt F) fscratch4
      | 12 => (Memref.whole cc1_scratch5).view.read (Elt F) fscratch5
      | 13 => (Memref.whole cc1_scratch6).view.read (Elt F) fscratch6)
    isplitr; · ipureintro; exact h0 _
    isplitl [Sscratch0]
    · iapply (whole_owns c cc1_scratch0 fscratch0); iexact Sscratch0
    isplitl [Sscratch1]
    · iapply (whole_owns c cc1_scratch1 fscratch1); iexact Sscratch1
    isplitl [Sscratch2]
    · iapply (whole_owns c cc1_scratch2 fscratch2); iexact Sscratch2
    isplitl [Sscratch3]
    · iapply (whole_owns c cc1_scratch3 fscratch3); iexact Sscratch3
    isplitl [Sscratch4]
    · iapply (whole_owns c cc1_scratch4 fscratch4); iexact Sscratch4
    isplitl [Sscratch5]
    · iapply (whole_owns c cc1_scratch5 fscratch5); iexact Sscratch5
    iapply (whole_owns c cc1_scratch6 fscratch6); iexact Sscratch6
  isplitl [Rstg0_0]; · iexact Rstg0_0
  isplitl [Rstg1_0]; · iexact Rstg1_0
  isplitl [Rstg1_1]; · iexact Rstg1_1
  isplitl [Rstg2_0]; · iexact Rstg2_0
  isplitl [Rstg2_1]; · iexact Rstg2_1
  isplitl [Rstg3_0]; · iexact Rstg3_0
  isplitl [Rstg4_0]; · iexact Rstg4_0
  isplitl [Rscratch0]; · iexact Rscratch0
  isplitl [Rscratch1]; · iexact Rscratch1
  iexact Rscratch2

/-- At exit every on-chip buffer is at some contents. -/
theorem leave1 (V : Valuation τ sig (Elt F)) (inv : ℕ → Heap Search.shp Search.elt (Elt F) → Prop) (after) (c : Dev nD) :
    (rdat1 V inv after c).Φ (Fin.last _) ⊢ (Pipeline.scopedRest spec1 c : sProp 𝕄) := by
  rw [show (Pipeline.scopedRest spec1 c : sProp 𝕄) = _ from scopedRest1_eq c]
  show BIBase.Entails (iprop((∃ H, ⌜inv _ H⌝ ∗ scratch1 c H) ∗ rest1 c)) _
  unfold scratch1 rest1
  iintro ⟨⟨%H, -, Sscratch0, Sscratch1, Sscratch2, Sscratch3, Sscratch4, Sscratch5, Sscratch6⟩, Rstg0_0, Rstg1_0, Rstg1_1, Rstg2_0, Rstg2_1, Rstg3_0, Rstg4_0, Rscratch0, Rscratch1, Rscratch2⟩
  isplitl [Rstg0_0]
  · iexact Rstg0_0
  isplitl [Rstg1_0]
  · iexact Rstg1_0
  isplitl [Rstg1_1]
  · iexact Rstg1_1
  isplitl [Rstg2_0]
  · iexact Rstg2_0
  isplitl [Rstg2_1]
  · iexact Rstg2_1
  isplitl [Rstg3_0]
  · iexact Rstg3_0
  isplitl [Rstg4_0]
  · iexact Rstg4_0
  isplitl [Rscratch0]
  · iexact Rscratch0
  isplitl [Rscratch1]
  · iexact Rscratch1
  isplitl [Rscratch2]
  · iexact Rscratch2
  isplitl [Sscratch0]
  · iapply (owns_any c cc1_scratch0 _); iexact Sscratch0
  isplitl [Sscratch1]
  · iapply (owns_any c cc1_scratch1 _); iexact Sscratch1
  isplitl [Sscratch2]
  · iapply (owns_any c cc1_scratch2 _); iexact Sscratch2
  isplitl [Sscratch3]
  · iapply (owns_any c cc1_scratch3 _); iexact Sscratch3
  isplitl [Sscratch4]
  · iapply (owns_any c cc1_scratch4 _); iexact Sscratch4
  isplitl [Sscratch5]
  · iapply (owns_any c cc1_scratch5 _); iexact Sscratch5
  iapply (owns_any c cc1_scratch6 _); iexact Sscratch6

/-! ## The whole program -/

/-- The invariants and relations of the two regions, each for the valuation the region is entered at. -/
structure Plan (F : FTy → Type) [BitOps F] where
  inv0 : Valuation τ sig (Elt F) → ℕ → Heap Stats.shp Stats.elt (Elt F) → Prop
  after0 : Valuation τ sig (Elt F) → (w : Fin cfg0.W) → Fin cfg0.N → ((cfg0.win w).block.Idx → Elt F (cfg0.win w).elt) → ((cfg0.win w).block.Idx → Elt F (cfg0.win w).elt) → Prop
  inv1 : Valuation τ sig (Elt F) → ℕ → Heap Search.shp Search.elt (Elt F) → Prop
  after1 : Valuation τ sig (Elt F) → (w : Fin cfg1.W) → Fin cfg1.N → ((cfg1.win w).block.Idx → Elt F (cfg1.win w).elt) → ((cfg1.win w).block.Idx → Elt F (cfg1.win w).elt) → Prop

/-- The proof data of both regions, entered at `V0` and `V1`. -/
def rdats (p : Plan F) (V0 V1 : Valuation τ sig (Elt F)) : (q : Fin 2) → (c : Dev nD) → RDat τ (Elt F) Unit ℕ (UU nD τ sig) Unit (Pipeline.pin (pcfgs (F := F)) (adm (F := F)) q) c
  | 0, c => rdat0 V0 (p.inv0 V0) (p.after0 V0) c
  | 1, c => rdat1 V1 (p.inv1 V1) (p.after1 V1) c

/-- What a run from `V` may end at, through some `V₁` between the two regions. -/
def Ends (p : Plan F) (V : Valuation τ sig (Elt F)) (c : Dev nD) (V₂ : Valuation τ sig (Elt F)) : Prop :=
  ∃ V₁ : Valuation τ sig (Elt F),
    ((∀ w, (rdat0 V (p.inv0 V) (p.after0 V) c).ArrAt w cfg0.N (V₁ (Proc.devRef .tc (Pipeline.arrRef spec0 w))))
      ∧ ∀ b : Ref sig .tc, (∀ w, Pipeline.arrRef spec0 w ≠ b) → V₁ (Proc.devRef .tc b) = V (Proc.devRef .tc b))
    ∧ ((∀ w, (rdat1 V₁ (p.inv1 V₁) (p.after1 V₁) c).ArrAt w cfg1.N (V₂ (Proc.devRef .tc (Pipeline.arrRef spec1 w))))
      ∧ ∀ b : Ref sig .tc, (∀ w, Pipeline.arrRef spec1 w ≠ b) → V₂ (Proc.devRef .tc b) = V₁ (Proc.devRef .tc b))

/-- Every execution from `m` ends, with the buffers at contents `Ends` allows and every semaphore at zero. -/
theorem run (p : Plan F) (h00 : ∀ V H, p.inv0 V 0 H) (h10 : ∀ V H, p.inv1 V 0 H) (hs0 : ∀ V, Step0 V (p.inv0 V) (p.after0 V)) (hs1 : ∀ V, Step1 V (p.inv1 V) (p.after1 V))
    (m : (ℓ : Loc nD τ sig) → Buf (Elt F) ℓ) (g : Dev nD → PrngReg) :
    θ_run (defs (F := F)) (onTc (τ := τ) (main (F := F))) ⟨m, fun _ => 0, g⟩ (fun r => (∀ c : Dev nD, ∃ V₂,
      Ends p (StableHlo.after hostOps0 (fun b => m (c, b))) c V₂ ∧
      ∀ b : Ref sig .tc, b.isScoped = false → r.2.mem ((c.tc : Thread nD τ).loc b) = V₂ (Proc.devRef .tc b)) ∧ r.2.sem = fun _ => 0) := by
  refine Launch.launch pcfgs adm (rdats p (fun b => Classical.choice inferInstance) (fun b => Classical.choice inferInstance)) cellOf_inj defs₀ Variants.none m g main
    (Pipeline.chain [StableHlo.seq hostOps0, Prog.lift (.customCall (Pipeline.entry 0) ()), Prog.lift (.customCall (Pipeline.entry 1) ())])
    main_chain (fun c V₂ => Ends p (StableHlo.after hostOps0 (fun b => m (c, b))) c V₂) (by decide) ?_
  intro c β k K
  have e : (Pipeline.chain [StableHlo.seq hostOps0, Prog.lift (.customCall (Pipeline.entry 0) ()), Prog.lift (.customCall (Pipeline.entry 1) ())] >>= k)
      = (StableHlo.seq hostOps0 >>= fun _ => .op (.customCall (Pipeline.entry 0) ()) fun _ => .op (.customCall (Pipeline.entry 1) ()) fun _ => k ⟨⟩) := by
    rw [Pipeline.chain_cons, Pipeline.chain_cons, Pipeline.chain_cons, Prog.bind_assoc]; rfl
  rw [e]
  have hseq := StableHlo.wp_seq (Ix := Unit) (Name := ℕ) (U := UU nD τ sig) (Lvl := Unit) (defs := Pipeline.defs (pcfgs (F := F)) defs₀) (Variants.lift Variants.none) none Set.univ c (Pipeline.ucRefs τ sig)
    (fun _ => .op (.customCall (Pipeline.entry 0) ()) fun _ => .op (.customCall (Pipeline.entry 1) ()) fun _ => k ⟨⟩) (K := K) hostOps0
    (fun op h => Pipeline.sub_ucRefs op ((List.forall_iff_forall_mem.mp hostOps0_sub) op h))
    (fun op h => (List.forall_iff_forall_mem.mp hostOps0_fresh) op h) (fun b => m (c, b))
  unfold Launch.ghosts
  have e2 : ∀ Φ : Fin 2 → sProp 𝕄, BI.bigSep Finset.univ Φ = iprop(Φ 0 ∗ Φ 1) := fun Φ =>
    BI.bigSep_univ_eq_bigSepL [(0 : Fin 2), (1 : Fin 2)] (by decide) (by decide) Φ
  rw [e2, e2]
  iintro ⟨Hk, Hbd, ⟨Hh, HO⟩, #Hla, ⟨⟨Hg0, Hg1⟩, ⟨Ht0, Ht1⟩⟩⟩
  iapply hseq $$ [Hbd Hh]
  · isplitl [Hbd] <;> iassumption
  iintro ⟨Hbd, Hh⟩
  iapply (Launch.region_step pcfgs adm (rdats p (StableHlo.after hostOps0 (fun b => m (c, b))) (StableHlo.after hostOps0 (fun b => m (c, b)))) cellOf_inj defs₀ Variants.none
    (p := 0) winFacts0 arr_whole0 block_pos0 stage_whole0 rfl (fun _ w => by unfold RDat.share; exact ite_self _) (fun _ _ => rfl) (fun _ => rfl)
    (StableHlo.after hostOps0 (fun b => m (c, b))) (fun _ _ => rfl) (fun c => body0 _ _ _ (hs0 _) c) (fun c => enter0 _ _ _ (h00 _) c) (fun c => leave0 _ _ _ c) c _ K)
  isplitr [Hbd Hh HO Hg0 Ht0]; swap
  · isplitl [Hbd]; · iexact Hbd
    isplitl [Hh HO]
    · isplitl [Hh]; · iexact Hh
      iexact HO
    isplitr; · iexact Hla
    isplitl [Hg0]; · iexact Hg0
    iexact Ht0
  iintro %V₁ %hV₁ ⟨Hbd, Hst⟩
  iapply (Launch.region_step pcfgs adm (rdats p (StableHlo.after hostOps0 (fun b => m (c, b))) V₁) cellOf_inj defs₀ Variants.none
    (p := 1) winFacts1 arr_whole1 block_pos1 stage_whole1 rfl (fun _ w => by unfold RDat.share; exact ite_self _) (fun _ _ => rfl) (fun _ => rfl)
    V₁ (fun _ _ => rfl) (fun c => body1 _ _ _ (hs1 _) c) (fun c => enter1 _ _ _ (h10 _) c) (fun c => leave1 _ _ _ c) c _ K)
  isplitr [Hbd Hst Hg1 Ht1]; swap
  · isplitl [Hbd]; · iexact Hbd
    isplitl [Hst]; · iexact Hst
    isplitr; · iexact Hla
    isplitl [Hg1]; · iexact Hg1
    iexact Ht1
  iintro %V₂ %hV₂ ⟨Hbd, Hst⟩
  iapply Hk $$ %V₂ %⟨V₁, hV₁, hV₂⟩
  isplitl [Hbd]; · iexact Hbd
  iexact Hst

/-- A run leaves the arguments as it found them. -/
theorem ends_args (p : Plan F) (V : Valuation τ sig (Elt F)) (c : Dev nD) (V₂ : Valuation τ sig (Elt F)) (h : Ends p V c V₂) :
    V₂ (Proc.devRef .tc main_arg0) = V (Proc.devRef .tc main_arg0) ∧ V₂ (Proc.devRef .tc main_arg1) = V (Proc.devRef .tc main_arg1) := by
  obtain ⟨V₁, ⟨ha, hb⟩, ⟨ha', hb'⟩⟩ := h
  refine ⟨(hb' main_arg0 (by decide)).trans (hb main_arg0 (by decide)), ?_⟩
  have h0 := ha 1
  have h1 := ha' 3
  rw [RDat.ArrAt_in _ _ rfl] at h0 h1
  exact h1.trans h0

/-- Nor does the host part before the regions. -/
theorem host_args (V : Valuation τ sig (Elt F)) :
    StableHlo.after hostOps0 V (Proc.devRef .tc main_arg0) = V (Proc.devRef .tc main_arg0)
      ∧ StableHlo.after hostOps0 V (Proc.devRef .tc main_arg1) = V (Proc.devRef .tc main_arg1) :=
  ⟨StableHlo.after_of_writes_sub hostOps0 V Gen.hostOps0_writes (by decide), StableHlo.after_of_writes_sub hostOps0 V Gen.hostOps0_writes (by decide)⟩

/-- The program runs to its end, leaves its arguments as they were and every semaphore at zero. -/
theorem frame (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) := by
  refine θ_run_mono (run (F := F) ⟨fun _ _ _ => True, fun _ _ _ _ _ => True, fun _ _ _ => True, fun _ _ _ _ _ => True⟩ (fun _ _ => trivial) (fun _ _ => trivial)
    (fun _ _ _ _ _ _ _ => ⟨trivial, fun _ => trivial⟩) (fun _ _ _ _ _ _ _ => ⟨trivial, fun _ => trivial⟩) m g) ?_
  rintro r ⟨h, hz⟩
  refine ⟨fun c => ?_, hz⟩
  obtain ⟨V₂, hV, hm⟩ := h c
  have e := ends_args _ _ c V₂ hV
  have e' := host_args (F := F) (fun b => m (c, b))
  exact ⟨(hm main_arg0 rfl).trans (e.1.trans e'.1), (hm main_arg1 rfl).trans (e.2.trans e'.2)⟩

end Cert.Proof.Exact

end

end
-- ==== Proof.BodyIdeal.lean ====
/-
  The two bodies of the idealized program, as `Code` terms.
-/
module

public import proofs.«01_k».proof.Proof.Search
public import proofs.«01_k».proof.Proof.Stats
public import proofs.«01_k».proof.KernelIdeal
public import Idealize.ShloMosaic.Lib.Pipeline.Regions

@[expose] public section

noncomputable section

namespace Cert.Proof.Ideal

open Idealize.ShloMosaic Idealize.ShloMosaic.TcCoe Cert.KernelIdeal

variable {F : FTy → Type} [FloatOps F] [Facts]

/-- How the idealized program reads the even and the odd rows of a block, and how it rounds a quantiser scale. -/
def reads : Search.Reads F where
  even v := extf .f32 (rowsOfParity 0 S32x128 v (by decide))
  odd v := extf .f32 (rowsOfParity 1 S32x128 v (by decide))
  even' v := extf .f32 (rowsOfParity 0 S32x256 v (by decide))
  odd' v := extf .f32 (rowsOfParity 1 S32x256 v (by decide))
  round s := s

/-- The statistics body. -/
theorem stats_eq (i : grid0.Coords) (arg1 : Memref sig .tc .vmem S3x2880x256 .bf16) (harg1 : arg1.IsWhole) (arg2 : Memref sig .tc .vmem S2880x640 .bf16) (harg2 : arg2.IsWhole) (arg3 : Memref sig .tc .vmem S768x640 .f32) (harg3 : arg3.IsWhole) (arg4 : Memref sig .tc .vmem S24x768x128 .bf16) (harg4 : arg4.IsWhole) (arg5 : Memref sig .tc .vmem S45x2x32x128 .f32) (harg5 : arg5.IsWhole) (arg6 : Memref sig .tc .vmem S45x2x32x128 .f32) (harg6 : arg6.IsWhole) (arg7 : Memref sig .tc .vmem S45x2x32x128 .f32) (harg7 : arg7.IsWhole) (arg8 : Memref sig .tc .vmem S3072x640 .bf16) (harg8 : arg8.IsWhole) :
    cc0_stats (F := F) i arg1 harg1 arg2 harg2 arg3 harg3 arg4 harg4 arg5 harg5 arg6 harg6 arg7 harg7 arg8 harg8 =
      (Stats.body (F := F) reads (i 0)).prog (Stats.mems arg1 arg2 arg3 arg4 arg5 arg6 arg7 arg8) (Stats.mems_whole harg1 harg2 harg3 harg4 harg5 harg6 harg7 harg8) := by
  chain_rfl

/-- The search body. -/
theorem search_eq (i : grid1.Coords) (arg2 : Memref sig .tc .vmem S24x768x128 .bf16) (harg2 : arg2.IsWhole) (arg3 : Memref sig .tc .vmem S45x2x32x128 .f32) (harg3 : arg3.IsWhole) (arg4 : Memref sig .tc .vmem S768x5760 .f32) (harg4 : arg4.IsWhole) (arg5 : Memref sig .tc .vmem S2880x640 .bf16) (harg5 : arg5.IsWhole) (arg6 : Memref sig .tc .vmem S20x5760 .f32) (harg6 : arg6.IsWhole) (arg7 : Memref sig .tc .vmem S2x1440x640 .i8) (harg7 : arg7.IsWhole) (arg8 : Memref sig .tc .vmem S2x45x640 .f32) (harg8 : arg8.IsWhole) (arg9 : Memref sig .tc .vmem S2x45x2x32x128 .f32) (harg9 : arg9.IsWhole) (arg10 : Memref sig .tc .vmem S2x45x2x32x128 .bf16) (harg10 : arg10.IsWhole) (arg11 : Memref sig .tc .vmem S2x45x2x32x128 .f32) (harg11 : arg11.IsWhole) (arg12 : Memref sig .tc .vmem S2x384x128 .f32) (harg12 : arg12.IsWhole) (arg13 : Memref sig .tc .vmem S2x2x48x128 .f32) (harg13 : arg13.IsWhole) (arg14 : Memref sig .tc .vmem S2x2x3072x128 .bf16) (harg14 : arg14.IsWhole) (arg15 : Memref sig .tc .vmem S45x20x128 .f32) (harg15 : arg15.IsWhole) :
    cc1_search (F := F) i arg2 harg2 arg3 harg3 arg4 harg4 arg5 harg5 arg6 harg6 arg7 harg7 arg8 harg8 arg9 harg9 arg10 harg10 arg11 harg11 arg12 harg12 arg13 harg13 arg14 harg14 arg15 harg15 =
      (Search.body (F := F) reads (i 0) (i 1)).prog (Search.mems arg2 arg3 arg4 arg5 arg6 arg7 arg8 arg9 arg10 arg11 arg12 arg13 arg14 arg15) (Search.mems_whole harg2 harg3 harg4 harg5 harg6 harg7 harg8 harg9 harg10 harg11 harg12 harg13 harg14 harg15) := by
  chain_rfl

end Cert.Proof.Ideal
-- ==== Proof.RunIdeal.lean ====
/-
  Running the idealized program. For each of the two regions: proof data whose invariant is any predicate `inv` on the values held in the
  scratch buffers and whose windows are left as any relation `after` says, and its body obligation, from one step of the body as a
  function on values (`Step0`, `Step1`). Then the whole program (`run`).
-/
module

public import proofs.«01_k».proof.Proof.BodyIdeal
public import proofs.«01_k».proof.Proof.Launch
public import Idealize.ShloMosaic.Lib.StableHlo.RunHlo
public import proofs.«01_k».proof.Proof.Gen.KernelIdeal.Launch
public import proofs.«01_k».proof.Proof.Gen.KernelIdeal.Regions
public import proofs.«01_k».proof.Proof.Gen.KernelIdeal.Points

@[expose] public section

noncomputable section

namespace Cert.Proof.Ideal

open Cert.KernelIdeal
open Cert.KernelIdeal.Gen (winFacts0 winFacts1 arr_whole0 arr_whole1 block_pos0 block_pos1 stage_whole0 stage_whole1 cellOf_inj bigSep_W0 bigSep_W1 scopedRest0_eq scopedRest1_eq hostOps0 hostOps0_sub hostOps0_fresh main_chain adm)
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat)
open Cert.Proof.Launch (UU EP L₀ lv₀ state)

variable {F : FTy → Type} [FloatOps F]

local notation "𝕄" => MT nD τ sig Unit (Elt F) ℕ (UU nD τ sig) Unit

/-- A buffer at some contents is held whole at the value it reads as. -/
theorem whole_owns (c : Dev nD) (b : Ref sig .tc) (f : Buf (Elt F) ((c : Thread nD τ).loc b)) :
    (((c : Thread nD τ).loc b) ↦{fullShare} f : sProp 𝕄) ⊢ owns (c : Thread nD τ) (Memref.whole b) fullShare ((Memref.whole b).view.read (Elt F) f) := by
  unfold owns
  iintro H
  iexists f
  isplitr; · ipureintro; rfl
  rw [(Memref.isWhole_whole b).set_eq_univ]
  iexact H

theorem owns_any (c : Dev nD) (b : Ref sig .tc) (X) :
    (owns (c : Thread nD τ) (Memref.whole b) fullShare X : sProp 𝕄) ⊢ iprop(∃ f : Buf (Elt F) ((c : Thread nD τ).loc b), ((c : Thread nD τ).loc b) ↦{fullShare} f) := by
  unfold owns
  iintro ⟨%f, -, H⟩
  iexists f
  rw [(Memref.isWhole_whole b).set_eq_univ]
  iexact H

/-! ## Region 0 -/

/-- The values a body starts from: the windows' at `Y`, the scratch buffers' at `H`. -/
def heap0 (Y : (w : Fin cfg0.W) → (cfg0.win w).block.Idx → Elt F (cfg0.win w).elt) (H : Heap Stats.shp Stats.elt (Elt F)) : Heap Stats.shp Stats.elt (Elt F)
  | 0 => Y 0
  | 1 => Y 1
  | 2 => Y 2
  | 3 => Y 3
  | 4 => Y 4
  | 5 => H 5
  | 6 => H 6
  | 7 => H 7

/-- The windows' values among all the body's. -/
def win0 (H : Heap Stats.shp Stats.elt (Elt F)) : (w : Fin cfg0.W) → (cfg0.win w).block.Idx → Elt F (cfg0.win w).elt
  | 0 => H 0
  | 1 => H 1
  | 2 => H 2
  | 3 => H 3
  | 4 => H 4
  | ⟨_ + 5, h⟩ => absurd h (Nat.not_lt.2 (Nat.le_add_left _ _))

/-- What the body at point `t` leaves. -/
def out0 (t : Fin cfg0.N) (Y : (w : Fin cfg0.W) → (cfg0.win w).block.Idx → Elt F (cfg0.win w).elt) (H : Heap Stats.shp Stats.elt (Elt F)) : Heap Stats.shp Stats.elt (Elt F) :=
  ((Stats.body (F := F) reads ((grid0.coords t) 0)).run (heap0 Y H)).2

/-- The core's other on-chip buffers, at any contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f) ∗ (∃ f : Buf (Elt F) ((c : Thread nD τ).loc cc1_scratch4), ((c : Thread nD τ).loc cc1_scratch4) ↦{fullShare} f) ∗ (∃ f : Buf (Elt F) ((c : Thread nD τ).loc cc1_scratch5), ((c : Thread nD τ).loc cc1_scratch5) ↦{fullShare} f) ∗ (∃ f : Buf (Elt F) ((c : Thread nD τ).loc cc1_scratch6), ((c : Thread nD τ).loc cc1_scratch6) ↦{fullShare} f))

/-- The scratch buffers at the values `H`. -/
def scratch0 (c : Dev nD) (H : Heap Stats.shp Stats.elt (Elt F)) : sProp 𝕄 :=
  iprop(owns (c : Thread nD τ) (Memref.whole cc0_scratch0) fullShare (H 5) ∗ owns (c : Thread nD τ) (Memref.whole cc0_scratch1) fullShare (H 6) ∗ owns (c : Thread nD τ) (Memref.whole cc0_scratch2) fullShare (H 7))

/-- The proof data of region 0 entered at `V`. -/
def rdat0 (V : Valuation τ sig (Elt F)) (inv : ℕ → Heap Stats.shp Stats.elt (Elt F) → Prop)
    (after : (w : Fin cfg0.W) → Fin cfg0.N → ((cfg0.win w).block.Idx → Elt F (cfg0.win w).elt) → ((cfg0.win w).block.Idx → Elt F (cfg0.win w).elt) → Prop)
    (c : Dev nD) : RDat τ (Elt F) Unit ℕ (UU nD τ sig) Unit cfg0 c where
  A w := V (Proc.devRef .tc (Pipeline.arrRef spec0 w))
  after := after
  Φ t := iprop((∃ H, ⌜inv t.val H⌝ ∗ scratch0 c H) ∗ rest0 c)
  q _ := fullShare
  owed _ := 0

/-- One point as a function on values: from windows found as the pipeline may hand them over and scratch values the invariant
allows, the scratch values left are allowed at the next point and every window is left as `after` says. -/
def Step0 (V : Valuation τ sig (Elt F)) (inv : ℕ → Heap Stats.shp Stats.elt (Elt F) → Prop)
    (after : (w : Fin cfg0.W) → Fin cfg0.N → ((cfg0.win w).block.Idx → Elt F (cfg0.win w).elt) → ((cfg0.win w).block.Idx → Elt F (cfg0.win w).elt) → Prop) : Prop :=
  ∀ (c : Dev nD) (t : Fin cfg0.N) (Y : (w : Fin cfg0.W) → (cfg0.win w).block.Idx → Elt F (cfg0.win w).elt) (H : Heap Stats.shp Stats.elt (Elt F)),
    (∀ w, (rdat0 V inv after c).Finds w t (Y w)) → inv t.val H →
    inv (t.val + 1) (out0 t Y H) ∧ ∀ w, after w t (Y w) (win0 (out0 t Y H) w)

/-- The body as the pipeline calls it is the body as a term. -/
theorem call0 (t : Fin cfg0.N) : defs₀ (F := F) .tc cfg0.body (cfg0.bodyArgs t (cfg0.slots t)) =
    (Stats.body (F := F) reads ((grid0.coords t) 0)).prog (Stats.mems (win0_0.stage (cfg0.slots t 0)) (win0_1.stage (cfg0.slots t 1)) (win0_2.stage (cfg0.slots t 2)) (win0_3.stage (cfg0.slots t 3)) (win0_4.stage (cfg0.slots t 4)) (Memref.whole cc0_scratch0) (Memref.whole cc0_scratch1) (Memref.whole cc0_scratch2)) (Stats.mems_whole (Gen.hstage0_0 ((cfg0.slots t 0).cast Gen.nbuf0_0)) (Gen.hstage0_1 ((cfg0.slots t 1).cast Gen.nbuf0_1)) (Gen.hstage0_2 ((cfg0.slots t 2).cast Gen.nbuf0_2)) (Gen.hstage0_3 ((cfg0.slots t 3).cast Gen.nbuf0_3)) (Gen.hstage0_4 ((cfg0.slots t 4).cast Gen.nbuf0_4)) (Memref.isWhole_whole _) (Memref.isWhole_whole _) (Memref.isWhole_whole _)) :=
  stats_eq (F := F) (grid0.coords t) (win0_0.stage (cfg0.slots t 0)) (Gen.hstage0_0 ((cfg0.slots t 0).cast Gen.nbuf0_0)) (win0_1.stage (cfg0.slots t 1)) (Gen.hstage0_1 ((cfg0.slots t 1).cast Gen.nbuf0_1)) (win0_2.stage (cfg0.slots t 2)) (Gen.hstage0_2 ((cfg0.slots t 2).cast Gen.nbuf0_2)) (win0_3.stage (cfg0.slots t 3)) (Gen.hstage0_3 ((cfg0.slots t 3).cast Gen.nbuf0_3)) (win0_4.stage (cfg0.slots t 4)) (Gen.hstage0_4 ((cfg0.slots t 4).cast Gen.nbuf0_4)) (Memref.whole cc0_scratch0) (Memref.isWhole_whole _) (Memref.whole cc0_scratch1) (Memref.isWhole_whole _) (Memref.whole cc0_scratch2) (Memref.isWhole_whole _)

/-- All the memrefs of the body's, held at the values of `H`, one by one. -/
theorem own0 (c : Dev nD) (t : Fin cfg0.N) (H : Heap Stats.shp Stats.elt (Elt F)) :
    (ownF (c : Thread nD τ) (Stats.mems (win0_0.stage (cfg0.slots t 0)) (win0_1.stage (cfg0.slots t 1)) (win0_2.stage (cfg0.slots t 2)) (win0_3.stage (cfg0.slots t 3)) (win0_4.stage (cfg0.slots t 4)) (Memref.whole cc0_scratch0) (Memref.whole cc0_scratch1) (Memref.whole cc0_scratch2)) H : sProp 𝕄)
      = iprop(owns (c : Thread nD τ) (win0_0.stage (cfg0.slots t 0)) fullShare (H 0) ∗ owns (c : Thread nD τ) (win0_1.stage (cfg0.slots t 1)) fullShare (H 1) ∗ owns (c : Thread nD τ) (win0_2.stage (cfg0.slots t 2)) fullShare (H 2) ∗ owns (c : Thread nD τ) (win0_3.stage (cfg0.slots t 3)) fullShare (H 3) ∗ owns (c : Thread nD τ) (win0_4.stage (cfg0.slots t 4)) fullShare (H 4) ∗ owns (c : Thread nD τ) (Memref.whole cc0_scratch0) fullShare (H 5) ∗ owns (c : Thread nD τ) (Memref.whole cc0_scratch1) fullShare (H 6) ∗ owns (c : Thread nD τ) (Memref.whole cc0_scratch2) fullShare (H 7)) := by
  unfold ownF
  rw [BI.bigSep_univ_eq_bigSepL [(0 : Fin 8), (1 : Fin 8), (2 : Fin 8), (3 : Fin 8), (4 : Fin 8), (5 : Fin 8), (6 : Fin 8), (7 : Fin 8)] (by decide) (by decide)]
  rfl

/-- The body obligation, from one step on values. -/
theorem body0 (V : Valuation τ sig (Elt F)) (inv : ℕ → Heap Stats.shp Stats.elt (Elt F) → Prop)
    (after : (w : Fin cfg0.W) → Fin cfg0.N → ((cfg0.win w).block.Idx → Elt F (cfg0.win w).elt) → ((cfg0.win w).block.Idx → Elt F (cfg0.win w).elt) → Prop)
    (h : Step0 V inv after) (c : Dev nD) : (rdat0 V inv after c).BodyObligation defs₀ Variants.none () Set.univ := by
  intro t Y hY
  have T := fun H : Heap Stats.shp Stats.elt (Elt F) => Code.tri (defs := defs₀ (F := F)) (Γ := .empty) (Ix := Unit) (Name := ℕ) (U := UU nD τ sig) (Lvl := Unit) Variants.none c none Set.univ
    (Stats.mems (win0_0.stage (cfg0.slots t 0)) (win0_1.stage (cfg0.slots t 1)) (win0_2.stage (cfg0.slots t 2)) (win0_3.stage (cfg0.slots t 3)) (win0_4.stage (cfg0.slots t 4)) (Memref.whole cc0_scratch0) (Memref.whole cc0_scratch1) (Memref.whole cc0_scratch2)) (Stats.mems_whole (Gen.hstage0_0 ((cfg0.slots t 0).cast Gen.nbuf0_0)) (Gen.hstage0_1 ((cfg0.slots t 1).cast Gen.nbuf0_1)) (Gen.hstage0_2 ((cfg0.slots t 2).cast Gen.nbuf0_2)) (Gen.hstage0_3 ((cfg0.slots t 3).cast Gen.nbuf0_3)) (Gen.hstage0_4 ((cfg0.slots t 4).cast Gen.nbuf0_4)) (Memref.isWhole_whole _) (Memref.isWhole_whole _) (Memref.isWhole_whole _)) (Stats.body (F := F) reads ((grid0.coords t) 0)) (heap0 Y H)
  rw [call0 t]
  show BIBase.Entails (iprop(((∃ H, ⌜inv t.val H⌝ ∗ scratch0 c H) ∗ rest0 c) ∗ _ ∗ _)) _
  rw [bigSep_W0]
  iintro ⟨⟨⟨%H, %hH, HS⟩, HR⟩, HO, HW⟩
  have hs := h c t Y H hY hH
  iapply (T H _)
  rw [own0 c t (heap0 Y H), own0 c t _]
  unfold scratch0
  icases HW with ⟨W0, W1, W2, W3, W4⟩
  icases HS with ⟨S0, S1, S2⟩
  isplitl [W0 W1 W2 W3 W4 S0 S1 S2]
  · isplitl [W0]; · iexact W0
    isplitl [W1]; · iexact W1
    isplitl [W2]; · iexact W2
    isplitl [W3]; · iexact W3
    isplitl [W4]; · iexact W4
    isplitl [S0]; · iexact S0
    isplitl [S1]; · iexact S1
    iexact S2
  iintro ⟨W0, W1, W2, W3, W4, S0, S1, S2⟩
  rw [show (rdat0 V inv after c).Φ t.succ = iprop((∃ H, ⌜inv (t.val + 1) H⌝ ∗ scratch0 c H) ∗ rest0 c) from rfl]
  unfold scratch0
  isplitl [S0 S1 S2 HR]
  · isplitl [S0 S1 S2]
    · iexists (out0 t Y H)
      isplitr; · ipureintro; exact hs.1
      isplitl [S0]; · iexact S0
      isplitl [S1]; · iexact S1
      iexact S2
    iexact HR
  isplitl [HO]; · iexact HO
  rw [bigSep_W0]
  isplitl [W0]
  · iexists (win0 (out0 t Y H) 0); isplitr; · ipureintro; exact hs.2 0
    iexact W0
  isplitl [W1]
  · iexists (win0 (out0 t Y H) 1); isplitr; · ipureintro; exact hs.2 1
    iexact W1
  isplitl [W2]
  · iexists (win0 (out0 t Y H) 2); isplitr; · ipureintro; exact hs.2 2
    iexact W2
  isplitl [W3]
  · iexists (win0 (out0 t Y H) 3); isplitr; · ipureintro; exact hs.2 3
    iexact W3
  iexists (win0 (out0 t Y H) 4); isplitr; · ipureintro; exact hs.2 4
  iexact W4

/-- At entry every on-chip buffer is at some contents. -/
theorem enter0 (V : Valuation τ sig (Elt F)) (inv : ℕ → Heap Stats.shp Stats.elt (Elt F) → Prop) (after) (h0 : ∀ H, inv 0 H) (c : Dev nD) :
    (Pipeline.scopedRest spec0 c : sProp 𝕄) ⊢ (rdat0 V inv after c).Φ 0 := by
  rw [show (Pipeline.scopedRest spec0 c : sProp 𝕄) = _ from scopedRest0_eq c]
  show BIBase.Entails _ (iprop((∃ H, ⌜inv 0 H⌝ ∗ scratch0 c H) ∗ rest0 c))
  unfold scratch0 rest0
  iintro ⟨⟨%fscratch0, Sscratch0⟩, ⟨%fscratch1, Sscratch1⟩, ⟨%fscratch2, Sscratch2⟩, Rstg0_0, Rstg1_0, Rstg2_0, Rstg3_0, Rstg3_1, Rstg4_0, Rstg5_0, Rstg5_1, Rstg6_0, Rstg6_1, Rscratch0, Rscratch1, Rscratch2, Rscratch3, Rscratch4, Rscratch5, Rscratch6⟩
  isplitl [Sscratch0 Sscratch1 Sscratch2]
  · iexists (fun
      | 0 => fun _ => Classical.choice inferInstance
      | 1 => fun _ => Classical.choice inferInstance
      | 2 => fun _ => Classical.choice inferInstance
      | 3 => fun _ => Classical.choice inferInstance
      | 4 => fun _ => Classical.choice inferInstance
      | 5 => (Memref.whole cc0_scratch0).view.read (Elt F) fscratch0
      | 6 => (Memref.whole cc0_scratch1).view.read (Elt F) fscratch1
      | 7 => (Memref.whole cc0_scratch2).view.read (Elt F) fscratch2)
    isplitr; · ipureintro; exact h0 _
    isplitl [Sscratch0]
    · iapply (whole_owns c cc0_scratch0 fscratch0); iexact Sscratch0
    isplitl [Sscratch1]
    · iapply (whole_owns c cc0_scratch1 fscratch1); iexact Sscratch1
    iapply (whole_owns c cc0_scratch2 fscratch2); iexact Sscratch2
  isplitl [Rstg0_0]; · iexact Rstg0_0
  isplitl [Rstg1_0]; · iexact Rstg1_0
  isplitl [Rstg2_0]; · iexact Rstg2_0
  isplitl [Rstg3_0]; · iexact Rstg3_0
  isplitl [Rstg3_1]; · iexact Rstg3_1
  isplitl [Rstg4_0]; · iexact Rstg4_0
  isplitl [Rstg5_0]; · iexact Rstg5_0
  isplitl [Rstg5_1]; · iexact Rstg5_1
  isplitl [Rstg6_0]; · iexact Rstg6_0
  isplitl [Rstg6_1]; · iexact Rstg6_1
  isplitl [Rscratch0]; · iexact Rscratch0
  isplitl [Rscratch1]; · iexact Rscratch1
  isplitl [Rscratch2]; · iexact Rscratch2
  isplitl [Rscratch3]; · iexact Rscratch3
  isplitl [Rscratch4]; · iexact Rscratch4
  isplitl [Rscratch5]; · iexact Rscratch5
  iexact Rscratch6

/-- At exit every on-chip buffer is at some contents. -/
theorem leave0 (V : Valuation τ sig (Elt F)) (inv : ℕ → Heap Stats.shp Stats.elt (Elt F) → Prop) (after) (c : Dev nD) :
    (rdat0 V inv after c).Φ (Fin.last _) ⊢ (Pipeline.scopedRest spec0 c : sProp 𝕄) := by
  rw [show (Pipeline.scopedRest spec0 c : sProp 𝕄) = _ from scopedRest0_eq c]
  show BIBase.Entails (iprop((∃ H, ⌜inv _ H⌝ ∗ scratch0 c H) ∗ rest0 c)) _
  unfold scratch0 rest0
  iintro ⟨⟨%H, -, Sscratch0, Sscratch1, Sscratch2⟩, Rstg0_0, Rstg1_0, Rstg2_0, Rstg3_0, Rstg3_1, Rstg4_0, Rstg5_0, Rstg5_1, Rstg6_0, Rstg6_1, Rscratch0, Rscratch1, Rscratch2, Rscratch3, Rscratch4, Rscratch5, Rscratch6⟩
  isplitl [Sscratch0]
  · iapply (owns_any c cc0_scratch0 _); iexact Sscratch0
  isplitl [Sscratch1]
  · iapply (owns_any c cc0_scratch1 _); iexact Sscratch1
  isplitl [Sscratch2]
  · iapply (owns_any c cc0_scratch2 _); iexact Sscratch2
  isplitl [Rstg0_0]
  · iexact Rstg0_0
  isplitl [Rstg1_0]
  · iexact Rstg1_0
  isplitl [Rstg2_0]
  · iexact Rstg2_0
  isplitl [Rstg3_0]
  · iexact Rstg3_0
  isplitl [Rstg3_1]
  · iexact Rstg3_1
  isplitl [Rstg4_0]
  · iexact Rstg4_0
  isplitl [Rstg5_0]
  · iexact Rstg5_0
  isplitl [Rstg5_1]
  · iexact Rstg5_1
  isplitl [Rstg6_0]
  · iexact Rstg6_0
  isplitl [Rstg6_1]
  · iexact Rstg6_1
  isplitl [Rscratch0]
  · iexact Rscratch0
  isplitl [Rscratch1]
  · iexact Rscratch1
  isplitl [Rscratch2]
  · iexact Rscratch2
  isplitl [Rscratch3]
  · iexact Rscratch3
  isplitl [Rscratch4]
  · iexact Rscratch4
  isplitl [Rscratch5]
  · iexact Rscratch5
  iexact Rscratch6

/-! ## Region 1 -/

/-- The values a body starts from: the windows' at `Y`, the scratch buffers' at `H`. -/
def heap1 (Y : (w : Fin cfg1.W) → (cfg1.win w).block.Idx → Elt F (cfg1.win w).elt) (H : Heap Search.shp Search.elt (Elt F)) : Heap Search.shp Search.elt (Elt F)
  | 0 => Y 0
  | 1 => Y 1
  | 2 => Y 2
  | 3 => Y 3
  | 4 => Y 4
  | 5 => Y 5
  | 6 => Y 6
  | 7 => H 7
  | 8 => H 8
  | 9 => H 9
  | 10 => H 10
  | 11 => H 11
  | 12 => H 12
  | 13 => H 13

/-- The windows' values among all the body's. -/
def win1 (H : Heap Search.shp Search.elt (Elt F)) : (w : Fin cfg1.W) → (cfg1.win w).block.Idx → Elt F (cfg1.win w).elt
  | 0 => H 0
  | 1 => H 1
  | 2 => H 2
  | 3 => H 3
  | 4 => H 4
  | 5 => H 5
  | 6 => H 6
  | ⟨_ + 7, h⟩ => absurd h (Nat.not_lt.2 (Nat.le_add_left _ _))

/-- What the body at point `t` leaves. -/
def out1 (t : Fin cfg1.N) (Y : (w : Fin cfg1.W) → (cfg1.win w).block.Idx → Elt F (cfg1.win w).elt) (H : Heap Search.shp Search.elt (Elt F)) : Heap Search.shp Search.elt (Elt F) :=
  ((Search.body (F := F) reads ((grid1.coords t) 0) ((grid1.coords t) 1)).run (heap1 Y H)).2

/-- The core's other on-chip buffers, at any contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f))

/-- The scratch buffers at the values `H`. -/
def scratch1 (c : Dev nD) (H : Heap Search.shp Search.elt (Elt F)) : sProp 𝕄 :=
  iprop(owns (c : Thread nD τ) (Memref.whole cc1_scratch0) fullShare (H 7) ∗ owns (c : Thread nD τ) (Memref.whole cc1_scratch1) fullShare (H 8) ∗ owns (c : Thread nD τ) (Memref.whole cc1_scratch2) fullShare (H 9) ∗ owns (c : Thread nD τ) (Memref.whole cc1_scratch3) fullShare (H 10) ∗ owns (c : Thread nD τ) (Memref.whole cc1_scratch4) fullShare (H 11) ∗ owns (c : Thread nD τ) (Memref.whole cc1_scratch5) fullShare (H 12) ∗ owns (c : Thread nD τ) (Memref.whole cc1_scratch6) fullShare (H 13))

/-- The proof data of region 1 entered at `V`. -/
def rdat1 (V : Valuation τ sig (Elt F)) (inv : ℕ → Heap Search.shp Search.elt (Elt F) → Prop)
    (after : (w : Fin cfg1.W) → Fin cfg1.N → ((cfg1.win w).block.Idx → Elt F (cfg1.win w).elt) → ((cfg1.win w).block.Idx → Elt F (cfg1.win w).elt) → Prop)
    (c : Dev nD) : RDat τ (Elt F) Unit ℕ (UU nD τ sig) Unit cfg1 c where
  A w := V (Proc.devRef .tc (Pipeline.arrRef spec1 w))
  after := after
  Φ t := iprop((∃ H, ⌜inv t.val H⌝ ∗ scratch1 c H) ∗ rest1 c)
  q _ := fullShare
  owed _ := 0

/-- One point as a function on values: from windows found as the pipeline may hand them over and scratch values the invariant
allows, the scratch values left are allowed at the next point and every window is left as `after` says. -/
def Step1 (V : Valuation τ sig (Elt F)) (inv : ℕ → Heap Search.shp Search.elt (Elt F) → Prop)
    (after : (w : Fin cfg1.W) → Fin cfg1.N → ((cfg1.win w).block.Idx → Elt F (cfg1.win w).elt) → ((cfg1.win w).block.Idx → Elt F (cfg1.win w).elt) → Prop) : Prop :=
  ∀ (c : Dev nD) (t : Fin cfg1.N) (Y : (w : Fin cfg1.W) → (cfg1.win w).block.Idx → Elt F (cfg1.win w).elt) (H : Heap Search.shp Search.elt (Elt F)),
    (∀ w, (rdat1 V inv after c).Finds w t (Y w)) → inv t.val H →
    inv (t.val + 1) (out1 t Y H) ∧ ∀ w, after w t (Y w) (win1 (out1 t Y H) w)

/-- The body as the pipeline calls it is the body as a term. -/
theorem call1 (t : Fin cfg1.N) : defs₀ (F := F) .tc cfg1.body (cfg1.bodyArgs t (cfg1.slots t)) =
    (Search.body (F := F) reads ((grid1.coords t) 0) ((grid1.coords t) 1)).prog (Search.mems (win1_0.stage (cfg1.slots t 0)) (win1_1.stage (cfg1.slots t 1)) (win1_2.stage (cfg1.slots t 2)) (win1_3.stage (cfg1.slots t 3)) (win1_4.stage (cfg1.slots t 4)) (win1_5.stage (cfg1.slots t 5)) (win1_6.stage (cfg1.slots t 6)) (Memref.whole cc1_scratch0) (Memref.whole cc1_scratch1) (Memref.whole cc1_scratch2) (Memref.whole cc1_scratch3) (Memref.whole cc1_scratch4) (Memref.whole cc1_scratch5) (Memref.whole cc1_scratch6)) (Search.mems_whole (Gen.hstage1_0 ((cfg1.slots t 0).cast Gen.nbuf1_0)) (Gen.hstage1_1 ((cfg1.slots t 1).cast Gen.nbuf1_1)) (Gen.hstage1_2 ((cfg1.slots t 2).cast Gen.nbuf1_2)) (Gen.hstage1_3 ((cfg1.slots t 3).cast Gen.nbuf1_3)) (Gen.hstage1_4 ((cfg1.slots t 4).cast Gen.nbuf1_4)) (Gen.hstage1_5 ((cfg1.slots t 5).cast Gen.nbuf1_5)) (Gen.hstage1_6 ((cfg1.slots t 6).cast Gen.nbuf1_6)) (Memref.isWhole_whole _) (Memref.isWhole_whole _) (Memref.isWhole_whole _) (Memref.isWhole_whole _) (Memref.isWhole_whole _) (Memref.isWhole_whole _) (Memref.isWhole_whole _)) :=
  search_eq (F := F) (grid1.coords t) (win1_0.stage (cfg1.slots t 0)) (Gen.hstage1_0 ((cfg1.slots t 0).cast Gen.nbuf1_0)) (win1_1.stage (cfg1.slots t 1)) (Gen.hstage1_1 ((cfg1.slots t 1).cast Gen.nbuf1_1)) (win1_2.stage (cfg1.slots t 2)) (Gen.hstage1_2 ((cfg1.slots t 2).cast Gen.nbuf1_2)) (win1_3.stage (cfg1.slots t 3)) (Gen.hstage1_3 ((cfg1.slots t 3).cast Gen.nbuf1_3)) (win1_4.stage (cfg1.slots t 4)) (Gen.hstage1_4 ((cfg1.slots t 4).cast Gen.nbuf1_4)) (win1_5.stage (cfg1.slots t 5)) (Gen.hstage1_5 ((cfg1.slots t 5).cast Gen.nbuf1_5)) (win1_6.stage (cfg1.slots t 6)) (Gen.hstage1_6 ((cfg1.slots t 6).cast Gen.nbuf1_6)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _)

/-- All the memrefs of the body's, held at the values of `H`, one by one. -/
theorem own1 (c : Dev nD) (t : Fin cfg1.N) (H : Heap Search.shp Search.elt (Elt F)) :
    (ownF (c : Thread nD τ) (Search.mems (win1_0.stage (cfg1.slots t 0)) (win1_1.stage (cfg1.slots t 1)) (win1_2.stage (cfg1.slots t 2)) (win1_3.stage (cfg1.slots t 3)) (win1_4.stage (cfg1.slots t 4)) (win1_5.stage (cfg1.slots t 5)) (win1_6.stage (cfg1.slots t 6)) (Memref.whole cc1_scratch0) (Memref.whole cc1_scratch1) (Memref.whole cc1_scratch2) (Memref.whole cc1_scratch3) (Memref.whole cc1_scratch4) (Memref.whole cc1_scratch5) (Memref.whole cc1_scratch6)) H : sProp 𝕄)
      = iprop(owns (c : Thread nD τ) (win1_0.stage (cfg1.slots t 0)) fullShare (H 0) ∗ owns (c : Thread nD τ) (win1_1.stage (cfg1.slots t 1)) fullShare (H 1) ∗ owns (c : Thread nD τ) (win1_2.stage (cfg1.slots t 2)) fullShare (H 2) ∗ owns (c : Thread nD τ) (win1_3.stage (cfg1.slots t 3)) fullShare (H 3) ∗ owns (c : Thread nD τ) (win1_4.stage (cfg1.slots t 4)) fullShare (H 4) ∗ owns (c : Thread nD τ) (win1_5.stage (cfg1.slots t 5)) fullShare (H 5) ∗ owns (c : Thread nD τ) (win1_6.stage (cfg1.slots t 6)) fullShare (H 6) ∗ owns (c : Thread nD τ) (Memref.whole cc1_scratch0) fullShare (H 7) ∗ owns (c : Thread nD τ) (Memref.whole cc1_scratch1) fullShare (H 8) ∗ owns (c : Thread nD τ) (Memref.whole cc1_scratch2) fullShare (H 9) ∗ owns (c : Thread nD τ) (Memref.whole cc1_scratch3) fullShare (H 10) ∗ owns (c : Thread nD τ) (Memref.whole cc1_scratch4) fullShare (H 11) ∗ owns (c : Thread nD τ) (Memref.whole cc1_scratch5) fullShare (H 12) ∗ owns (c : Thread nD τ) (Memref.whole cc1_scratch6) fullShare (H 13)) := by
  unfold ownF
  rw [BI.bigSep_univ_eq_bigSepL [(0 : Fin 14), (1 : Fin 14), (2 : Fin 14), (3 : Fin 14), (4 : Fin 14), (5 : Fin 14), (6 : Fin 14), (7 : Fin 14), (8 : Fin 14), (9 : Fin 14), (10 : Fin 14), (11 : Fin 14), (12 : Fin 14), (13 : Fin 14)] (by decide) (by decide)]
  rfl

/-- The body obligation, from one step on values. -/
theorem body1 (V : Valuation τ sig (Elt F)) (inv : ℕ → Heap Search.shp Search.elt (Elt F) → Prop)
    (after : (w : Fin cfg1.W) → Fin cfg1.N → ((cfg1.win w).block.Idx → Elt F (cfg1.win w).elt) → ((cfg1.win w).block.Idx → Elt F (cfg1.win w).elt) → Prop)
    (h : Step1 V inv after) (c : Dev nD) : (rdat1 V inv after c).BodyObligation defs₀ Variants.none () Set.univ := by
  intro t Y hY
  have T := fun H : Heap Search.shp Search.elt (Elt F) => Code.tri (defs := defs₀ (F := F)) (Γ := .empty) (Ix := Unit) (Name := ℕ) (U := UU nD τ sig) (Lvl := Unit) Variants.none c none Set.univ
    (Search.mems (win1_0.stage (cfg1.slots t 0)) (win1_1.stage (cfg1.slots t 1)) (win1_2.stage (cfg1.slots t 2)) (win1_3.stage (cfg1.slots t 3)) (win1_4.stage (cfg1.slots t 4)) (win1_5.stage (cfg1.slots t 5)) (win1_6.stage (cfg1.slots t 6)) (Memref.whole cc1_scratch0) (Memref.whole cc1_scratch1) (Memref.whole cc1_scratch2) (Memref.whole cc1_scratch3) (Memref.whole cc1_scratch4) (Memref.whole cc1_scratch5) (Memref.whole cc1_scratch6)) (Search.mems_whole (Gen.hstage1_0 ((cfg1.slots t 0).cast Gen.nbuf1_0)) (Gen.hstage1_1 ((cfg1.slots t 1).cast Gen.nbuf1_1)) (Gen.hstage1_2 ((cfg1.slots t 2).cast Gen.nbuf1_2)) (Gen.hstage1_3 ((cfg1.slots t 3).cast Gen.nbuf1_3)) (Gen.hstage1_4 ((cfg1.slots t 4).cast Gen.nbuf1_4)) (Gen.hstage1_5 ((cfg1.slots t 5).cast Gen.nbuf1_5)) (Gen.hstage1_6 ((cfg1.slots t 6).cast Gen.nbuf1_6)) (Memref.isWhole_whole _) (Memref.isWhole_whole _) (Memref.isWhole_whole _) (Memref.isWhole_whole _) (Memref.isWhole_whole _) (Memref.isWhole_whole _) (Memref.isWhole_whole _)) (Search.body (F := F) reads ((grid1.coords t) 0) ((grid1.coords t) 1)) (heap1 Y H)
  rw [call1 t]
  show BIBase.Entails (iprop(((∃ H, ⌜inv t.val H⌝ ∗ scratch1 c H) ∗ rest1 c) ∗ _ ∗ _)) _
  rw [bigSep_W1]
  iintro ⟨⟨⟨%H, %hH, HS⟩, HR⟩, HO, HW⟩
  have hs := h c t Y H hY hH
  iapply (T H _)
  rw [own1 c t (heap1 Y H), own1 c t _]
  unfold scratch1
  icases HW with ⟨W0, W1, W2, W3, W4, W5, W6⟩
  icases HS with ⟨S0, S1, S2, S3, S4, S5, S6⟩
  isplitl [W0 W1 W2 W3 W4 W5 W6 S0 S1 S2 S3 S4 S5 S6]
  · isplitl [W0]; · iexact W0
    isplitl [W1]; · iexact W1
    isplitl [W2]; · iexact W2
    isplitl [W3]; · iexact W3
    isplitl [W4]; · iexact W4
    isplitl [W5]; · iexact W5
    isplitl [W6]; · iexact W6
    isplitl [S0]; · iexact S0
    isplitl [S1]; · iexact S1
    isplitl [S2]; · iexact S2
    isplitl [S3]; · iexact S3
    isplitl [S4]; · iexact S4
    isplitl [S5]; · iexact S5
    iexact S6
  iintro ⟨W0, W1, W2, W3, W4, W5, W6, S0, S1, S2, S3, S4, S5, S6⟩
  rw [show (rdat1 V inv after c).Φ t.succ = iprop((∃ H, ⌜inv (t.val + 1) H⌝ ∗ scratch1 c H) ∗ rest1 c) from rfl]
  unfold scratch1
  isplitl [S0 S1 S2 S3 S4 S5 S6 HR]
  · isplitl [S0 S1 S2 S3 S4 S5 S6]
    · iexists (out1 t Y H)
      isplitr; · ipureintro; exact hs.1
      isplitl [S0]; · iexact S0
      isplitl [S1]; · iexact S1
      isplitl [S2]; · iexact S2
      isplitl [S3]; · iexact S3
      isplitl [S4]; · iexact S4
      isplitl [S5]; · iexact S5
      iexact S6
    iexact HR
  isplitl [HO]; · iexact HO
  rw [bigSep_W1]
  isplitl [W0]
  · iexists (win1 (out1 t Y H) 0); isplitr; · ipureintro; exact hs.2 0
    iexact W0
  isplitl [W1]
  · iexists (win1 (out1 t Y H) 1); isplitr; · ipureintro; exact hs.2 1
    iexact W1
  isplitl [W2]
  · iexists (win1 (out1 t Y H) 2); isplitr; · ipureintro; exact hs.2 2
    iexact W2
  isplitl [W3]
  · iexists (win1 (out1 t Y H) 3); isplitr; · ipureintro; exact hs.2 3
    iexact W3
  isplitl [W4]
  · iexists (win1 (out1 t Y H) 4); isplitr; · ipureintro; exact hs.2 4
    iexact W4
  isplitl [W5]
  · iexists (win1 (out1 t Y H) 5); isplitr; · ipureintro; exact hs.2 5
    iexact W5
  iexists (win1 (out1 t Y H) 6); isplitr; · ipureintro; exact hs.2 6
  iexact W6

/-- At entry every on-chip buffer is at some contents. -/
theorem enter1 (V : Valuation τ sig (Elt F)) (inv : ℕ → Heap Search.shp Search.elt (Elt F) → Prop) (after) (h0 : ∀ H, inv 0 H) (c : Dev nD) :
    (Pipeline.scopedRest spec1 c : sProp 𝕄) ⊢ (rdat1 V inv after c).Φ 0 := by
  rw [show (Pipeline.scopedRest spec1 c : sProp 𝕄) = _ from scopedRest1_eq c]
  show BIBase.Entails _ (iprop((∃ H, ⌜inv 0 H⌝ ∗ scratch1 c H) ∗ rest1 c))
  unfold scratch1 rest1
  iintro ⟨Rstg0_0, Rstg1_0, Rstg1_1, Rstg2_0, Rstg2_1, Rstg3_0, Rstg4_0, Rscratch0, Rscratch1, Rscratch2, ⟨%fscratch0, Sscratch0⟩, ⟨%fscratch1, Sscratch1⟩, ⟨%fscratch2, Sscratch2⟩, ⟨%fscratch3, Sscratch3⟩, ⟨%fscratch4, Sscratch4⟩, ⟨%fscratch5, Sscratch5⟩, ⟨%fscratch6, Sscratch6⟩⟩
  isplitl [Sscratch0 Sscratch1 Sscratch2 Sscratch3 Sscratch4 Sscratch5 Sscratch6]
  · iexists (fun
      | 0 => fun _ => Classical.choice inferInstance
      | 1 => fun _ => Classical.choice inferInstance
      | 2 => fun _ => Classical.choice inferInstance
      | 3 => fun _ => Classical.choice inferInstance
      | 4 => fun _ => Classical.choice inferInstance
      | 5 => fun _ => Classical.choice inferInstance
      | 6 => fun _ => Classical.choice inferInstance
      | 7 => (Memref.whole cc1_scratch0).view.read (Elt F) fscratch0
      | 8 => (Memref.whole cc1_scratch1).view.read (Elt F) fscratch1
      | 9 => (Memref.whole cc1_scratch2).view.read (Elt F) fscratch2
      | 10 => (Memref.whole cc1_scratch3).view.read (Elt F) fscratch3
      | 11 => (Memref.whole cc1_scratch4).view.read (Elt F) fscratch4
      | 12 => (Memref.whole cc1_scratch5).view.read (Elt F) fscratch5
      | 13 => (Memref.whole cc1_scratch6).view.read (Elt F) fscratch6)
    isplitr; · ipureintro; exact h0 _
    isplitl [Sscratch0]
    · iapply (whole_owns c cc1_scratch0 fscratch0); iexact Sscratch0
    isplitl [Sscratch1]
    · iapply (whole_owns c cc1_scratch1 fscratch1); iexact Sscratch1
    isplitl [Sscratch2]
    · iapply (whole_owns c cc1_scratch2 fscratch2); iexact Sscratch2
    isplitl [Sscratch3]
    · iapply (whole_owns c cc1_scratch3 fscratch3); iexact Sscratch3
    isplitl [Sscratch4]
    · iapply (whole_owns c cc1_scratch4 fscratch4); iexact Sscratch4
    isplitl [Sscratch5]
    · iapply (whole_owns c cc1_scratch5 fscratch5); iexact Sscratch5
    iapply (whole_owns c cc1_scratch6 fscratch6); iexact Sscratch6
  isplitl [Rstg0_0]; · iexact Rstg0_0
  isplitl [Rstg1_0]; · iexact Rstg1_0
  isplitl [Rstg1_1]; · iexact Rstg1_1
  isplitl [Rstg2_0]; · iexact Rstg2_0
  isplitl [Rstg2_1]; · iexact Rstg2_1
  isplitl [Rstg3_0]; · iexact Rstg3_0
  isplitl [Rstg4_0]; · iexact Rstg4_0
  isplitl [Rscratch0]; · iexact Rscratch0
  isplitl [Rscratch1]; · iexact Rscratch1
  iexact Rscratch2

/-- At exit every on-chip buffer is at some contents. -/
theorem leave1 (V : Valuation τ sig (Elt F)) (inv : ℕ → Heap Search.shp Search.elt (Elt F) → Prop) (after) (c : Dev nD) :
    (rdat1 V inv after c).Φ (Fin.last _) ⊢ (Pipeline.scopedRest spec1 c : sProp 𝕄) := by
  rw [show (Pipeline.scopedRest spec1 c : sProp 𝕄) = _ from scopedRest1_eq c]
  show BIBase.Entails (iprop((∃ H, ⌜inv _ H⌝ ∗ scratch1 c H) ∗ rest1 c)) _
  unfold scratch1 rest1
  iintro ⟨⟨%H, -, Sscratch0, Sscratch1, Sscratch2, Sscratch3, Sscratch4, Sscratch5, Sscratch6⟩, Rstg0_0, Rstg1_0, Rstg1_1, Rstg2_0, Rstg2_1, Rstg3_0, Rstg4_0, Rscratch0, Rscratch1, Rscratch2⟩
  isplitl [Rstg0_0]
  · iexact Rstg0_0
  isplitl [Rstg1_0]
  · iexact Rstg1_0
  isplitl [Rstg1_1]
  · iexact Rstg1_1
  isplitl [Rstg2_0]
  · iexact Rstg2_0
  isplitl [Rstg2_1]
  · iexact Rstg2_1
  isplitl [Rstg3_0]
  · iexact Rstg3_0
  isplitl [Rstg4_0]
  · iexact Rstg4_0
  isplitl [Rscratch0]
  · iexact Rscratch0
  isplitl [Rscratch1]
  · iexact Rscratch1
  isplitl [Rscratch2]
  · iexact Rscratch2
  isplitl [Sscratch0]
  · iapply (owns_any c cc1_scratch0 _); iexact Sscratch0
  isplitl [Sscratch1]
  · iapply (owns_any c cc1_scratch1 _); iexact Sscratch1
  isplitl [Sscratch2]
  · iapply (owns_any c cc1_scratch2 _); iexact Sscratch2
  isplitl [Sscratch3]
  · iapply (owns_any c cc1_scratch3 _); iexact Sscratch3
  isplitl [Sscratch4]
  · iapply (owns_any c cc1_scratch4 _); iexact Sscratch4
  isplitl [Sscratch5]
  · iapply (owns_any c cc1_scratch5 _); iexact Sscratch5
  iapply (owns_any c cc1_scratch6 _); iexact Sscratch6

/-! ## The whole program -/

/-- The invariants and relations of the two regions, each for the valuation the region is entered at. -/
structure Plan (F : FTy → Type) [FloatOps F] where
  inv0 : Valuation τ sig (Elt F) → ℕ → Heap Stats.shp Stats.elt (Elt F) → Prop
  after0 : Valuation τ sig (Elt F) → (w : Fin cfg0.W) → Fin cfg0.N → ((cfg0.win w).block.Idx → Elt F (cfg0.win w).elt) → ((cfg0.win w).block.Idx → Elt F (cfg0.win w).elt) → Prop
  inv1 : Valuation τ sig (Elt F) → ℕ → Heap Search.shp Search.elt (Elt F) → Prop
  after1 : Valuation τ sig (Elt F) → (w : Fin cfg1.W) → Fin cfg1.N → ((cfg1.win w).block.Idx → Elt F (cfg1.win w).elt) → ((cfg1.win w).block.Idx → Elt F (cfg1.win w).elt) → Prop

/-- The proof data of both regions, entered at `V0` and `V1`. -/
def rdats (p : Plan F) (V0 V1 : Valuation τ sig (Elt F)) : (q : Fin 2) → (c : Dev nD) → RDat τ (Elt F) Unit ℕ (UU nD τ sig) Unit (Pipeline.pin (pcfgs (F := F)) (adm (F := F)) q) c
  | 0, c => rdat0 V0 (p.inv0 V0) (p.after0 V0) c
  | 1, c => rdat1 V1 (p.inv1 V1) (p.after1 V1) c

/-- What a run from `V` may end at, through some `V₁` between the two regions. -/
def Ends (p : Plan F) (V : Valuation τ sig (Elt F)) (c : Dev nD) (V₂ : Valuation τ sig (Elt F)) : Prop :=
  ∃ V₁ : Valuation τ sig (Elt F),
    ((∀ w, (rdat0 V (p.inv0 V) (p.after0 V) c).ArrAt w cfg0.N (V₁ (Proc.devRef .tc (Pipeline.arrRef spec0 w))))
      ∧ ∀ b : Ref sig .tc, (∀ w, Pipeline.arrRef spec0 w ≠ b) → V₁ (Proc.devRef .tc b) = V (Proc.devRef .tc b))
    ∧ ((∀ w, (rdat1 V₁ (p.inv1 V₁) (p.after1 V₁) c).ArrAt w cfg1.N (V₂ (Proc.devRef .tc (Pipeline.arrRef spec1 w))))
      ∧ ∀ b : Ref sig .tc, (∀ w, Pipeline.arrRef spec1 w ≠ b) → V₂ (Proc.devRef .tc b) = V₁ (Proc.devRef .tc b))

/-- Every execution from `m` ends, with the buffers at contents `Ends` allows and every semaphore at zero. -/
theorem run (p : Plan F) (h00 : ∀ V H, p.inv0 V 0 H) (h10 : ∀ V H, p.inv1 V 0 H) (hs0 : ∀ V, Step0 V (p.inv0 V) (p.after0 V)) (hs1 : ∀ V, Step1 V (p.inv1 V) (p.after1 V))
    (m : (ℓ : Loc nD τ sig) → Buf (Elt F) ℓ) (g : Dev nD → PrngReg) :
    θ_run (defs (F := F)) (onTc (τ := τ) (main (F := F))) ⟨m, fun _ => 0, g⟩ (fun r => (∀ c : Dev nD, ∃ V₂,
      Ends p (StableHlo.after hostOps0 (fun b => m (c, b))) c V₂ ∧
      ∀ b : Ref sig .tc, b.isScoped = false → r.2.mem ((c.tc : Thread nD τ).loc b) = V₂ (Proc.devRef .tc b)) ∧ r.2.sem = fun _ => 0) := by
  refine Launch.launch pcfgs adm (rdats p (fun b => Classical.choice inferInstance) (fun b => Classical.choice inferInstance)) cellOf_inj defs₀ Variants.none m g main
    (Pipeline.chain [StableHlo.seq hostOps0, Prog.lift (.customCall (Pipeline.entry 0) ()), Prog.lift (.customCall (Pipeline.entry 1) ())])
    main_chain (fun c V₂ => Ends p (StableHlo.after hostOps0 (fun b => m (c, b))) c V₂) (by decide) ?_
  intro c β k K
  have e : (Pipeline.chain [StableHlo.seq hostOps0, Prog.lift (.customCall (Pipeline.entry 0) ()), Prog.lift (.customCall (Pipeline.entry 1) ())] >>= k)
      = (StableHlo.seq hostOps0 >>= fun _ => .op (.customCall (Pipeline.entry 0) ()) fun _ => .op (.customCall (Pipeline.entry 1) ()) fun _ => k ⟨⟩) := by
    rw [Pipeline.chain_cons, Pipeline.chain_cons, Pipeline.chain_cons, Prog.bind_assoc]; rfl
  rw [e]
  have hseq := StableHlo.wp_seq (Ix := Unit) (Name := ℕ) (U := UU nD τ sig) (Lvl := Unit) (defs := Pipeline.defs (pcfgs (F := F)) defs₀) (Variants.lift Variants.none) none Set.univ c (Pipeline.ucRefs τ sig)
    (fun _ => .op (.customCall (Pipeline.entry 0) ()) fun _ => .op (.customCall (Pipeline.entry 1) ()) fun _ => k ⟨⟩) (K := K) hostOps0
    (fun op h => Pipeline.sub_ucRefs op ((List.forall_iff_forall_mem.mp hostOps0_sub) op h))
    (fun op h => (List.forall_iff_forall_mem.mp hostOps0_fresh) op h) (fun b => m (c, b))
  unfold Launch.ghosts
  have e2 : ∀ Φ : Fin 2 → sProp 𝕄, BI.bigSep Finset.univ Φ = iprop(Φ 0 ∗ Φ 1) := fun Φ =>
    BI.bigSep_univ_eq_bigSepL [(0 : Fin 2), (1 : Fin 2)] (by decide) (by decide) Φ
  rw [e2, e2]
  iintro ⟨Hk, Hbd, ⟨Hh, HO⟩, #Hla, ⟨⟨Hg0, Hg1⟩, ⟨Ht0, Ht1⟩⟩⟩
  iapply hseq $$ [Hbd Hh]
  · isplitl [Hbd] <;> iassumption
  iintro ⟨Hbd, Hh⟩
  iapply (Launch.region_step pcfgs adm (rdats p (StableHlo.after hostOps0 (fun b => m (c, b))) (StableHlo.after hostOps0 (fun b => m (c, b)))) cellOf_inj defs₀ Variants.none
    (p := 0) winFacts0 arr_whole0 block_pos0 stage_whole0 rfl (fun _ w => by unfold RDat.share; exact ite_self _) (fun _ _ => rfl) (fun _ => rfl)
    (StableHlo.after hostOps0 (fun b => m (c, b))) (fun _ _ => rfl) (fun c => body0 _ _ _ (hs0 _) c) (fun c => enter0 _ _ _ (h00 _) c) (fun c => leave0 _ _ _ c) c _ K)
  isplitr [Hbd Hh HO Hg0 Ht0]; swap
  · isplitl [Hbd]; · iexact Hbd
    isplitl [Hh HO]
    · isplitl [Hh]; · iexact Hh
      iexact HO
    isplitr; · iexact Hla
    isplitl [Hg0]; · iexact Hg0
    iexact Ht0
  iintro %V₁ %hV₁ ⟨Hbd, Hst⟩
  iapply (Launch.region_step pcfgs adm (rdats p (StableHlo.after hostOps0 (fun b => m (c, b))) V₁) cellOf_inj defs₀ Variants.none
    (p := 1) winFacts1 arr_whole1 block_pos1 stage_whole1 rfl (fun _ w => by unfold RDat.share; exact ite_self _) (fun _ _ => rfl) (fun _ => rfl)
    V₁ (fun _ _ => rfl) (fun c => body1 _ _ _ (hs1 _) c) (fun c => enter1 _ _ _ (h10 _) c) (fun c => leave1 _ _ _ c) c _ K)
  isplitr [Hbd Hst Hg1 Ht1]; swap
  · isplitl [Hbd]; · iexact Hbd
    isplitl [Hst]; · iexact Hst
    isplitr; · iexact Hla
    isplitl [Hg1]; · iexact Hg1
    iexact Ht1
  iintro %V₂ %hV₂ ⟨Hbd, Hst⟩
  iapply Hk $$ %V₂ %⟨V₁, hV₁, hV₂⟩
  isplitl [Hbd]; · iexact Hbd
  iexact Hst

/-- A run leaves the arguments as it found them. -/
theorem ends_args (p : Plan F) (V : Valuation τ sig (Elt F)) (c : Dev nD) (V₂ : Valuation τ sig (Elt F)) (h : Ends p V c V₂) :
    V₂ (Proc.devRef .tc main_arg0) = V (Proc.devRef .tc main_arg0) ∧ V₂ (Proc.devRef .tc main_arg1) = V (Proc.devRef .tc main_arg1) := by
  obtain ⟨V₁, ⟨ha, hb⟩, ⟨ha', hb'⟩⟩ := h
  refine ⟨(hb' main_arg0 (by decide)).trans (hb main_arg0 (by decide)), ?_⟩
  have h0 := ha 1
  have h1 := ha' 3
  rw [RDat.ArrAt_in _ _ rfl] at h0 h1
  exact h1.trans h0

/-- Nor does the host part before the regions. -/
theorem host_args (V : Valuation τ sig (Elt F)) :
    StableHlo.after hostOps0 V (Proc.devRef .tc main_arg0) = V (Proc.devRef .tc main_arg0)
      ∧ StableHlo.after hostOps0 V (Proc.devRef .tc main_arg1) = V (Proc.devRef .tc main_arg1) :=
  ⟨StableHlo.after_of_writes_sub hostOps0 V Gen.hostOps0_writes (by decide), StableHlo.after_of_writes_sub hostOps0 V Gen.hostOps0_writes (by decide)⟩

/-- The program runs to its end, leaves its arguments as they were and every semaphore at zero. -/
theorem frame (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) := by
  refine θ_run_mono (run (F := F) ⟨fun _ _ _ => True, fun _ _ _ _ _ => True, fun _ _ _ => True, fun _ _ _ _ _ => True⟩ (fun _ _ => trivial) (fun _ _ => trivial)
    (fun _ _ _ _ _ _ _ => ⟨trivial, fun _ => trivial⟩) (fun _ _ _ _ _ _ _ => ⟨trivial, fun _ => trivial⟩) m g) ?_
  rintro r ⟨h, hz⟩
  refine ⟨fun c => ?_, hz⟩
  obtain ⟨V₂, hV, hm⟩ := h c
  have e := ends_args _ _ c V₂ hV
  have e' := host_args (F := F) (fun b => m (c, b))
  exact ⟨(hm main_arg0 rfl).trans (e.1.trans e'.1), (hm main_arg1 rfl).trans (e.2.trans e'.2)⟩

end Cert.Proof.Ideal

end

end
-- ==== Proof.Rules.lean ====
/-
  Reasoning about what a body computes. `Post p H Q` says that the body `p`, run on the values `H`, ends with a result and values of
  which `Q` holds; one rule for each way a body is built. `Writes P p` says that `p` stores only to memrefs of which `P` holds.
-/
module

public import proofs.«01_k».proof.Proof.Shapes
public import Idealize.ShloMosaic.Lib.Pointwise

@[expose] public section

noncomputable section

namespace Cert.Proof.Code

open Idealize.ShloMosaic Idealize.ShloMosaic.TcCoe

variable {n : ℕ} {S : Fin n → Shape} {T : Fin n → EltTy} {Val : EltTy → Type} {α β : Type}

/-- Run on the values `H`, the body `p` ends with a result and values of which `Q` holds. -/
def Post (p : Code S T Val α) (H : Heap S T Val) (Q : α → Heap S T Val → Prop) : Prop := Q (p.run H).1 (p.run H).2

/-- A body stores only to memrefs of which `P` holds. -/
def Writes (P : Fin n → Prop) {α : Type} : Code S T Val α → Prop
  | ret _ => True
  | bind p q => p.Writes P ∧ ∀ a, (q a).Writes P
  | load _ _ _ => True
  | store k _ _ _ _ _ _ => P k
  | loop _ _ _ body => ∀ t x, (body t x).Writes P
  | when C p q => (∀ h : C, (p h).Writes P) ∧ q.Writes P
  | cond C p q => (∀ h : C, (p h).Writes P) ∧ q.Writes P

/-- The memrefs a body does not store to keep their values. -/
theorem Writes.keep {P : Fin n → Prop} {p : Code S T Val α} (hp : p.Writes P) (H : Heap S T Val) (k : Fin n) (hk : ¬ P k) : (p.run H).2 k = H k := by
  induction p generalizing H with
  | ret a => rw [run]
  | bind p q ihp ihq =>
    rw [Writes] at hp; rw [run]
    rw [ihq _ (hp.2 _), ihp hp.1]
  | load k' r h => rw [run]
  | store k' off size inb w h hw =>
    rw [Writes] at hp; rw [run]
    exact Function.update_of_ne (fun e : k = k' => hk (by rw [e]; exact hp)) _ _
  | loop l ok init body ih =>
    rw [Writes] at hp; rw [run]
    generalize List.finRange l.trips = L
    induction L generalizing init H with
    | nil => rfl
    | cons t L ihL => rw [List.foldl_cons, ihL, ih _ _ (hp _ _)]
  | when C p q ihp ihq =>
    rw [Writes] at hp; rw [run]
    split
    · next hC => rw [ihq hp.2, ihp hC (hp.1 hC)]
    · exact ihq hp.2 _
  | cond C p q ihp ihq =>
    rw [Writes] at hp; rw [run]
    split
    · next hC => exact ihp hC (hp.1 hC) _
    · exact ihq hp.2 _

/-- What stores only where `P` holds stores only where a weaker `Q` holds. -/
theorem Writes.mono {P Q : Fin n → Prop} {p : Code S T Val α} (hp : p.Writes P) (h : ∀ k, P k → Q k) : p.Writes Q := by
  induction p with
  | ret a => rw [Writes]; trivial
  | bind p q ihp ihq => rw [Writes] at hp ⊢; exact ⟨ihp hp.1, fun a => ihq a (hp.2 a)⟩
  | load k r h => rw [Writes]; trivial
  | store k off size inb w h' hw => rw [Writes] at hp ⊢; exact h _ hp
  | loop l ok init body ih => rw [Writes] at hp ⊢; exact fun t x => ih t x (hp t x)
  | when C p q ihp ihq => rw [Writes] at hp ⊢; exact ⟨fun h => ihp h (hp.1 h), ihq hp.2⟩
  | cond C p q ihp ihq => rw [Writes] at hp ⊢; exact ⟨fun h => ihp h (hp.1 h), ihq hp.2⟩

theorem writes_ret (P : Fin n → Prop) (a : α) : (ret a : Code S T Val α).Writes P := by rw [Writes]; trivial
theorem writes_bind {P : Fin n → Prop} {p : Code S T Val α} {q : α → Code S T Val β} (hp : p.Writes P) (hq : ∀ a, (q a).Writes P) : (bind p q).Writes P := by
  rw [Writes]; exact ⟨hp, hq⟩
theorem writes_load (P : Fin n → Prop) (k : Fin n) (r : LoadRect (S k)) (h : 0 < r.shape.numel) : (load k r h : Code S T Val _).Writes P := by rw [Writes]; trivial
theorem writes_ld (P : Fin n → Prop) (k : Fin n) (off size : Fin (S k).rank → ℕ) (inb : ∀ a, off a + size a ≤ (S k).size a) (h : 0 < Shape.numel ⟨(S k).rank, size⟩) :
    (ld k off size inb h : Code S T Val _).Writes P := by unfold ld; exact writes_load _ _ _ _
theorem writes_st {P : Fin n → Prop} {k : Fin n} (hk : P k) {off size : Fin (S k).rank → ℕ} {inb : ∀ a, off a + size a ≤ (S k).size a}
    {w : (Rect.unit (s := S k) off size inb).shape.Idx → Val (T k)} {h : 0 < Shape.numel ⟨(S k).rank, size⟩}
    {hw : (Rect.unit (s := S k) off size inb).PackedRows (T k).packing} : (st k off size inb w h hw).Writes P := by
  unfold st; exact writes_bind (writes_ld _ _ _ _ _ _) fun _ => by rw [Writes]; exact hk
theorem writes_loop {P : Fin n → Prop} {l : Scf.Loop 32} {ok : l.OK} {init : α} {body : Fin l.trips → α → Code S T Val α}
    (hb : ∀ t x, (body t x).Writes P) : (loop l ok init body).Writes P := by rw [Writes]; exact hb
theorem writes_steps {P : Fin n → Prop} {N : ℕ} {f : (g : ℕ) → g < N → Code S T Val PUnit} (hf : ∀ g hg, (f g hg).Writes P) :
    ∀ rem k h, (steps f k rem h).Writes P
  | 0, k, h => by unfold steps; exact writes_ret _ _
  | rem + 1, k, h => by unfold steps; exact writes_bind (hf _ _) fun _ => writes_steps hf rem _ _
theorem writes_accum {P : Fin n → Prop} {N : ℕ} {f : (g : ℕ) → g < N → α → Code S T Val α} (hf : ∀ g hg a, (f g hg a).Writes P) :
    ∀ rem k h a, (accum f k rem h a).Writes P
  | 0, k, h, a => by unfold accum; exact writes_ret _ _
  | rem + 1, k, h, a => by unfold accum; exact writes_bind (hf _ _ _) fun _ => writes_accum hf rem _ _ _

/-! ## The rules -/

theorem post_ret {a : α} {H : Heap S T Val} {Q : α → Heap S T Val → Prop} (h : Q a H) : Post (ret a) H Q := by
  unfold Post; rw [run]; exact h

theorem post_bind {p : Code S T Val α} {q : α → Code S T Val β} {H : Heap S T Val} {Q : β → Heap S T Val → Prop}
    (h : Post p H fun a H' => Post (q a) H' Q) : Post (bind p q) H Q := by
  unfold Post at h ⊢; rw [run]; exact h

theorem Post.mono {p : Code S T Val α} {H : Heap S T Val} {Q R : α → Heap S T Val → Prop} (h : Post p H Q) (hQ : ∀ a H', Q a H' → R a H') : Post p H R :=
  hQ _ _ h

/-- A body after which `Q` holds, then another. -/
theorem post_seq {p : Code S T Val α} {q : α → Code S T Val β} {H : Heap S T Val} {Q : α → Heap S T Val → Prop} {R : β → Heap S T Val → Prop}
    (h : Post p H Q) (hq : ∀ a H', Q a H' → Post (q a) H' R) : Post (bind p q) H R := post_bind (h.mono hq)

/-- What a body does not store to it keeps. -/
theorem Post.frame {P : Fin n → Prop} {p : Code S T Val α} {H : Heap S T Val} {Q : α → Heap S T Val → Prop} (h : Post p H Q) (hp : p.Writes P) :
    Post p H fun a H' => Q a H' ∧ ∀ k, ¬ P k → H' k = H k := ⟨h, hp.keep H⟩

theorem post_keep {P : Fin n → Prop} {p : Code S T Val α} (H : Heap S T Val) (hp : p.Writes P) : Post p H fun _ H' => ∀ k, ¬ P k → H' k = H k := hp.keep H

theorem post_load {k : Fin n} {r : LoadRect (S k)} {h : 0 < r.shape.numel} {H : Heap S T Val} {Q : (r.shape.Idx → Val (T k)) → Heap S T Val → Prop}
    (hQ : Q (fun j => H k (r.idx j)) H) : Post (load k r h) H Q := by unfold Post; rw [run]; exact hQ

/-- A load's value at `j` is the memref's at `off + j`. -/
theorem post_ld {k : Fin n} {off size : Fin (S k).rank → ℕ} {inb : ∀ a, off a + size a ≤ (S k).size a} {h : 0 < Shape.numel ⟨(S k).rank, size⟩}
    {H : Heap S T Val} {Q : (((a : Fin (S k).rank) → Fin (size a)) → Val (T k)) → Heap S T Val → Prop}
    (hQ : ∀ v : ((a : Fin (S k).rank) → Fin (size a)) → Val (T k), (∀ (j : (a : Fin (S k).rank) → Fin (size a)) (i : (S k).Idx), (∀ a, (i a).val = off a + (j a).val) → v j = H k i) → Q v H) :
    Post (ld k off size inb h) H Q := by
  unfold ld
  refine post_load (hQ _ fun j i hi => congrArg (H k) ?_)
  funext a; apply Fin.ext
  rw [hi a]
  show off a + 1 * (j a).val = _
  omega

/-- After a store the memref holds the stored value on the rectangle, what it held elsewhere. -/
theorem post_st {k : Fin n} {off size : Fin (S k).rank → ℕ} {inb : ∀ a, off a + size a ≤ (S k).size a}
    {w : (Rect.unit (s := S k) off size inb).shape.Idx → Val (T k)} {h : 0 < Shape.numel ⟨(S k).rank, size⟩}
    {hw : (Rect.unit (s := S k) off size inb).PackedRows (T k).packing} {H : Heap S T Val} {Q : PUnit → Heap S T Val → Prop}
    (hQ : ∀ H' : Heap S T Val, (∀ k', k' ≠ k → H' k' = H k') →
      (∀ (j : (a : Fin (S k).rank) → Fin (size a)) (i : (S k).Idx), (∀ a, (i a).val = off a + (j a).val) → H' k i = w j) →
      (∀ (i : (S k).Idx) (a : Fin (S k).rank), (i a).val < off a ∨ off a + size a ≤ (i a).val → H' k i = H k i) → Q ⟨⟩ H') :
    Post (st k off size inb w h hw) H Q := by
  unfold st
  refine post_bind (post_ld fun _ _ => ?_)
  unfold Post; rw [run]
  refine hQ _ (fun k' hk' => Function.update_of_ne hk' _ _) (fun j i hi => ?_) (fun i a ha => ?_)
  · show Function.update H k _ k i = _
    rw [Function.update_self]; exact putU_in off size w _ i j hi
  · show Function.update H k _ k i = _
    rw [Function.update_self]; exact putU_out off size w _ i a ha

theorem foldl_finRange {β : Type*} (m : ℕ) (f : β → Fin m → β) (I : ℕ → β → Prop) (hs : ∀ t x, I t.val x → I (t.val + 1) (f x t)) (x : β) (h0 : I 0 x) :
    I m ((List.finRange m).foldl f x) := by
  induction m generalizing x I with
  | zero => exact h0
  | succ m ih =>
    rw [List.finRange_succ, List.foldl_cons, List.foldl_map]
    exact ih (fun x t => f x t.succ) (fun t => I (t + 1)) (fun t x hx => hs t.succ x hx) _ (hs 0 x h0)

/-- A loop keeps an invariant numbered by the trips done. -/
theorem post_loop {l : Scf.Loop 32} {ok : l.OK} {init : α} {body : Fin l.trips → α → Code S T Val α} {H : Heap S T Val}
    (I : ℕ → α → Heap S T Val → Prop) (h0 : I 0 init H) (hs : ∀ t a H, I t.val a H → Post (body t a) H (I (t.val + 1))) :
    Post (loop l ok init body) H (I l.trips) := by
  unfold Post; rw [run]
  exact foldl_finRange (β := α × Heap S T Val) l.trips (fun x t => (body t x.1).run x.2) (fun t x => I t x.1 x.2) (fun t x hx => hs t x.1 x.2 hx) (init, H) h0

/-- Numbered steps keep an invariant numbered by the step to do next. -/
theorem post_steps {N : ℕ} {f : (g : ℕ) → g < N → Code S T Val PUnit} (I : ℕ → Heap S T Val → Prop)
    (hs : ∀ g hg H, I g H → Post (f g hg) H fun _ => I (g + 1)) : ∀ rem k h H, I k H → Post (steps f k rem h) H fun _ => I N
  | 0, k, h, H, h0 => by unfold steps; have : k = N := h; exact post_ret (this ▸ h0)
  | rem + 1, k, h, H, h0 => by unfold steps; exact post_seq (hs _ _ _ h0) fun _ H' h' => post_steps I hs rem _ _ H' h'

/-- A running result over numbered steps keeps an invariant numbered by the step to do next. -/
theorem post_accum {N : ℕ} {f : (g : ℕ) → g < N → α → Code S T Val α} (I : ℕ → α → Heap S T Val → Prop)
    (hs : ∀ g hg a H, I g a H → Post (f g hg a) H (I (g + 1))) : ∀ rem k h a H, I k a H → Post (accum f k rem h a) H (I N)
  | 0, k, h, a, H, h0 => by unfold accum; have : k = N := h; exact post_ret (this ▸ h0)
  | rem + 1, k, h, a, H, h0 => by unfold accum; exact post_seq (hs _ _ _ _ h0) fun _ H' h' => post_accum I hs rem _ _ _ H' h'

theorem post_when {C : Prop} [Decidable C] {p : C → Code S T Val PUnit} {q : Code S T Val α} {H : Heap S T Val} {Q : α → Heap S T Val → Prop}
    (hp : ∀ h : C, Post (p h) H fun _ H' => Post q H' Q) (hn : ¬ C → Post q H Q) : Post (when C p q) H Q := by
  unfold Post at hp hn ⊢; rw [run]
  split
  · next h => exact hp h
  · next h => exact hn h

theorem post_cond {C : Prop} [Decidable C] {p : C → Code S T Val α} {q : Code S T Val α} {H : Heap S T Val} {Q : α → Heap S T Val → Prop}
    (hp : ∀ h : C, Post (p h) H Q) (hn : ¬ C → Post q H Q) : Post (cond C p q) H Q := by
  unfold Post at hp hn ⊢; rw [run]
  split
  · next h => exact hp h
  · next h => exact hn h

end Cert.Proof.Code

namespace Cert.Proof

open Idealize.ShloMosaic

/-! ## Places in a rectangle, coordinate by coordinate -/

theorem at2 {m0 m1 n0 n1 o0 o1 : ℕ} {a : Fin m0} {b : Fin m1} {a' : Fin n0} {b' : Fin n1} (h0 : a.val = o0 + a'.val) (h1 : b.val = o1 + b'.val) :
    ∀ x : Fin 2, (ix2 a b x).val = (![o0, o1] : Fin 2 → ℕ) x + (ix2 a' b' x).val :=
  Fin.forall_fin_two.mpr ⟨h0, h1⟩

theorem at3 {m0 m1 m2 n0 n1 n2 o0 o1 o2 : ℕ} {a : Fin m0} {b : Fin m1} {c : Fin m2} {a' : Fin n0} {b' : Fin n1} {c' : Fin n2}
    (h0 : a.val = o0 + a'.val) (h1 : b.val = o1 + b'.val) (h2 : c.val = o2 + c'.val) :
    ∀ x : Fin 3, (ix3 a b c x).val = (![o0, o1, o2] : Fin 3 → ℕ) x + (ix3 a' b' c' x).val := by
  intro x; match x with | 0 => exact h0 | 1 => exact h1 | 2 => exact h2

theorem at4 {m0 m1 m2 m3 n0 n1 n2 n3 o0 o1 o2 o3 : ℕ} {a : Fin m0} {b : Fin m1} {c : Fin m2} {d : Fin m3} {a' : Fin n0} {b' : Fin n1} {c' : Fin n2} {d' : Fin n3}
    (h0 : a.val = o0 + a'.val) (h1 : b.val = o1 + b'.val) (h2 : c.val = o2 + c'.val) (h3 : d.val = o3 + d'.val) :
    ∀ x : Fin 4, (ix4 a b c d x).val = (![o0, o1, o2, o3] : Fin 4 → ℕ) x + (ix4 a' b' c' d' x).val := by
  intro x; match x with | 0 => exact h0 | 1 => exact h1 | 2 => exact h2 | 3 => exact h3

theorem at5 {m0 m1 m2 m3 m4 n0 n1 n2 n3 n4 o0 o1 o2 o3 o4 : ℕ} {a : Fin m0} {b : Fin m1} {c : Fin m2} {d : Fin m3} {e : Fin m4}
    {a' : Fin n0} {b' : Fin n1} {c' : Fin n2} {d' : Fin n3} {e' : Fin n4}
    (h0 : a.val = o0 + a'.val) (h1 : b.val = o1 + b'.val) (h2 : c.val = o2 + c'.val) (h3 : d.val = o3 + d'.val) (h4 : e.val = o4 + e'.val) :
    ∀ x : Fin 5, (ix5 a b c d e x).val = (![o0, o1, o2, o3, o4] : Fin 5 → ℕ) x + (ix5 a' b' c' d' e' x).val := by
  intro x; match x with | 0 => exact h0 | 1 => exact h1 | 2 => exact h2 | 3 => exact h3 | 4 => exact h4

end Cert.Proof
-- ==== Proof.Spec.lean ====
/-
  The mathematics of the search, over the extended reals: from weights `W k c` and scales `S i k` (candidate `i`, row `k`) the scaled
  weights, the quantiser's scale of every group of 64 rows, the codes, and two rows' codes packed in a byte; and from tokens `X b t k`
  and weights the scales themselves.
-/
module

public import Idealize.ShloMosaic.PureOps.Ideal
public import Idealize.ShloMosaic.Lib.IdealHost

@[expose] public section

noncomputable section

namespace Cert.Proof.Spec

open Idealize.ShloMosaic

/-- The value of an f32 constant. -/
abbrev fl (b : BitVec 32) : EReal := Ideal.ofBits .f32 b

/-- A magnitude. -/
abbrev mag (x : EReal) : EReal := max x (-x)

theorem fl_bot : fl 0xFF800000#32 = ⊥ := by simp [Ideal.ofBits, Ideal.ieee]
theorem fl_top : fl 0x7F800000#32 = ⊤ := by simp [Ideal.ofBits, Ideal.ieee]
theorem fl_zero : fl 0x00000000#32 = 0 := by simp [Ideal.ofBits, Ideal.ieee]
theorem fl_one : fl 0x3F800000#32 = 1 := Ideal.ofBits_one_f32
theorem fl_seven : fl 0x40E00000#32 = (7 : ℝ) := by simp [Ideal.ofBits, Ideal.ieee, -EReal.coe_mul]; norm_num
theorem fl_neg_seven : fl 0xC0E00000#32 = (-7 : ℝ) := by simp [Ideal.ofBits, Ideal.ieee, -EReal.coe_mul]; norm_num
theorem fl_twenty : fl 0x41A00000#32 = (20 : ℝ) := by simp [Ideal.ofBits, Ideal.ieee, -EReal.coe_mul]; norm_num

section Quantiser

variable (W : ℕ → ℕ → EReal) (S : ℕ → ℕ → EReal)

/-- A weight scaled for a candidate. -/
def scaled (i k c : ℕ) : EReal := W k c * S i k

/-- The largest magnitude of a group's scaled weights in a column. -/
def amax (i g c : ℕ) : EReal := (Finset.range 64).sup fun j => mag (scaled W S i (64 * g + j) c)

/-- The quantiser's scale from a largest magnitude: a seventh of it, and one where it is zero. -/
def scaleFrom (m : EReal) : EReal := if 0 < m then Ideal.div m (fl 0x40E00000#32) else fl 0x3F800000#32

/-- A group's quantiser scale. -/
def qscale (i g c : ℕ) : EReal := scaleFrom (amax W S i g c)

/-- A ratio rounded to the nearest integer, ties to even, and clipped to `[-7, 7]`. -/
def clipped (x : EReal) : EReal := min (fl 0x40E00000#32) (max (fl 0xC0E00000#32) (Ideal.liftRound Ideal.roundHalfEven x))

/-- A scaled weight's code, in `n` bits. -/
def code (n : ℕ) (i k c : ℕ) : BitVec n := Ideal.fptosi n (clipped (Ideal.div (scaled W S i k c) (qscale W S i (k / 64) c)))

/-- The codes of rows `2 r` and `2 r + 1` in a byte, the first one's low. -/
def packed (i r c : ℕ) : BitVec 8 := (code W S 8 i (2 * r) c &&& 15#8) ||| ((code W S 8 i (2 * r + 1) c &&& 15#8) <<< 4)

theorem scaleFrom_ne_zero (m : EReal) : scaleFrom m ≠ 0 := by
  unfold scaleFrom
  have h7 : fl 0x40E00000#32 = (7 : ℝ) := by simp [Ideal.ofBits, Ideal.ieee, -EReal.coe_mul]; norm_num
  split
  · next h =>
    rw [h7, Ideal.div, if_neg (by norm_num)]
    refine (EReal.mul_pos h ?_).ne'
    rw [← EReal.coe_inv]
    exact EReal.coe_pos.mpr (by norm_num)
  · rw [show fl 0x3F800000#32 = 1 from Ideal.ofBits_one_f32]; exact one_ne_zero

end Quantiser

section Table

variable (X : ℕ → ℕ → ℕ → EReal) (W : ℕ → ℕ → EReal)

/-- A row's mean magnitude over the 768 tokens, as their sum times a rounded 1/768. -/
def mean (k : ℕ) : EReal := (∑ b ∈ Finset.range 3, ∑ t ∈ Finset.range 256, mag (X b t k)) * fl 0x3AAAAAAB#32

/-- The largest magnitude of a group's weights in a column. -/
def top (g c : ℕ) : EReal := (Finset.range 64).sup fun j => mag (W (64 * g + j) c)

/-- A weight's magnitude relative to its group's largest. -/
def rel (k c : ℕ) : EReal := Ideal.div (mag (W k c)) (top W (k / 64) c + fl 0x358637BD#32)

/-- A row's mean relative magnitude over the 5760 columns, as their sum times a rounded 1/5760. -/
def relMean (k : ℕ) : EReal := (∑ c ∈ Finset.range 5760, rel W k c) * fl 0x39360B61#32

/-- A candidate's exponent. -/
def ratio (i : ℕ) : EReal := Ideal.div ((i : ℝ) : EReal) (fl 0x41A00000#32)

/-- A row's scale before normalising. -/
def raw (i k : ℕ) : EReal :=
  max (Ideal.div (Ideal.pow (mean X k) (ratio i)) (Ideal.pow (relMean W k) (fl 0x3F800000#32 - ratio i) + fl 0x38D1B717#32)) (fl 0x38D1B717#32)

/-- A row's scale: divided by the geometric mean of the candidate's largest and smallest. -/
def table (i k : ℕ) : EReal :=
  Ideal.div (raw X W i k) (Ideal.sqrt (((Finset.range 2880).sup fun k => raw X W i k) * ((Finset.range 2880).inf fun k => raw X W i k)))

end Table

end Cert.Proof.Spec
-- ==== Proof.SpecFacts.lean ====
/-
  Facts about the mathematics of the search: which of its quantities are not negative, powers of such, and sums taken in strips.
-/
module

public import proofs.«01_k».proof.Proof.Spec

@[expose] public section

noncomputable section

namespace Cert.Proof.Spec

open Idealize.ShloMosaic

theorem fl_eps_pos : 0 < fl 0x358637BD#32 := by
  simp [Ideal.ofBits, Ideal.ieee, -EReal.coe_mul]

theorem fl_floor_pos : 0 < fl 0x38D1B717#32 := by
  simp [Ideal.ofBits, Ideal.ieee, -EReal.coe_mul]

theorem fl_tokens_pos : 0 < fl 0x3AAAAAAB#32 := by
  simp [Ideal.ofBits, Ideal.ieee, -EReal.coe_mul]

theorem fl_columns_pos : 0 < fl 0x39360B61#32 := by
  simp [Ideal.ofBits, Ideal.ieee, -EReal.coe_mul]

theorem mag_nonneg (x : EReal) : 0 ≤ mag x := by
  rcases le_total 0 x with h | h
  · exact h.trans (le_max_left _ _)
  · exact (EReal.neg_nonneg.mpr h).trans (le_max_right _ _)

variable (X : ℕ → ℕ → ℕ → EReal) (W : ℕ → ℕ → EReal)

theorem top_nonneg (g c : ℕ) : 0 ≤ top W g c :=
  (mag_nonneg _).trans (Finset.le_sup (f := fun j => mag (W (64 * g + j) c)) (Finset.mem_range.mpr (show 0 < 64 by norm_num)))

theorem top_add_pos (g c : ℕ) : 0 < top W g c + fl 0x358637BD#32 := lt_of_lt_of_le fl_eps_pos (le_add_of_nonneg_left (top_nonneg W g c))

theorem rel_nonneg (k c : ℕ) : 0 ≤ rel W k c := by
  have h := top_add_pos W (k / 64) c
  rw [rel, Ideal.div, if_neg h.ne']
  exact mul_nonneg (mag_nonneg _) (EReal.inv_nonneg_of_nonneg h.le)

theorem relMean_nonneg (k : ℕ) : 0 ≤ relMean W k := mul_nonneg (Finset.sum_nonneg fun _ _ => rel_nonneg W _ _) fl_columns_pos.le

theorem mean_nonneg (k : ℕ) : 0 ≤ mean X k := mul_nonneg (Finset.sum_nonneg fun _ _ => Finset.sum_nonneg fun _ _ => mag_nonneg _) fl_tokens_pos.le

theorem raw_pos (i k : ℕ) : 0 < raw X W i k := lt_of_lt_of_le fl_floor_pos (le_max_right _ _)

/-- A candidate's exponent is a real number. -/
theorem ratio_eq (i : ℕ) : ratio i = ((i / 20 : ℝ) : EReal) := by
  rw [ratio, fl_twenty, Ideal.div, if_neg (by norm_num), ← EReal.coe_inv, ← EReal.coe_mul, div_eq_mul_inv]

theorem one_sub_ratio_eq (i : ℕ) : fl 0x3F800000#32 - ratio i = ((1 - i / 20 : ℝ) : EReal) := by
  rw [ratio_eq, fl_one]; norm_cast

/-- A power of a number that is not negative, to a real exponent: the powers of zero told apart. -/
theorem pow_split (b : EReal) (hb : 0 ≤ b) (x : ℝ) : Ideal.pow b x = if 0 < b then Ideal.pow b x else if (x : EReal) = 0 then 1 else 0 := by
  split
  · rfl
  · next h =>
    obtain rfl : b = 0 := le_antisymm (not_lt.mp h) hb
    show ((Real.rpow 0 x : ℝ) : EReal) = _
    rw [Real.rpow_eq_pow]
    by_cases hx : x = 0
    · subst hx; rw [Real.rpow_zero]; simp
    · rw [Real.zero_rpow hx, if_neg (by exact_mod_cast hx)]; rfl

/-- A sum over the columns taken strip by strip. -/
theorem sum_strips (f : ℕ → EReal) (n : ℕ) : ∑ l ∈ Finset.range 128, ∑ j ∈ Finset.range n, f (128 * j + l) = ∑ c ∈ Finset.range (128 * n), f c := by
  induction n with
  | zero => simp
  | succ n ih =>
    simp only [Finset.sum_range_succ _ n, Finset.sum_add_distrib]
    rw [ih, Nat.mul_succ, Finset.sum_range_add]

end Cert.Proof.Spec
-- ==== Proof.SearchScale.lean ====
/-
  What scaling a strip computes: the scaled weights of every group for both candidates, and each group's partial maxima.
-/
module

public import proofs.«01_k».proof.Proof.Rules
public import proofs.«01_k».proof.Proof.Spec
public import proofs.«01_k».proof.Proof.Search

@[expose] public section

noncomputable section

namespace Cert.Proof.Search

open Idealize.ShloMosaic Idealize.ShloMosaic.TcCoe Cert.Proof Cert.Proof.Code Cert.Proof.Spec

/-- The call's memrefs' values, over the extended reals. -/
abbrev Hp := Heap shp elt (Elt Ideal)

/-! Reading a memref at a place. -/

abbrev r1 (H : Hp) (g : Fin 45) (h : Fin 2) (r : Fin 32) (l : Fin 128) : EReal := H 1 (ix4 g h r l)
abbrev r3 (H : Hp) (k : Fin 2880) (c : Fin 640) : EReal := H 3 (ix2 k c)
abbrev r5 (H : Hp) (a : Fin 2) (r : Fin 1440) (c : Fin 640) : BitVec 8 := H 5 (ix3 a r c)
abbrev r6 (H : Hp) (a : Fin 2) (g : Fin 45) (c : Fin 640) : EReal := H 6 (ix3 a g c)
abbrev r7 (H : Hp) (a : Fin 2) (g : Fin 45) (h : Fin 2) (r : Fin 32) (l : Fin 128) : EReal := H 7 (ix5 a g h r l)
abbrev r8 (H : Hp) (a : Fin 2) (g : Fin 45) (h : Fin 2) (r : Fin 32) (l : Fin 128) : EReal := H 8 (ix5 a g h r l)
abbrev r9 (H : Hp) (a : Fin 2) (g : Fin 45) (h : Fin 2) (r : Fin 32) (l : Fin 128) : EReal := H 9 (ix5 a g h r l)
abbrev r10 (H : Hp) (a : Fin 2) (p : Fin 384) (l : Fin 128) : EReal := H 10 (ix3 a p l)
abbrev r11 (H : Hp) (a q : Fin 2) (g : Fin 48) (l : Fin 128) : EReal := H 11 (ix4 a q g l)
abbrev r12 (H : Hp) (s a : Fin 2) (p : Fin 3072) (l : Fin 128) : EReal := H 12 (ix4 s a p l)
abbrev r13 (H : Hp) (j : Fin 45) (i : Fin 20) (l : Fin 128) : EReal := H 13 (ix3 j i l)

theorem scaleHalf_writes (g : ℕ) (hg : g < 45) (e o : FVec Ideal S32x128 .f32) (a : ℕ) (ha : a < 2) :
    (scaleHalf g hg e o a ha).Writes fun k => k = 9 ∨ k = 10 := by
  unfold scaleHalf
  exact writes_bind (writes_ld _ _ _ _ _ _) fun _ => writes_bind (writes_ld _ _ _ _ _ _) fun _ =>
    writes_bind (writes_st (.inl rfl)) fun _ => writes_bind (writes_st (.inl rfl)) fun _ => writes_st (.inr rfl)

/-- One candidate's half of a group. -/
theorem scaleHalf_post (H : Hp) (g : Fin 45) (e o : FVec Ideal S32x128 .f32) (a : Fin 2) :
    Post (scaleHalf g.val g.isLt e o a.val a.isLt) H fun _ H' =>
      (∀ h r l, r9 H' a g h r l = (if h.val = 0 then e (ix2 r l) else o (ix2 r l)) * r7 H a g h r l)
      ∧ (∀ a' g' h r l, a' ≠ a ∨ g' ≠ g → r9 H' a' g' h r l = r9 H a' g' h r l)
      ∧ (∀ (j : Fin 8) (p : Fin 384) l, p.val = 8 * g.val + j.val → ∀ y, r10 H' a p l ≤ y ↔
          ∀ (t : Fin 4) (h : Fin 2), mag (r9 H' a g h ⟨t.val * 8 + j.val, by omega⟩ l) ≤ y)
      ∧ (∀ a' (p : Fin 384) l, a' ≠ a ∨ p.val / 8 ≠ g.val → r10 H' a' p l = r10 H a' p l) := by
  unfold scaleHalf
  refine post_bind (post_ld fun (s0 : S1x1x1x32x128.Idx → EReal) hs0 => post_bind (post_ld fun (s1 : S1x1x1x32x128.Idx → EReal) hs1 => ?_))
  refine post_bind (post_st fun H1 k1 i1 o1 => post_bind (post_st fun H2 k2 i2 o2 => post_st fun H3 k3 i3 o3 => ?_))
  have e9 : H3 9 = H2 9 := k3 9 (by decide)
  have e10 : H2 10 = H 10 := (k2 10 (by decide)).trans (k1 10 (by decide))
  have v0 : ∀ r l, r9 H3 a g 0 r l = e (ix2 r l) * r7 H a g 0 r l := fun r l => by
    have h1 : r9 H3 a g 0 r l = r9 H1 a g 0 r l := (congrFun e9 _).trans (o2 (ix5 a g 0 r l) (2 : Fin 5) (.inl Nat.zero_lt_one))
    have h2 := i1 (ix5 (0 : Fin 1) (0 : Fin 1) (0 : Fin 1) r l) (ix5 a g 0 r l) (at5 (by simp) (by simp) (by simp) (by simp) (by simp))
    have h3 := hs0 (ix5 (0 : Fin 1) (0 : Fin 1) (0 : Fin 1) r l) (ix5 a g 0 r l) (at5 (by simp) (by simp) (by simp) (by simp) (by simp))
    rw [h1]
    refine h2.trans ?_
    pointwise
    exact congrArg (e (ix2 r l) * ·) h3
  have v1 : ∀ r l, r9 H3 a g 1 r l = o (ix2 r l) * r7 H a g 1 r l := fun r l => by
    have h1 : r9 H3 a g 1 r l = r9 H2 a g 1 r l := congrFun e9 _
    have h2 := i2 (ix5 (0 : Fin 1) (0 : Fin 1) (0 : Fin 1) r l) (ix5 a g 1 r l) (at5 (by simp) (by simp) (by simp) (by simp) (by simp))
    have h3 := hs1 (ix5 (0 : Fin 1) (0 : Fin 1) (0 : Fin 1) r l) (ix5 a g 1 r l) (at5 (by simp) (by simp) (by simp) (by simp) (by simp))
    rw [h1]
    refine h2.trans ?_
    pointwise
    exact congrArg (o (ix2 r l) * ·) h3
  refine ⟨fun h r l => ?_, fun a' g' h r l hne => ?_, fun j p l hp y => ?_, fun a' p l hne => ?_⟩
  · match h with
    | 0 => exact v0 r l
    | 1 => exact v1 r l
  · refine (congrFun e9 _).trans ?_
    rcases hne with hne | hne
    · have hne := Fin.val_ne_of_ne hne
      exact (o2 (ix5 a' g' h r l) (0 : Fin 5) (show a'.val < a.val ∨ a.val + 1 ≤ a'.val by omega)).trans
        (o1 (ix5 a' g' h r l) (0 : Fin 5) (show a'.val < a.val ∨ a.val + 1 ≤ a'.val by omega))
    · have hne := Fin.val_ne_of_ne hne
      exact (o2 (ix5 a' g' h r l) (1 : Fin 5) (show g'.val < g.val ∨ g.val + 1 ≤ g'.val by omega)).trans
        (o1 (ix5 a' g' h r l) (1 : Fin 5) (show g'.val < g.val ∨ g.val + 1 ≤ g'.val by omega))
  · have h2 := i3 (ix3 (0 : Fin 1) j l) (ix3 a p l) (at3 (by simp) (by simpa using hp) (by simp))
    have h3 := fun r : Fin 32 => hs0 (ix5 (0 : Fin 1) (0 : Fin 1) (0 : Fin 1) r l) (ix5 a g 0 r l) (at5 (by simp) (by simp) (by simp) (by simp) (by simp))
    have h4 := fun r : Fin 32 => hs1 (ix5 (0 : Fin 1) (0 : Fin 1) (0 : Fin 1) r l) (ix5 a g 1 r l) (at5 (by simp) (by simp) (by simp) (by simp) (by simp))
    have e1 : r10 H3 a p l = Finset.univ.fold max (fl 0xFF800000#32) fun x : Fin 4 =>
        max (mag (e (ix2 (⟨x.val * 8 + j.val, by omega⟩ : Fin 32) l) * s0 (ix5 (0 : Fin 1) (0 : Fin 1) (0 : Fin 1) (⟨x.val * 8 + j.val, by omega⟩ : Fin 32) l)))
          (mag (o (ix2 (⟨x.val * 8 + j.val, by omega⟩ : Fin 32) l) * s1 (ix5 (0 : Fin 1) (0 : Fin 1) (0 : Fin 1) (⟨x.val * 8 + j.val, by omega⟩ : Fin 32) l))) := by
      refine h2.trans ?_
      pointwise
      rfl
    rw [e1, Finset.fold_max_le, fl_bot]
    have e2 : ∀ t : Fin 4, _ := fun t : Fin 4 => v0 ⟨t.val * 8 + j.val, by omega⟩ l
    have e3 : ∀ t : Fin 4, _ := fun t : Fin 4 => v1 ⟨t.val * 8 + j.val, by omega⟩ l
    constructor
    · rintro ⟨-, hx⟩ t h
      have := max_le_iff.mp (hx t (Finset.mem_univ _))
      rw [h3, h4] at this
      match h with
      | 0 => rw [e2]; exact this.1
      | 1 => rw [e3]; exact this.2
    · intro hx
      refine ⟨bot_le, fun t _ => ?_⟩
      have p0 := hx t 0
      have p1 := hx t 1
      rw [e2] at p0; rw [e3] at p1
      rw [h3, h4]
      exact max_le_iff.mpr ⟨p0, p1⟩
  · by_cases h : a' = a
    · refine (o3 (ix3 a' p l) (1 : Fin 3) ?_).trans (congrFun e10 _)
      show p.val < 8 * g.val ∨ 8 * g.val + 8 ≤ p.val
      rcases hne with hne | hne
      · exact absurd h hne
      · omega
    · have h := Fin.val_ne_of_ne h
      exact (o3 (ix3 a' p l) (0 : Fin 3) (show a'.val < a.val ∨ a.val + 1 ≤ a'.val by omega)).trans (congrFun e10 _)

/-- Even and odd rows read as they are, and quantiser scales kept as they are. -/
structure Plain (R : Reads Ideal) : Prop where
  even : ∀ (v : Vec Ideal S64x128 .bf16) (r : Fin 32) (l : Fin 128), R.even v (ix2 r l) = v (ix2 ⟨2 * r.val, by omega⟩ l)
  odd : ∀ (v : Vec Ideal S64x128 .bf16) (r : Fin 32) (l : Fin 128), R.odd v (ix2 r l) = v (ix2 ⟨2 * r.val + 1, by omega⟩ l)
  even' : ∀ (v : Vec Ideal S64x256 .bf16) (r : Fin 32) (l : Fin 256), R.even' v (ix2 r l) = v (ix2 ⟨2 * r.val, by omega⟩ l)
  odd' : ∀ (v : Vec Ideal S64x256 .bf16) (r : Fin 32) (l : Fin 256), R.odd' v (ix2 r l) = v (ix2 ⟨2 * r.val + 1, by omega⟩ l)
  round : ∀ s, R.round s = s

variable (W S : ℕ → ℕ → EReal)

/-- The block's weights, the pair's spread scales and their inverses in their places. -/
structure Given (H : Hp) : Prop where
  w : ∀ k c, r3 H k c = W k.val c.val
  s : ∀ a g h r l, r7 H a g h r l = S a.val (64 * g.val + 2 * r.val + h.val)
  v : ∀ a g h r l, r8 H a g h r l = Ideal.div (fl 0x3F800000#32) (S a.val (64 * g.val + 2 * r.val + h.val))

/-- The groups below `n` of the strip at the columns from `col` scaled, and their partial maxima kept. -/
structure ScaledTo (col n : ℕ) (H : Hp) : Prop where
  v : ∀ a g h r l, g.val < n → r9 H a g h r l = scaled W S a.val (64 * g.val + 2 * r.val + h.val) (col + l.val)
  m : ∀ a (p : Fin 384) l, p.val < 8 * n → ∀ y, r10 H a p l ≤ y ↔
    ∀ (t : Fin 4) (h : Fin 2), mag (scaled W S a.val (64 * (p.val / 8) + 2 * (t.val * 8 + p.val % 8) + h.val) (col + l.val)) ≤ y

variable {W S}

theorem Given.of_keep {H H' : Hp} (h : Given W S H) (h3 : H' 3 = H 3) (h7 : H' 7 = H 7) (h8 : H' 8 = H 8) : Given W S H' :=
  ⟨fun k c => (congrFun h3 _).trans (h.w k c), fun a g h' r l => (congrFun h7 _).trans (h.s a g h' r l), fun a g h' r l => (congrFun h8 _).trans (h.v a g h' r l)⟩

theorem scaleGroup_writes (R : Reads Ideal) (col : ℕ) (hcol : col + 128 ≤ 640) (g : ℕ) (hg : g < 45) :
    (scaleGroup R col hcol g hg).Writes fun k => k = 9 ∨ k = 10 := by
  unfold scaleGroup
  exact writes_bind (writes_ld _ _ _ _ _ _) fun _ => writes_bind (scaleHalf_writes _ _ _ _ _ _) fun _ => scaleHalf_writes _ _ _ _ _ _

theorem scaleGroup_post {R : Reads Ideal} (hR : Plain R) (col : ℕ) (hcol : col + 128 ≤ 640) (g : ℕ) (hg : g < 45) (H : Hp) (hH : Given W S H)
    (hI : ScaledTo W S col g H) : Post (scaleGroup R col hcol g hg) H fun _ H' => Given W S H' ∧ ScaledTo W S col (g + 1) H' := by
  unfold scaleGroup
  refine post_bind (post_ld fun (w : S64x128.Idx → EReal) hw => ?_)
  refine post_seq ((scaleHalf_post H ⟨g, hg⟩ _ _ 0).frame (scaleHalf_writes _ _ _ _ _ _)) fun _ H1 ⟨⟨a1, a2, a3, a4⟩, a5⟩ => ?_
  refine ((scaleHalf_post H1 ⟨g, hg⟩ _ _ 1).frame (scaleHalf_writes _ _ _ _ _ _)).mono fun _ H2 ⟨⟨b1, b2, b3, b4⟩, b5⟩ => ?_
  have k7 : H1 7 = H 7 := a5 7 (by decide)
  have hH2 : Given W S H2 := hH.of_keep ((b5 3 (by decide)).trans (a5 3 (by decide))) ((b5 7 (by decide)).trans k7) ((b5 8 (by decide)).trans (a5 8 (by decide)))
  have hw' : ∀ (k : Fin 64) (l : Fin 128), w (ix2 k l) = W (64 * g + k.val) (col + l.val) := fun k l =>
    (hw (ix2 k l) (ix2 (⟨64 * g + k.val, by omega⟩ : Fin 2880) (⟨col + l.val, by omega⟩ : Fin 640)) (at2 rfl rfl)).trans (hH.w _ _)
  have hv : ∀ (h : Fin 2) (r : Fin 32) (l : Fin 128), (if h.val = 0 then R.even w (ix2 r l) else R.odd w (ix2 r l)) = W (64 * g + 2 * r.val + h.val) (col + l.val) := fun h r l => by
    match h with
    | 0 => exact (hR.even w r l).trans (hw' _ _)
    | 1 => exact (hR.odd w r l).trans (hw' _ _)
  have now : ∀ a h r l, r9 H2 a ⟨g, hg⟩ h r l = scaled W S a.val (64 * g + 2 * r.val + h.val) (col + l.val) := fun a h r l => by
    match a with
    | 0 =>
      rw [b2 0 ⟨g, hg⟩ h r l (.inl (by decide)), a1, hv, hH.s]; rfl
    | 1 =>
      rw [b1, hv, show r7 H1 1 ⟨g, hg⟩ h r l = r7 H 1 ⟨g, hg⟩ h r l from congrFun k7 _, hH.s]; rfl
  refine ⟨hH2, ⟨fun a g' h r l hg' => ?_, fun a p l hp y => ?_⟩⟩
  · by_cases e : g'.val = g
    · obtain rfl : g' = ⟨g, hg⟩ := Fin.ext e
      exact now a h r l
    · have e' : g' ≠ ⟨g, hg⟩ := fun h => e (congrArg Fin.val h)
      rw [b2 a g' h r l (.inr e'), a2 a g' h r l (.inr e')]
      exact hI.v a g' h r l (by omega)
  · by_cases e : p.val / 8 = g
    · have key : r10 H2 a p l ≤ y ↔ ∀ (t : Fin 4) (h : Fin 2), mag (r9 H2 a ⟨g, hg⟩ h ⟨t.val * 8 + p.val % 8, by omega⟩ l) ≤ y := by
        match a with
        | 0 =>
          rw [b4 0 p l (.inl (by decide)), a3 ⟨p.val % 8, by omega⟩ p l (show p.val = 8 * g + p.val % 8 by omega)]
          simp only [fun h r l => b2 0 ⟨g, hg⟩ h r l (.inl (by decide))]
        | 1 => exact b3 ⟨p.val % 8, by omega⟩ p l (show p.val = 8 * g + p.val % 8 by omega) y
      rw [key, e]
      simp only [now]
    · rw [b4 a p l (.inr e), a4 a p l (.inr e)]
      exact hI.m a p l (by omega) y

/-- A strip's groups all scaled. -/
theorem scaled_post {R : Reads Ideal} (hR : Plain R) (col : ℕ) (hcol : col + 128 ≤ 640) (H : Hp) (hH : Given W S H) :
    Post (.steps (N := 45) (fun g hg => scaleGroup R col hcol g hg) 0 45 rfl) H fun _ H' => Given W S H' ∧ ScaledTo W S col 45 H' :=
  post_steps (fun n H => Given W S H ∧ ScaledTo W S col n H) (fun g hg H h => scaleGroup_post hR col hcol g hg H h.1 h.2) 45 0 rfl H
    ⟨hH, ⟨fun _ _ _ _ _ h => absurd h (Nat.not_lt_zero _), fun _ _ _ h => absurd h (Nat.not_lt_zero _)⟩⟩

end Cert.Proof.Search
-- ==== Proof.StatsSums.lean ====
/-
  The sums the statistics call takes: every row's mean magnitude over the tokens, and the running sums over the columns of every
  weight's magnitude relative to its group's largest.
-/
module

public import proofs.«01_k».proof.Proof.Rules
public import proofs.«01_k».proof.Proof.SpecFacts
public import proofs.«01_k».proof.Proof.SearchScale
public import proofs.«01_k».proof.Proof.Stats

@[expose] public section

noncomputable section

namespace Cert.Proof.Stats

open Idealize.ShloMosaic Idealize.ShloMosaic.TcCoe Cert.Proof Cert.Proof.Code Cert.Proof.Spec
open Cert.Proof.Search (Reads groups groups_ok groupN groupN_eq groupN_lt Plain)

/-- The call's memrefs' values, over the extended reals. -/
abbrev Hp := Heap shp elt (Elt Ideal)

/-! Reading a memref at a place. -/

abbrev s0 (H : Hp) (b : Fin 3) (k : Fin 2880) (t : Fin 256) : EReal := H 0 (ix3 b k t)
abbrev s1 (H : Hp) (k : Fin 2880) (c : Fin 640) : EReal := H 1 (ix2 k c)
abbrev s4 (H : Hp) (g : Fin 45) (h : Fin 2) (r : Fin 32) (l : Fin 128) : EReal := H 4 (ix4 g h r l)
abbrev s5 (H : Hp) (g : Fin 45) (h : Fin 2) (r : Fin 32) (l : Fin 128) : EReal := H 5 (ix4 g h r l)
abbrev s6 (H : Hp) (g : Fin 45) (h : Fin 2) (r : Fin 32) (l : Fin 128) : EReal := H 6 (ix4 g h r l)

/-! ## What each part stores to -/

theorem rows_writes (P : Fin 8 → Prop) (b : ℕ) (hb : b < 3) (r : ℕ) (hr : r + 64 ≤ 2880) : (rows (F := Ideal) b hb r hr).Writes P := by
  unfold rows; exact writes_bind (writes_ld _ _ _ _ _ _) fun _ => writes_ret _ _

theorem keepTile_writes (c : ℕ) (hc : c < 24) (b : ℕ) (hb : b < 3) (v : FVec Ideal S128x256 .f32) : (keepTile c hc b hb v).Writes fun k => k = 3 := by
  unfold keepTile; exact writes_st (P := fun k => k = 3) rfl

theorem tiles_writes (R : Reads Ideal) : (tiles R).Writes fun k => k = 3 := by
  have h1 : ∀ c hc b hb, (tile R c hc b hb).Writes fun k => k = 3 := fun c hc b hb => by
    unfold tile; exact writes_bind (rows_writes _ _ _ _ _) fun _ => writes_bind (rows_writes _ _ _ _ _) fun _ => keepTile_writes _ _ _ _ _
  have h2 : ∀ b hb, (tileLast R b hb).Writes fun k => k = 3 := fun b hb => by
    unfold tileLast; exact writes_bind (rows_writes _ _ _ _ _) fun _ => keepTile_writes _ _ _ _ _
  have h3 : ∀ b hb, (tileZero (F := Ideal) b hb).Writes fun k => k = 3 := fun b hb => by unfold tileZero; exact keepTile_writes _ _ _ _ _
  unfold tiles
  exact writes_bind (writes_steps (fun _ _ => writes_bind (h1 _ _ _ _) fun _ => writes_bind (h1 _ _ _ _) fun _ => h1 _ _ _ _) _ _ _) fun _ =>
    writes_bind (writes_bind (h2 _ _) fun _ => writes_bind (h2 _ _) fun _ => h2 _ _) fun _ =>
    writes_bind (h3 _ _) fun _ => writes_bind (h3 _ _) fun _ => h3 _ _

theorem clear_writes : (clear (F := Ideal)).Writes fun k => k = 6 ∨ k = 7 := by
  unfold clear; exact writes_bind (writes_st (.inl rfl)) fun _ => writes_st (.inr rfl)

theorem mean_writes (R : Reads Ideal) (t : Fin groups.trips) : (mean R t).Writes fun k => k = 5 := by
  unfold mean
  exact writes_bind (rows_writes _ _ _ _ _) fun _ => writes_bind (rows_writes _ _ _ _ _) fun _ => writes_bind (rows_writes _ _ _ _ _) fun _ =>
    writes_bind (writes_st (P := fun k => k = 5) rfl) fun _ => writes_st (P := fun k => k = 5) rfl

theorem addRel_writes (t : Fin groups.trips) (h : ℕ) (hh : h < 2) (v : FVec Ideal S32x128 .f32) (inv : FVec Ideal S1x128 .f32) :
    (addRel t h hh v inv).Writes fun k => k = 6 := by
  unfold addRel; exact writes_bind (writes_ld _ _ _ _ _ _) fun _ => writes_st (P := fun k => k = 6) rfl

theorem groupStrip_writes (R : Reads Ideal) (t : Fin groups.trips) (k : ℕ) (hk : k < 5) : (groupStrip R t k hk).Writes fun k => k = 6 ∨ k = 7 := by
  unfold groupStrip
  exact writes_bind (writes_ld _ _ _ _ _ _) fun _ => writes_bind (writes_st (.inr rfl)) fun _ => writes_bind (writes_st (.inr rfl)) fun _ =>
    writes_bind (Writes.mono (addRel_writes _ _ _ _ _) fun _ => .inl) fun _ => Writes.mono (addRel_writes _ _ _ _ _) fun _ => .inl

theorem lhs_writes (P : Fin 8 → Prop) (p : ℕ) (hp : p < 12) : (lhs (F := Ideal) p hp).Writes P := by
  unfold lhs; exact writes_bind (writes_ld _ _ _ _ _ _) fun _ => writes_bind (writes_ld _ _ _ _ _ _) fun _ => writes_ret _ _

theorem product_writes (P : Fin 8 → Prop) (p : ℕ) (hp : p < 12) : (product (F := Ideal) p hp).Writes P := by
  unfold product; exact writes_bind (lhs_writes _ _ _) fun _ => writes_bind (writes_ld _ _ _ _ _ _) fun _ => writes_ret _ _

theorem output_writes (a : FVec Ideal S768x640 .f32) (x : FVec Ideal S768x256 .bf16) (w : Vec Ideal S256x640 .bf16) : (output a x w).Writes fun k => k = 2 := by
  unfold output
  exact writes_bind (writes_accum (fun _ _ _ => writes_bind (product_writes _ _ _) fun _ => writes_ret _ _) _ _ _ _) fun _ => writes_st (P := fun k => k = 2) rfl

/-! ## The token means -/

variable {X : ℕ → ℕ → ℕ → EReal} {W : ℕ → ℕ → EReal}

theorem rows_post (b : Fin 3) (r : ℕ) (hr : r + 64 ≤ 2880) (H : Hp) (hX : ∀ b k t, s0 H b k t = X b.val t.val k.val) :
    Post (rows b.val b.isLt r hr) H fun v H' => H' = H ∧ ∀ (k : Fin 64) (t : Fin 256), (v : S64x256.Idx → EReal) (ix2 k t) = X b.val t.val (r + k.val) := by
  unfold rows
  refine post_bind (post_ld fun (v : S1x64x256.Idx → EReal) hv => post_ret ⟨rfl, fun k t => ?_⟩)
  have h := hv (ix3 (0 : Fin 1) k t) (ix3 b (⟨r + k.val, by omega⟩ : Fin 2880) t) (at3 (by simp) rfl (by simp))
  pointwise
  exact h.trans (hX _ _ _)

theorem meanOf_apply (v : FVec Ideal S32x256 .f32) (r : Fin 32) (l : Fin 128) :
    meanOf v (ix2 r l) = (∑ t : Fin 256, (v : S32x256.Idx → EReal) (ix2 r t)) * fl 0x3AAAAAAB#32 := by
  unfold meanOf
  pointwise

theorem sumAbs_apply (f : Vec Ideal S64x256 .bf16 → FVec Ideal S32x256 .f32) (x y z : Vec Ideal S64x256 .bf16) (r : Fin 32) (t : Fin 256) :
    sumAbs f x y z (ix2 r t) = mag (f x (ix2 r t)) + mag (f y (ix2 r t)) + mag (f z (ix2 r t)) := by
  unfold sumAbs
  pointwise
  rfl

/-- The token means of the groups below `n` in their places. -/
def Means (X : ℕ → ℕ → ℕ → EReal) (n : ℕ) (H : Hp) : Prop :=
  ∀ (g : Fin 45) (h : Fin 2) (r : Fin 32) (l : Fin 128), g.val < n → s5 H g h r l = Spec.mean X (64 * g.val + 2 * r.val + h.val)

theorem mean_post {R : Reads Ideal} (hR : Plain R) (t : Fin groups.trips) (H : Hp) (hX : ∀ b k t, s0 H b k t = X b.val t.val k.val) (hM : Means X t.val H) :
    Post (mean R t) H fun _ H' => Means X (t.val + 1) H' := by
  have ht := groupN_eq t
  have hr := (rowN_eq t).1
  unfold mean
  refine post_seq (rows_post 0 _ _ H hX) fun (x : S64x256.Idx → EReal) _ ⟨e, hx⟩ => ?_
  subst e
  refine post_seq (rows_post 1 _ _ _ hX) fun (y : S64x256.Idx → EReal) _ ⟨e, hy⟩ => ?_
  subst e
  refine post_seq (rows_post 2 _ _ _ hX) fun (z : S64x256.Idx → EReal) H ⟨e, hz⟩ => ?_
  subst e
  have key : ∀ (f : Vec Ideal S64x256 .bf16 → FVec Ideal S32x256 .f32) (h : ℕ) (hh : h < 2)
      (hf : ∀ (v : S64x256.Idx → EReal) (r : Fin 32) (l : Fin 256), f v (ix2 r l) = v (ix2 ⟨2 * r.val + h, by omega⟩ l)) (r : Fin 32) (l : Fin 128),
      meanOf (sumAbs f x y z) (ix2 r l) = Spec.mean X (64 * t.val + 2 * r.val + h) := by
    intro f h hh hf r l
    rw [meanOf_apply, Spec.mean]
    congr 1
    simp only [sumAbs_apply, hf, hx, hy, hz, Finset.sum_add_distrib]
    rw [Finset.sum_range_succ, Finset.sum_range_succ, Finset.sum_range_one]
    simp only [Finset.sum_range, hr, Nat.add_assoc]
    rfl
  refine post_bind (post_st fun H1 k1 i1 o1 => post_st fun H2 k2 i2 o2 => fun g h r l hg => ?_)
  by_cases e : g.val = t.val
  · match h with
    | 0 =>
      refine (o2 (ix4 g 0 r l) (1 : Fin 4) (.inl Nat.zero_lt_one)).trans ((i1 (ix4 (0 : Fin 1) (0 : Fin 1) r l) (ix4 g 0 r l) (at4 (by simp; omega) (by simp) (by simp) (by simp))).trans ?_)
      pointwise
      rw [e]
      exact key _ 0 (by omega) (fun v r l => hR.even' v r l) r l
    | 1 =>
      refine ((i2 (ix4 (0 : Fin 1) (0 : Fin 1) r l) (ix4 g 1 r l) (at4 (by simp; omega) (by simp) (by simp) (by simp))).trans ?_)
      pointwise
      rw [e]
      exact key _ 1 (by omega) (fun v r l => hR.odd' v r l) r l
  · refine (o2 (ix4 g h r l) (0 : Fin 4) (show g.val < groupN t ∨ groupN t + 1 ≤ g.val by omega)).trans ?_
    refine (o1 (ix4 g h r l) (0 : Fin 4) (show g.val < groupN t ∨ groupN t + 1 ≤ g.val by omega)).trans ?_
    exact hM g h r l (by omega)

/-! ## The relative weights -/

theorem invTop_apply (e o : FVec Ideal S32x128 .f32) (l : Fin 128) (g c : ℕ)
    (he : ∀ r : Fin 32, e (ix2 r l) = mag (W (64 * g + 2 * r.val) c)) (ho : ∀ r : Fin 32, o (ix2 r l) = mag (W (64 * g + 2 * r.val + 1) c)) :
    invTop e o (ix2 (0 : Fin 1) l) = Ideal.div 1 (top W g c + fl 0x358637BD#32) := by
  have h : (Finset.univ.fold max (fl 0xFF800000#32) fun r : Fin 32 => max (e (ix2 r l)) (o (ix2 r l))) = top W g c := by
    refine eq_of_forall_ge_iff fun y => ?_
    rw [Finset.fold_max_le, fl_bot, top, Finset.sup_le_iff]
    simp only [he, ho]
    constructor
    · rintro ⟨-, h⟩ j hj
      have hj := Finset.mem_range.mp hj
      have := max_le_iff.mp (h ⟨j / 2, by omega⟩ (Finset.mem_univ _))
      rcases Nat.mod_two_eq_zero_or_one j with e | e
      · rw [show 64 * g + j = 64 * g + 2 * (j / 2) by omega]; exact this.1
      · rw [show 64 * g + j = 64 * g + 2 * (j / 2) + 1 by omega]; exact this.2
    · intro h
      refine ⟨bot_le, fun r _ => max_le ?_ ?_⟩
      · exact h (2 * r.val) (Finset.mem_range.mpr (by omega))
      · exact h (2 * r.val + 1) (Finset.mem_range.mpr (by omega))
  rw [← h, ← fl_one]
  unfold invTop
  pointwise

theorem addRel_post (t : Fin groups.trips) (h : Fin 2) (v : FVec Ideal S32x128 .f32) (inv : FVec Ideal S1x128 .f32) (H : Hp) :
    Post (addRel t h.val h.isLt v inv) H fun _ H' =>
      (∀ (g : Fin 45) (h' : Fin 2) (r : Fin 32) (l : Fin 128), g.val = t.val → h' = h → s6 H' g h' r l = s6 H g h' r l + v (ix2 r l) * inv (ix2 (0 : Fin 1) l))
      ∧ ∀ (g : Fin 45) (h' : Fin 2) (r : Fin 32) (l : Fin 128), g.val ≠ t.val ∨ h' ≠ h → s6 H' g h' r l = s6 H g h' r l := by
  have ht := groupN_eq t
  unfold addRel
  refine post_bind (post_ld fun (a : S1x1x32x128.Idx → EReal) ha => post_st fun H1 k1 i1 o1 => ⟨fun g h' r l hg hh => ?_, fun g h' r l hne => ?_⟩)
  · subst hh
    have e := ha (ix4 (0 : Fin 1) (0 : Fin 1) r l) (ix4 g h' r l) (at4 (by simp; omega) (by simp) (by simp) (by simp))
    refine (i1 (ix4 (0 : Fin 1) (0 : Fin 1) r l) (ix4 g h' r l) (at4 (by simp; omega) (by simp) (by simp) (by simp))).trans ?_
    pointwise
    exact congrArg (· + v (ix2 r l) * inv (ix2 (0 : Fin 1) l)) e
  · by_cases e : g.val = t.val
    · have hne := Fin.val_ne_of_ne (hne.resolve_left (fun h => h e))
      exact o1 (ix4 g h' r l) (1 : Fin 4) (show h'.val < h.val ∨ h.val + 1 ≤ h'.val by omega)
    · exact o1 (ix4 g h' r l) (0 : Fin 4) (show g.val < groupN t ∨ groupN t + 1 ≤ g.val by omega)

theorem groupStrip_post {R : Reads Ideal} (hR : Plain R) (t : Fin groups.trips) (k : ℕ) (hk : k < 5) (H : Hp) (hW : ∀ k c, s1 H k c = W k.val c.val) :
    Post (groupStrip R t k hk) H fun _ H' => ∀ (g : Fin 45) (h : Fin 2) (r : Fin 32) (l : Fin 128), s6 H' g h r l =
      s6 H g h r l + if g.val = t.val then rel W (64 * g.val + 2 * r.val + h.val) (128 * k + l.val) else 0 := by
  have ht := rowN_eq t
  have htl : t.val < 45 := t.isLt
  unfold groupStrip
  refine post_bind (post_ld fun (w : S64x128.Idx → EReal) hw => ?_)
  refine post_bind (post_st fun H1 k1 _ _ => post_bind (post_st fun H2 k2 _ _ => ?_))
  have k6 : H2 6 = H 6 := (k2 6 (by decide)).trans (k1 6 (by decide))
  have hw' : ∀ (i : Fin 64) (l : Fin 128), w (ix2 i l) = W (64 * t.val + i.val) (128 * k + l.val) := fun i l =>
    (hw (ix2 i l) (ix2 (⟨64 * t.val + i.val, by omega⟩ : Fin 2880) (⟨128 * k + l.val, by omega⟩ : Fin 640)) (at2 (by simp [ht.1]) rfl)).trans (hW _ _)
  have he : ∀ (r : Fin 32) (l : Fin 128), absf (R.even w) (ix2 r l) = mag (W (64 * t.val + 2 * r.val) (128 * k + l.val)) := fun r l => by
    show mag (R.even w (ix2 r l)) = _
    rw [hR.even, hw']
  have ho : ∀ (r : Fin 32) (l : Fin 128), absf (R.odd w) (ix2 r l) = mag (W (64 * t.val + 2 * r.val + 1) (128 * k + l.val)) := fun r l => by
    show mag (R.odd w (ix2 r l)) = _
    rw [hR.odd, hw']; rfl
  have hi : ∀ l : Fin 128, _ := fun l : Fin 128 => invTop_apply (W := W) (absf (R.even w)) (absf (R.odd w)) l t.val (128 * k + l.val) (fun r => he r l) (fun r => ho r l)
  refine post_seq (addRel_post t 0 _ _ H2) fun _ H3 ⟨a1, a2⟩ => ?_
  refine (addRel_post t 1 _ _ H3).mono fun _ H4 ⟨b1, b2⟩ => fun g h r l => ?_
  by_cases e : g.val = t.val
  · rw [if_pos e, e]
    match h with
    | 0 =>
      rw [b2 g 0 r l (.inr (by decide)), a1 g 0 r l e rfl, he, hi, Ideal.mul_one_div (top_add_pos W _ _).ne']
      rw [show s6 H2 g 0 r l = s6 H g 0 r l from congrFun k6 _]
      unfold rel
      rw [show (64 * t.val + 2 * r.val + (0 : Fin 2).val) / 64 = t.val by simp; omega]
      rfl
    | 1 =>
      rw [b1 g 1 r l e rfl, a2 g 1 r l (.inr (by decide)), ho, hi, Ideal.mul_one_div (top_add_pos W _ _).ne']
      rw [show s6 H2 g 1 r l = s6 H g 1 r l from congrFun k6 _]
      unfold rel
      rw [show (64 * t.val + 2 * r.val + (1 : Fin 2).val) / 64 = t.val by simp; omega]
      rfl
  · rw [if_neg e, add_zero, b2 g h r l (.inl e), a2 g h r l (.inl e)]
    exact congrFun k6 _

theorem group_writes (R : Reads Ideal) (t : Fin groups.trips) : (group R t).Writes fun k => k = 6 ∨ k = 7 := by
  unfold group; exact writes_steps (fun _ _ => groupStrip_writes _ _ _ _) _ _ _

theorem group_post {R : Reads Ideal} (hR : Plain R) (t : Fin groups.trips) (H : Hp) (hW : ∀ k c, s1 H k c = W k.val c.val) :
    Post (group R t) H fun _ H' => ∀ (g : Fin 45) (h : Fin 2) (r : Fin 32) (l : Fin 128), s6 H' g h r l =
      s6 H g h r l + if g.val = t.val then ∑ k ∈ Finset.range 5, rel W (64 * g.val + 2 * r.val + h.val) (128 * k + l.val) else 0 := by
  unfold group
  refine (post_steps (fun n H' => H' 1 = H 1 ∧ ∀ (g : Fin 45) (h : Fin 2) (r : Fin 32) (l : Fin 128), s6 H' g h r l =
      s6 H g h r l + if g.val = t.val then ∑ k ∈ Finset.range n, rel W (64 * g.val + 2 * r.val + h.val) (128 * k + l.val) else 0)
    (fun k hk H' ⟨e, h'⟩ => ?_) 5 0 rfl H ⟨rfl, fun g h r l => by simp⟩).mono fun _ H' h => h.2
  refine ((groupStrip_post hR t k hk H' fun k c => (congrFun e _).trans (hW k c)).frame (groupStrip_writes R t k hk)).mono fun _ H'' ⟨c1, c2⟩ =>
    ⟨(c2 1 (by decide)).trans e, fun g h r l => ?_⟩
  rw [c1, h', add_assoc]
  congr 1
  split
  · rw [Finset.sum_range_succ]
  · rw [add_zero]

/-- All groups: to every row's running sum in a lane the five strips' relative weights are added. -/
theorem groups_post {R : Reads Ideal} (hR : Plain R) (H : Hp) (hW : ∀ k c, s1 H k c = W k.val c.val) :
    Post (.loop groups groups_ok ⟨⟩ fun t _ => group R t) H fun _ H' => ∀ (g : Fin 45) (h : Fin 2) (r : Fin 32) (l : Fin 128), s6 H' g h r l =
      s6 H g h r l + ∑ k ∈ Finset.range 5, rel W (64 * g.val + 2 * r.val + h.val) (128 * k + l.val) := by
  refine (post_loop (fun n _ H' => H' 1 = H 1 ∧ ∀ (g : Fin 45) (h : Fin 2) (r : Fin 32) (l : Fin 128), s6 H' g h r l =
      s6 H g h r l + if g.val < n then ∑ k ∈ Finset.range 5, rel W (64 * g.val + 2 * r.val + h.val) (128 * k + l.val) else 0)
    ⟨rfl, fun g h r l => by simp⟩ fun t _ H' ⟨e, h'⟩ => ?_).mono fun _ H' h g h' r l => (h.2 g h' r l).trans (by rw [if_pos (show g.val < groups.trips from g.isLt)])
  refine ((group_post hR t H' fun k c => (congrFun e _).trans (hW k c)).frame (group_writes R t)).mono fun _ H'' ⟨c1, c2⟩ =>
    ⟨(c2 1 (by decide)).trans e, fun g h r l => ?_⟩
  rw [c1, h', add_assoc]
  congr 1
  by_cases e1 : g.val = t.val
  · rw [if_neg (by omega), if_pos e1, if_pos (by omega), zero_add]
  · rw [if_neg e1, add_zero]
    by_cases e2 : g.val < t.val
    · rw [if_pos e2, if_pos (by omega)]
    · rw [if_neg e2, if_neg (by omega)]

end Cert.Proof.Stats
-- ==== Proof.StatsTable.lean ====
/-
  The scale table the statistics call makes at its last grid point, from the token means and the sums of the relative weights.
-/
module

public import proofs.«01_k».proof.Proof.StatsSums

@[expose] public section

noncomputable section

namespace Cert.Proof.Stats

open Idealize.ShloMosaic Idealize.ShloMosaic.TcCoe Cert.Proof Cert.Proof.Code Cert.Proof.Spec
open Cert.Proof.Search (Reads groups groups_ok groupN groupN_eq groupN_lt Plain)

variable (X : ℕ → ℕ → ℕ → EReal) (W : ℕ → ℕ → EReal)

/-- A row's scale before normalising in the lane `l`: as for a candidate, with the exponent at most one. -/
def rawLane (l k : ℕ) : EReal :=
  max (Ideal.div (Ideal.pow (Spec.mean X k) (min (Spec.ratio l) (fl 0x3F800000#32)))
    (Ideal.pow (Spec.relMean W k) (fl 0x3F800000#32 - min (Spec.ratio l) (fl 0x3F800000#32)) + fl 0x38D1B717#32)) (fl 0x38D1B717#32)

theorem ratio_le_one (l : ℕ) (hl : l < 20) : Spec.ratio l ≤ fl 0x3F800000#32 := by
  rw [ratio_eq, fl_one, ← EReal.coe_one, EReal.coe_le_coe_iff]
  have : (l : ℝ) ≤ 20 := by exact_mod_cast hl.le
  linarith

theorem rawLane_eq (l k : ℕ) (hl : l < 20) : rawLane X W l k = raw X W l k := by
  rw [rawLane, raw, min_eq_left (ratio_le_one l hl)]

theorem rawLane_pos (l k : ℕ) : 0 < rawLane X W l k := lt_of_lt_of_le fl_floor_pos (le_max_right _ _)

/-! ## One entry -/

theorem ratio_apply (r : Fin 32) (l : Fin 128) : (ratio : FVec Ideal S32x128 .f32) (ix2 r l) = min (Spec.ratio l.val) (fl 0x3F800000#32) := by
  unfold ratio Spec.ratio
  have e : (((BitVec.ofNat 32 l.val).toInt : ℝ) : EReal) = ((l.val : ℝ) : EReal) := by
    rw [BitVec.toInt_ofNat']
    have := l.isLt
    rw [show (l.val : ℤ).bmod (2 ^ 32) = (l.val : ℤ) from Int.bmod_eq_of_le (by omega) (by omega)]
    norm_cast
  rw [← e]
  pointwise
  rfl

theorem power_apply (b x : FVec Ideal S32x128 .f32) (r : Fin 32) (l : Fin 128) (hb : 0 ≤ (b (ix2 r l) : EReal)) (y : ℝ) (hx : (x (ix2 r l) : EReal) = (y : EReal)) :
    power b x (ix2 r l) = Ideal.pow (b (ix2 r l)) (x (ix2 r l)) := by
  have e : power b x (ix2 r l) = if 0 < (b (ix2 r l) : EReal) then Ideal.pow (if 0 < (b (ix2 r l) : EReal) then b (ix2 r l) else 1) (x (ix2 r l))
      else if (x (ix2 r l) : EReal) = 0 then 1 else 0 := by
    rw [← fl_zero, ← fl_one]
    unfold power
    pointwise
  rw [e, hx, pow_split _ hb]
  split
  · rfl
  · rfl

theorem relMean_apply (v : FVec Ideal S32x128 .f32) (r : Fin 32) (l : Fin 128) :
    relMean v (ix2 r l) = (∑ t : Fin 128, (v : S32x128.Idx → EReal) (ix2 r t)) * fl 0x39360B61#32 := by
  unfold relMean
  pointwise

theorem rawOf_apply (g m : FVec Ideal S32x128 .f32) (r : Fin 32) (l : Fin 128) (k : ℕ) (hm : (m (ix2 r l) : EReal) = Spec.mean X k)
    (hg : (∑ t : Fin 128, (g : S32x128.Idx → EReal) (ix2 r t)) = ∑ c ∈ Finset.range 5760, rel W k c) : rawOf g m (ix2 r l) = rawLane X W l.val k := by
  obtain ⟨y, hy⟩ : ∃ y : ℝ, min (Spec.ratio l.val) (fl 0x3F800000#32) = (y : EReal) := by
    rw [ratio_eq, fl_one]
    rcases min_choice ((l.val / 20 : ℝ) : EReal) 1 with h | h
    · exact ⟨_, h⟩
    · exact ⟨1, h⟩
  have e1 : power m ratio (ix2 r l) = Ideal.pow (Spec.mean X k) (min (Spec.ratio l.val) (fl 0x3F800000#32)) := by
    rw [power_apply m ratio r l (by rw [hm]; exact mean_nonneg X k) y ((ratio_apply r l).trans hy), hm, ratio_apply]
  have hgm : (relMean g (ix2 r l) : EReal) = Spec.relMean W k := by rw [relMean_apply, hg, Spec.relMean]
  have hs : (subf (broadcast S32x128 (Scalar.ofBits .f32 0x3F800000#32)) ratio : FVec Ideal S32x128 .f32) (ix2 r l) = fl 0x3F800000#32 - min (Spec.ratio l.val) (fl 0x3F800000#32) := by
    rw [← ratio_apply r l]; rfl
  have e2 : power (relMean g) (subf (broadcast S32x128 (Scalar.ofBits .f32 0x3F800000#32)) ratio) (ix2 r l) =
      Ideal.pow (Spec.relMean W k) (fl 0x3F800000#32 - min (Spec.ratio l.val) (fl 0x3F800000#32)) := by
    rw [power_apply _ _ r l (by rw [hgm]; exact relMean_nonneg W k) (1 - y) (hs.trans (by rw [hy, fl_one]; norm_cast)), hgm, hs]
  rw [rawLane, ← e1, ← e2]
  rfl

theorem widen_hi (x : Range Ideal) (s : FVec Ideal S32x128 .f32) (l : Fin 128) (y : EReal) :
    (widen x s).1 (ix2 (0 : Fin 1) l) ≤ y ↔ x.1 (ix2 (0 : Fin 1) l) ≤ y ∧ ∀ r : Fin 32, s (ix2 r l) ≤ y := by
  have e : (widen x s).1 (ix2 (0 : Fin 1) l) = max (x.1 (ix2 (0 : Fin 1) l)) (Finset.univ.fold max (fl 0xFF800000#32) fun r : Fin 32 => (s (ix2 r l) : EReal)) := by
    unfold widen
    pointwise
  rw [e, max_le_iff, Finset.fold_max_le, fl_bot]
  simp

theorem widen_lo (x : Range Ideal) (s : FVec Ideal S32x128 .f32) (l : Fin 128) (y : EReal) :
    y ≤ (widen x s).2 (ix2 (0 : Fin 1) l) ↔ y ≤ x.2 (ix2 (0 : Fin 1) l) ∧ ∀ r : Fin 32, y ≤ s (ix2 r l) := by
  have e : (widen x s).2 (ix2 (0 : Fin 1) l) = min (x.2 (ix2 (0 : Fin 1) l)) (Finset.univ.fold min (fl 0x7F800000#32) fun r : Fin 32 => (s (ix2 r l) : EReal)) := by
    unfold widen
    pointwise
  rw [e, le_min_iff, Finset.le_fold_min, fl_top]
  simp

/-! ## The scales before normalising -/

/-- The sums over the columns of the relative weights, in their places. -/
def Sums (n : ℕ) (H : Hp) : Prop :=
  ∀ (g : Fin 45) (h : Fin 2) (r : Fin 32) (l : Fin 128), s6 H g h r l = ∑ j ∈ Finset.range n, rel W (64 * g.val + 2 * r.val + h.val) (128 * j + l.val)

/-- The halves of groups of which `P` holds have their scales in place, and the range is the range of these. -/
structure Raws (P : Fin 45 → Fin 2 → Prop) (x : Range Ideal) (H : Hp) : Prop where
  means : Means X 45 H
  sums : Sums W 45 H
  raw : ∀ g h, P g h → ∀ (r : Fin 32) (l : Fin 128), s4 H g h r l = rawLane X W l.val (64 * g.val + 2 * r.val + h.val)
  hi : ∀ (l : Fin 128) (y : EReal), x.1 (ix2 (0 : Fin 1) l) ≤ y ↔ 0 ≤ y ∧ ∀ g h, P g h → ∀ r : Fin 32, rawLane X W l.val (64 * g.val + 2 * r.val + h.val) ≤ y
  lo : ∀ (l : Fin 128) (y : EReal), y ≤ x.2 (ix2 (0 : Fin 1) l) ↔ ∀ g h, P g h → ∀ r : Fin 32, y ≤ rawLane X W l.val (64 * g.val + 2 * r.val + h.val)

variable {X W}

theorem rawHalf_post (t : Fin groups.trips) (h : Fin 2) (x : Range Ideal) (H : Hp) (P P' : Fin 45 → Fin 2 → Prop)
    (hP : ∀ g' h', P' g' h' ↔ P g' h' ∨ (g'.val = t.val ∧ h' = h)) (hH : Raws X W P x H) :
    Post (rawHalf t h.val h.isLt x) H fun x' H' => Raws X W P' x' H' := by
  have ht := groupN_eq t
  have htl : t.val < 45 := t.isLt
  unfold rawHalf
  refine post_bind (post_ld fun (g : S1x1x32x128.Idx → EReal) hg => post_bind (post_ld fun (m : S1x1x32x128.Idx → EReal) hm => ?_))
  have hs : ∀ (r : Fin 32) (l : Fin 128), rawOf (F := Ideal) (shapeCast S32x128 g (by decide)) (shapeCast S32x128 m (by decide)) (ix2 r l) =
      rawLane X W l.val (64 * t.val + 2 * r.val + h.val) := fun r l => by
    refine rawOf_apply X W _ _ r l _ ?_ ?_
    · have e := hm (ix4 (0 : Fin 1) (0 : Fin 1) r l) (ix4 ⟨t.val, htl⟩ h r l) (at4 (by simp; omega) (by simp) (by simp) (by simp))
      refine Eq.trans ?_ (e.trans (hH.means _ h r l htl))
      pointwise
    · have e := fun l : Fin 128 => hg (ix4 (0 : Fin 1) (0 : Fin 1) r l) (ix4 ⟨t.val, htl⟩ h r l) (at4 (by simp; omega) (by simp) (by simp) (by simp))
      have e' : ∀ l : Fin 128, (shapeCast S32x128 g (by decide) : S32x128.Idx → EReal) (ix2 r l) = ∑ j ∈ Finset.range 45, rel W (64 * t.val + 2 * r.val + h.val) (128 * j + l.val) := fun l => by
        refine Eq.trans ?_ ((e l).trans (hH.sums _ h r l))
        pointwise
      rw [← sum_strips _ 45, Finset.sum_range]
      exact Finset.sum_congr rfl fun l _ => e' l
  refine post_bind (post_st fun H1 k1 i1 o1 => post_ret ?_)
  have k5 : H1 5 = H 5 := k1 5 (by decide)
  have k6 : H1 6 = H 6 := k1 6 (by decide)
  refine ⟨fun g h r l hl => (congrFun k5 _).trans (hH.means g h r l hl), fun g h r l => (congrFun k6 _).trans (hH.sums g h r l), fun g' h' hp r l => ?_, fun l y => ?_, fun l y => ?_⟩
  · by_cases e : g'.val = t.val ∧ h' = h
    · obtain ⟨eg, rfl⟩ := e
      refine (i1 (ix4 (0 : Fin 1) (0 : Fin 1) r l) (ix4 g' h' r l) (at4 (by simp; omega) (by simp) (by simp) (by simp))).trans ?_
      refine Eq.trans ?_ ((hs r l).trans (by rw [eg]))
      pointwise
    · refine Eq.trans ?_ (hH.raw g' h' (((hP g' h').mp hp).resolve_right e) r l)
      by_cases eg : g'.val = t.val
      · have eh := Fin.val_ne_of_ne fun q => e ⟨eg, q⟩
        exact o1 (ix4 g' h' r l) (1 : Fin 4) (show h'.val < h.val ∨ h.val + 1 ≤ h'.val by omega)
      · exact o1 (ix4 g' h' r l) (0 : Fin 4) (show g'.val < groupN t ∨ groupN t + 1 ≤ g'.val by omega)
  · rw [widen_hi, hH.hi]
    simp only [hs]
    constructor
    · rintro ⟨⟨h0, h1⟩, h2⟩
      refine ⟨h0, fun g' h' hp r => ?_⟩
      rcases (hP g' h').mp hp with hp | ⟨eg, rfl⟩
      · exact h1 g' h' hp r
      · rw [eg]; exact h2 r
    · rintro ⟨h0, h1⟩
      exact ⟨⟨h0, fun g' h' hp => h1 g' h' ((hP g' h').mpr (.inl hp))⟩, h1 ⟨t.val, htl⟩ h ((hP _ _).mpr (.inr ⟨rfl, rfl⟩))⟩
  · rw [widen_lo, hH.lo]
    simp only [hs]
    constructor
    · rintro ⟨h1, h2⟩ g' h' hp r
      rcases (hP g' h').mp hp with hp | ⟨eg, rfl⟩
      · exact h1 g' h' hp r
      · rw [eg]; exact h2 r
    · intro h1
      exact ⟨fun g' h' hp => h1 g' h' ((hP g' h').mpr (.inl hp)), h1 ⟨t.val, htl⟩ h ((hP _ _).mpr (.inr ⟨rfl, rfl⟩))⟩

theorem raws_post (H : Hp) (hM : Means X 45 H) (hS : Sums W 45 H) :
    Post (.loop groups groups_ok range0 fun t x => .bind (rawHalf t 0 (by omega) x) fun x => rawHalf t 1 (by omega) x) H fun x H' => Raws X W (fun _ _ => True) x H' := by
  refine (post_loop (fun n x H' => Raws X W (fun g _ => g.val < n) x H') ⟨hM, hS, fun _ _ h => absurd h (Nat.not_lt_zero _), fun l y => ?_, fun l y => ?_⟩ fun t x H' h => ?_).mono
    fun x H' h => ?_
  · have e : ((range0 : Range Ideal).1 (ix2 (0 : Fin 1) l) : EReal) = 0 := fl_zero
    rw [e]; simp
  · have e : ((range0 : Range Ideal).2 (ix2 (0 : Fin 1) l) : EReal) = ⊤ := fl_top
    rw [e]; simp
  · refine post_seq (rawHalf_post t 0 x H' _ (fun g' h' => g'.val < t.val ∨ (g'.val = t.val ∧ h' = 0)) (fun _ _ => Iff.rfl) h) fun x1 H1 h1 => ?_
    refine rawHalf_post t 1 x1 H1 _ _ (fun g' h' => ?_) h1
    have := h'.isLt
    rw [Fin.ext_iff, Fin.ext_iff]
    show g'.val < t.val + 1 ↔ (g'.val < t.val ∨ g'.val = t.val ∧ h'.val = 0) ∨ g'.val = t.val ∧ h'.val = 1
    omega
  · have e : (fun (g : Fin 45) (_ : Fin 2) => g.val < groups.trips) = fun _ _ => True := by
      funext g _; exact eq_true g.isLt
    rwa [e] at h

/-! ## Normalising -/

/-- The halves of groups of which `P` holds divided by the norm `n`, the others not yet. -/
structure Normed (X : ℕ → ℕ → ℕ → EReal) (W : ℕ → ℕ → EReal) (n : Fin 128 → EReal) (P : Fin 45 → Fin 2 → Prop) (H : Hp) : Prop where
  now : ∀ g h, P g h → ∀ (r : Fin 32) (l : Fin 128), s4 H g h r l = Ideal.div (rawLane X W l.val (64 * g.val + 2 * r.val + h.val)) (n l)
  yet : ∀ g h, ¬ P g h → ∀ (r : Fin 32) (l : Fin 128), s4 H g h r l = rawLane X W l.val (64 * g.val + 2 * r.val + h.val)

theorem normHalf_post (t : Fin groups.trips) (h : Fin 2) (n : FVec Ideal S1x128 .f32) (H : Hp) (P P' : Fin 45 → Fin 2 → Prop)
    (hP : ∀ g' h', P' g' h' ↔ P g' h' ∨ (g'.val = t.val ∧ h' = h)) (hn : ∀ g', g'.val = t.val → ¬ P g' h) (hH : Normed X W (fun l => n (ix2 (0 : Fin 1) l)) P H) :
    Post (normHalf t h.val h.isLt n) H fun _ H' => Normed X W (fun l => n (ix2 (0 : Fin 1) l)) P' H' := by
  have ht := groupN_eq t
  have htl : t.val < 45 := t.isLt
  unfold normHalf
  refine post_bind (post_ld fun (s : S1x1x32x128.Idx → EReal) hs => post_st fun H1 k1 i1 o1 => ?_)
  have old : ∀ (g' : Fin 45) (h' : Fin 2), ¬ (g'.val = t.val ∧ h' = h) → ∀ (r : Fin 32) (l : Fin 128), s4 H1 g' h' r l = s4 H g' h' r l := fun g' h' e r l => by
    by_cases eg : g'.val = t.val
    · have eh := Fin.val_ne_of_ne fun q => e ⟨eg, q⟩
      exact o1 (ix4 g' h' r l) (1 : Fin 4) (show h'.val < h.val ∨ h.val + 1 ≤ h'.val by omega)
    · exact o1 (ix4 g' h' r l) (0 : Fin 4) (show g'.val < groupN t ∨ groupN t + 1 ≤ g'.val by omega)
  refine ⟨fun g' h' hp r l => ?_, fun g' h' hp r l => ?_⟩
  · by_cases e : g'.val = t.val ∧ h' = h
    · obtain ⟨eg, rfl⟩ := e
      have e := (hs (ix4 (0 : Fin 1) (0 : Fin 1) r l) (ix4 g' h' r l) (at4 (by simp; omega) (by simp) (by simp) (by simp))).trans (hH.yet g' h' (hn g' eg) r l)
      refine (i1 (ix4 (0 : Fin 1) (0 : Fin 1) r l) (ix4 g' h' r l) (at4 (by simp; omega) (by simp) (by simp) (by simp))).trans ?_
      rw [← e]
      pointwise
    · rw [old g' h' e]
      exact hH.now g' h' (((hP g' h').mp hp).resolve_right e) r l
  · have hp := fun q => hp ((hP g' h').mpr q)
    rw [old g' h' fun q => hp (.inr q)]
    exact hH.yet g' h' (fun q => hp (.inl q)) r l

/-- The range at the end is the range over all rows. -/
theorem range_eq {x : Range Ideal} {H : Hp} (h : Raws X W (fun _ _ => True) x H) (l : Fin 128) :
    x.1 (ix2 (0 : Fin 1) l) = ((Finset.range 2880).sup fun k => rawLane X W l.val k) ∧ x.2 (ix2 (0 : Fin 1) l) = (Finset.range 2880).inf fun k => rawLane X W l.val k := by
  have all : ∀ p : EReal → Prop, (∀ (g : Fin 45) (h : Fin 2), True → ∀ r : Fin 32, p (rawLane X W l.val (64 * g.val + 2 * r.val + h.val))) ↔ ∀ k ∈ Finset.range 2880, p (rawLane X W l.val k) := fun p => by
    constructor
    · intro h k hk
      have hk := Finset.mem_range.mp hk
      have := h ⟨k / 64, by omega⟩ ⟨k % 2, by omega⟩ trivial ⟨k % 64 / 2, by omega⟩
      rwa [show 64 * (k / 64) + 2 * (k % 64 / 2) + k % 2 = k by omega] at this
    · intro h g h' _ r
      exact h _ (Finset.mem_range.mpr (by omega))
  constructor
  · refine eq_of_forall_ge_iff fun y => ?_
    rw [h.hi, Finset.sup_le_iff, all (· ≤ y)]
    exact ⟨fun h => h.2, fun h => ⟨(rawLane_pos X W l.val 0).le.trans (h 0 (Finset.mem_range.mpr (by norm_num))), h⟩⟩
  · refine eq_of_forall_le_iff fun y => ?_
    rw [h.lo, Finset.le_inf_iff, all (y ≤ ·)]

theorem table_writes : (Stats.table (F := Ideal)).Writes fun k => k = 4 := by
  have h1 : ∀ t h hh x, (rawHalf (F := Ideal) t h hh x).Writes fun k => k = 4 := fun t h hh x => by
    unfold rawHalf
    exact writes_bind (writes_ld _ _ _ _ _ _) fun _ => writes_bind (writes_ld _ _ _ _ _ _) fun _ => writes_bind (writes_st (P := fun k => k = 4) rfl) fun _ => writes_ret _ _
  have h2 : ∀ t h hh n, (normHalf (F := Ideal) t h hh n).Writes fun k => k = 4 := fun t h hh n => by
    unfold normHalf
    exact writes_bind (writes_ld _ _ _ _ _ _) fun _ => writes_st (P := fun k => k = 4) rfl
  unfold Stats.table
  exact writes_bind (writes_loop fun _ _ => writes_bind (h1 _ _ _ _) fun _ => h1 _ _ _ _) fun _ =>
    writes_bind (writes_loop fun _ _ => writes_bind (h2 _ _ _ _) fun _ => h2 _ _ _ _) fun _ => writes_ret _ _

/-- The scale table in its place. -/
theorem table_post (H : Hp) (hM : Means X 45 H) (hS : Sums W 45 H) :
    Post Stats.table H fun _ H' => ∀ (g : Fin 45) (h : Fin 2) (r : Fin 32) (l : Fin 128), l.val < 20 → s4 H' g h r l = Spec.table X W l.val (64 * g.val + 2 * r.val + h.val) := by
  unfold Stats.table
  refine post_seq (raws_post H hM hS) fun x H1 h1 => ?_
  refine post_seq (post_loop (fun n _ H' => Normed X W (fun l => sqrt (mulf x.1 x.2) (ix2 (0 : Fin 1) l)) (fun g _ => g.val < n) H')
    ⟨fun _ _ h => absurd h (Nat.not_lt_zero _), fun g h _ => h1.raw g h trivial⟩ fun t _ H' h => ?_) fun _ H2 h2 => post_ret fun g h r l hl => ?_
  · refine post_seq (normHalf_post t 0 _ H' _ (fun g' h' => g'.val < t.val ∨ (g'.val = t.val ∧ h' = 0)) (fun _ _ => Iff.rfl) (fun g e q => absurd q (by omega)) h) fun _ H2 h2 => ?_
    refine normHalf_post t 1 _ H2 _ _ (fun g' h' => ?_) (fun g e q => absurd q ?_) h2
    · have := h'.isLt
      rw [Fin.ext_iff, Fin.ext_iff]
      show g'.val < t.val + 1 ↔ (g'.val < t.val ∨ g'.val = t.val ∧ h'.val = 0) ∨ g'.val = t.val ∧ h'.val = 1
      omega
    · rintro (q | q)
      · omega
      · exact absurd q.2 (by decide)
  · obtain ⟨e1, e2⟩ := range_eq h1 l
    rw [h2.now g h g.isLt r l, Spec.table, rawLane_eq _ _ _ _ hl]
    simp only [rawLane_eq X W _ _ hl] at e1 e2
    rw [← e1, ← e2]
    rfl

end Cert.Proof.Stats
-- ==== Proof.StatsBody.lean ====
/-
  What the statistics body computes at a grid point: the running token means and sums, and at the last point the scale table.
-/
module

public import proofs.«01_k».proof.Proof.StatsTable

@[expose] public section

noncomputable section

namespace Cert.Proof.Stats

open Idealize.ShloMosaic Idealize.ShloMosaic.TcCoe Cert.Proof Cert.Proof.Code Cert.Proof.Spec
open Cert.Proof.Search (Reads groups groups_ok groupN groupN_eq groupN_lt Plain)

variable {X : ℕ → ℕ → ℕ → EReal} {W : ℕ → ℕ → EReal}

/-- Not an argument of the call. -/
abbrev Own (k : Fin 8) : Prop := k.val ≠ 0 ∧ k.val ≠ 1

theorem head_writes (R : Reads Ideal) (i : Fin 9) : (head R i).Writes Own := by
  unfold head
  rw [Code.Writes]
  exact ⟨fun _ => writes_bind (Writes.mono (tiles_writes R) (by decide)) fun _ => writes_bind (Writes.mono clear_writes (by decide)) fun _ =>
      writes_loop fun _ _ => Writes.mono (mean_writes R _) (by decide),
    writes_bind (writes_loop fun _ _ => Writes.mono (group_writes R _) (by decide)) fun _ => writes_bind (product_writes _ _ _) fun _ =>
      writes_bind (product_writes _ _ _) fun _ => writes_bind (lhs_writes _ _ _) fun _ => writes_bind (writes_ld _ _ _ _ _ _) fun _ => writes_ret _ _⟩

theorem body_writes (R : Reads Ideal) (i : Fin 9) : (body R i).Writes Own := by
  unfold body
  refine writes_bind (head_writes R i) fun _ => writes_bind (Writes.mono (output_writes _ _ _) (by decide)) fun _ => ?_
  rw [Code.Writes]
  exact ⟨fun _ => Writes.mono table_writes (by decide), writes_ret _ _⟩

theorem clear_post (H : Hp) : Post clear H fun _ H' => ∀ g h r l, s6 H' g h r l = 0 := by
  unfold clear
  refine post_bind (post_st fun H1 k1 i1 o1 => post_st fun H2 k2 i2 o2 => fun g h r l => ?_)
  refine (congrFun (k2 6 (by decide)) _).trans ((i1 (ix4 g h r l) (ix4 g h r l) (at4 (by simp) (by simp) (by simp) (by simp))).trans ?_)
  rw [← fl_zero]
  pointwise

theorem first_iff : ∀ i : Fin 9, (Scalar.cmpi .ne (Scalar.extui (Scalar.cmpi .eq (stepW i) 0#32) : BitVec 32) 0#32 = 1#1) ↔ i = 0 := by decide
theorem last_iff : ∀ i : Fin 9, (Scalar.cmpi .ne (Scalar.extui (Scalar.cmpi .eq (stepW i) 8#32) : BitVec 32) 0#32 = 1#1) ↔ i = 8 := by decide

/-- The first part: the token means, and the block's columns added to the sums. -/
theorem head_post {R : Reads Ideal} (hR : Plain R) (i : Fin 9) (H : Hp) (hX : ∀ b k t, s0 H b k t = X b.val t.val k.val)
    (hW : ∀ k c, s1 H k c = W k.val (640 * i.val + c.val)) (hI : i ≠ 0 → Means X 45 H ∧ Sums W (5 * i.val) H) :
    Post (head R i) H fun _ H' => Means X 45 H' ∧ Sums W (5 * (i.val + 1)) H' := by
  have rest : ∀ H₁ : Hp, (∀ k c, s1 H₁ k c = W k.val (640 * i.val + c.val)) → Means X 45 H₁ → Sums W (5 * i.val) H₁ → Post
      (.bind (.loop groups groups_ok ⟨⟩ fun t _ => group R t) fun _ =>
        .bind (product 0 (by omega)) fun a =>
        .bind (product 1 (by omega)) fun d =>
        .bind (lhs 2 (by omega)) fun x =>
        .bind (rhs 2 (by omega)) fun w =>
        .ret ⟨stepW i, addf a d, x, w⟩ : C Ideal (Head Ideal)) H₁ fun _ H' => Means X 45 H' ∧ Sums W (5 * (i.val + 1)) H' := by
    intro H₁ w₁ m₁ q₁
    refine post_seq ((groups_post (W := fun k c => W k (640 * i.val + c)) hR H₁ w₁).frame (writes_loop fun _ _ => group_writes R _)) fun _ H₂ ⟨h₂, k₂⟩ => ?_
    refine (post_keep H₂ (P := fun _ => False) (writes_bind (product_writes _ _ _) fun _ =>
      writes_bind (product_writes _ _ _) fun _ => writes_bind (lhs_writes _ _ _) fun _ => writes_bind (writes_ld _ _ _ _ _ _) fun _ => writes_ret _ _)).mono fun _ H₃ k₃ => ?_
    refine ⟨fun g h r l hg => ?_, fun g h r l => ?_⟩
    · exact (congrFun ((k₃ 5 not_false).trans (k₂ 5 (by decide))) _).trans (m₁ g h r l hg)
    · refine (congrFun (k₃ 6 not_false) _).trans ((h₂ g h r l).trans ?_)
      rw [q₁ g h r l, Nat.mul_add, Finset.sum_range_add]
      congr 1
      refine Finset.sum_congr rfl fun k _ => ?_
      rw [show 128 * (5 * i.val + k) + l.val = 640 * i.val + (128 * k + l.val) by ring]
      rfl
  unfold head
  refine post_when (fun h => ?_) fun h => rest H hW (hI fun e => h ((first_iff i).mpr e)).1 (hI fun e => h ((first_iff i).mpr e)).2
  obtain rfl := (first_iff i).mp h
  refine post_seq (post_keep H (tiles_writes R)) fun _ H₁ k₁ => ?_
  refine post_seq ((clear_post H₁).frame clear_writes) fun _ H₂ ⟨h₂, k₂⟩ => ?_
  have x₂ : ∀ b k t, s0 H₂ b k t = X b.val t.val k.val := fun b k t => (congrFun ((k₂ 0 (by decide)).trans (k₁ 0 (by decide))) _).trans (hX b k t)
  have w₂ : ∀ k c, s1 H₂ k c = W k.val (640 * (0 : Fin 9).val + c.val) := fun k c => (congrFun ((k₂ 1 (by decide)).trans (k₁ 1 (by decide))) _).trans (hW k c)
  have means : Post (.loop groups groups_ok ⟨⟩ fun t _ => mean R t) H₂ fun _ H' => H' 0 = H₂ 0 ∧ Means X 45 H' :=
    post_loop (fun n _ H' => H' 0 = H₂ 0 ∧ Means X n H') ⟨rfl, fun _ _ _ _ h => absurd h (Nat.not_lt_zero _)⟩ fun t _ H' ⟨e, h'⟩ =>
      ((mean_post hR t H' (fun b k t => (congrFun e _).trans (x₂ b k t)) h').frame (mean_writes R t)).mono fun _ H'' ⟨c, k⟩ => ⟨(k 0 (by decide)).trans e, c⟩
  refine (means.frame (writes_loop fun _ _ => mean_writes R _)).mono fun _ H₃ ⟨⟨_, h₃⟩, k₃⟩ => ?_
  exact rest H₃ (fun k c => (congrFun (k₃ 1 (by decide)) _).trans (w₂ k c)) h₃ fun g h r l => (congrFun (k₃ 6 (by decide)) _).trans ((h₂ g h r l).trans (by simp))

/-- At a grid point: the token means and the sums so far, and at the last point the scale table. -/
theorem body_post {R : Reads Ideal} (hR : Plain R) (i : Fin 9) (H : Hp) (hX : ∀ b k t, s0 H b k t = X b.val t.val k.val)
    (hW : ∀ k c, s1 H k c = W k.val (640 * i.val + c.val)) (hI : i ≠ 0 → Means X 45 H ∧ Sums W (5 * i.val) H) :
    Post (body R i) H fun _ H' => Means X 45 H' ∧ Sums W (5 * (i.val + 1)) H' ∧
      (i = 8 → ∀ (g : Fin 45) (h : Fin 2) (r : Fin 32) (l : Fin 128), l.val < 20 → s4 H' g h r l = Spec.table X W l.val (64 * g.val + 2 * r.val + h.val)) := by
  unfold body
  refine post_seq (head_post hR i H hX hW hI) fun x H₁ ⟨m₁, q₁⟩ => ?_
  refine post_seq (post_keep H₁ (output_writes _ _ _)) fun _ H₂ k₂ => ?_
  have m₂ : Means X 45 H₂ := fun g h r l hg => (congrFun (k₂ 5 (by decide)) _).trans (m₁ g h r l hg)
  have q₂ : Sums W (5 * (i.val + 1)) H₂ := fun g h r l => (congrFun (k₂ 6 (by decide)) _).trans (q₁ g h r l)
  refine post_cond (fun h => ?_) fun h => post_ret ⟨m₂, q₂, fun e => absurd ((last_iff i).mpr e) h⟩
  obtain rfl := (last_iff i).mp h
  refine ((table_post H₂ m₂ q₂).frame table_writes).mono fun _ H₃ ⟨h₃, k₃⟩ => ⟨fun g h r l hg => ?_, fun g h r l => ?_, fun _ => h₃⟩
  · exact (congrFun (k₃ 5 (by decide)) _).trans (m₂ g h r l hg)
  · exact (congrFun (k₃ 6 (by decide)) _).trans (q₂ g h r l)

end Cert.Proof.Stats
-- ==== Proof.SpecLoss.lean ====
/-
  The mathematics of the losses, over the extended reals: the dequantised weights, the outputs of the weights and of the dequantised
  weights, and the mean square of their differences. The calls keep the rows of a group with the even ones first, and 192 rows of zeros
  after the last group: the sums over the rows so kept are the sums over the rows.
-/
module

public import proofs.«01_k».proof.Proof.Spec

@[expose] public section

noncomputable section

namespace Cert.Proof.Spec

open Idealize.ShloMosaic

variable (X : ℕ → ℕ → ℕ → EReal) (W : ℕ → ℕ → EReal) (S : ℕ → ℕ → EReal)

/-- A dequantised weight, with the candidate's scale taken out again. -/
def deq (i k c : ℕ) : EReal := (((code W S 8 i k c).toInt : ℝ) : EReal) * qscale W S i (k / 64) c * Ideal.div (fl 0x3F800000#32) (S i k)

/-- The output of the weights `W` at token `t` and column `c`. -/
def out (t c : ℕ) : EReal := ∑ k ∈ Finset.range 2880, X (t / 256) (t % 256) k * W k c

/-- How far a candidate's output is off. -/
def off (i t c : ℕ) : EReal := out X W t c - out X (deq W S i) t c

/-- A candidate's loss in a column: the mean over the tokens of the squares, as their sum times a rounded 1/768. -/
def loss (i c : ℕ) : EReal := (∑ t ∈ Finset.range 768, off X W S i t c * off X W S i t c) * fl 0x3AAAAAAB#32

/-! ## Rows with the even ones of a group first -/

/-- The row kept at position `p`. -/
def rowAt (p : ℕ) : ℕ := 64 * (p / 64) + 2 * (p % 64 % 32) + p % 64 / 32

/-- A family over the rows, as kept: zero after the last group. -/
def kept (f : ℕ → EReal) (p : ℕ) : EReal := if p < 2880 then f (rowAt p) else 0

theorem bf_zero : Ideal.ofBits .bf16 0x0000#16 = 0 := by simp [Ideal.ofBits, Ideal.ieee]

theorem rowAt_lt {p : ℕ} (hp : p < 2880) : rowAt p < 2880 := by unfold rowAt; omega

theorem sum_rowAt (f : ℕ → EReal) : ∑ p ∈ Finset.range 2880, f (rowAt p) = ∑ k ∈ Finset.range 2880, f k := by
  refine Finset.sum_nbij' rowAt (fun k => 64 * (k / 64) + 32 * (k % 64 % 2) + k % 64 / 2) (fun p hp => ?_) (fun k hk => ?_) (fun p hp => ?_) (fun k hk => ?_) fun p hp => rfl
  · have := Finset.mem_range.mp hp; exact Finset.mem_range.mpr (rowAt_lt this)
  · have := Finset.mem_range.mp hk; exact Finset.mem_range.mpr (by omega)
  · have e1 : rowAt p / 64 = p / 64 := by unfold rowAt; omega
    have e2 : rowAt p % 64 = 2 * (p % 64 % 32) + p % 64 / 32 := by unfold rowAt; omega
    show 64 * (rowAt p / 64) + 32 * (rowAt p % 64 % 2) + rowAt p % 64 / 2 = p
    rw [e1, e2]; omega
  · have e1 : (64 * (k / 64) + 32 * (k % 64 % 2) + k % 64 / 2) / 64 = k / 64 := by omega
    have e2 : (64 * (k / 64) + 32 * (k % 64 % 2) + k % 64 / 2) % 64 = 32 * (k % 64 % 2) + k % 64 / 2 := by omega
    unfold rowAt; rw [e1, e2]; omega

theorem sum_passes (f : ℕ → EReal) (n : ℕ) : ∑ p ∈ Finset.range n, ∑ j ∈ Finset.range 256, f (256 * p + j) = ∑ q ∈ Finset.range (256 * n), f q := by
  induction n with
  | zero => rfl
  | succ n ih => rw [Finset.sum_range_succ, ih, Nat.mul_succ, Finset.sum_range_add]

/-- The twelve products of 256 kept rows add up to the product over the rows. -/
theorem sum_kept (f g : ℕ → EReal) : ∑ p ∈ Finset.range 12, ∑ j ∈ Finset.range 256, kept f (256 * p + j) * kept g (256 * p + j) = ∑ k ∈ Finset.range 2880, f k * g k := by
  rw [sum_passes (fun q => kept f q * kept g q), show 256 * 12 = 2880 + 192 from rfl, Finset.sum_range_add, ← sum_rowAt (fun k => f k * g k)]
  rw [Finset.sum_eq_zero (s := Finset.range 192) fun j _ => by unfold kept; rw [if_neg (by omega), zero_mul], add_zero]
  refine Finset.sum_congr rfl fun p hp => ?_
  have := Finset.mem_range.mp hp
  unfold kept; rw [if_pos this, if_pos this]

end Cert.Proof.Spec
-- ==== Proof.StatsOut.lean ====
/-
  The tokens and the outputs of the weights the statistics call writes.
-/
module

public import proofs.«01_k».proof.Proof.StatsBody
public import proofs.«01_k».proof.Proof.SpecLoss

@[expose] public section

noncomputable section

namespace Cert.Proof.Stats

open Idealize.ShloMosaic Idealize.ShloMosaic.TcCoe Cert.Proof Cert.Proof.Code Cert.Proof.Spec
open Cert.Proof.Search (Reads groups groups_ok groupN groupN_eq groupN_lt Plain)

variable {X : ℕ → ℕ → ℕ → EReal} {W : ℕ → ℕ → EReal}

abbrev s2 (H : Hp) (t : Fin 768) (c : Fin 640) : EReal := H 2 (ix2 t c)
abbrev s3 (H : Hp) (c : Fin 24) (t : Fin 768) (l : Fin 128) : EReal := H 3 (ix3 c t l)
abbrev s7 (H : Hp) (p : Fin 3072) (c : Fin 640) : EReal := H 7 (ix2 p c)

/-- The tokens of the tiles and batches of which `P` holds in their places. -/
def Tiles (X : ℕ → ℕ → ℕ → EReal) (P : ℕ → ℕ → Prop) (H : Hp) : Prop :=
  ∀ (c : Fin 24) (t : Fin 768) (l : Fin 128), P c.val (t.val / 256) → s3 H c t l = kept (X (t.val / 256) (t.val % 256)) (128 * c.val + l.val)

/-- A tile stored. -/
theorem keepTile_post (c : Fin 24) (b : Fin 3) (v : FVec Ideal S128x256 .f32) (H : Hp) {P P' : ℕ → ℕ → Prop} (hP : ∀ c' b', P' c' b' → P c' b' ∨ (c' = c.val ∧ b' = b.val))
    (hT : Tiles X P H) (hv : ∀ (l : Fin 128) (t : Fin 256), (v : S128x256.Idx → EReal) (ix2 l t) = kept (X b.val t.val) (128 * c.val + l.val)) :
    Post (keepTile c.val c.isLt b.val b.isLt v) H fun _ H' => H' 0 = H 0 ∧ Tiles X P' H' := by
  unfold keepTile
  refine post_st fun H1 k1 i1 o1 => ⟨k1 0 (by decide), fun c' t l hp => ?_⟩
  by_cases e : c'.val = c.val ∧ t.val / 256 = b.val
  · refine (i1 (ix3 (0 : Fin 1) (⟨t.val % 256, by omega⟩ : Fin 256) l) (ix3 c' t l) (at3 (by simp; omega) (show t.val = 256 * b.val + t.val % 256 by omega) (by simp))).trans ?_
    pointwise
    rw [hv, e.1, e.2]
  · refine Eq.trans ?_ (hT c' t l ((hP _ _ hp).resolve_right e))
    by_cases ec : c'.val = c.val
    · have : t.val / 256 ≠ b.val := fun h => e ⟨ec, h⟩
      exact o1 (ix3 c' t l) (1 : Fin 3) (show t.val < 256 * b.val ∨ 256 * b.val + 256 ≤ t.val by omega)
    · exact o1 (ix3 c' t l) (0 : Fin 3) (show c'.val < c.val ∨ c.val + 1 ≤ c'.val by omega)

theorem zeros_apply (r : Fin 64) (t : Fin 256) : (zeros (F := Ideal)) (ix2 r t) = 0 := by
  rw [← fl_zero]
  unfold zeros
  pointwise

/-- The tile of two groups, from their rows. -/
theorem tile_post {R : Reads Ideal} (hR : Plain R) (c : ℕ) (hc : c < 22) (b : Fin 3) (H : Hp) (hX : ∀ b k t, s0 H b k t = X b.val t.val k.val)
    {P P' : ℕ → ℕ → Prop} (hP : ∀ c' b', P' c' b' → P c' b' ∨ (c' = c ∧ b' = b.val)) (hT : Tiles X P H) :
    Post (tile R c hc b.val b.isLt) H fun _ H' => H' 0 = H 0 ∧ Tiles X P' H' := by
  unfold tile
  refine post_seq (rows_post b _ _ H hX) fun (p : S64x256.Idx → EReal) _ ⟨e, hp⟩ => ?_
  subst e
  refine post_seq (rows_post b _ _ _ hX) fun (q : S64x256.Idx → EReal) H ⟨e, hq⟩ => ?_
  subst e
  refine keepTile_post ⟨c, by omega⟩ b _ _ hP hT fun l t => ?_
  have e : (concatenate S128x256 0 [⟨S32x256, R.even' p⟩, ⟨S32x256, R.odd' p⟩, ⟨S32x256, R.even' q⟩, ⟨S32x256, R.odd' q⟩] concat4 : S128x256.Idx → EReal) (ix2 l t)
      = if h : l.val < 32 then R.even' p (ix2 ⟨l.val, h⟩ t) else if h : l.val - 32 < 32 then R.odd' p (ix2 ⟨l.val - 32, h⟩ t)
        else if h : l.val - 32 - 32 < 32 then R.even' q (ix2 ⟨l.val - 32 - 32, h⟩ t) else R.odd' q (ix2 ⟨l.val - 32 - 32 - 32, by omega⟩ t) := by
    pointwise
  rw [e]
  unfold kept
  rw [if_pos (show 128 * c + l.val < 2880 by omega)]
  have e1 : (128 * c + l.val) / 64 = 2 * c + l.val / 64 := by omega
  have e2 : (128 * c + l.val) % 64 = l.val % 64 := by omega
  unfold rowAt
  simp only [e1, e2]
  split
  · rw [hR.even', hp]; congr 1; show 128 * c + 2 * l.val = _; omega
  split
  · rw [hR.odd', hp]; congr 1; show 128 * c + (2 * (l.val - 32) + 1) = _; omega
  split
  · rw [hR.even', hq]; congr 1; show 128 * c + 64 + 2 * (l.val - 32 - 32) = _; omega
  · rw [hR.odd', hq]; congr 1; show 128 * c + 64 + (2 * (l.val - 32 - 32 - 32) + 1) = _; omega

/-- The tile of the last group. -/
theorem tileLast_post {R : Reads Ideal} (hR : Plain R) (b : Fin 3) (H : Hp) (hX : ∀ b k t, s0 H b k t = X b.val t.val k.val)
    {P P' : ℕ → ℕ → Prop} (hP : ∀ c' b', P' c' b' → P c' b' ∨ (c' = 22 ∧ b' = b.val)) (hT : Tiles X P H) :
    Post (tileLast R b.val b.isLt) H fun _ H' => H' 0 = H 0 ∧ Tiles X P' H' := by
  unfold tileLast
  refine post_seq (rows_post b _ _ H hX) fun (p : S64x256.Idx → EReal) H ⟨e, hp⟩ => ?_
  subst e
  refine keepTile_post ⟨22, by omega⟩ b _ _ hP hT fun l t => ?_
  have e : (concatenate S128x256 0 [⟨S32x256, R.even' p⟩, ⟨S32x256, R.odd' p⟩, ⟨S64x256, (zeros (F := Ideal) : S64x256.Idx → EReal)⟩] concat3 : S128x256.Idx → EReal) (ix2 l t)
      = if h : l.val < 32 then R.even' p (ix2 ⟨l.val, h⟩ t) else if h : l.val - 32 < 32 then R.odd' p (ix2 ⟨l.val - 32, h⟩ t)
        else (zeros (F := Ideal)) (ix2 ⟨l.val - 32 - 32, by omega⟩ t) := by
    pointwise
  rw [e]
  unfold kept rowAt
  split
  · rw [if_pos (by show 128 * 22 + l.val < 2880; omega), hR.even', hp]; congr 1; show 2816 + 2 * l.val = 64 * ((128 * 22 + l.val) / 64) + 2 * ((128 * 22 + l.val) % 64 % 32) + (128 * 22 + l.val) % 64 / 32; omega
  split
  · rw [if_pos (by show 128 * 22 + l.val < 2880; omega), hR.odd', hp]; congr 1
    show 2816 + (2 * (l.val - 32) + 1) = 64 * ((128 * 22 + l.val) / 64) + 2 * ((128 * 22 + l.val) % 64 % 32) + (128 * 22 + l.val) % 64 / 32
    have e1 : (128 * 22 + l.val) / 64 = 44 := by omega
    have e2 : (128 * 22 + l.val) % 64 = l.val := by omega
    rw [e1, e2]; omega
  · rw [if_neg (by show ¬ 128 * 22 + l.val < 2880; omega), zeros_apply]

/-- The tile of zeros. -/
theorem tileZero_post (b : Fin 3) (H : Hp) {P P' : ℕ → ℕ → Prop} (hP : ∀ c' b', P' c' b' → P c' b' ∨ (c' = 23 ∧ b' = b.val)) (hT : Tiles X P H) :
    Post (tileZero (F := Ideal) b.val b.isLt) H fun _ H' => H' 0 = H 0 ∧ Tiles X P' H' := by
  unfold tileZero
  refine keepTile_post ⟨23, by omega⟩ b _ _ hP hT fun l t => ?_
  have e : (concatenate S128x256 0 [⟨S64x256, (zeros (F := Ideal) : S64x256.Idx → EReal)⟩, ⟨S64x256, (zeros (F := Ideal) : S64x256.Idx → EReal)⟩] concat2 : S128x256.Idx → EReal) (ix2 l t)
      = if h : l.val < 64 then (zeros (F := Ideal)) (ix2 ⟨l.val, h⟩ t) else (zeros (F := Ideal)) (ix2 ⟨l.val - 64, by omega⟩ t) := by
    pointwise
  rw [e]
  unfold kept
  rw [if_neg (by show ¬ 128 * 23 + l.val < 2880; omega)]
  split <;> exact zeros_apply _ _

/-- All tiles in their places. -/
theorem tiles_post {R : Reads Ideal} (hR : Plain R) (H : Hp) (hX : ∀ b k t, s0 H b k t = X b.val t.val k.val) :
    Post (tiles R) H fun _ H' => Tiles X (fun _ _ => True) H' := by
  have hx : ∀ H' : Hp, H' 0 = H 0 → ∀ b k t, s0 H' b k t = X b.val t.val k.val := fun H' e b k t => (congrFun e _).trans (hX b k t)
  unfold tiles
  refine post_seq (post_steps (fun n H' => H' 0 = H 0 ∧ Tiles X (fun c _ => c < n) H') (fun c hc H' ⟨e, h⟩ => ?_) 22 0 rfl H ⟨rfl, fun _ _ _ h => absurd h (Nat.not_lt_zero _)⟩) fun _ H1 ⟨e1, h1⟩ => ?_
  · refine post_seq (tile_post hR c hc 0 H' (hx H' e) (P' := fun c' b' => c' < c ∨ (c' = c ∧ b' = 0)) (fun _ _ q => q) h) fun _ H'' ⟨e', h'⟩ => ?_
    refine post_seq (tile_post hR c hc 1 H'' (hx H'' (e'.trans e)) (P' := fun c' b' => (c' < c ∨ (c' = c ∧ b' = 0)) ∨ (c' = c ∧ b' = 1)) (fun _ _ q => q) h') fun _ H3 ⟨e3, h3⟩ => ?_
    refine (tile_post hR c hc 2 H3 (hx H3 (e3.trans (e'.trans e))) (P' := fun c' b' => ((c' < c ∨ (c' = c ∧ b' = 0)) ∨ (c' = c ∧ b' = 1)) ∨ (c' = c ∧ b' = 2)) (fun _ _ q => q) h3).mono fun _ H4 ⟨e4, h4⟩ =>
      ⟨e4.trans (e3.trans (e'.trans e)), fun c' t l hl => h4 c' t l (by omega)⟩
  refine post_seq (Q := fun _ H' => H' 0 = H' 0 ∧ Tiles X (fun c' b' => ((c' < 22 ∨ (c' = 22 ∧ b' = 0)) ∨ (c' = 22 ∧ b' = 1)) ∨ (c' = 22 ∧ b' = 2)) H')
    (post_seq (tileLast_post hR 0 H1 (hx H1 e1) (P' := fun c' b' => c' < 22 ∨ (c' = 22 ∧ b' = 0)) (fun _ _ q => q) h1) fun _ H2 ⟨e2, h2⟩ =>
    post_seq (tileLast_post hR 1 H2 (hx H2 (e2.trans e1)) (P' := fun c' b' => (c' < 22 ∨ (c' = 22 ∧ b' = 0)) ∨ (c' = 22 ∧ b' = 1)) (fun _ _ q => q) h2) fun _ H3 ⟨e3, h3⟩ =>
    tileLast_post hR 2 H3 (hx H3 (e3.trans (e2.trans e1))) (P' := fun c' b' => ((c' < 22 ∨ (c' = 22 ∧ b' = 0)) ∨ (c' = 22 ∧ b' = 1)) ∨ (c' = 22 ∧ b' = 2)) (fun _ _ q => q) h3 |>.mono fun _ _ h => ⟨rfl, h.2⟩) fun _ H4 ⟨_, h4⟩ => ?_
  refine post_seq (tileZero_post 0 H4 (P' := fun c' b' => (((c' < 22 ∨ (c' = 22 ∧ b' = 0)) ∨ (c' = 22 ∧ b' = 1)) ∨ (c' = 22 ∧ b' = 2)) ∨ (c' = 23 ∧ b' = 0)) (fun _ _ q => q) h4) fun _ H5 ⟨_, h5⟩ => ?_
  refine post_seq (tileZero_post 1 H5 (P' := fun c' b' => ((((c' < 22 ∨ (c' = 22 ∧ b' = 0)) ∨ (c' = 22 ∧ b' = 1)) ∨ (c' = 22 ∧ b' = 2)) ∨ (c' = 23 ∧ b' = 0)) ∨ (c' = 23 ∧ b' = 1)) (fun _ _ q => q) h5) fun _ H6 ⟨_, h6⟩ => ?_
  refine (tileZero_post 2 H6 (P' := fun c' b' => (((((c' < 22 ∨ (c' = 22 ∧ b' = 0)) ∨ (c' = 22 ∧ b' = 1)) ∨ (c' = 22 ∧ b' = 2)) ∨ (c' = 23 ∧ b' = 0)) ∨ (c' = 23 ∧ b' = 1)) ∨ (c' = 23 ∧ b' = 2)) (fun _ _ q => q) h6).mono
    fun _ H7 ⟨_, h7⟩ => fun c t l _ => h7 c t l (by omega)

/-! ## The block's weights -/

/-- The block's weights in the groups and strips of which `P` holds in their places. -/
def Kept (W : ℕ → ℕ → EReal) (P : ℕ → ℕ → Prop) (H : Hp) : Prop :=
  ∀ (p : Fin 3072) (c : Fin 640), P (p.val / 64) (c.val / 128) → s7 H p c = kept (fun k => W k c.val) p.val

theorem clear_kept (H : Hp) : Post clear H fun _ H' => Kept W (fun g _ => 45 ≤ g) H' := by
  unfold clear
  refine post_bind (post_st fun H1 k1 i1 o1 => post_st fun H2 k2 i2 o2 => fun p c hp => ?_)
  refine (i2 (ix2 (⟨p.val - 2880, by omega⟩ : Fin 192) c) (ix2 p c) (at2 (show p.val = 2880 + (p.val - 2880) by omega) (by simp))).trans ?_
  unfold kept
  rw [if_neg (by omega), ← bf_zero]
  pointwise

theorem groupStrip_kept {R : Reads Ideal} (hR : Plain R) (t : Fin groups.trips) (k : ℕ) (hk : k < 5) (H : Hp) (hW : ∀ k c, s1 H k c = W k.val c.val)
    {P P' : ℕ → ℕ → Prop} (hP : ∀ g k', P' g k' → P g k' ∨ (g = t.val ∧ k' = k)) (hK : Kept W P H) :
    Post (groupStrip R t k hk) H fun _ H' => Kept W P' H' := by
  have ht := rowN_eq t
  have htl : t.val < 45 := t.isLt
  unfold groupStrip
  refine post_bind (post_ld fun (w : S64x128.Idx → EReal) hw => ?_)
  refine post_bind (post_st fun H1 k1 i1 o1 => post_bind (post_st fun H2 k2 i2 o2 => ?_))
  have hw' : ∀ (i : Fin 64) (l : Fin 128), w (ix2 i l) = W (64 * t.val + i.val) (128 * k + l.val) := fun i l =>
    (hw (ix2 i l) (ix2 (⟨64 * t.val + i.val, by omega⟩ : Fin 2880) (⟨128 * k + l.val, by omega⟩ : Fin 640)) (at2 (by simp [ht.1]) rfl)).trans (hW _ _)
  have h2 : Kept W P' H2 := fun p c hp => by
    by_cases e : p.val / 64 = t.val ∧ c.val / 128 = k
    · obtain ⟨e, e'⟩ := e
      unfold kept rowAt
      rw [if_pos (by omega), e]
      by_cases eh : p.val % 64 < 32
      · refine (o2 (ix2 p c) (0 : Fin 2) (.inl (show p.val < rowN' t by omega))).trans ?_
        refine (i1 (ix2 (⟨p.val % 64, by omega⟩ : Fin 32) (⟨c.val % 128, by omega⟩ : Fin 128)) (ix2 p c) (at2 (show p.val = rowN t + p.val % 64 by omega) (show c.val = 128 * k + c.val % 128 by omega))).trans ?_
        pointwise
        rw [hR.even, hw']
        congr 1
        · show 64 * t.val + 2 * (p.val % 64) = _; omega
        · show 128 * k + c.val % 128 = _; omega
      · refine (i2 (ix2 (⟨p.val % 64 - 32, by omega⟩ : Fin 32) (⟨c.val % 128, by omega⟩ : Fin 128)) (ix2 p c) (at2 (show p.val = rowN' t + (p.val % 64 - 32) by omega) (show c.val = 128 * k + c.val % 128 by omega))).trans ?_
        pointwise
        rw [hR.odd, hw']
        congr 1
        · show 64 * t.val + (2 * (p.val % 64 - 32) + 1) = _; omega
        · show 128 * k + c.val % 128 = _; omega
    · refine Eq.trans ?_ (hK p c ((hP _ _ hp).resolve_right e))
      by_cases eg : p.val / 64 = t.val
      · have : c.val / 128 ≠ k := fun h => e ⟨eg, h⟩
        exact (o2 (ix2 p c) (1 : Fin 2) (show c.val < 128 * k ∨ 128 * k + 128 ≤ c.val by omega)).trans
          (o1 (ix2 p c) (1 : Fin 2) (show c.val < 128 * k ∨ 128 * k + 128 ≤ c.val by omega))
      · exact (o2 (ix2 p c) (0 : Fin 2) (show p.val < rowN' t ∨ rowN' t + 32 ≤ p.val by omega)).trans
          (o1 (ix2 p c) (0 : Fin 2) (show p.val < rowN t ∨ rowN t + 32 ≤ p.val by omega))
  refine (post_keep H2 (P := fun k => k = 6) (writes_bind (addRel_writes _ _ _ _ _) fun _ => addRel_writes _ _ _ _ _)).mono fun _ H3 k3 => fun p c hp => ?_
  exact (congrFun (k3 7 (by decide)) _).trans (h2 p c hp)

theorem groups_kept {R : Reads Ideal} (hR : Plain R) (H : Hp) (hW : ∀ k c, s1 H k c = W k.val c.val) (hK : Kept W (fun g _ => 45 ≤ g) H) :
    Post (.loop groups groups_ok ⟨⟩ fun t _ => group R t) H fun _ H' => Kept W (fun _ _ => True) H' := by
  refine (post_loop (fun n _ H' => H' 1 = H 1 ∧ Kept W (fun g _ => g < n ∨ 45 ≤ g) H') ⟨rfl, fun p c h => hK p c (h.resolve_left (Nat.not_lt_zero _))⟩
    fun t _ H' ⟨e, h'⟩ => ?_).mono fun _ H' h p c _ => h.2 p c (show p.val / 64 < 45 ∨ 45 ≤ p.val / 64 by omega)
  unfold group
  refine (post_steps (fun n H'' => H'' 1 = H 1 ∧ Kept W (fun g k => (g < t.val ∨ 45 ≤ g) ∨ (g = t.val ∧ k < n)) H'')
    (fun k hk H'' ⟨e', h''⟩ => ?_) 5 0 rfl H' ⟨e, fun p c h => h' p c (h.resolve_right fun q => Nat.not_lt_zero _ q.2)⟩).mono fun _ H'' h => ⟨h.1, fun p c hp => h.2 p c (by omega)⟩
  refine ((groupStrip_kept hR t k hk H'' (fun k c => (congrFun e' _).trans (hW k c)) (fun g k' q => ?_) h'').frame (groupStrip_writes R t k hk)).mono fun _ H3 ⟨c1, c2⟩ => ⟨(c2 1 (by decide)).trans e', c1⟩
  omega

/-! ## The products -/

theorem mul_apply (x : FVec Ideal S768x256 .bf16) (w : Vec Ideal S256x640 .bf16) (t : Fin 768) (c : Fin 640) :
    mul x w (ix2 t c) = ∑ j : Fin 256, (x : S768x256.Idx → EReal) (ix2 t j) * (w : S256x640.Idx → EReal) (ix2 j c) := by
  refine Eq.trans ?_ (zero_add _)
  rw [← fl_zero]
  unfold mul
  pointwise

/-- The product of one pass. -/
abbrev pass (X : ℕ → ℕ → ℕ → EReal) (W : ℕ → ℕ → EReal) (t c p : ℕ) : EReal :=
  ∑ j ∈ Finset.range 256, kept (X (t / 256) (t % 256)) (256 * p + j) * kept (fun k => W k c) (256 * p + j)

theorem lhs_post (p : ℕ) (hp : p < 12) (H : Hp) (hT : Tiles X (fun _ _ => True) H) :
    Post (lhs p hp) H fun v H' => H' = H ∧ ∀ (t : Fin 768) (j : Fin 256), (v : S768x256.Idx → EReal) (ix2 t j) = kept (X (t.val / 256) (t.val % 256)) (256 * p + j.val) := by
  unfold lhs
  refine post_bind (post_ld fun (x0 : S1x768x128.Idx → EReal) h0 => post_bind (post_ld fun (x1 : S1x768x128.Idx → EReal) h1 => post_ret ⟨rfl, fun t j => ?_⟩))
  have e : (concatenate S768x256 1 [⟨S768x128, (shapeCast S768x128 x0 (by decide) : FVec Ideal S768x128 .bf16)⟩, ⟨S768x128, (shapeCast S768x128 x1 (by decide) : FVec Ideal S768x128 .bf16)⟩] Search.concat_x : S768x256.Idx → EReal) (ix2 t j)
      = if h : j.val < 128 then x0 (ix3 (0 : Fin 1) t ⟨j.val, h⟩) else x1 (ix3 (0 : Fin 1) t ⟨j.val - 128, by omega⟩) := by
    pointwise
  refine e.trans ?_
  split
  · next h =>
    rw [h0 (ix3 (0 : Fin 1) t ⟨j.val, h⟩) (ix3 (⟨2 * p, by omega⟩ : Fin 24) t ⟨j.val, h⟩) (at3 (by simp) (by simp) (by simp))]
    refine (hT _ _ _ trivial).trans ?_
    congr 1
    show 128 * (2 * p) + j.val = _; omega
  · next h =>
    rw [h1 (ix3 (0 : Fin 1) t ⟨j.val - 128, by omega⟩) (ix3 (⟨2 * p + 1, by omega⟩ : Fin 24) t ⟨j.val - 128, by omega⟩) (at3 (by simp) (by simp) (by simp))]
    refine (hT _ _ _ trivial).trans ?_
    congr 1
    show 128 * (2 * p + 1) + (j.val - 128) = _; omega

theorem rhs_post (p : ℕ) (hp : p < 12) (H : Hp) (hK : Kept W (fun _ _ => True) H) :
    Post (rhs p hp) H fun v H' => H' = H ∧ ∀ (j : Fin 256) (c : Fin 640), (v : S256x640.Idx → EReal) (ix2 j c) = kept (fun k => W k c.val) (256 * p + j.val) := by
  unfold rhs
  refine post_ld fun (v : S256x640.Idx → EReal) hv => ⟨rfl, fun j c => ?_⟩
  exact (hv (ix2 j c) (ix2 (⟨256 * p + j.val, by omega⟩ : Fin 3072) c) (at2 rfl (by simp))).trans (hK _ _ trivial)

theorem mul_pass (x : FVec Ideal S768x256 .bf16) (w : Vec Ideal S256x640 .bf16) (p : ℕ)
    (hx : ∀ (t : Fin 768) (j : Fin 256), (x : S768x256.Idx → EReal) (ix2 t j) = kept (X (t.val / 256) (t.val % 256)) (256 * p + j.val))
    (hw : ∀ (j : Fin 256) (c : Fin 640), (w : S256x640.Idx → EReal) (ix2 j c) = kept (fun k => W k c.val) (256 * p + j.val)) (t : Fin 768) (c : Fin 640) :
    mul x w (ix2 t c) = pass X W t.val c.val p := by
  rw [mul_apply, pass, Finset.sum_range]
  exact Finset.sum_congr rfl fun j _ => by rw [hx, hw]

theorem product_post (p : ℕ) (hp : p < 12) (H : Hp) (hT : Tiles X (fun _ _ => True) H) (hK : Kept W (fun _ _ => True) H) :
    Post (product p hp) H fun v H' => H' = H ∧ ∀ (t : Fin 768) (c : Fin 640), (v : S768x640.Idx → EReal) (ix2 t c) = pass X W t.val c.val p := by
  unfold product
  refine post_seq (lhs_post p hp H hT) fun x _ ⟨e, hx⟩ => ?_
  subst e
  refine post_seq (rhs_post p hp _ hK) fun w _ ⟨e, hw⟩ => ?_
  subst e
  exact post_ret ⟨rfl, mul_pass x w p hx hw⟩

theorem output_post (a : FVec Ideal S768x640 .f32) (x : FVec Ideal S768x256 .bf16) (w : Vec Ideal S256x640 .bf16) (H : Hp)
    (hT : Tiles X (fun _ _ => True) H) (hK : Kept W (fun _ _ => True) H)
    (ha : ∀ (t : Fin 768) (c : Fin 640), (addf a (mul x w) : S768x640.Idx → EReal) (ix2 t c) = ∑ p ∈ Finset.range 3, pass X W t.val c.val p) :
    Post (output a x w) H fun _ H' => ∀ (t : Fin 768) (c : Fin 640), s2 H' t c = Spec.out X W t.val c.val := by
  unfold output
  refine post_seq (post_accum (fun n a' H' => H' = H ∧ ∀ (t : Fin 768) (c : Fin 640), (a' : S768x640.Idx → EReal) (ix2 t c) = ∑ p ∈ Finset.range n, pass X W t.val c.val p)
    (fun p hp a' H' ⟨e, h⟩ => ?_) 9 3 rfl _ H ⟨rfl, ha⟩) fun acc H1 ⟨_, h1⟩ => ?_
  · subst e
    refine post_seq (product_post p hp _ hT hK) fun d _ ⟨e, hd⟩ => ?_
    subst e
    refine post_ret ⟨rfl, fun t c => ?_⟩
    rw [Finset.sum_range_succ, ← h t c, ← hd t c]
    rfl
  · refine post_st fun H2 k2 i2 o2 => fun t c => ?_
    refine (i2 (ix2 t c) (ix2 t c) (at2 (by simp) (by simp))).trans ((h1 t c).trans ?_)
    exact sum_kept _ _

/-- The first part: the tokens, the block's weights, and the first three passes' products. -/
theorem head_out {R : Reads Ideal} (hR : Plain R) (i : Fin 9) (H : Hp) (hX : ∀ b k t, s0 H b k t = X b.val t.val k.val)
    (hW : ∀ k c, s1 H k c = W k.val c.val) (hI : i ≠ 0 → Tiles X (fun _ _ => True) H ∧ Kept (fun _ _ => 0) (fun g _ => 45 ≤ g) H) :
    Post (head R i) H fun x H' => Tiles X (fun _ _ => True) H' ∧ Kept W (fun _ _ => True) H' ∧
      ∀ (t : Fin 768) (c : Fin 640), (addf x.2.1 (mul x.2.2.1 x.2.2.2) : S768x640.Idx → EReal) (ix2 t c) = ∑ p ∈ Finset.range 3, pass X W t.val c.val p := by
  have rest : ∀ H₁ : Hp, (∀ k c, s1 H₁ k c = W k.val c.val) → Tiles X (fun _ _ => True) H₁ → Kept W (fun g _ => 45 ≤ g) H₁ → Post
      (.bind (.loop groups groups_ok ⟨⟩ fun t _ => group R t) fun _ =>
        .bind (product 0 (by omega)) fun a =>
        .bind (product 1 (by omega)) fun d =>
        .bind (lhs 2 (by omega)) fun x =>
        .bind (rhs 2 (by omega)) fun w =>
        .ret ⟨stepW i, addf a d, x, w⟩ : C Ideal (Head Ideal)) H₁ fun x H' => Tiles X (fun _ _ => True) H' ∧ Kept W (fun _ _ => True) H' ∧
      ∀ (t : Fin 768) (c : Fin 640), (addf x.2.1 (mul x.2.2.1 x.2.2.2) : S768x640.Idx → EReal) (ix2 t c) = ∑ p ∈ Finset.range 3, pass X W t.val c.val p := by
    intro H₁ w₁ t₁ q₁
    refine post_seq ((groups_kept hR H₁ w₁ q₁).frame (writes_loop fun _ _ => group_writes R _)) fun _ H₂ ⟨q₂, k₂⟩ => ?_
    have t₂ : Tiles X (fun _ _ => True) H₂ := fun c t l h => (congrFun (k₂ 3 (by decide)) _).trans (t₁ c t l h)
    refine post_seq (product_post 0 _ H₂ t₂ q₂) fun a _ ⟨e, ha⟩ => ?_
    subst e
    refine post_seq (product_post 1 _ _ t₂ q₂) fun d _ ⟨e, hd⟩ => ?_
    subst e
    refine post_seq (lhs_post 2 _ _ t₂) fun x _ ⟨e, hx⟩ => ?_
    subst e
    refine post_seq (rhs_post 2 _ _ q₂) fun w _ ⟨e, hw⟩ => ?_
    subst e
    refine post_ret ⟨t₂, q₂, fun t c => ?_⟩
    rw [Finset.sum_range_succ, Finset.sum_range_succ, Finset.sum_range_one, ← ha t c, ← hd t c, ← mul_pass x w 2 hx hw t c]
    rfl
  unfold head
  refine post_when (fun h => ?_) fun h => rest H hW (hI fun e => h ((first_iff i).mpr e)).1 fun p c hp => ((hI fun e => h ((first_iff i).mpr e)).2 p c hp).trans ?_
  · refine post_seq ((tiles_post hR H hX).frame (tiles_writes R)) fun _ H₁ ⟨t₁, k₁⟩ => ?_
    refine post_seq ((clear_kept (W := W) H₁).frame clear_writes) fun _ H₂ ⟨h₂, k₂⟩ => ?_
    refine (post_keep H₂ (P := fun k => k = 5) (writes_loop fun _ _ => mean_writes R _)).mono fun _ H₃ k₃ => ?_
    exact rest H₃ (fun k c => (congrFun ((k₃ 1 (by decide)).trans ((k₂ 1 (by decide)).trans (k₁ 1 (by decide)))) _).trans (hW k c))
      (fun c t l h => (congrFun ((k₃ 3 (by decide)).trans (k₂ 3 (by decide))) _).trans (t₁ c t l h))
      fun p c h => (congrFun (k₃ 7 (by decide)) _).trans (h₂ p c h)
  · unfold kept; rw [if_neg (by omega), if_neg (by omega)]

/-- At a grid point: the tokens, zeros after the block's weights, and the block's output. -/
theorem body_out {R : Reads Ideal} (hR : Plain R) (i : Fin 9) (H : Hp) (hX : ∀ b k t, s0 H b k t = X b.val t.val k.val)
    (hW : ∀ k c, s1 H k c = W k.val c.val) (hI : i ≠ 0 → Tiles X (fun _ _ => True) H ∧ Kept (fun _ _ => 0) (fun g _ => 45 ≤ g) H) :
    Post (body R i) H fun _ H' => Tiles X (fun _ _ => True) H' ∧ Kept (fun _ _ => 0) (fun g _ => 45 ≤ g) H' ∧
      ∀ (t : Fin 768) (c : Fin 640), s2 H' t c = Spec.out X W t.val c.val := by
  unfold body
  refine post_seq (head_out hR i H hX hW hI) fun x H₁ ⟨t₁, q₁, a₁⟩ => ?_
  refine post_seq ((output_post _ _ _ H₁ t₁ q₁ a₁).frame (output_writes _ _ _)) fun _ H₂ ⟨h₂, k₂⟩ => ?_
  have t₂ : Tiles X (fun _ _ => True) H₂ := fun c t l h => (congrFun (k₂ 3 (by decide)) _).trans (t₁ c t l h)
  have q₂ : Kept (fun _ _ => 0) (fun g _ => 45 ≤ g) H₂ := fun p c h => (congrFun (k₂ 7 (by decide)) _).trans ((q₁ p c trivial).trans (by unfold kept; rw [if_neg (by omega), if_neg (by omega)]))
  refine post_cond (fun _ => ?_) fun _ => post_ret ⟨t₂, q₂, h₂⟩
  exact (post_keep H₂ table_writes).mono fun _ H₃ k₃ => ⟨fun c t l h => (congrFun (k₃ 3 (by decide)) _).trans (t₂ c t l h),
    fun p c h => (congrFun (k₃ 7 (by decide)) _).trans (q₂ p c h), fun t c => (congrFun (k₃ 2 (by decide)) _).trans (h₂ t c)⟩

end Cert.Proof.Stats
-- ==== Proof.Pack.lean ====
/-
  Packing codes: the word operations of the search act on every byte by itself, taking the low halves of two bytes.
-/
module

public import proofs.«01_k».proof.Proof.Search
public import Idealize.ShloMosaic.Lib.BitcastFour
public import Idealize.ShloMosaic.Lib.Pointwise

@[expose] public section

noncomputable section

namespace Cert.Proof.Search

open Idealize.ShloMosaic Idealize.ShloMosaic.TcCoe

/-- A word's bit is the bit of one of its four bytes. -/
theorem word_bit (x : IVec S32x128 8) (h : S32x128.Bitcasts 8 S8x128 32) (r : Fin 32) (l : Fin 128) (q : ℕ) (hq : q < 8) :
    (bitcast S8x128 32 x h (ix2 ⟨r.val / 4, by omega⟩ l)).getLsbD (8 * (r.val % 4) + q) = (x (ix2 r l)).getLsbD q := by
  have := bitcast_8_32_getLsbD_ix2 x h ⟨r.val / 4, by omega⟩ l (8 * (r.val % 4) + q) (by omega) r (show r.val = 4 * (r.val / 4) + (8 * (r.val % 4) + q) / 8 by omega)
  rw [show (8 * (r.val % 4) + q) % 8 = q by omega] at this
  exact this

/-- A byte's bit is a bit of the word it lies in. -/
theorem byte_bit (x : IVec S8x128 32) (h : S8x128.Bitcasts 32 S32x128 8) (r : Fin 32) (l : Fin 128) (q : ℕ) (hq : q < 8) :
    (bitcast S32x128 8 x h (ix2 r l)).getLsbD q = (x (ix2 ⟨r.val / 4, by omega⟩ l)).getLsbD (8 * (r.val % 4) + q) := by
  rw [bitcast_getLsbD x h _ q hq (by decide)]
  have e1 : S32x128.row (ix2 r l) = r.val := rfl
  have e2 : (S32x128.row (ix2 r l) * 8 + q) % 32 = 8 * (r.val % 4) + q := by rw [e1]; omega
  rw [e2]
  congr 2
  funext c
  match c with
  | ⟨0, _⟩ => exact Fin.ext ((h.srcIdx_row _ _ _ ⟨0, Nat.zero_lt_two⟩ rfl).trans (show (r.val * 8 + q) / 32 = r.val / 4 by omega))
  | ⟨1, _⟩ => exact Fin.ext (h.srcIdx_other _ _ _ ⟨1, Nat.one_lt_two⟩ (by show ¬ 1 + 2 = 2; omega))

theorem mask_low : ∀ (k : Fin 4) (q : Fin 8), (252645135#32).getLsbD (8 * k.val + q.val) = decide (q.val < 4) := by decide
theorem mask_high : ∀ (k : Fin 4) (q : Fin 8), (4042322160#32).getLsbD (8 * k.val + q.val) = decide (4 ≤ q.val) := by decide
theorem mask_four : ∀ q : Fin 8, (15#8).getLsbD q.val = decide (q.val < 4) := by decide

/-- Two halves' codes packed: each byte is the low halves of the two bytes in its place. -/
theorem pack_eq (lo hi : IVec S32x128 8) (r : Fin 32) (l : Fin 128) :
    pack lo hi (ix2 r l) = (lo (ix2 r l) &&& 15#8) ||| ((hi (ix2 r l) &&& 15#8) <<< 4) := by
  apply BitVec.eq_of_getLsbD_eq
  intro q hq
  unfold pack
  rw [byte_bit _ _ r l q hq]
  have e1 := word_bit lo (by decide) r l q hq
  have m1 := mask_low ⟨r.val % 4, by omega⟩ ⟨q, hq⟩
  have m2 := mask_high ⟨r.val % 4, by omega⟩ ⟨q, hq⟩
  have m3 := mask_four ⟨q, hq⟩
  simp only at m1 m2 m3
  have hs : ∀ x : BitVec 32, IntOp.shli .vector x 4#32 = x <<< 4 := fun x => by simp [IntOp.shli]
  show (IntOp.ori (IntOp.andi (bitcast S8x128 32 lo (by decide) (ix2 ⟨r.val / 4, by omega⟩ l)) 252645135#32)
    (IntOp.andi (IntOp.shli .vector (bitcast S8x128 32 hi (by decide) (ix2 ⟨r.val / 4, by omega⟩ l)) 4#32) 4042322160#32)).getLsbD _ = _
  rw [hs]
  simp only [IntOp.ori, IntOp.andi, BitVec.getLsbD_or, BitVec.getLsbD_and, BitVec.getLsbD_shiftLeft, e1, m1, m2, m3]
  by_cases h4 : q < 4
  · simp [h4, Nat.not_le.mpr h4]
  · have e2 := word_bit hi (by decide) r l (q - 4) (by omega)
    have m4 := mask_four ⟨q - 4, by omega⟩
    simp only at m4
    rw [show 8 * (r.val % 4) + q - 4 = 8 * (r.val % 4) + (q - 4) by omega, e2, m4]
    simp [h4, Nat.not_lt.mp h4, show q - 4 < 4 by omega, hq, show 8 * (r.val % 4) + q < 32 by omega, show ¬ (8 * (r.val % 4) + q < 4) by omega]

end Cert.Proof.Search
-- ==== Proof.SearchCodes.lean ====
/-
  What quantising a strip computes: from the scaled weights and the partial maxima, each group's quantiser scale, and the packed codes.
-/
module

public import proofs.«01_k».proof.Proof.SearchScale
public import proofs.«01_k».proof.Proof.Pack
public import proofs.«01_k».proof.Proof.SpecLoss

@[expose] public section

noncomputable section

namespace Cert.Proof.Search

open Idealize.ShloMosaic Idealize.ShloMosaic.TcCoe Cert.Proof Cert.Proof.Code Cert.Proof.Spec

variable {W S : ℕ → ℕ → EReal}

/-! ## The maxima of a block of groups -/

theorem part_post (H : Hp) (a : Fin 2) (b : ℕ) (hb : b < 6) (j : ℕ) (hj : j < 8) :
    Post (part (F := Ideal) a.val a.isLt b hb j hj) H fun m H' => H' = H ∧ ∀ (i : Fin 8) (l : Fin 128), m (ix2 i l) = r10 H a ⟨64 * b + 8 * i.val + j, by omega⟩ l := by
  unfold part
  refine post_bind (post_load (post_ret ⟨rfl, fun i l => ?_⟩))
  pointwise
  refine congrArg (H 10) ?_
  funext x; apply Fin.ext
  match x with
  | 0 => rfl
  | 1 => show 64 * b + j + 8 * i.val = 64 * b + 8 * i.val + j; omega
  | 2 => rfl

theorem blockMax_post (H : Hp) (a : Fin 2) (b : ℕ) (hb : b < 6) :
    Post (blockMax (F := Ideal) a.val a.isLt b hb) H fun m H' => H' = H ∧ ∀ (i : Fin 8) (l : Fin 128) (y : EReal), m (ix2 i l) ≤ y ↔
      ∀ j : Fin 8, r10 H a ⟨64 * b + 8 * i.val + j.val, by omega⟩ l ≤ y := by
  unfold blockMax
  refine post_seq (part_post H a b hb 0 (by omega)) fun m H1 h1 => ?_
  obtain ⟨rfl, h1⟩ := h1
  refine (post_accum (fun n m H' => H' = H1 ∧ ∀ (i : Fin 8) (l : Fin 128) (y : EReal), m (ix2 i l) ≤ y ↔
      ∀ j : Fin 8, j.val < n → r10 H1 a ⟨64 * b + 8 * i.val + j.val, by omega⟩ l ≤ y) (fun j hj m H' h => ?_) 7 1 rfl m H1 ⟨rfl, fun i l y => ?_⟩).mono
    fun m H' h => ⟨h.1, fun i l y => (h.2 i l y).trans ⟨fun h j => h j j.isLt, fun h j _ => h j⟩⟩
  · obtain ⟨rfl, h⟩ := h
    refine post_seq (part_post H' a b hb j hj) fun v H2 h2 => ?_
    obtain ⟨rfl, h2⟩ := h2
    refine post_ret ⟨rfl, fun i l y => ?_⟩
    show max (m (ix2 i l)) (v (ix2 i l)) ≤ y ↔ _
    rw [max_le_iff, h, h2]
    constructor
    · rintro ⟨p, q⟩ k hk
      by_cases e : k.val = j
      · have : k = ⟨j, hj⟩ := Fin.ext e
        subst this; exact q
      · exact p k (by omega)
    · intro p
      exact ⟨fun k hk => p k (by omega), p ⟨j, hj⟩ (Nat.lt_succ_self j)⟩
  · rw [h1]
    constructor
    · intro p k hk
      have : k = 0 := Fin.ext (by simpa using hk)
      subst this; exact p
    · intro p; exact p 0 (by decide)

/-- A group's largest magnitude, from its partial maxima. -/
theorem amax_le_iff (i g c : ℕ) (y : EReal) : amax W S i g c ≤ y ↔ ∀ (q : Fin 8) (t : Fin 4) (h : Fin 2), mag (scaled W S i (64 * g + 2 * (t.val * 8 + q.val) + h.val) c) ≤ y := by
  unfold amax
  rw [Finset.sup_le_iff]
  constructor
  · intro h q t k
    have := h (2 * (t.val * 8 + q.val) + k.val) (Finset.mem_range.mpr (by omega))
    rwa [← Nat.add_assoc] at this
  · intro h j hj
    have hj := Finset.mem_range.mp hj
    have := h ⟨j / 2 % 8, by omega⟩ ⟨j / 2 / 8, by omega⟩ ⟨j % 2, by omega⟩
    rwa [show 64 * g + 2 * (j / 2 / 8 * 8 + j / 2 % 8) + j % 2 = 64 * g + j by omega] at this

theorem blockMax_amax {H : Hp} {col : ℕ} (hI : ScaledTo W S col 45 H) {a : Fin 2} {b : ℕ} (hb : b < 6) {m : FVec Ideal S8x128 .f32}
    (hm : ∀ (i : Fin 8) (l : Fin 128) (y : EReal), m (ix2 i l) ≤ y ↔ ∀ j : Fin 8, r10 H a ⟨64 * b + 8 * i.val + j.val, by omega⟩ l ≤ y)
    (i : Fin 8) (l : Fin 128) (hg : 8 * b + i.val < 45) : m (ix2 i l) = amax W S a.val (8 * b + i.val) (col + l.val) := by
  refine eq_of_forall_ge_iff fun y => ?_
  rw [amax_le_iff, hm]
  refine forall_congr' fun q => ?_
  rw [hI.m a _ l (show 64 * b + 8 * i.val + q.val < 8 * 45 by omega)]
  simp only
  rw [show (64 * b + 8 * i.val + q.val) / 8 = 8 * b + i.val by omega, show (64 * b + 8 * i.val + q.val) % 8 = q.val by omega]

/-! ## The quantiser scales -/

/-- The quantiser scales in their places. -/
theorem scaleOf_apply (m : FVec Ideal S8x128 .f32) (i : Fin 8) (l : Fin 128) : scaleOf m (ix2 i l) = scaleFrom (m (ix2 i l)) := by
  unfold scaleOf scaleFrom
  pointwise

/-- What a block of groups' quantiser scales leave for candidate `a`. -/
structure ScalesStep (W S : ℕ → ℕ → EReal) (col : ℕ) (a : Fin 2) (b : ℕ) (H H' : Hp) : Prop where
  out : ∀ (g : Fin 45) (l : Fin 128) (c : Fin 640), g.val / 8 = b → c.val = col + l.val → r6 H' a g c = qscale W S a.val g.val c.val
  inv : ∀ (g : Fin 45) (l : Fin 128), g.val / 8 = b → r11 H' a 0 ⟨g.val, by omega⟩ l = Ideal.div (fl 0x3F800000#32) (qscale W S a.val g.val (col + l.val))
  sc : ∀ (g : Fin 45) (l : Fin 128), g.val / 8 = b → r11 H' a 1 ⟨g.val, by omega⟩ l = qscale W S a.val g.val (col + l.val)
  out_keep : ∀ (a' : Fin 2) (g : Fin 45) (c : Fin 640), a' ≠ a ∨ g.val / 8 ≠ b ∨ c.val < col ∨ col + 128 ≤ c.val → r6 H' a' g c = r6 H a' g c
  inv_keep : ∀ (a' q : Fin 2) (g : Fin 48) (l : Fin 128), a' ≠ a ∨ g.val / 8 ≠ b → r11 H' a' q g l = r11 H a' q g l
  keep : ∀ k, ¬ (k = 6 ∨ k = 11) → H' k = H k

theorem keepScales_post {R : Reads Ideal} (hR : Plain R) (H : Hp) (a : Fin 2) (b : ℕ) (hb : b < 6) (s : FVec Ideal S8x128 .f32) :
    Post (keepScales R a.val a.isLt b hb s) H fun _ H' =>
      ((∀ (i : Fin 8) (g : Fin 48) (l : Fin 128), g.val = 8 * b + i.val → r11 H' a 0 g l = Ideal.div (fl 0x3F800000#32) (s (ix2 i l)))
      ∧ ∀ (i : Fin 8) (g : Fin 48) (l : Fin 128), g.val = 8 * b + i.val → r11 H' a 1 g l = s (ix2 i l))
      ∧ (∀ (a' q : Fin 2) (g : Fin 48) (l : Fin 128), a' ≠ a ∨ g.val / 8 ≠ b → r11 H' a' q g l = r11 H a' q g l)
      ∧ ∀ k, k ≠ 11 → H' k = H k := by
  unfold keepScales
  refine post_bind (post_st fun H1 k1 i1 o1 => post_st fun H2 k2 i2 o2 => ⟨⟨fun i g l hg => ?_, fun i g l hg => ?_⟩, fun a' q g l h => ?_, fun k hk => (k2 k hk).trans (k1 k hk)⟩)
  · refine (o2 (ix4 a 0 g l) (1 : Fin 4) (.inl Nat.zero_lt_one)).trans ?_
    refine (i1 (ix4 (0 : Fin 1) (0 : Fin 1) i l) (ix4 a 0 g l) (at4 (by simp) (by simp) hg (by simp))).trans ?_
    pointwise
  · refine (i2 (ix4 (0 : Fin 1) (0 : Fin 1) i l) (ix4 a 1 g l) (at4 (by simp) (by simp) hg (by simp))).trans ?_
    rw [hR.round]
    pointwise
  · by_cases e : a' = a
    · have h : g.val / 8 ≠ b := h.resolve_left (fun h => h e)
      exact (o2 (ix4 a' q g l) (2 : Fin 4) (show g.val < 8 * b ∨ 8 * b + 8 ≤ g.val by omega)).trans
        (o1 (ix4 a' q g l) (2 : Fin 4) (show g.val < 8 * b ∨ 8 * b + 8 ≤ g.val by omega))
    · have e := Fin.val_ne_of_ne e
      exact (o2 (ix4 a' q g l) (0 : Fin 4) (show a'.val < a.val ∨ a.val + 1 ≤ a'.val by omega)).trans
        (o1 (ix4 a' q g l) (0 : Fin 4) (show a'.val < a.val ∨ a.val + 1 ≤ a'.val by omega))

theorem scales_post {R : Reads Ideal} (hR : Plain R) (col : ℕ) (hcol : col + 128 ≤ 640) (H : Hp) (hI : ScaledTo W S col 45 H) (b : ℕ) (hb : b < 5) (a : Fin 2) :
    Post (scales R col hcol b hb a.val a.isLt) H fun _ H' => ScalesStep W S col a b H H' := by
  unfold scales
  refine post_seq (blockMax_post H a b (by omega)) fun m H1 h1 => ?_
  obtain ⟨rfl, h1⟩ := h1
  have hm := fun i l h => blockMax_amax hI (by omega) h1 i l h
  refine post_bind (post_st fun H2 k2 i2 o2 => ?_)
  refine (keepScales_post hR H2 a b (by omega) _).mono fun _ H3 ⟨⟨c1, c1'⟩, c2, c3⟩ => ?_
  have k6 : H3 6 = H2 6 := c3 6 (by decide)
  have k11 : H2 11 = H1 11 := k2 11 (by decide)
  refine ⟨fun g l c hg hc => ?_, fun g l hg => ?_, fun g l hg => ?_, fun a' g c h => ?_, fun a' q g l h => (c2 a' q g l h).trans (congrFun k11 _), fun k hk => (c3 k (fun e => hk (.inr e))).trans (k2 k (fun e => hk (.inl e)))⟩
  · refine (congrFun k6 _).trans ((i2 (ix3 (0 : Fin 1) (⟨g.val % 8, by omega⟩ : Fin 8) l) (ix3 a g c) (at3 (by simp) (show g.val = 8 * b + g.val % 8 by omega) hc)).trans ?_)
    pointwise
    rw [scaleOf_apply, hm _ _ (show 8 * b + g.val % 8 < 45 by omega), show 8 * b + g.val % 8 = g.val by omega, hc]
    rfl
  · rw [c1 ⟨g.val % 8, by omega⟩ _ l (show g.val = 8 * b + g.val % 8 by omega), scaleOf_apply, hm _ _ (show 8 * b + g.val % 8 < 45 by omega), show 8 * b + g.val % 8 = g.val by omega]
    rfl
  · rw [c1' ⟨g.val % 8, by omega⟩ _ l (show g.val = 8 * b + g.val % 8 by omega), scaleOf_apply, hm _ _ (show 8 * b + g.val % 8 < 45 by omega), show 8 * b + g.val % 8 = g.val by omega]
    rfl
  · refine (congrFun k6 _).trans ?_
    by_cases ea : a' = a
    · by_cases eg : g.val / 8 = b
      · exact o2 (ix3 a' g c) (2 : Fin 3) ((h.resolve_left (fun h => h ea)).resolve_left (fun h => h eg))
      · exact o2 (ix3 a' g c) (1 : Fin 3) (show g.val < 8 * b ∨ 8 * b + 8 ≤ g.val by omega)
    · have ea := Fin.val_ne_of_ne ea
      exact o2 (ix3 a' g c) (0 : Fin 3) (show a'.val < a.val ∨ a.val + 1 ≤ a'.val by omega)

theorem scalesLast_post {R : Reads Ideal} (hR : Plain R) (col : ℕ) (hcol : col + 128 ≤ 640) (H : Hp) (hI : ScaledTo W S col 45 H) (a : Fin 2) :
    Post (scalesLast R col hcol a.val a.isLt) H fun _ H' => ScalesStep W S col a 5 H H' := by
  unfold scalesLast
  refine post_seq (blockMax_post H a 5 (by omega)) fun m H1 h1 => ?_
  obtain ⟨rfl, h1⟩ := h1
  have hm := fun i l h => blockMax_amax hI (by omega) h1 i l h
  refine post_bind (post_st fun H2 k2 i2 o2 => ?_)
  refine (keepScales_post hR H2 a 5 (by omega) _).mono fun _ H3 ⟨⟨c1, c1'⟩, c2, c3⟩ => ?_
  have k6 : H3 6 = H2 6 := c3 6 (by decide)
  have k11 : H2 11 = H1 11 := k2 11 (by decide)
  refine ⟨fun g l c hg hc => ?_, fun g l hg => ?_, fun g l hg => ?_, fun a' g c h => ?_, fun a' q g l h => (c2 a' q g l h).trans (congrFun k11 _), fun k hk => (c3 k (fun e => hk (.inr e))).trans (k2 k (fun e => hk (.inl e)))⟩
  · refine (congrFun k6 _).trans ((i2 (ix3 (0 : Fin 1) (⟨g.val % 8, by omega⟩ : Fin 5) l) (ix3 a g c) (at3 (by simp) (show g.val = 40 + g.val % 8 by omega) hc)).trans ?_)
    pointwise
    rw [scaleOf_apply, hm _ _ (show 8 * 5 + g.val % 8 < 45 by omega), show 8 * 5 + g.val % 8 = g.val by omega, hc]
    rfl
  · rw [c1 ⟨g.val % 8, by omega⟩ _ l (show g.val = 8 * 5 + g.val % 8 by omega), scaleOf_apply, hm _ _ (show 8 * 5 + g.val % 8 < 45 by omega), show 8 * 5 + g.val % 8 = g.val by omega]
    rfl
  · rw [c1' ⟨g.val % 8, by omega⟩ _ l (show g.val = 8 * 5 + g.val % 8 by omega), scaleOf_apply, hm _ _ (show 8 * 5 + g.val % 8 < 45 by omega), show 8 * 5 + g.val % 8 = g.val by omega]
    rfl
  · refine (congrFun k6 _).trans ?_
    by_cases ea : a' = a
    · by_cases eg : g.val / 8 = 5
      · exact o2 (ix3 a' g c) (2 : Fin 3) ((h.resolve_left (fun h => h ea)).resolve_left (fun h => h eg))
      · exact o2 (ix3 a' g c) (1 : Fin 3) (show g.val < 40 ∨ 40 + 5 ≤ g.val by omega)
    · have ea := Fin.val_ne_of_ne ea
      exact o2 (ix3 a' g c) (0 : Fin 3) (show a'.val < a.val ∨ a.val + 1 ≤ a'.val by omega)

/-! ## The codes -/

/-- A half's codes, where every scaled weight is multiplied by the inverse of its group's scale. -/
theorem codeOf_apply (v : Vec Ideal S1x1x1x32x128 .f32) (inv : FVec Ideal S32x128 .f32) (r : Fin 32) (l : Fin 128) (s : EReal) (hs : s ≠ 0)
    (hv : inv (ix2 r l) = Ideal.div (fl 0x3F800000#32) s) :
    codeOf v inv (ix2 r l) = Ideal.fptosi 8 (clipped (Ideal.div ((v : S1x1x1x32x128.Idx → EReal) (ix5 (0 : Fin 1) (0 : Fin 1) (0 : Fin 1) r l)) s)) := by
  unfold codeOf clipped
  pointwise
  rw [hv, fl_one, Ideal.mul_one_div hs]
  rfl

theorem quantHalf_post (slot : Fin 2) (g : Fin 45) (a : Fin 2) (inv : FVec Ideal S32x128 .f32) (sb : FVec Ideal S32x128 .bf16) (h : Fin 2) (H : Hp) :
    Post (quantHalf slot.val slot.isLt g.val g.isLt a.val a.isLt inv sb h.val h.isLt) H fun q H' =>
      (∃ v : S1x1x1x32x128.Idx → EReal, q = codeOf v inv ∧ ∀ r l, v (ix5 (0 : Fin 1) (0 : Fin 1) (0 : Fin 1) r l) = r9 H a g h r l)
      ∧ (∀ (p : Fin 3072) (r : Fin 32) (l : Fin 128), p.val = 64 * g.val + 32 * h.val + r.val → r12 H' slot a p l = (((q (ix2 r l)).toInt : ℝ) : EReal) * (sb : S32x128.Idx → EReal) (ix2 r l) * r8 H a g h r l)
      ∧ (∀ (s' a' : Fin 2) (p : Fin 3072) (l : Fin 128), s' ≠ slot ∨ a' ≠ a ∨ p.val / 32 ≠ 2 * g.val + h.val → r12 H' s' a' p l = r12 H s' a' p l)
      ∧ ∀ k, k ≠ 12 → H' k = H k := by
  unfold quantHalf
  refine post_bind (post_ld fun (v : S1x1x1x32x128.Idx → EReal) hv => post_bind (post_ld fun (w : S1x1x1x32x128.Idx → EReal) hw => post_bind (post_st fun H' k i o => post_ret ⟨⟨v, rfl, fun r l => ?_⟩, fun p r l hp => ?_, fun s' a' p l hne => ?_, k⟩)))
  · exact hv (ix5 (0 : Fin 1) (0 : Fin 1) (0 : Fin 1) r l) (ix5 a g h r l) (at5 (by simp) (by simp) (by simp) (by simp) (by simp))
  · refine (i (ix4 (0 : Fin 1) (0 : Fin 1) r l) (ix4 slot a p l) (at4 (by simp) (by simp) hp (by simp))).trans ?_
    have e : w (ix5 (0 : Fin 1) (0 : Fin 1) (0 : Fin 1) r l) = r8 H a g h r l := hw (ix5 (0 : Fin 1) (0 : Fin 1) (0 : Fin 1) r l) (ix5 a g h r l) (at5 (by simp) (by simp) (by simp) (by simp) (by simp))
    pointwise
    exact congrArg (_ * ·) e
  · by_cases es : s' = slot
    · by_cases ea : a' = a
      · have ep := (hne.resolve_left (fun h => h es)).resolve_left (fun h => h ea)
        exact o (ix4 s' a' p l) (2 : Fin 4) (show p.val < 64 * g.val + 32 * h.val ∨ 64 * g.val + 32 * h.val + 32 ≤ p.val by omega)
      · have ea := Fin.val_ne_of_ne ea
        exact o (ix4 s' a' p l) (1 : Fin 4) (show a'.val < a.val ∨ a.val + 1 ≤ a'.val by omega)
    · have es := Fin.val_ne_of_ne es
      exact o (ix4 s' a' p l) (0 : Fin 4) (show s'.val < slot.val ∨ slot.val + 1 ≤ s'.val by omega)

/-- The quantiser's scales and their inverses in their places. -/
def Inverses (W S : ℕ → ℕ → EReal) (col : ℕ) (H : Hp) : Prop :=
  ∀ (a : Fin 2) (g : Fin 45) (l : Fin 128), r11 H a 0 ⟨g.val, by omega⟩ l = Ideal.div (fl 0x3F800000#32) (qscale W S a.val g.val (col + l.val))
    ∧ r11 H a 1 ⟨g.val, by omega⟩ l = qscale W S a.val g.val (col + l.val)

theorem quantGroup_post (col : ℕ) (hcol : col + 128 ≤ 640) (slot : Fin 2) (g : Fin 45) (a : Fin 2) (H : Hp) (hG : Given W S H) (hI : ScaledTo W S col 45 H) (hv : Inverses W S col H) :
    Post (quantGroup col hcol slot.val slot.isLt g.val g.isLt a.val a.isLt) H fun _ H' =>
      (∀ (r : Fin 1440) (l : Fin 128) (c : Fin 640), r.val / 32 = g.val → c.val = col + l.val → r5 H' a r c = packed W S a.val r.val c.val)
      ∧ (∀ (a' : Fin 2) (r : Fin 1440) (c : Fin 640), a' ≠ a ∨ r.val / 32 ≠ g.val ∨ c.val < col ∨ col + 128 ≤ c.val → r5 H' a' r c = r5 H a' r c)
      ∧ (∀ (p : Fin 3072) (l : Fin 128), p.val / 64 = g.val → r12 H' slot a p l = deq W S a.val (rowAt p.val) (col + l.val))
      ∧ (∀ (s' a' : Fin 2) (p : Fin 3072) (l : Fin 128), s' ≠ slot ∨ a' ≠ a ∨ p.val / 64 ≠ g.val → r12 H' s' a' p l = r12 H s' a' p l)
      ∧ ∀ k, ¬ (k = 5 ∨ k = 12) → H' k = H k := by
  unfold quantGroup
  refine post_bind (post_ld fun (i : S1x1x1x128.Idx → EReal) hi => post_bind (post_ld fun (sc : S1x1x1x128.Idx → EReal) hs => ?_))
  refine post_seq (quantHalf_post slot g a _ _ 0 H) fun lo H1 ⟨⟨v0, hlo, hv0⟩, w1, x1, k1⟩ => ?_
  refine post_seq (quantHalf_post slot g a _ _ 1 H1) fun hi' H2 ⟨⟨v1, hhi, hv1⟩, w2, x2, k2⟩ => ?_
  refine post_st fun H3 k3 i3 o3 => ?_
  have hrow : ∀ (r : Fin 32) (l : Fin 128), rowOf (F := Ideal) i (ix2 r l) = Ideal.div (fl 0x3F800000#32) (qscale W S a.val g.val (col + l.val)) := fun r l => by
    have h := hi (ix4 (0 : Fin 1) (0 : Fin 1) (0 : Fin 1) l) (ix4 a 0 (⟨g.val, by omega⟩ : Fin 48) l) (at4 (by simp) (by simp) (by simp) (by simp))
    refine Eq.trans ?_ (h.trans (hv a g l).1)
    unfold rowOf
    pointwise
  have hsb : ∀ (r : Fin 32) (l : Fin 128), (truncf .bf16 (rowOf (F := Ideal) sc) (by decide) : S32x128.Idx → EReal) (ix2 r l) = qscale W S a.val g.val (col + l.val) := fun r l => by
    have h := hs (ix4 (0 : Fin 1) (0 : Fin 1) (0 : Fin 1) l) (ix4 a 1 (⟨g.val, by omega⟩ : Fin 48) l) (at4 (by simp) (by simp) (by simp) (by simp))
    refine Eq.trans ?_ (h.trans (hv a g l).2)
    unfold rowOf
    pointwise
  have hlo' : ∀ (r : Fin 32) (l : Fin 128), lo (ix2 r l) = code W S 8 a.val (2 * (32 * g.val + r.val)) (col + l.val) := fun r l => by
    rw [hlo, codeOf_apply v0 _ r l _ (scaleFrom_ne_zero _) (hrow r l), hv0, hI.v a g 0 r l g.isLt]
    unfold code
    rw [show 2 * (32 * g.val + r.val) / 64 = g.val by omega, show 64 * g.val + 2 * r.val + (0 : Fin 2).val = 2 * (32 * g.val + r.val) by simp; omega]
    rfl
  have hhi' : ∀ (r : Fin 32) (l : Fin 128), hi' (ix2 r l) = code W S 8 a.val (2 * (32 * g.val + r.val) + 1) (col + l.val) := fun r l => by
    rw [hhi, codeOf_apply v1 _ r l _ (scaleFrom_ne_zero _) (hrow r l), hv1, show r9 H1 a g 1 r l = r9 H a g 1 r l from congrFun (k1 9 (by decide)) _, hI.v a g 1 r l g.isLt]
    unfold code
    rw [show (2 * (32 * g.val + r.val) + 1) / 64 = g.val by omega, show 64 * g.val + 2 * r.val + (1 : Fin 2).val = 2 * (32 * g.val + r.val) + 1 by simp; omega]
    rfl
  have k5 : H2 5 = H 5 := (k2 5 (by decide)).trans (k1 5 (by decide))
  refine ⟨fun r l c hr hc => ?_, fun a' r c h => ?_, fun p l hp => (congrFun (k3 12 (by decide)) _).trans ?_, fun s' a' p l h => (congrFun (k3 12 (by decide)) _).trans ?_, fun k hk => (k3 k (fun e => hk (.inl e))).trans ((k2 k (fun e => hk (.inr e))).trans (k1 k (fun e => hk (.inr e))))⟩
  · refine (i3 (ix3 (0 : Fin 1) (⟨r.val % 32, by omega⟩ : Fin 32) l) (ix3 a r c) (at3 (by simp) (show r.val = 32 * g.val + r.val % 32 by omega) hc)).trans ?_
    pointwise
    rw [pack_eq, hlo', hhi', show 32 * g.val + r.val % 32 = r.val by omega, hc]
    rfl
  · refine Eq.trans ?_ (congrFun k5 _)
    by_cases ea : a' = a
    · by_cases er : r.val / 32 = g.val
      · exact o3 (ix3 a' r c) (2 : Fin 3) ((h.resolve_left (fun h => h ea)).resolve_left (fun h => h er))
      · exact o3 (ix3 a' r c) (1 : Fin 3) (show r.val < 32 * g.val ∨ 32 * g.val + 32 ≤ r.val by omega)
    · have ea := Fin.val_ne_of_ne ea
      exact o3 (ix3 a' r c) (0 : Fin 3) (show a'.val < a.val ∨ a.val + 1 ≤ a'.val by omega)
  · by_cases eh : p.val % 64 < 32
    · have er : rowAt p.val = 2 * (32 * g.val + p.val % 64) := by unfold rowAt; omega
      refine (x2 slot a p l (.inr (.inr (show p.val / 32 ≠ 2 * g.val + 1 by omega)))).trans ?_
      rw [w1 p ⟨p.val % 64, by omega⟩ l (show p.val = 64 * g.val + 32 * 0 + p.val % 64 by omega), hlo', hsb, hG.v]
      unfold deq
      rw [er, show 2 * (32 * g.val + p.val % 64) / 64 = g.val by omega]
      congr 3
      show 64 * g.val + 2 * (p.val % 64) + 0 = _; omega
    · have er : rowAt p.val = 2 * (32 * g.val + (p.val % 64 - 32)) + 1 := by unfold rowAt; omega
      refine (w2 p ⟨p.val % 64 - 32, by omega⟩ l (show p.val = 64 * g.val + 32 * 1 + (p.val % 64 - 32) by omega)).trans ?_
      rw [hhi', hsb, show r8 H1 a g 1 _ l = r8 H a g 1 _ l from congrFun (k1 8 (by decide)) _, hG.v]
      unfold deq
      rw [er, show (2 * (32 * g.val + (p.val % 64 - 32)) + 1) / 64 = g.val by omega]
      congr 3
      show 64 * g.val + 2 * (p.val % 64 - 32) + 1 = _; omega
  · exact (x2 s' a' p l (by rw [show ((1 : Fin 2).val) = 1 from rfl]; omega)).trans (x1 s' a' p l (by rw [show ((0 : Fin 2).val) = 0 from rfl]; omega))

/-! ## A strip -/

theorem ScaledTo.of_keep {H H' : Hp} {col n : ℕ} (h : ScaledTo W S col n H) (h9 : H' 9 = H 9) (h10 : H' 10 = H 10) : ScaledTo W S col n H' :=
  ⟨fun a g h' r l hn => (congrFun h9 _).trans (h.v a g h' r l hn), fun a p l hp y => by
    rw [show r10 H' a p l = r10 H a p l from congrFun h10 _]; exact h.m a p l hp y⟩

/-- The results of the strip at the columns from `col` in their places, for the groups of which `P` holds; elsewhere as in `H₀`. -/
structure ScalesIn (W S : ℕ → ℕ → EReal) (col : ℕ) (P : Fin 2 → ℕ → Prop) (H₀ H : Hp) : Prop where
  given : Given W S H
  scaled : ScaledTo W S col 45 H
  out : ∀ (a : Fin 2) (g : Fin 45) (l : Fin 128) (c : Fin 640), P a (g.val / 8) → c.val = col + l.val → r6 H a g c = qscale W S a.val g.val c.val
  inv : ∀ (a : Fin 2) (g : Fin 45) (l : Fin 128), P a (g.val / 8) → r11 H a 0 ⟨g.val, by omega⟩ l = Ideal.div (fl 0x3F800000#32) (qscale W S a.val g.val (col + l.val))
  sc : ∀ (a : Fin 2) (g : Fin 45) (l : Fin 128), P a (g.val / 8) → r11 H a 1 ⟨g.val, by omega⟩ l = qscale W S a.val g.val (col + l.val)
  out_keep : ∀ (a : Fin 2) (g : Fin 45) (c : Fin 640), c.val < col ∨ col + 128 ≤ c.val → r6 H a g c = r6 H₀ a g c
  codes_keep : ∀ (a : Fin 2) (r : Fin 1440) (c : Fin 640), r5 H a r c = r5 H₀ a r c
  held_keep : H 12 = H₀ 12

theorem ScalesIn.step {col : ℕ} {P P' : Fin 2 → ℕ → Prop} {H₀ H H' : Hp} {a : Fin 2} {b : ℕ} (h : ScalesIn W S col P H₀ H) (hs : ScalesStep W S col a b H H')
    (hP : ∀ a' b', P' a' b' → P a' b' ∨ (a' = a ∧ b' = b)) : ScalesIn W S col P' H₀ H' where
  given := h.given.of_keep (hs.keep 3 (by decide)) (hs.keep 7 (by decide)) (hs.keep 8 (by decide))
  scaled := h.scaled.of_keep (hs.keep 9 (by decide)) (hs.keep 10 (by decide))
  out a' g l c hp hc := by
    by_cases e : a' = a ∧ g.val / 8 = b
    · obtain ⟨rfl, e⟩ := e; exact hs.out g l c e hc
    · rw [hs.out_keep a' g c (if ea : a' = a then .inr (.inl fun eb => e ⟨ea, eb⟩) else .inl ea)]
      exact h.out a' g l c ((hP _ _ hp).resolve_right e) hc
  inv a' g l hp := by
    by_cases e : a' = a ∧ g.val / 8 = b
    · obtain ⟨rfl, e⟩ := e; exact hs.inv g l e
    · rw [hs.inv_keep a' 0 _ l (if ea : a' = a then .inr fun eb => e ⟨ea, eb⟩ else .inl ea)]
      exact h.inv a' g l ((hP _ _ hp).resolve_right e)
  sc a' g l hp := by
    by_cases e : a' = a ∧ g.val / 8 = b
    · obtain ⟨rfl, e⟩ := e; exact hs.sc g l e
    · rw [hs.inv_keep a' 1 _ l (if ea : a' = a then .inr fun eb => e ⟨ea, eb⟩ else .inl ea)]
      exact h.sc a' g l ((hP _ _ hp).resolve_right e)
  out_keep a' g c hc := (hs.out_keep a' g c (.inr (.inr hc))).trans (h.out_keep a' g c hc)
  codes_keep a' r c := (congrFun (hs.keep 5 (by decide)) _).trans (h.codes_keep a' r c)
  held_keep := (hs.keep 12 (by decide)).trans h.held_keep

/-- The codes and the dequantised weights of the groups of which `P` holds in their places, and the scales of all. -/
structure CodesIn (W S : ℕ → ℕ → EReal) (col : ℕ) (slot : Fin 2) (P : Fin 2 → ℕ → Prop) (H₀ H : Hp) : Prop where
  given : Given W S H
  scaled : ScaledTo W S col 45 H
  inv : Inverses W S col H
  out : ∀ (a : Fin 2) (g : Fin 45) (l : Fin 128) (c : Fin 640), c.val = col + l.val → r6 H a g c = qscale W S a.val g.val c.val
  codes : ∀ (a : Fin 2) (r : Fin 1440) (l : Fin 128) (c : Fin 640), P a (r.val / 32) → c.val = col + l.val → r5 H a r c = packed W S a.val r.val c.val
  out_keep : ∀ (a : Fin 2) (g : Fin 45) (c : Fin 640), c.val < col ∨ col + 128 ≤ c.val → r6 H a g c = r6 H₀ a g c
  codes_keep : ∀ (a : Fin 2) (r : Fin 1440) (c : Fin 640), c.val < col ∨ col + 128 ≤ c.val → r5 H a r c = r5 H₀ a r c
  held : ∀ (a : Fin 2) (p : Fin 3072) (l : Fin 128), P a (p.val / 64) → p.val < 2880 → r12 H slot a p l = deq W S a.val (rowAt p.val) (col + l.val)
  held_keep : ∀ (s' a : Fin 2) (p : Fin 3072) (l : Fin 128), s' ≠ slot ∨ 2880 ≤ p.val → r12 H s' a p l = r12 H₀ s' a p l

theorem CodesIn.group {col : ℕ} (hcol : col + 128 ≤ 640) (slot : Fin 2) {P P' : Fin 2 → ℕ → Prop} {H₀ H : Hp} (a : Fin 2) (g : Fin 45) (h : CodesIn W S col slot P H₀ H)
    (hP : ∀ a' b', P' a' b' → P a' b' ∨ (a' = a ∧ b' = g.val)) :
    Post (quantGroup col hcol slot.val slot.isLt g.val g.isLt a.val a.isLt) H fun _ H' => CodesIn W S col slot P' H₀ H' := by
  refine (quantGroup_post col hcol slot g a H h.given h.scaled h.inv).mono fun _ H' ⟨c1, c2, w1, w2, c3⟩ => ?_
  refine ⟨h.given.of_keep (c3 3 (by decide)) (c3 7 (by decide)) (c3 8 (by decide)), h.scaled.of_keep (c3 9 (by decide)) (c3 10 (by decide)),
    fun a' g' l => ⟨(congrFun (c3 11 (by decide)) _).trans (h.inv a' g' l).1, (congrFun (c3 11 (by decide)) _).trans (h.inv a' g' l).2⟩, fun a' g' l c hc => (congrFun (c3 6 (by decide)) _).trans (h.out a' g' l c hc),
    fun a' r l c hp hc => ?_, fun a' g' c hc => (congrFun (c3 6 (by decide)) _).trans (h.out_keep a' g' c hc), fun a' r c hc => (c2 a' r c (.inr (.inr hc))).trans (h.codes_keep a' r c hc),
    fun a' p l hp hl => ?_, fun s' a' p l hp => (w2 s' a' p l (hp.imp_right fun hp => .inr (by omega))).trans (h.held_keep s' a' p l hp)⟩
  · by_cases e : a' = a ∧ r.val / 32 = g.val
    · obtain ⟨rfl, e⟩ := e; exact c1 r l c e hc
    · rw [c2 a' r c (if ea : a' = a then .inr (.inl fun eb => e ⟨ea, eb⟩) else .inl ea)]
      exact h.codes a' r l c ((hP _ _ hp).resolve_right e) hc
  · by_cases e : a' = a ∧ p.val / 64 = g.val
    · obtain ⟨rfl, e⟩ := e; exact w1 p l e
    · rw [w2 slot a' p l (.inr (if ea : a' = a then .inr fun eb => e ⟨ea, eb⟩ else .inl ea))]
      exact h.held a' p l ((hP _ _ hp).resolve_right e) hl

/-- A strip quantised for both candidates: its scales and codes in their places, other columns as they were. -/
theorem quantise_post {R : Reads Ideal} (hR : Plain R) (col : ℕ) (hcol : col + 128 ≤ 640) (slot : Fin 2) (H : Hp) (hH : Given W S H) :
    Post (quantise R col hcol slot.val slot.isLt) H fun _ H' => CodesIn W S col slot (fun _ _ => True) H H' := by
  unfold quantise
  refine post_seq ((scaled_post hR col hcol H hH).frame (writes_steps (fun g hg => scaleGroup_writes R col hcol g hg) _ _ _)) fun _ H1 ⟨⟨g1, s1⟩, k1⟩ => ?_
  have h1 : ScalesIn W S col (fun _ b => b < 0) H H1 :=
    ⟨g1, s1, fun _ _ _ _ h => absurd h (Nat.not_lt_zero _), fun _ _ _ h => absurd h (Nat.not_lt_zero _), fun _ _ _ h => absurd h (Nat.not_lt_zero _), fun _ _ _ _ => congrFun (k1 6 (by decide)) _, fun _ _ _ => congrFun (k1 5 (by decide)) _, k1 12 (by decide)⟩
  refine post_seq (post_steps (fun n H' => ScalesIn W S col (fun _ b => b < n) H H') (fun b hb H' h => ?_) 5 0 rfl H1 h1) fun _ H2 h2 => ?_
  · refine post_seq (scales_post hR col hcol H' h.scaled b hb 0) fun _ H'' h' => ?_
    have h'' : ScalesIn W S col (fun a' b' => b' < b ∨ (a' = 0 ∧ b' = b)) H H'' := h.step h' fun _ _ h => h
    refine (scales_post hR col hcol H'' h''.scaled b hb 1).mono fun _ H3 h3 => h''.step h3 fun a' b' hb' => ?_
    by_cases e : b' = b
    · match a' with
      | 0 => exact .inl (.inr ⟨rfl, e⟩)
      | 1 => exact .inr ⟨rfl, e⟩
    · exact .inl (.inl (by omega))
  refine post_seq (scalesLast_post hR col hcol H2 h2.scaled 0) fun _ H3 h3 => ?_
  have h3' : ScalesIn W S col (fun a' b' => b' < 5 ∨ (a' = 0 ∧ b' = 5)) H H3 := h2.step h3 fun _ _ h => h
  refine post_seq (scalesLast_post hR col hcol H3 h3'.scaled 1) fun _ H4 h4 => ?_
  have h4' : ScalesIn W S col (fun _ b' => b' < 6) H H4 := h3'.step h4 fun a' b' hb' => by
    by_cases e : b' = 5
    · match a' with
      | 0 => exact .inl (.inr ⟨rfl, e⟩)
      | 1 => exact .inr ⟨rfl, e⟩
    · exact .inl (.inl (by omega))
  have h5 : CodesIn W S col slot (fun _ b => b < 0) H H4 := ⟨h4'.given, h4'.scaled, fun a g l => ⟨h4'.inv a g l (by omega), h4'.sc a g l (by omega)⟩, fun a g l c hc => h4'.out a g l c (by omega) hc,
    fun _ _ _ _ h => absurd h (Nat.not_lt_zero _), h4'.out_keep, fun a r c _ => h4'.codes_keep a r c,
    fun _ _ _ h => absurd h (Nat.not_lt_zero _), fun _ _ _ _ _ => congrFun h4'.held_keep _⟩
  refine (post_steps (fun n H' => CodesIn W S col slot (fun _ b => b < n) H H') (fun g hg H' h => ?_) 45 0 rfl H4 h5).mono fun _ H5 h =>
    ⟨h.given, h.scaled, h.inv, h.out, fun a r l c _ hc => h.codes a r l c (by omega) hc, h.out_keep, h.codes_keep, fun a p l _ hp => h.held a p l (by omega) hp, h.held_keep⟩
  have ha : Post (quantGroup col hcol slot.val slot.isLt g hg 0 (by omega)) H' fun _ H'' => CodesIn W S col slot (fun a' b' => b' < g ∨ (a' = 0 ∧ b' = g)) H H'' :=
    h.group hcol slot 0 ⟨g, hg⟩ fun _ _ h => h
  refine post_seq ha fun _ H'' h'' => h''.group hcol slot 1 ⟨g, hg⟩ fun a' b' hb' => ?_
  by_cases e : b' = g
  · match a' with
    | 0 => exact .inl (.inr ⟨rfl, e⟩)
    | 1 => exact .inr ⟨rfl, e⟩
  · exact .inl (.inl (by omega))

end Cert.Proof.Search
-- ==== Proof.SearchLoss.lean ====
/-
  What scoring a strip computes: the losses of the strip whose dequantised weights a slot holds.
-/
module

public import proofs.«01_k».proof.Proof.SearchCodes

@[expose] public section

noncomputable section

namespace Cert.Proof.Search

open Idealize.ShloMosaic Idealize.ShloMosaic.TcCoe Cert.Proof Cert.Proof.Code Cert.Proof.Spec

variable {X : ℕ → ℕ → ℕ → EReal} {D : ℕ → ℕ → ℕ → EReal}

abbrev r0 (H : Hp) (c : Fin 24) (t : Fin 768) (l : Fin 128) : EReal := H 0 (ix3 c t l)
abbrev r2 (H : Hp) (t : Fin 768) (c : Fin 5760) : EReal := H 2 (ix2 t c)
abbrev r4 (H : Hp) (i : Fin 20) (c : Fin 5760) : EReal := H 4 (ix2 i c)

/-- The tokens in their places. -/
def Toks (X : ℕ → ℕ → ℕ → EReal) (H : Hp) : Prop :=
  ∀ (c : Fin 24) (t : Fin 768) (l : Fin 128), r0 H c t l = kept (X (t.val / 256) (t.val % 256)) (128 * c.val + l.val)

/-- A slot holds the weights `D a k l` of both candidates. -/
def Held (D : ℕ → ℕ → ℕ → EReal) (slot : Fin 2) (H : Hp) : Prop :=
  ∀ (a : Fin 2) (p : Fin 3072) (l : Fin 128), r12 H slot a p l = kept (fun k => D a.val k l.val) p.val

/-- The product of one pass, at column `q` of both candidates' 128. -/
abbrev part2 (X : ℕ → ℕ → ℕ → EReal) (D : ℕ → ℕ → ℕ → EReal) (t q p : ℕ) : EReal :=
  ∑ j ∈ Finset.range 256, kept (X (t / 256) (t % 256)) (256 * p + j) * kept (fun k => D (q / 128) k (q % 128)) (256 * p + j)

theorem matmul_apply' (x : FVec Ideal S768x256 .bf16) (w : FVec Ideal S256x256 .bf16) (t : Fin 768) (c : Fin 256) :
    (matmul dots none x w (constant S768x256 .f32 0x00000000#32) : S768x256.Idx → EReal) (ix2 t c)
      = ∑ j : Fin 256, (x : S768x256.Idx → EReal) (ix2 t j) * (w : S256x256.Idx → EReal) (ix2 j c) := by
  refine Eq.trans ?_ (zero_add _)
  rw [← fl_zero]
  pointwise

theorem product_post (slot : Fin 2) (p : ℕ) (hp : p < 12) (H : Hp) (hT : Toks X H) (hD : Held D slot H) :
    Post (product slot.val slot.isLt p hp) H fun v H' => H' = H ∧ ∀ (t : Fin 768) (q : Fin 256), (v : S768x256.Idx → EReal) (ix2 t q) = part2 X D t.val q.val p := by
  unfold product
  refine post_bind (post_ld fun (x0 : S1x768x128.Idx → EReal) h0 => post_bind (post_ld fun (x1 : S1x768x128.Idx → EReal) h1 => ?_))
  refine post_bind (post_ld fun (w0 : S1x1x256x128.Idx → EReal) g0 => post_bind (post_ld fun (w1 : S1x1x256x128.Idx → EReal) g1 => post_ret ⟨rfl, fun t q => ?_⟩))
  refine (matmul_apply' _ _ t q).trans ?_
  rw [part2, Finset.sum_range]
  refine Finset.sum_congr rfl fun j _ => congrArg₂ _ ?_ ?_
  · have e : (concatenate S768x256 1 [⟨S768x128, (shapeCast S768x128 x0 (by decide) : FVec Ideal S768x128 .bf16)⟩, ⟨S768x128, (shapeCast S768x128 x1 (by decide) : FVec Ideal S768x128 .bf16)⟩] concat_x : S768x256.Idx → EReal) (ix2 t j)
        = if h : j.val < 128 then x0 (ix3 (0 : Fin 1) t ⟨j.val, h⟩) else x1 (ix3 (0 : Fin 1) t ⟨j.val - 128, by omega⟩) := by
      pointwise
    refine e.trans ?_
    split
    · next h =>
      rw [h0 (ix3 (0 : Fin 1) t ⟨j.val, h⟩) (ix3 (⟨2 * p, by omega⟩ : Fin 24) t ⟨j.val, h⟩) (at3 (by simp) (by simp) (by simp))]
      refine (hT _ _ _).trans ?_
      congr 1
      show 128 * (2 * p) + j.val = _; omega
    · next h =>
      rw [h1 (ix3 (0 : Fin 1) t ⟨j.val - 128, by omega⟩) (ix3 (⟨2 * p + 1, by omega⟩ : Fin 24) t ⟨j.val - 128, by omega⟩) (at3 (by simp) (by simp) (by simp))]
      refine (hT _ _ _).trans ?_
      congr 1
      show 128 * (2 * p + 1) + (j.val - 128) = _; omega
  · have e : (concatenate S256x256 1 [⟨S256x128, (shapeCast S256x128 w0 (by decide) : FVec Ideal S256x128 .bf16)⟩, ⟨S256x128, (shapeCast S256x128 w1 (by decide) : FVec Ideal S256x128 .bf16)⟩] concat_w : S256x256.Idx → EReal) (ix2 j q)
        = if h : q.val < 128 then w0 (ix4 (0 : Fin 1) (0 : Fin 1) j ⟨q.val, h⟩) else w1 (ix4 (0 : Fin 1) (0 : Fin 1) j ⟨q.val - 128, by omega⟩) := by
      pointwise
    refine e.trans ?_
    split
    · next h =>
      rw [g0 (ix4 (0 : Fin 1) (0 : Fin 1) j ⟨q.val, h⟩) (ix4 slot 0 (⟨256 * p + j.val, by omega⟩ : Fin 3072) ⟨q.val, h⟩) (at4 (by simp) (by simp) (by simp) (by simp))]
      refine (hD _ _ _).trans ?_
      rw [show q.val / 128 = 0 by omega, show q.val % 128 = q.val by omega]
      rfl
    · next h =>
      rw [g1 (ix4 (0 : Fin 1) (0 : Fin 1) j ⟨q.val - 128, by omega⟩) (ix4 slot 1 (⟨256 * p + j.val, by omega⟩ : Fin 3072) ⟨q.val - 128, by omega⟩) (at4 (by simp) (by simp) (by simp) (by simp))]
      refine (hD _ _ _).trans ?_
      rw [show q.val / 128 = 1 by omega, show q.val % 128 = q.val - 128 by omega]
      rfl

theorem sum_rows (f : ℕ → EReal) (n : ℕ) : ∑ r ∈ Finset.range 32, ∑ q ∈ Finset.range n, f (32 * q + r) = ∑ t ∈ Finset.range (32 * n), f t := by
  rw [Finset.sum_comm]
  induction n with
  | zero => rfl
  | succ n ih => rw [Finset.sum_range_succ, ih, Nat.mul_succ, Finset.sum_range_add]

/-- The mean of the squares over the tokens, in a column. -/
theorem meanSq_apply (d : FVec Ideal S768x128 .f32) (g : ℕ → EReal) (l : Fin 128) (hd : ∀ t : Fin 768, (d : S768x128.Idx → EReal) (ix2 t l) = g t.val) :
    (meanSq d : S1x128.Idx → EReal) (ix2 (0 : Fin 1) l) = (∑ t ∈ Finset.range 768, g t * g t) * fl 0x3AAAAAAB#32 := by
  rw [show 768 = 32 * 24 from rfl, ← sum_rows, Finset.sum_range]
  have e : (meanSq d : S1x128.Idx → EReal) (ix2 (0 : Fin 1) l)
      = (∑ r : Fin 32, ∑ q : Fin 24, (d : S768x128.Idx → EReal) (ix2 ⟨q.val * 32 + r.val, by omega⟩ l) * (d : S768x128.Idx → EReal) (ix2 ⟨q.val * 32 + r.val, by omega⟩ l))
        * fl 0x3AAAAAAB#32 := by
    unfold meanSq
    pointwise
  rw [e]
  refine congrArg (· * _) (Finset.sum_congr rfl fun r _ => ?_)
  rw [Finset.sum_range]
  exact Finset.sum_congr rfl fun q _ => by rw [hd]; show g (q.val * 32 + r.val) * g (q.val * 32 + r.val) = _; rw [Nat.mul_comm q.val 32]

/-- A strip's losses from the outputs `Y` and the slot's weights. -/
abbrev lossOf (X : ℕ → ℕ → ℕ → EReal) (Y : ℕ → ℕ → EReal) (D : ℕ → ℕ → ℕ → EReal) (a l : ℕ) : EReal :=
  (∑ t ∈ Finset.range 768, (Y t l - out X (D a) t l) * (Y t l - out X (D a) t l)) * fl 0x3AAAAAAB#32

/-- The strip in the slot scored. -/
theorem loss_post (slot : Fin 2) (ycol : ℕ) (hycol : ycol + 128 ≤ 5760) (strip : Fin 45) (c0 c1 : Fin 20) (hne : c0 ≠ c1) (H : Hp) {Y : ℕ → ℕ → EReal}
    (hT : Toks X H) (hD : Held D slot H) (hY : ∀ (t : Fin 768) (l : Fin 128) (c : Fin 5760), c.val = ycol + l.val → r2 H t c = Y t.val l.val) :
    Post (loss slot.val slot.isLt ycol hycol strip.val strip.isLt c0.val c1.val c0.isLt c1.isLt) H fun _ H' =>
      (∀ l : Fin 128, r13 H' strip c0 l = lossOf X Y D 0 l.val) ∧ (∀ l : Fin 128, r13 H' strip c1 l = lossOf X Y D 1 l.val)
      ∧ (∀ (j : Fin 45) (i : Fin 20) (l : Fin 128), j ≠ strip ∨ (i ≠ c0 ∧ i ≠ c1) → r13 H' j i l = r13 H j i l) ∧ ∀ k, k ≠ 13 → H' k = H k := by
  unfold loss
  refine post_seq (product_post slot 0 _ H hT hD) fun a0 H ⟨e, h0⟩ => ?_
  subst e
  refine post_seq (post_accum (fun n a' H' => H' = H ∧ ∀ (t : Fin 768) (q : Fin 256), (a' : S768x256.Idx → EReal) (ix2 t q) = ∑ p ∈ Finset.range n, part2 X D t.val q.val p)
    (fun p hp a' H' ⟨e, h⟩ => ?_) 11 1 rfl _ _ ⟨rfl, fun t q => by rw [Finset.sum_range_one, h0]⟩) fun acc H1 ⟨e, h1⟩ => ?_
  · subst e
    refine post_seq (product_post slot p hp _ hT hD) fun d _ ⟨e, hd⟩ => ?_
    subst e
    refine post_ret ⟨rfl, fun t c => ?_⟩
    rw [Finset.sum_range_succ, ← h t c, ← hd t c]
    rfl
  subst e
  have hout : ∀ (t : Fin 768) (q : Fin 256), (acc : S768x256.Idx → EReal) (ix2 t q) = out X (D (q.val / 128)) t.val (q.val % 128) := fun t q =>
    (h1 t q).trans (sum_kept (X (t.val / 256) (t.val % 256)) fun k => D (q.val / 128) k (q.val % 128))
  refine post_bind (post_ld fun (y : S768x128.Idx → EReal) hy => post_bind (post_st fun H2 k2 i2 o2 => post_st fun H3 k3 i3 o3 => ?_))
  have hy' : ∀ (t : Fin 768) (l : Fin 128), y (ix2 t l) = Y t.val l.val := fun t l =>
    (hy (ix2 t l) (ix2 t (⟨ycol + l.val, by omega⟩ : Fin 5760)) (at2 (by simp) rfl)).trans (hY _ _ _ rfl)
  have v0 : ∀ (t : Fin 768) (l : Fin 128), (subf (F := Ideal) (φ := .f32) (shapeCast S768x128 y (by decide)) (extractStridedSlice S768x128 ![0, 0] acc (by decide)) : S768x128.Idx → EReal) (ix2 t l)
      = Y t.val l.val - out X (D 0) t.val l.val := fun t l => by
    have e : (subf (F := Ideal) (φ := .f32) (shapeCast S768x128 y (by decide)) (extractStridedSlice S768x128 ![0, 0] acc (by decide)) : S768x128.Idx → EReal) (ix2 t l)
        = y (ix2 t l) - (acc : S768x256.Idx → EReal) (ix2 t ⟨l.val, by omega⟩) := by pointwise
    rw [e, hy', hout]
    show _ - out X (D (l.val / 128)) t.val (l.val % 128) = _
    rw [show l.val / 128 = 0 by omega, show l.val % 128 = l.val by omega]
  have v1 : ∀ (t : Fin 768) (l : Fin 128), (subf (F := Ideal) (φ := .f32) (shapeCast S768x128 y (by decide)) (extractStridedSlice S768x128 ![0, 128] acc (by decide)) : S768x128.Idx → EReal) (ix2 t l)
      = Y t.val l.val - out X (D 1) t.val l.val := fun t l => by
    have e : (subf (F := Ideal) (φ := .f32) (shapeCast S768x128 y (by decide)) (extractStridedSlice S768x128 ![0, 128] acc (by decide)) : S768x128.Idx → EReal) (ix2 t l)
        = y (ix2 t l) - (acc : S768x256.Idx → EReal) (ix2 t ⟨128 + l.val, by omega⟩) := by pointwise
    rw [e, hy', hout]
    show _ - out X (D ((128 + l.val) / 128)) t.val ((128 + l.val) % 128) = _
    rw [show (128 + l.val) / 128 = 1 by omega, show (128 + l.val) % 128 = l.val by omega]
  have hne' := Fin.val_ne_of_ne hne
  refine ⟨fun l => ?_, fun l => ?_, fun j i l h => ?_, fun k hk => (k3 k hk).trans (k2 k hk)⟩
  · refine (o3 (ix3 strip c0 l) (1 : Fin 3) (show c0.val < c1.val ∨ c1.val + 1 ≤ c0.val by omega)).trans ?_
    refine (i2 (ix3 (0 : Fin 1) (0 : Fin 1) l) (ix3 strip c0 l) (at3 (by simp) (by simp) (by simp))).trans ?_
    refine Eq.trans ?_ (meanSq_apply _ (fun t => Y t l.val - out X (D 0) t l.val) l fun t => v0 t l)
    pointwise
  · refine (i3 (ix3 (0 : Fin 1) (0 : Fin 1) l) (ix3 strip c1 l) (at3 (by simp) (by simp) (by simp))).trans ?_
    refine Eq.trans ?_ (meanSq_apply _ (fun t => Y t l.val - out X (D 1) t l.val) l fun t => v1 t l)
    pointwise
  · by_cases e : j = strip
    · have h := h.resolve_left fun h => h e
      have n0 := Fin.val_ne_of_ne h.1
      have n1 := Fin.val_ne_of_ne h.2
      exact (o3 (ix3 j i l) (1 : Fin 3) (show i.val < c1.val ∨ c1.val + 1 ≤ i.val by omega)).trans
        (o2 (ix3 j i l) (1 : Fin 3) (show i.val < c0.val ∨ c0.val + 1 ≤ i.val by omega))
    · have e := Fin.val_ne_of_ne e
      exact (o3 (ix3 j i l) (0 : Fin 3) (show j.val < strip.val ∨ strip.val + 1 ≤ j.val by omega)).trans
        (o2 (ix3 j i l) (0 : Fin 3) (show j.val < strip.val ∨ strip.val + 1 ≤ j.val by omega))

end Cert.Proof.Search
-- ==== Proof.SearchBody.lean ====
/-
  What the search body computes at a grid point: the quantiser scales and the packed codes of its block for its pair of candidates.
-/
module

public import proofs.«01_k».proof.Proof.SearchLoss

@[expose] public section

noncomputable section

namespace Cert.Proof.Search

open Idealize.ShloMosaic Idealize.ShloMosaic.TcCoe Cert.Proof Cert.Proof.Code Cert.Proof.Spec

/-! ## What each part stores to -/

/-- Not an argument of the call. -/
abbrev Own (k : Fin 14) : Prop := k.val ≠ 0 ∧ k.val ≠ 1 ∧ k.val ≠ 2 ∧ k.val ≠ 3

/-- What the quantiser stores to. -/
abbrev Inner (k : Fin 14) : Prop := Own k ∧ k.val ≠ 4 ∧ k.val ≠ 13

theorem quantHalf_writes (slot : ℕ) (hslot : slot < 2) (g : ℕ) (hg : g < 45) (a : ℕ) (ha : a < 2) (inv : FVec Ideal S32x128 .f32) (sb : FVec Ideal S32x128 .bf16)
    (h : ℕ) (hh : h < 2) : (quantHalf slot hslot g hg a ha inv sb h hh).Writes Inner := by
  unfold quantHalf
  exact writes_bind (writes_ld _ _ _ _ _ _) fun _ => writes_bind (writes_ld _ _ _ _ _ _) fun _ => writes_bind (writes_st (by decide)) fun _ => writes_ret _ _

theorem part_writes (P : Fin 14 → Prop) (a : ℕ) (ha : a < 2) (b : ℕ) (hb : b < 6) (j : ℕ) (hj : j < 8) : (part (F := Ideal) a ha b hb j hj).Writes P := by
  unfold part; exact writes_bind (writes_load _ _ _ _) fun _ => writes_ret _ _

theorem blockMax_writes (P : Fin 14 → Prop) (a : ℕ) (ha : a < 2) (b : ℕ) (hb : b < 6) : (blockMax (F := Ideal) a ha b hb).Writes P := by
  unfold blockMax
  exact writes_bind (part_writes _ _ _ _ _ _ _) fun _ => writes_accum (fun _ _ _ => writes_bind (part_writes _ _ _ _ _ _ _) fun _ => writes_ret _ _) _ _ _ _

theorem keepScales_writes (R : Reads Ideal) (a : ℕ) (ha : a < 2) (b : ℕ) (hb : b < 6) (s : FVec Ideal S8x128 .f32) : (keepScales R a ha b hb s).Writes Inner := by
  unfold keepScales
  exact writes_bind (writes_st (by decide)) fun _ => writes_st (by decide)

theorem quantGroup_writes (col : ℕ) (hcol : col + 128 ≤ 640) (slot : ℕ) (hslot : slot < 2) (g : ℕ) (hg : g < 45) (a : ℕ) (ha : a < 2) :
    (quantGroup (F := Ideal) col hcol slot hslot g hg a ha).Writes Inner := by
  unfold quantGroup
  exact writes_bind (writes_ld _ _ _ _ _ _) fun _ => writes_bind (writes_ld _ _ _ _ _ _) fun _ => writes_bind (quantHalf_writes _ _ _ _ _ _ _ _ _ _) fun _ =>
    writes_bind (quantHalf_writes _ _ _ _ _ _ _ _ _ _) fun _ => writes_st (by decide)

theorem quantise_writes (R : Reads Ideal) (col : ℕ) (hcol : col + 128 ≤ 640) (slot : ℕ) (hslot : slot < 2) : (quantise R col hcol slot hslot).Writes Inner := by
  have hs : ∀ b hb a ha, (scales R col hcol b hb a ha).Writes Inner := fun b hb a ha => by
    unfold scales
    exact writes_bind (blockMax_writes _ _ _ _ _) fun _ => writes_bind (writes_st (by decide)) fun _ => keepScales_writes _ _ _ _ _ _
  have hl : ∀ a ha, (scalesLast R col hcol a ha).Writes Inner := fun a ha => by
    unfold scalesLast
    exact writes_bind (blockMax_writes _ _ _ _ _) fun _ => writes_bind (writes_st (by decide)) fun _ => keepScales_writes _ _ _ _ _ _
  unfold quantise
  exact writes_bind (writes_steps (fun g hg => Writes.mono (scaleGroup_writes R col hcol g hg) (by decide)) _ _ _) fun _ =>
    writes_bind (writes_steps (fun _ _ => writes_bind (hs _ _ _ _) fun _ => hs _ _ _ _) _ _ _) fun _ =>
    writes_bind (hl _ _) fun _ => writes_bind (hl _ _) fun _ =>
    writes_steps (fun _ _ => writes_bind (quantGroup_writes _ _ _ _ _ _ _ _) fun _ => quantGroup_writes _ _ _ _ _ _ _ _) _ _ _

theorem product_writes (P : Fin 14 → Prop) (slot : ℕ) (hslot : slot < 2) (p : ℕ) (hp : p < 12) : (product (F := Ideal) slot hslot p hp).Writes P := by
  unfold product
  exact writes_bind (writes_ld _ _ _ _ _ _) fun _ => writes_bind (writes_ld _ _ _ _ _ _) fun _ => writes_bind (writes_ld _ _ _ _ _ _) fun _ =>
    writes_bind (writes_ld _ _ _ _ _ _) fun _ => writes_ret _ _

theorem loss_writes (slot : ℕ) (hslot : slot < 2) (ycol : ℕ) (hycol : ycol + 128 ≤ 5760) (strip : ℕ) (hstrip : strip < 45) (r0 r1 : ℕ) (hr0 : r0 < 20) (hr1 : r1 < 20) :
    (loss (F := Ideal) slot hslot ycol hycol strip hstrip r0 r1 hr0 hr1).Writes fun k => k = 13 := by
  unfold loss
  exact writes_bind (product_writes _ _ _ _ _) fun _ => writes_bind (writes_accum (fun _ _ _ => writes_bind (product_writes _ _ _ _ _) fun _ => writes_ret _ _) _ _ _ _) fun _ =>
    writes_bind (writes_ld _ _ _ _ _ _) fun _ => writes_bind (writes_st (P := fun k => k = 13) rfl) fun _ => writes_st (P := fun k => k = 13) rfl

theorem flush_writes : (flush (F := Ideal)).Writes fun k => k = 13 ∨ k = 4 := by
  unfold flush
  exact writes_bind (Writes.mono (loss_writes _ _ _ _ _ _ _ _ _ _) fun _ h => .inl h) fun _ => writes_steps (fun _ _ => by
    unfold flushStrip; exact writes_bind (writes_ld _ _ _ _ _ _) fun _ => writes_st (.inr rfl)) _ _ _

theorem clear_writes : (clear (F := Ideal)).Writes fun k => k = 10 ∨ k = 12 := by
  unfold clear; exact writes_bind (writes_st (.inr rfl)) fun _ => writes_st (.inl rfl)

theorem strip_writes (R : Reads Ideal) (i0 : Fin 10) (i1 : Fin 9) (t : Fin strips.trips) : (strip R i0 i1 t).Writes Own := by
  unfold strip; exact writes_bind (Writes.mono (quantise_writes _ _ _ _ _) fun _ h => h.1) fun _ => Writes.mono (loss_writes _ _ _ _ _ _ _ _ _ _) (by decide)

theorem spreadHalf_writes (i0 : Fin 10) (g : ℕ) (hg : g < 45) (a : ℕ) (ha : a < 2) (aw : BitVec 32) (h : ℕ) (hh : h < 2) :
    (spreadHalf (F := Ideal) i0 g hg a ha aw h hh).Writes fun k => k = 7 ∨ k = 8 := by
  unfold spreadHalf; exact writes_bind (writes_ld _ _ _ _ _ _) fun _ => writes_bind (writes_st (.inl rfl)) fun _ => writes_st (.inr rfl)

theorem spread_writes (i0 : Fin 10) : (spread (F := Ideal) i0).Writes fun k => k = 7 ∨ k = 8 := by
  unfold spread
  exact writes_loop fun _ _ => writes_bind (spreadHalf_writes _ _ _ _ _ _ _ _) fun _ => writes_bind (spreadHalf_writes _ _ _ _ _ _ _ _) fun _ =>
    writes_bind (spreadHalf_writes _ _ _ _ _ _ _ _) fun _ => spreadHalf_writes _ _ _ _ _ _ _ _

theorem body_writes (R : Reads Ideal) (i0 : Fin 10) (i1 : Fin 9) : (body R i0 i1).Writes Own := by
  unfold body
  rw [Code.Writes]
  refine ⟨fun _ => Writes.mono (spread_writes i0) (by decide), ?_⟩
  rw [Code.Writes]
  refine ⟨fun _ => Writes.mono clear_writes (by decide), writes_bind (writes_loop fun _ _ => strip_writes _ _ _ _) fun _ => ?_⟩
  rw [Code.Writes]
  exact ⟨fun _ => Writes.mono flush_writes (by decide), writes_ret _ _⟩

/-! ## The scales spread -/

theorem lane_eq : ∀ (i0 : Fin 10) (a : Fin 2), let v := Scalar.addi (Scalar.muli 2#32 (pairW i0)) (BitVec.ofNat 32 a.val)
    (Scalar.select (Scalar.cmpi .slt v 0#32) (Scalar.addi v 128#32) v).toNat % 128 = 2 * i0.val + a.val := by decide

theorem spreadHalf_post (i0 : Fin 10) (g : Fin 45) (a : Fin 2) (aw : BitVec 32) (haw : aw = BitVec.ofNat 32 a.val) (h : Fin 2) (H : Hp) :
    Post (spreadHalf i0 g.val g.isLt a.val a.isLt aw h.val h.isLt) H fun _ H' =>
      (∀ r l, r7 H' a g h r l = r1 H g h r ⟨2 * i0.val + a.val, by omega⟩ ∧ r8 H' a g h r l = Ideal.div (fl 0x3F800000#32) (r1 H g h r ⟨2 * i0.val + a.val, by omega⟩))
      ∧ ∀ a' g' h' r l, a' ≠ a ∨ g' ≠ g ∨ h' ≠ h → r7 H' a' g' h' r l = r7 H a' g' h' r l ∧ r8 H' a' g' h' r l = r8 H a' g' h' r l := by
  unfold spreadHalf
  refine post_bind (post_ld fun (v : S1x1x32x128.Idx → EReal) hv => post_bind (post_st fun H1 k1 i1 o1 => post_st fun H2 k2 i2 o2 => ⟨fun r l => ⟨?_, ?_⟩, fun a' g' h' r l hne => ⟨(congrFun (k2 7 (by decide)) _).trans ?_, Eq.trans ?_ (congrFun (k1 8 (by decide)) _)⟩⟩))
  · have hl := lane_eq i0 a
    refine (congrFun (k2 7 (by decide)) _).trans ((i1 (ix5 (0 : Fin 1) (0 : Fin 1) (0 : Fin 1) r l) (ix5 a g h r l) (at5 (by simp) (by simp) (by simp) (by simp) (by simp))).trans ?_)
    have e := hv (ix4 (0 : Fin 1) (0 : Fin 1) r (⟨2 * i0.val + a.val, by omega⟩ : Fin 128)) (ix4 g h r (⟨2 * i0.val + a.val, by omega⟩ : Fin 128)) (at4 (by simp) (by simp) (by simp) (by simp))
    refine Eq.trans ?_ e
    unfold laneOf
    pointwise
    subst haw
    exact congrArg (fun x => v (ix4 (0 : Fin 1) (0 : Fin 1) r x)) (Fin.ext hl)
  · have hl := lane_eq i0 a
    refine (i2 (ix5 (0 : Fin 1) (0 : Fin 1) (0 : Fin 1) r l) (ix5 a g h r l) (at5 (by simp) (by simp) (by simp) (by simp) (by simp))).trans ?_
    have e := hv (ix4 (0 : Fin 1) (0 : Fin 1) r (⟨2 * i0.val + a.val, by omega⟩ : Fin 128)) (ix4 g h r (⟨2 * i0.val + a.val, by omega⟩ : Fin 128)) (at4 (by simp) (by simp) (by simp) (by simp))
    refine Eq.trans ?_ (congrArg (Ideal.div (fl 0x3F800000#32)) e)
    unfold laneOf
    pointwise
    subst haw
    refine congrArg (Ideal.div (1)) ?_
    exact congrArg (fun x => v (ix4 (0 : Fin 1) (0 : Fin 1) r x)) (Fin.ext hl)
  · by_cases ea : a' = a
    · by_cases eg : g' = g
      · have eh := Fin.val_ne_of_ne ((hne.resolve_left (fun h => h ea)).resolve_left (fun h => h eg))
        exact o1 (ix5 a' g' h' r l) (2 : Fin 5) (show h'.val < h.val ∨ h.val + 1 ≤ h'.val by omega)
      · have eg := Fin.val_ne_of_ne eg
        exact o1 (ix5 a' g' h' r l) (1 : Fin 5) (show g'.val < g.val ∨ g.val + 1 ≤ g'.val by omega)
    · have ea := Fin.val_ne_of_ne ea
      exact o1 (ix5 a' g' h' r l) (0 : Fin 5) (show a'.val < a.val ∨ a.val + 1 ≤ a'.val by omega)
  · by_cases ea : a' = a
    · by_cases eg : g' = g
      · have eh := Fin.val_ne_of_ne ((hne.resolve_left (fun h => h ea)).resolve_left (fun h => h eg))
        exact o2 (ix5 a' g' h' r l) (2 : Fin 5) (show h'.val < h.val ∨ h.val + 1 ≤ h'.val by omega)
      · have eg := Fin.val_ne_of_ne eg
        exact o2 (ix5 a' g' h' r l) (1 : Fin 5) (show g'.val < g.val ∨ g.val + 1 ≤ g'.val by omega)
    · have ea := Fin.val_ne_of_ne ea
      exact o2 (ix5 a' g' h' r l) (0 : Fin 5) (show a'.val < a.val ∨ a.val + 1 ≤ a'.val by omega)

/-- The scales of the candidates of a pair, spread over the lanes from the table `T i k`, and their inverses. -/
def Spread (T : ℕ → ℕ → EReal) (i0 : ℕ) (H : Hp) : Prop :=
  ∀ a g h r l, r7 H a g h r l = T (2 * i0 + a.val) (64 * g.val + 2 * r.val + h.val)
    ∧ r8 H a g h r l = Ideal.div (fl 0x3F800000#32) (T (2 * i0 + a.val) (64 * g.val + 2 * r.val + h.val))

/-- The table in its place. -/
def Table (T : ℕ → ℕ → EReal) (H : Hp) : Prop :=
  ∀ (g : Fin 45) (h : Fin 2) (r : Fin 32) (l : Fin 128), l.val < 20 → r1 H g h r l = T l.val (64 * g.val + 2 * r.val + h.val)

theorem spread_post {T : ℕ → ℕ → EReal} (i0 : Fin 10) (H : Hp) (hT : Table T H) : Post (spread i0) H fun _ H' => Spread T i0.val H' := by
  have half : ∀ (g : Fin 45) (a h : Fin 2) (aw : BitVec 32) (haw : aw = BitVec.ofNat 32 a.val) (P P' : Fin 45 → Fin 2 → Fin 2 → Prop) (H₁ : Hp)
      (hP : ∀ g' a' h', P' g' a' h' → P g' a' h' ∨ (g' = g ∧ a' = a ∧ h' = h))
      (h₁ : Table T H₁ ∧ ∀ a g h r l, P g a h → (r7 H₁ a g h r l = T (2 * i0.val + a.val) (64 * g.val + 2 * r.val + h.val) ∧ r8 H₁ a g h r l = Ideal.div (fl 0x3F800000#32) (T (2 * i0.val + a.val) (64 * g.val + 2 * r.val + h.val)))),
      Post (spreadHalf i0 g.val g.isLt a.val a.isLt aw h.val h.isLt) H₁ fun _ H₂ =>
        Table T H₂ ∧ ∀ a g h r l, P' g a h → (r7 H₂ a g h r l = T (2 * i0.val + a.val) (64 * g.val + 2 * r.val + h.val) ∧ r8 H₂ a g h r l = Ideal.div (fl 0x3F800000#32) (T (2 * i0.val + a.val) (64 * g.val + 2 * r.val + h.val))) := by
    intro g a h aw haw P P' H₁ hP ⟨t₁, h₁⟩
    refine ((spreadHalf_post i0 g a aw haw h H₁).frame (spreadHalf_writes _ _ _ _ _ _ _ _)).mono fun _ H₂ ⟨⟨c1, c2⟩, k⟩ => ⟨fun g' h' r l hl => (congrFun (k 1 (by decide)) _).trans (t₁ g' h' r l hl), fun a' g' h' r l hp => ?_⟩
    by_cases e : a' = a ∧ g' = g ∧ h' = h
    · obtain ⟨rfl, rfl, rfl⟩ := e
      rw [(c1 r l).1, (c1 r l).2, t₁ _ _ _ _ (show 2 * i0.val + a'.val < 20 by omega)]
      exact ⟨rfl, rfl⟩
    · have c2 := c2 a' g' h' r l (by by_contra hc; simp only [not_or, not_not] at hc; exact e hc)
      rw [c2.1, c2.2]
      exact h₁ a' g' h' r l ((hP g' a' h' hp).resolve_right fun q => e ⟨q.2.1, q.1, q.2.2⟩)
  unfold spread
  refine (post_loop (fun n _ H' => Table T H' ∧ ∀ a (g : Fin 45) h r l, g.val < n → (r7 H' a g h r l = T (2 * i0.val + a.val) (64 * g.val + 2 * r.val + h.val) ∧ r8 H' a g h r l = Ideal.div (fl 0x3F800000#32) (T (2 * i0.val + a.val) (64 * g.val + 2 * r.val + h.val))))
    ⟨hT, fun _ _ _ _ _ h => absurd h (Nat.not_lt_zero _)⟩ fun t _ H₁ h₁ => ?_).mono fun _ H' h => fun a g h' r l => h.2 a g h' r l g.isLt
  have hg := groupN_eq t
  have q0 := half ⟨groupN t, groupN_lt t⟩ 0 0 0#32 rfl (fun g _ _ => g.val < t.val) (fun g a h => g.val < t.val ∨ (g.val = t.val ∧ a = 0 ∧ h = 0)) H₁ (fun g a h => Or.imp_right fun q => ⟨Fin.ext (q.1.trans hg.symm), q.2⟩) h₁
  refine post_seq q0 fun _ H₂ h₂ => ?_
  have q1 := half ⟨groupN t, groupN_lt t⟩ 0 1 0#32 rfl _ (fun g a h => (g.val < t.val ∨ (g.val = t.val ∧ a = 0 ∧ h = 0)) ∨ (g.val = t.val ∧ a = 0 ∧ h = 1)) H₂ (fun g a h => Or.imp_right fun q => ⟨Fin.ext (q.1.trans hg.symm), q.2⟩) h₂
  refine post_seq q1 fun _ H₃ h₃ => ?_
  have q2 := half ⟨groupN t, groupN_lt t⟩ 1 0 1#32 rfl _ (fun g a h => ((g.val < t.val ∨ (g.val = t.val ∧ a = 0 ∧ h = 0)) ∨ (g.val = t.val ∧ a = 0 ∧ h = 1)) ∨ (g.val = t.val ∧ a = 1 ∧ h = 0)) H₃ (fun g a h => Or.imp_right fun q => ⟨Fin.ext (q.1.trans hg.symm), q.2⟩) h₃
  refine post_seq q2 fun _ H₄ h₄ => ?_
  refine half ⟨groupN t, groupN_lt t⟩ 1 1 1#32 rfl _ (fun g _ _ => g.val < t.val + 1) H₄ (fun g a h hn => ?_) h₄
  by_cases e : g.val = t.val
  · have e' : g = ⟨groupN t, groupN_lt t⟩ := Fin.ext (e.trans hg.symm)
    match a, h with
    | 0, 0 => exact .inl (.inl (.inl (.inr ⟨e, rfl, rfl⟩)))
    | 0, 1 => exact .inl (.inl (.inr ⟨e, rfl, rfl⟩))
    | 1, 0 => exact .inl (.inr ⟨e, rfl, rfl⟩)
    | 1, 1 => exact .inr ⟨e', rfl, rfl⟩
  · exact .inl (.inl (.inl (.inl (by omega))))

/-! ## The strips -/

variable {W S : ℕ → ℕ → EReal}

/-- The block's results in their places for the columns below `n`. -/
structure Done (W S : ℕ → ℕ → EReal) (n : ℕ) (H : Hp) : Prop where
  given : Given W S H
  scales : ∀ (a : Fin 2) (g : Fin 45) (c : Fin 640), c.val < n → r6 H a g c = qscale W S a.val g.val c.val
  codes : ∀ (a : Fin 2) (r : Fin 1440) (c : Fin 640), c.val < n → r5 H a r c = packed W S a.val r.val c.val

theorem strip_post {R : Reads Ideal} (hR : Plain R) (i0 : Fin 10) (i1 : Fin 9) (t : Fin strips.trips) (H : Hp) (h : Done W S (128 * t.val) H) :
    Post (strip R i0 i1 t) H fun _ H' => Done W S (128 * (t.val + 1)) H' := by
  have hc := colN_eq t
  unfold strip
  refine post_seq (quantise_post hR (colN t) (colN_le t) ⟨slotN i0 i1 t, slotN_lt i0 i1 t⟩ H h.given) fun _ H1 h1 => ?_
  refine (post_keep H1 (loss_writes _ _ _ _ _ _ _ _ _ _)).mono fun _ H2 k => ?_
  refine ⟨h1.given.of_keep (k 3 (by decide)) (k 7 (by decide)) (k 8 (by decide)), fun a g c hn => (congrFun (k 6 (by decide)) _).trans ?_, fun a r c hn => (congrFun (k 5 (by decide)) _).trans ?_⟩
  · by_cases e : c.val < 128 * t.val
    · exact (h1.out_keep a g c (.inl (by omega))).trans (h.scales a g c e)
    · exact h1.out a g ⟨c.val - 128 * t.val, by omega⟩ c (show c.val = colN t + (c.val - 128 * t.val) by omega)
  · by_cases e : c.val < 128 * t.val
    · exact (h1.codes_keep a r c (.inl (by omega))).trans (h.codes a r c e)
    · exact h1.codes a r ⟨c.val - 128 * t.val, by omega⟩ c trivial (show c.val = colN t + (c.val - 128 * t.val) by omega)

/-! ## The body -/

theorem first_iff : ∀ i1 : Fin 9, (Scalar.cmpi .ne (Scalar.extui (Scalar.cmpi .eq (blkW i1) 0#32) : BitVec 32) 0#32 = 1#1) ↔ i1 = 0 := by decide

/-- At a grid point: the pair's scales spread, and the block's quantiser scales and packed codes for both candidates. -/
theorem body_post {R : Reads Ideal} (hR : Plain R) (T : ℕ → ℕ → EReal) (i0 : Fin 10) (i1 : Fin 9) (H : Hp) (hw : ∀ k c, r3 H k c = W k.val c.val) (hT : Table T H)
    (h7 : i1 ≠ 0 → Spread T i0.val H) :
    Post (body R i0 i1) H fun _ H' => Spread T i0.val H' ∧ (∀ a g c, r6 H' a g c = qscale W (fun a => T (2 * i0.val + a)) a.val g.val c.val)
      ∧ ∀ a r c, r5 H' a r c = packed W (fun a => T (2 * i0.val + a)) a.val r.val c.val := by
  have rest : ∀ H₁ : Hp, Given W (fun a => T (2 * i0.val + a)) H₁ → Post
      (.when (Scalar.cmpi .ne (Scalar.extui (Scalar.andi (Scalar.cmpi .eq (pairW i0) 0#32) (Scalar.cmpi .eq (blkW i1) 0#32)) : BitVec 32) 0#32 = 1#1) (fun _ => clear) <|
        .bind (.loop strips strips_ok ⟨⟩ fun t _ => strip R i0 i1 t) fun _ =>
        .when (Scalar.cmpi .ne (Scalar.extui (Scalar.andi (Scalar.cmpi .eq (pairW i0) 9#32) (Scalar.cmpi .eq (blkW i1) 8#32)) : BitVec 32) 0#32 = 1#1) (fun _ => flush) <|
        .ret ⟨⟩ : C Ideal PUnit) H₁ fun _ H' => Spread T i0.val H' ∧ (∀ a g c, r6 H' a g c = qscale W (fun a => T (2 * i0.val + a)) a.val g.val c.val)
      ∧ ∀ a r c, r5 H' a r c = packed W (fun a => T (2 * i0.val + a)) a.val r.val c.val := by
    intro H₁ h₁
    have tail : ∀ H₂ : Hp, Given W (fun a => T (2 * i0.val + a)) H₂ → Post
        (.bind (.loop strips strips_ok ⟨⟩ fun t _ => strip R i0 i1 t) fun _ =>
        .when (Scalar.cmpi .ne (Scalar.extui (Scalar.andi (Scalar.cmpi .eq (pairW i0) 9#32) (Scalar.cmpi .eq (blkW i1) 8#32)) : BitVec 32) 0#32 = 1#1) (fun _ => flush) <|
        .ret ⟨⟩ : C Ideal PUnit) H₂ fun _ H' => Spread T i0.val H' ∧ (∀ a g c, r6 H' a g c = qscale W (fun a => T (2 * i0.val + a)) a.val g.val c.val)
      ∧ ∀ a r c, r5 H' a r c = packed W (fun a => T (2 * i0.val + a)) a.val r.val c.val := by
      intro H₂ h₂
      refine post_seq (post_loop (fun n _ H' => Done W (fun a => T (2 * i0.val + a)) (128 * n) H') ⟨h₂, fun _ _ _ h => absurd h (Nat.not_lt_zero _), fun _ _ _ h => absurd h (Nat.not_lt_zero _)⟩
        fun t _ H' h => strip_post hR i0 i1 t H' h) fun _ H₃ h₃ => ?_
      refine post_when (fun _ => (post_keep H₃ flush_writes).mono fun _ H₄ k => post_ret ⟨fun a g h r l => ⟨?_, ?_⟩, fun a g c => ?_, fun a r c => ?_⟩)
        fun _ => post_ret ⟨fun a g h r l => ⟨h₃.given.s a g h r l, h₃.given.v a g h r l⟩, fun a g c => h₃.scales a g c c.isLt, fun a r c => h₃.codes a r c c.isLt⟩
      · exact (congrFun (k 7 (by decide)) _).trans (h₃.given.s a g h r l)
      · exact (congrFun (k 8 (by decide)) _).trans (h₃.given.v a g h r l)
      · exact (congrFun (k 6 (by decide)) _).trans (h₃.scales a g c c.isLt)
      · exact (congrFun (k 5 (by decide)) _).trans (h₃.codes a r c c.isLt)
    exact post_when (fun _ => (post_keep H₁ clear_writes).mono fun _ H₂ k => tail H₂ (h₁.of_keep (k 3 (by decide)) (k 7 (by decide)) (k 8 (by decide)))) fun _ => tail H₁ h₁
  unfold body
  refine post_when (fun _ => ((spread_post i0 H hT).frame (spread_writes i0)).mono fun _ H₁ h => rest H₁ ⟨fun k c => (congrFun (h.2 3 (by decide)) _).trans (hw k c), fun a g h' r l => (h.1 a g h' r l).1, fun a g h' r l => (h.1 a g h' r l).2⟩) fun hn => rest H ⟨hw, fun a g h' r l => (h7 (fun e => hn ((first_iff i1).mpr e)) a g h' r l).1, fun a g h' r l => (h7 (fun e => hn ((first_iff i1).mpr e)) a g h' r l).2⟩

end Cert.Proof.Search
-- ==== Proof.SearchCarry.lean ====
/-
  What the search body keeps from strip to strip: each strip's dequantised weights until the next strip scores them, and the losses so far.
-/
module

public import proofs.«01_k».proof.Proof.SearchBody

@[expose] public section

noncomputable section

namespace Cert.Proof.Search

open Idealize.ShloMosaic Idealize.ShloMosaic.TcCoe Cert.Proof Cert.Proof.Code Cert.Proof.Spec

variable {X : ℕ → ℕ → ℕ → EReal} {W T : ℕ → ℕ → EReal}

theorem post_and {α : Type} {p : C Ideal α} {H : Hp} {P Q : α → Hp → Prop} (h : Post p H P) (h' : Post p H Q) : Post p H fun a H' => P a H' ∧ Q a H' := ⟨h, h'⟩

/-- The dequantised weights of the strip number `m` among all pairs' strips. -/
def stripD (W T : ℕ → ℕ → EReal) (m a k l : ℕ) : EReal := deq W T (2 * (m / 45) + a) k (128 * (m % 45) + l)

/-- The tokens and the outputs of the weights; the last strip's dequantised weights; and the losses of the strips before it. -/
structure Carry (X : ℕ → ℕ → ℕ → EReal) (W T : ℕ → ℕ → EReal) (n : ℕ) (H : Hp) : Prop where
  toks : Toks X H
  outs : ∀ (t : Fin 768) (c : Fin 5760), r2 H t c = out X W t.val c.val
  zero : ∀ (s a : Fin 2) (p : Fin 3072) (l : Fin 128), 2880 ≤ p.val → r12 H s a p l = 0
  held : 1 ≤ n → ∀ s : Fin 2, s.val = (n - 1) % 2 → Held (stripD W T (n - 1)) s H
  score : ∀ (j : Fin 45) (i : Fin 20) (l : Fin 128), 45 * (i.val / 2) + j.val + 1 < n → r13 H j i l = Spec.loss X W T i.val (128 * j.val + l.val)

/-- The weights and losses of it, which are kept between points. -/
def Scores (X : ℕ → ℕ → ℕ → EReal) (W T : ℕ → ℕ → EReal) (n : ℕ) (H : Hp) : Prop := ∃ H' : Hp, Carry X W T n H' ∧ H' 12 = H 12 ∧ H' 13 = H 13

theorem Carry.of_keep {n : ℕ} {H H' : Hp} (h : Carry X W T n H) (h0 : H' 0 = H 0) (h2 : H' 2 = H 2) (h12 : H' 12 = H 12) (h13 : H' 13 = H 13) : Carry X W T n H' where
  toks c t l := (congrFun h0 _).trans (h.toks c t l)
  outs t c := (congrFun h2 _).trans (h.outs t c)
  zero s a p l hp := (congrFun h12 _).trans (h.zero s a p l hp)
  held hn s hs a p l := (congrFun h12 _).trans (h.held hn s hs a p l)
  score j i l hn := (congrFun h13 _).trans (h.score j i l hn)

/-- A strip scored: its losses. -/
theorem lossOf_strip {m : ℕ} (a : Fin 2) (i : Fin 20) (j : Fin 45) (l : Fin 128) (hi : i.val = 2 * (m / 45) + a.val) (hj : j.val = m % 45) :
    lossOf X (fun t l => out X W t (128 * (m % 45) + l)) (stripD W T m) a.val l.val = Spec.loss X W T i.val (128 * j.val + l.val) := by
  rw [hi, hj]; rfl

/-- The scoring of the strip `n - 1`, when there is one. -/
theorem score_post {n : ℕ} (hn : n ≤ 450) (slot : ℕ) (hslot : slot < 2) (ycol : ℕ) (hycol : ycol + 128 ≤ 5760) (strip : ℕ) (hstrip : strip < 45) (c0 c1 : ℕ) (hc0 : c0 < 20) (hc1 : c1 < 20)
    (es : slot = 1 - n % 2) (ey : ycol = 128 * ((n - 1) % 45)) (ej : strip = (n - 1) % 45) (e0 : c0 = 2 * ((n - 1) / 45)) (e1 : c1 = 2 * ((n - 1) / 45) + 1) (H : Hp)
    (hT : Toks X H) (hO : ∀ (t : Fin 768) (c : Fin 5760), r2 H t c = out X W t.val c.val)
    (hD : 1 ≤ n → Held (stripD W T (n - 1)) ⟨slot, hslot⟩ H)
    (hS : ∀ (j : Fin 45) (i : Fin 20) (l : Fin 128), 45 * (i.val / 2) + j.val + 1 < n → r13 H j i l = Spec.loss X W T i.val (128 * j.val + l.val)) :
    Post (loss slot hslot ycol hycol strip hstrip c0 c1 hc0 hc1) H fun _ H' =>
      (∀ (j : Fin 45) (i : Fin 20) (l : Fin 128), 45 * (i.val / 2) + j.val < n → r13 H' j i l = Spec.loss X W T i.val (128 * j.val + l.val))
      ∧ ∀ k, k ≠ 13 → H' k = H k := by
  by_cases h1 : 1 ≤ n
  · have hne : (⟨c0, hc0⟩ : Fin 20) ≠ ⟨c1, hc1⟩ := fun h => by have := congrArg Fin.val h; simp only at this; omega
    refine (loss_post ⟨slot, hslot⟩ ycol hycol ⟨strip, hstrip⟩ ⟨c0, hc0⟩ ⟨c1, hc1⟩ hne H (Y := fun t l => out X W t (128 * ((n - 1) % 45) + l)) hT (hD h1)
      (fun t l c hc => by rw [hO, hc, ey])).mono fun _ H' ⟨v0, v1, k, k'⟩ => ⟨fun j i l hl => ?_, k'⟩
    by_cases ej' : j = ⟨strip, hstrip⟩
    · have ejv := congrArg Fin.val ej'
      by_cases ei0 : i = ⟨c0, hc0⟩
      · rw [ej', ei0, v0]; exact lossOf_strip 0 _ _ l e0 ej
      by_cases ei1 : i = ⟨c1, hc1⟩
      · rw [ej', ei1, v1]; exact lossOf_strip 1 _ _ l e1 ej
      rw [k j i l (.inr ⟨ei0, ei1⟩)]
      refine hS j i l ?_
      have n0 : i.val ≠ c0 := fun h => ei0 (Fin.ext h)
      have n1 : i.val ≠ c1 := fun h => ei1 (Fin.ext h)
      simp only at ejv
      omega
    · rw [k j i l (.inl ej')]
      refine hS j i l ?_
      have : j.val ≠ strip := fun h => ej' (Fin.ext h)
      omega
  · refine (post_keep H (P := fun k => k = 13) (loss_writes _ _ _ _ _ _ _ _ _ _)).mono fun _ H' k => ⟨fun j i l hl => absurd hl (by omega), k⟩

theorem strip_carry {R : Reads Ideal} (hR : Plain R) (i0 : Fin 10) (i1 : Fin 9) (t : Fin strips.trips) (H : Hp)
    (hG : Given (fun k c => W k (640 * i1.val + c)) (fun a => T (2 * i0.val + a)) H) (h : Carry X W T (tileN i0 i1 t.val) H) :
    Post (strip R i0 i1 t) H fun _ H' => Carry X W T (tileN i0 i1 (t.val + 1)) H' := by
  have hc := colN_eq t
  have hw := words_eq i0 i1 t
  have ht := strip_lt t
  have hi1 := i1.isLt
  have hi0 := i0.isLt
  have hn : tileN i0 i1 t.val = 45 * i0.val + (5 * i1.val + t.val) := by unfold tileN; omega
  have hn' : tileN i0 i1 (t.val + 1) = tileN i0 i1 t.val + 1 := rfl
  have hd : tileN i0 i1 t.val / 45 = i0.val := by omega
  have hm : tileN i0 i1 t.val % 45 = 5 * i1.val + t.val := by omega
  unfold strip
  refine post_seq ((quantise_post hR (colN t) (colN_le t) ⟨slotN i0 i1 t, slotN_lt i0 i1 t⟩ H hG).frame (quantise_writes R _ _ _ _)) fun _ H1 ⟨h1, k1⟩ => ?_
  have k0 : H1 0 = H 0 := k1 0 (by decide)
  have k2 : H1 2 = H 2 := k1 2 (by decide)
  have hslot : ∀ s : Fin 2, s ≠ ⟨slotN i0 i1 t, slotN_lt i0 i1 t⟩ → ∀ a p l, r12 H1 s a p l = r12 H s a p l := fun s hs a p l => h1.held_keep s a p l (.inl hs)
  refine (score_post (X := X) (W := W) (T := T) (n := tileN i0 i1 t.val) (by omega) _ _ _ _ _ _ _ _ _ _ hw.2.1 hw.2.2.2.1 hw.2.2.1 hw.2.2.2.2.1 hw.2.2.2.2.2 H1
    (fun c t l => (congrFun k0 _).trans (h.toks c t l)) (fun t c => (congrFun k2 _).trans (h.outs t c))
    (fun h1n a p l => (hslot _ (fun e => ?_) a p l).trans (h.held h1n _ ?_ a p l)) fun j i l hl => (congrFun (k1 13 (by decide)) _).trans (h.score j i l hl)).mono fun _ H2 ⟨hs, k⟩ => ?_
  · have e := congrArg Fin.val e
    simp only [hw.1, hw.2.1] at e
    omega
  · show slotN' i0 i1 t = _
    rw [hw.2.1]; omega
  refine ⟨fun c t l => (congrFun ((k 0 (by decide)).trans k0) _).trans (h.toks c t l), fun t c => (congrFun ((k 2 (by decide)).trans k2) _).trans (h.outs t c),
    fun s a p l hp => (congrFun (k 12 (by decide)) _).trans ((h1.held_keep s a p l (.inr hp)).trans (h.zero s a p l hp)),
    fun _ s hs a p l => (congrFun (k 12 (by decide)) _).trans ?_, fun j i l hl => hs j i l (by omega)⟩
  have es : s = ⟨slotN i0 i1 t, slotN_lt i0 i1 t⟩ := Fin.ext (by show s.val = slotN i0 i1 t; rw [hw.1]; omega)
  rw [hn', Nat.add_sub_cancel, es]
  unfold kept
  split
  · next hp =>
    refine (h1.held a p l trivial hp).trans ?_
    unfold stripD
    rw [hd, hm, show 128 * (5 * i1.val + t.val) + l.val = 640 * i1.val + (colN t + l.val) by omega]
    rfl
  · next hp =>
    exact (h1.held_keep _ a p l (.inr (by omega))).trans (h.zero _ a p l (by omega))

/-! ## The body -/

theorem clear_carry (H : Hp) (hT : Toks X H) (hO : ∀ (t : Fin 768) (c : Fin 5760), r2 H t c = out X W t.val c.val) :
    Post clear H fun _ H' => Carry X W T 0 H' := by
  refine ((show Post clear H fun _ H' => ∀ (s a : Fin 2) (p : Fin 3072) (l : Fin 128), r12 H' s a p l = 0 from ?_).frame clear_writes).mono fun _ H' ⟨hz, k⟩ =>
    ⟨fun c t l => (congrFun (k 0 (by decide)) _).trans (hT c t l), fun t c => (congrFun (k 2 (by decide)) _).trans (hO t c), fun s a p l _ => hz s a p l,
      fun h => absurd h (by omega), fun _ _ _ h => absurd h (Nat.not_lt_zero _)⟩
  unfold clear
  refine post_bind (post_st fun H1 k1 i1 o1 => post_st fun H2 k2 i2 o2 => fun s a p l => (congrFun (k2 12 (by decide)) _).trans ?_)
  refine (i1 (ix4 s a p l) (ix4 s a p l) (at4 (by simp) (by simp) (by simp) (by simp))).trans ?_
  rw [← bf_zero]
  pointwise

theorem flush_post (H : Hp) (h : Carry X W T 450 H) :
    Post flush H fun _ H' => Carry X W T 450 H' ∧ ∀ (i : Fin 20) (c : Fin 5760), r4 H' i c = Spec.loss X W T i.val c.val := by
  unfold flush
  refine post_seq (score_post (X := X) (W := W) (T := T) (n := 450) (by omega) 1 _ 5632 _ 44 _ 18 19 _ _ rfl rfl rfl rfl rfl H h.toks h.outs (fun hn => h.held hn 1 rfl) h.score) fun _ H1 ⟨hs, k⟩ => ?_
  have h1 : Carry X W T 450 H1 := ⟨fun c t l => (congrFun (k 0 (by decide)) _).trans (h.toks c t l), fun t c => (congrFun (k 2 (by decide)) _).trans (h.outs t c),
    fun s a p l hp => (congrFun (k 12 (by decide)) _).trans (h.zero s a p l hp), fun hn s hs a p l => (congrFun (k 12 (by decide)) _).trans (h.held hn s hs a p l), fun j i l hl => hs j i l (by omega)⟩
  refine (post_steps (fun n H' => (H' 0 = H1 0 ∧ H' 2 = H1 2 ∧ H' 12 = H1 12 ∧ H' 13 = H1 13) ∧ ∀ (i : Fin 20) (c : Fin 5760), c.val < 128 * n → r4 H' i c = Spec.loss X W T i.val c.val)
    (fun g hg H' ⟨⟨q0, q2, q12, q13⟩, h'⟩ => ?_) 45 0 rfl H1 ⟨⟨rfl, rfl, rfl, rfl⟩, fun _ _ hc => absurd hc (Nat.not_lt_zero _)⟩).mono fun _ H' ⟨⟨q0, q2, q12, q13⟩, h'⟩ =>
      ⟨h1.of_keep q0 q2 q12 q13, fun i c => h' i c (by omega)⟩
  unfold flushStrip
  refine post_bind (post_ld fun (v : S1x20x128.Idx → EReal) hv => post_st fun H2 k2 i2 o2 => ⟨⟨(k2 0 (by decide)).trans q0, (k2 2 (by decide)).trans q2, (k2 12 (by decide)).trans q12, (k2 13 (by decide)).trans q13⟩, fun i c hc => ?_⟩)
  by_cases e : c.val < 128 * g
  · exact (o2 (ix2 i c) (1 : Fin 2) (.inl e)).trans (h' i c e)
  · refine (i2 (ix2 i (⟨c.val - 128 * g, by omega⟩ : Fin 128)) (ix2 i c) (at2 (by simp) (show c.val = 128 * g + (c.val - 128 * g) by omega))).trans ?_
    have e2 := hv (ix3 (0 : Fin 1) i (⟨c.val - 128 * g, by omega⟩ : Fin 128)) (ix3 (⟨g, hg⟩ : Fin 45) i (⟨c.val - 128 * g, by omega⟩ : Fin 128)) (at3 (by simp) (by simp) (by simp))
    have e3 := hs ⟨g, hg⟩ i ⟨c.val - 128 * g, by omega⟩ (show 45 * (i.val / 2) + g < 450 by omega)
    refine Eq.trans ?_ (e2.trans ((congrFun q13 _).trans (e3.trans ?_)))
    · pointwise
    · show Spec.loss X W T i.val (128 * g + (c.val - 128 * g)) = _
      rw [show 128 * g + (c.val - 128 * g) = c.val by omega]

theorem first_point_iff : ∀ (i0 : Fin 10) (i1 : Fin 9), (Scalar.cmpi .ne (Scalar.extui (Scalar.andi (Scalar.cmpi .eq (pairW i0) 0#32) (Scalar.cmpi .eq (blkW i1) 0#32)) : BitVec 32) 0#32 = 1#1) ↔ i0.val = 0 ∧ i1.val = 0 := by
  decide
theorem last_point_iff : ∀ (i0 : Fin 10) (i1 : Fin 9), (Scalar.cmpi .ne (Scalar.extui (Scalar.andi (Scalar.cmpi .eq (pairW i0) 9#32) (Scalar.cmpi .eq (blkW i1) 8#32)) : BitVec 32) 0#32 = 1#1) ↔ i0.val = 9 ∧ i1.val = 8 := by
  decide

/-- At a grid point: five more strips' weights and losses, and at the last one every loss in its place. -/
theorem body_carry {R : Reads Ideal} (hR : Plain R) (i0 : Fin 10) (i1 : Fin 9) (H : Hp) (hw : ∀ k c, r3 H k c = W k.val (640 * i1.val + c.val)) (hT : Table T H)
    (h7 : i1 ≠ 0 → Spread T i0.val H) (hX : Toks X H) (hO : ∀ (t : Fin 768) (c : Fin 5760), r2 H t c = out X W t.val c.val)
    (hC : ¬ (i0.val = 0 ∧ i1.val = 0) → Carry X W T (45 * i0.val + 5 * i1.val) H) :
    Post (body R i0 i1) H fun _ H' => Carry X W T (45 * i0.val + 5 * i1.val + 5) H'
      ∧ (i0.val = 9 ∧ i1.val = 8 → ∀ (i : Fin 20) (c : Fin 5760), r4 H' i c = Spec.loss X W T i.val c.val) := by
  have tail : ∀ H₂ : Hp, Given (fun k c => W k (640 * i1.val + c)) (fun a => T (2 * i0.val + a)) H₂ → Carry X W T (45 * i0.val + 5 * i1.val) H₂ → Post
      (.bind (.loop strips strips_ok ⟨⟩ fun t _ => strip R i0 i1 t) fun _ =>
      .when (Scalar.cmpi .ne (Scalar.extui (Scalar.andi (Scalar.cmpi .eq (pairW i0) 9#32) (Scalar.cmpi .eq (blkW i1) 8#32)) : BitVec 32) 0#32 = 1#1) (fun _ => flush) <|
      .ret ⟨⟩ : C Ideal PUnit) H₂ fun _ H' => Carry X W T (45 * i0.val + 5 * i1.val + 5) H'
        ∧ (i0.val = 9 ∧ i1.val = 8 → ∀ (i : Fin 20) (c : Fin 5760), r4 H' i c = Spec.loss X W T i.val c.val) := by
    intro H₂ g₂ h₂
    refine post_seq (post_loop (fun n _ H' => Done (fun k c => W k (640 * i1.val + c)) (fun a => T (2 * i0.val + a)) (128 * n) H' ∧ Carry X W T (tileN i0 i1 n) H')
      ⟨⟨g₂, fun _ _ _ h => absurd h (Nat.not_lt_zero _), fun _ _ _ h => absurd h (Nat.not_lt_zero _)⟩, h₂⟩
      fun t _ H' h => post_and (strip_post hR i0 i1 t H' h.1) (strip_carry hR i0 i1 t H' h.1.given h.2)) fun _ H₃ ⟨_, h₃⟩ => ?_
    refine post_when (fun hl => ?_) fun hl => post_ret ⟨h₃, fun h => absurd ((last_point_iff i0 i1).mpr h) hl⟩
    have hl := (last_point_iff i0 i1).mp hl
    have e : 450 = 45 * i0.val + 5 * i1.val + 5 := by omega
    exact (flush_post H₃ (e ▸ h₃)).mono fun _ H₄ h₄ => post_ret ⟨e ▸ h₄.1, fun _ => h₄.2⟩
  have rest : ∀ H₁ : Hp, Given (fun k c => W k (640 * i1.val + c)) (fun a => T (2 * i0.val + a)) H₁ → Toks X H₁ → (∀ (t : Fin 768) (c : Fin 5760), r2 H₁ t c = out X W t.val c.val) →
      (¬ (i0.val = 0 ∧ i1.val = 0) → Carry X W T (45 * i0.val + 5 * i1.val) H₁) → Post
      (.when (Scalar.cmpi .ne (Scalar.extui (Scalar.andi (Scalar.cmpi .eq (pairW i0) 0#32) (Scalar.cmpi .eq (blkW i1) 0#32)) : BitVec 32) 0#32 = 1#1) (fun _ => clear) <|
        .bind (.loop strips strips_ok ⟨⟩ fun t _ => strip R i0 i1 t) fun _ =>
        .when (Scalar.cmpi .ne (Scalar.extui (Scalar.andi (Scalar.cmpi .eq (pairW i0) 9#32) (Scalar.cmpi .eq (blkW i1) 8#32)) : BitVec 32) 0#32 = 1#1) (fun _ => flush) <|
        .ret ⟨⟩ : C Ideal PUnit) H₁ fun _ H' => Carry X W T (45 * i0.val + 5 * i1.val + 5) H'
        ∧ (i0.val = 9 ∧ i1.val = 8 → ∀ (i : Fin 20) (c : Fin 5760), r4 H' i c = Spec.loss X W T i.val c.val) := by
    intro H₁ g₁ x₁ o₁ c₁
    refine post_when (fun hf => ((clear_carry (W := W) (T := T) H₁ x₁ o₁).frame clear_writes).mono fun _ H₂ ⟨h₂, k⟩ => ?_) fun hf => tail H₁ g₁ (c₁ fun h => hf ((first_point_iff i0 i1).mpr h))
    have hf := (first_point_iff i0 i1).mp hf
    have e : 0 = 45 * i0.val + 5 * i1.val := by omega
    exact tail H₂ (g₁.of_keep (k 3 (by decide)) (k 7 (by decide)) (k 8 (by decide))) (e ▸ h₂)
  unfold body
  refine post_when (fun _ => ((spread_post i0 H hT).frame (spread_writes i0)).mono fun _ H₁ h => rest H₁
      ⟨fun k c => (congrFun (h.2 3 (by decide)) _).trans (hw k c), fun a g h' r l => (h.1 a g h' r l).1, fun a g h' r l => (h.1 a g h' r l).2⟩
      (fun c t l => (congrFun (h.2 0 (by decide)) _).trans (hX c t l)) (fun t c => (congrFun (h.2 2 (by decide)) _).trans (hO t c))
      fun hn => (hC hn).of_keep (h.2 0 (by decide)) (h.2 2 (by decide)) (h.2 12 (by decide)) (h.2 13 (by decide)))
    fun hn => rest H ⟨hw, fun a g h' r l => (h7 (fun e => hn ((first_iff i1).mpr e)) a g h' r l).1, fun a g h' r l => (h7 (fun e => hn ((first_iff i1).mpr e)) a g h' r l).2⟩ hX hO hC

end Cert.Proof.Search
-- ==== Proof.ValuePlan.lean ====
/-
  The proof data of both regions for the values: what the scratch buffers hold between points, and what each point leaves in the windows.
-/
module

public import proofs.«01_k».proof.Proof.RunIdeal
public import proofs.«01_k».proof.Proof.StatsOut
public import proofs.«01_k».proof.Proof.SearchCarry

@[expose] public section

noncomputable section

namespace Cert.Proof.Ideal

open Cert.KernelIdeal Cert.Proof.Code
open Idealize.ShloMosaic Idealize.ShloMosaic.TcCoe
open Idealize.ShloMosaic.Pipeline (Dat RDat)

/-- The idealized program reads even and odd rows as they are. -/
theorem reads_plain : Search.Plain (reads (F := Ideal)) where
  even v r l := by
    show rowsOfParity 0 S32x128 v (by decide) (ix2 r l) = _
    pointwise
  odd v r l := by
    show rowsOfParity 1 S32x128 v (by decide) (ix2 r l) = _
    pointwise
  even' v r l := by
    show rowsOfParity 0 S32x256 v (by decide) (ix2 r l) = _
    pointwise
  odd' v r l := by
    show rowsOfParity 1 S32x256 v (by decide) (ix2 r l) = _
    pointwise
  round s := rfl

/-- The buffers' values over the extended reals. -/
abbrev Val := Valuation τ sig (Elt Ideal)

/-- An array of a valuation, by places. -/
abbrev xs (V : Val) (b : Fin 3) (k : Fin 2880) (t : Fin 256) : EReal := V (Proc.devRef .tc main_v0) (ix3 b k t)
abbrev ws (V : Val) (k : Fin 2880) (c : Fin 5760) : EReal := V (Proc.devRef .tc main_arg1) (ix2 k c)
abbrev ys (V : Val) (t : Fin 768) (c : Fin 5760) : EReal := V (Proc.devRef .tc main_v1_0) (ix2 t c)
abbrev xps (V : Val) (c : Fin 24) (t : Fin 768) (l : Fin 128) : EReal := V (Proc.devRef .tc main_v1_1) (ix3 c t l)
abbrev ts (V : Val) (g : Fin 45) (h : Fin 2) (r : Fin 32) (l : Fin 128) : EReal := V (Proc.devRef .tc main_v1_2) (ix4 g h r l)

/-- The tokens a valuation holds for the first region. -/
def tokens (V : Val) (b t k : ℕ) : EReal := if h : b < 3 ∧ k < 2880 ∧ t < 256 then xs V ⟨b, h.1⟩ ⟨k, h.2.1⟩ ⟨t, h.2.2⟩ else 0

/-- The weights a valuation holds. -/
def weights (V : Val) (k c : ℕ) : EReal := if h : k < 2880 ∧ c < 5760 then ws V ⟨k, h.1⟩ ⟨c, h.2⟩ else 0

/-- The scale table a valuation holds for the second region: candidate `l`, row `64 g + 2 r + h`. -/
def tabled (V : Val) (l k : ℕ) : EReal :=
  if h : k < 2880 ∧ l < 128 then ts V ⟨k / 64, by omega⟩ ⟨k % 2, by omega⟩ ⟨k % 64 / 2, by omega⟩ ⟨l, h.2⟩ else 0

/-- A valuation holds the tokens `X` and their outputs of the weights for the second region. -/
def Fed (X : ℕ → ℕ → ℕ → EReal) (V : Val) : Prop :=
  (∀ c t l, xps V c t l = Spec.kept (X (t.val / 256) (t.val % 256)) (128 * c.val + l.val)) ∧ ∀ t c, ys V t c = Spec.out X (weights V) t.val c.val

section Schedule

theorem coords0 : ∀ t : Fin cfg0.N, ((grid0.coords t) 0).val = t.val := by decide
theorem coords1 : ∀ t : Fin cfg1.N, ((grid1.coords t) 0).val = t.val / 9 ∧ ((grid1.coords t) 1).val = t.val % 9 := by decide

end Schedule

section First

variable {V : Val} {inv : ℕ → Heap Stats.shp Stats.elt (Elt Ideal) → Prop} {c : Dev nD}
variable {after : (w : Fin cfg0.W) → Fin cfg0.N → ((cfg0.win w).block.Idx → Elt Ideal (cfg0.win w).elt) → ((cfg0.win w).block.Idx → Elt Ideal (cfg0.win w).elt) → Prop}

theorem fetched0_0 (t : Fin cfg0.N) (d) (b : Fin 3) (k : Fin 2880) (l : Fin 256) : (rdat0 V inv after c).fetched 0 t d (ix3 b k l) = tokens V b.val l.val k.val := by
  refine (show _ = V (Proc.devRef .tc main_v0) ((win0_0.rect t).emb (ix3 b k l)) from rfl).trans ?_
  unfold tokens
  rw [dif_pos ⟨b.isLt, k.isLt, l.isLt⟩]
  refine congrArg (V (Proc.devRef .tc main_v0)) (funext fun a => Fin.ext ((win0_0.rect_emb_val_of_index_zero t a ?_ (ix3 b k l)).trans ?_))
  · exact match a with | 0 => rfl | 1 => rfl | 2 => rfl
  · match a with
    | 0 => rfl
    | 1 => rfl
    | 2 => rfl

theorem fetched0_1 (t : Fin cfg0.N) (d) (k : Fin 2880) (j : Fin 640) : (rdat0 V inv after c).fetched 1 t d (ix2 k j) = weights V k.val (640 * t.val + j.val) := by
  have ht : t.val < 9 := t.isLt
  refine (show _ = V (Proc.devRef .tc main_arg1) ((win0_1.rect t).emb (ix2 k j)) from rfl).trans ?_
  unfold weights
  rw [dif_pos ⟨k.isLt, by omega⟩]
  refine congrArg (V (Proc.devRef .tc main_arg1)) (funext fun a => Fin.ext ((win0_1.rect_emb_val t (ix2 k j) a).trans ?_))
  have e : cc0_transform_1 (grid0.coords t) 1 = t.val := (by decide : ∀ t : Fin 9, cc0_transform_1 (grid0.coords t) 1 = t.val) t
  match a with
  | 0 => show 0 * 2880 + k.val = k.val; omega
  | 1 => show cc0_transform_1 (grid0.coords t) 1 * 640 + j.val = 640 * t.val + j.val; rw [e]; omega

end First

section Second

variable {V : Val} {inv : ℕ → Heap Search.shp Search.elt (Elt Ideal) → Prop} {c : Dev nD}
variable {after : (w : Fin cfg1.W) → Fin cfg1.N → ((cfg1.win w).block.Idx → Elt Ideal (cfg1.win w).elt) → ((cfg1.win w).block.Idx → Elt Ideal (cfg1.win w).elt) → Prop}

theorem fetched1_0 (t : Fin cfg1.N) (d) (k : Fin 24) (i : Fin 768) (l : Fin 128) : (rdat1 V inv after c).fetched 0 t d (ix3 k i l) = xps V k i l := by
  refine (show _ = V (Proc.devRef .tc main_v1_1) ((win1_0.rect t).emb (ix3 k i l)) from rfl).trans ?_
  refine congrArg (V (Proc.devRef .tc main_v1_1)) (funext fun a => Fin.ext ((win1_0.rect_emb_val_of_index_zero t a ?_ (ix3 k i l)).trans ?_))
  · exact match a with | 0 => rfl | 1 => rfl | 2 => rfl
  · rfl

theorem fetched1_2 (t : Fin cfg1.N) (d) (i : Fin 768) (j : Fin 5760) : (rdat1 V inv after c).fetched 2 t d (ix2 i j) = ys V i j := by
  refine (show _ = V (Proc.devRef .tc main_v1_0) ((win1_2.rect t).emb (ix2 i j)) from rfl).trans ?_
  refine congrArg (V (Proc.devRef .tc main_v1_0)) (funext fun a => Fin.ext ((win1_2.rect_emb_val_of_index_zero t a ?_ (ix2 i j)).trans ?_))
  · exact match a with | 0 => rfl | 1 => rfl
  · rfl

theorem fetched1_1 (t : Fin cfg1.N) (d) (g : Fin 45) (h : Fin 2) (r : Fin 32) (l : Fin 128) :
    (rdat1 V inv after c).fetched 1 t d (ix4 g h r l) = tabled V l.val (64 * g.val + 2 * r.val + h.val) := by
  refine (show _ = V (Proc.devRef .tc main_v1_2) ((win1_1.rect t).emb (ix4 g h r l)) from rfl).trans ?_
  unfold tabled
  rw [dif_pos ⟨by omega, l.isLt⟩]
  refine congrArg (V (Proc.devRef .tc main_v1_2)) (funext fun a => Fin.ext ((win1_1.rect_emb_val_of_index_zero t a ?_ (ix4 g h r l)).trans ?_))
  · exact match a with | 0 => rfl | 1 => rfl | 2 => rfl | 3 => rfl
  · match a with
    | 0 => show g.val = (64 * g.val + 2 * r.val + h.val) / 64; omega
    | 1 => show h.val = (64 * g.val + 2 * r.val + h.val) % 2; omega
    | 2 => show r.val = (64 * g.val + 2 * r.val + h.val) % 64 / 2; omega
    | 3 => rfl

theorem fetched1_3 (t : Fin cfg1.N) (d) (k : Fin 2880) (j : Fin 640) : (rdat1 V inv after c).fetched 3 t d (ix2 k j) = weights V k.val (640 * (t.val % 9) + j.val) := by
  refine (show _ = V (Proc.devRef .tc main_arg1) ((win1_3.rect t).emb (ix2 k j)) from rfl).trans ?_
  unfold weights
  rw [dif_pos ⟨k.isLt, by omega⟩]
  refine congrArg (V (Proc.devRef .tc main_arg1)) (funext fun a => Fin.ext ((win1_3.rect_emb_val t (ix2 k j) a).trans ?_))
  have e : cc1_transform_3 (grid1.coords t) 1 = t.val % 9 := (by decide : ∀ t : Fin 90, cc1_transform_3 (grid1.coords t) 1 = t.val % 9) t
  match a with
  | 0 => show 0 * 2880 + k.val = k.val; omega
  | 1 => show cc1_transform_3 (grid1.coords t) 1 * 640 + j.val = 640 * (t.val % 9) + j.val; rw [e]; omega

end Second

/-! ## What each point leaves -/

/-- The first region's windows: its arguments as they were, the outputs of the block of columns, the tokens, and at the last point the scale table. -/
def left0 (V : Val) : (w : Fin cfg0.W) → Fin cfg0.N → ((cfg0.win w).block.Idx → Elt Ideal (cfg0.win w).elt) → ((cfg0.win w).block.Idx → Elt Ideal (cfg0.win w).elt) → Prop
  | 0 => fun _ Y X => X = Y
  | 1 => fun _ Y X => X = Y
  | 2 => fun t _ X => ∀ (i : Fin 768) (j : Fin 640), X (ix2 i j) = Spec.out (tokens V) (weights V) i.val (640 * t.val + j.val)
  | 3 => fun _ _ X => ∀ (k : Fin 24) (i : Fin 768) (l : Fin 128), X (ix3 k i l) = Spec.kept (tokens V (i.val / 256) (i.val % 256)) (128 * k.val + l.val)
  | 4 => fun t _ X => t.val = 8 → ∀ (g : Fin 45) (h : Fin 2) (r : Fin 32) (l : Fin 128), l.val < 20 →
      X (ix4 g h r l) = Spec.table (tokens V) (weights V) l.val (64 * g.val + 2 * r.val + h.val)
  | ⟨_ + 5, h⟩ => absurd h (Nat.not_lt.2 (Nat.le_add_left _ _))

/-- The second region's windows: its arguments as they were, the pair's codes and quantiser scales of the block of columns, and at the last point the losses. -/
def left1 (V : Val) : (w : Fin cfg1.W) → Fin cfg1.N → ((cfg1.win w).block.Idx → Elt Ideal (cfg1.win w).elt) → ((cfg1.win w).block.Idx → Elt Ideal (cfg1.win w).elt) → Prop
  | 0 => fun _ Y X => X = Y
  | 1 => fun _ Y X => X = Y
  | 2 => fun _ Y X => X = Y
  | 3 => fun _ Y X => X = Y
  | 4 => fun t _ Z => ∀ X, Fed X V → t.val = 89 → ∀ (i : Fin 20) (j : Fin 5760), Z (ix2 i j) = Spec.loss X (weights V) (tabled V) i.val j.val
  | 5 => fun t _ X => ∀ (a : Fin 2) (r : Fin 1440) (j : Fin 640),
      X (ix3 a r j) = Spec.packed (weights V) (tabled V) (2 * (t.val / 9) + a.val) r.val (640 * (t.val % 9) + j.val)
  | 6 => fun t _ X => ∀ (a : Fin 2) (g : Fin 45) (j : Fin 640),
      X (ix3 a g j) = Spec.qscale (weights V) (tabled V) (2 * (t.val / 9) + a.val) g.val (640 * (t.val % 9) + j.val)
  | ⟨_ + 7, h⟩ => absurd h (Nat.not_lt.2 (Nat.le_add_left _ _))

/-- Both regions: the token means, the sums so far and zeros after the weights in the first's scratch; the pair's scales, the last strip and the losses so far in the second's. -/
def plan : Plan Ideal where
  inv0 V n H := n ≠ 0 → Stats.Means (tokens V) 45 H ∧ Stats.Sums (weights V) (5 * n) H ∧ Stats.Kept (fun _ _ => 0) (fun g _ => 45 ≤ g) H
  after0 := left0
  inv1 V n H := n ≠ 0 → Search.Spread (tabled V) ((n - 1) / 9) H ∧ ∀ X, Fed X V → Search.Scores X (weights V) (tabled V) (5 * n) H
  after1 := left1

theorem step0 (V : Val) : Step0 V (plan.inv0 V) (plan.after0 V) := by
  intro c t Y H hF hI
  have ht : t.val < 9 := t.isLt
  obtain ⟨d0, e0⟩ := RDat.finds_in_eq_fetched _ 0 rfl (fun _ _ _ => rfl) (fun _ _ _ h => h) t _ (hF 0)
  obtain ⟨d1, e1⟩ := RDat.finds_in_eq_fetched _ 1 rfl (fun _ _ _ => rfl) (fun _ _ _ h => h) t _ (hF 1)
  have hi := coords0 t
  have hp := Stats.body_post reads_plain (X := tokens V) (W := weights V) ((grid0.coords t) 0) (heap0 Y H)
    (fun b k l => (congrFun e0 (ix3 b k l)).trans (fetched0_0 t d0 b k l))
    (fun k j => (congrFun e1 (ix2 k j)).trans ((fetched0_1 t d1 k j).trans (by rw [hi])))
    (fun h => by
      have := hI (fun h0 => h (Fin.ext (hi.trans h0)))
      rw [hi]; exact ⟨this.1, this.2.1⟩)
  rw [hi] at hp
  have hk := (Stats.body_writes (reads (F := Ideal)) ((grid0.coords t) 0)).keep (heap0 Y H)
  have ho := Stats.body_out reads_plain (X := tokens V) (W := fun k j => weights V k (640 * t.val + j)) ((grid0.coords t) 0) (heap0 Y H)
    (fun b k l => (congrFun e0 (ix3 b k l)).trans (fetched0_0 t d0 b k l))
    (fun k j => (congrFun e1 (ix2 k j)).trans (fetched0_1 t d1 k j))
    (fun h => by
      have ht0 : t.val ≠ 0 := fun h0 => h (Fin.ext (hi.trans h0))
      refine ⟨?_, (hI ht0).2.2⟩
      have hf : (cfg0.win 3).flush ⟨t.val - 1, Nat.lt_of_le_of_lt (Nat.sub_le _ _) t.isLt⟩ ≠ true := fun h => by
        have := (Gen.flush0_3 _).mp h; simp only at this; omega
      obtain ⟨Y', -, hX⟩ := ((RDat.finds_of_pos _ (w := 3) (t := t) rfl ht0 _).mp (hF 3)).resolve_left hf
      exact fun k i l _ => hX k i l)
  refine ⟨fun _ => ⟨hp.1, hp.2.1, ho.2.1⟩, fun w => ?_⟩
  match w with
  | 0 => exact hk 0 (by decide)
  | 1 => exact hk 1 (by decide)
  | 2 => exact fun i j => ho.2.2 i j
  | 3 => exact fun k i l => ho.1 k i l trivial
  | 4 => exact fun h8 => hp.2.2 (Fin.ext (hi.trans h8))
  | ⟨_ + 5, h⟩ => exact absurd h (Nat.not_lt.2 (Nat.le_add_left _ _))

theorem step1 (V : Val) : Step1 V (plan.inv1 V) (plan.after1 V) := by
  intro c t Y H hF hI
  have ht : t.val < 90 := t.isLt
  obtain ⟨d0, e0⟩ := RDat.finds_in_eq_fetched _ 0 rfl (fun _ _ _ => rfl) (fun _ _ _ h => h) t _ (hF 0)
  obtain ⟨d1, e1⟩ := RDat.finds_in_eq_fetched _ 1 rfl (fun _ _ _ => rfl) (fun _ _ _ h => h) t _ (hF 1)
  obtain ⟨d2, e2⟩ := RDat.finds_in_eq_fetched _ 2 rfl (fun _ _ _ => rfl) (fun _ _ _ h => h) t _ (hF 2)
  obtain ⟨d3, e3⟩ := RDat.finds_in_eq_fetched _ 3 rfl (fun _ _ _ => rfl) (fun _ _ _ h => h) t _ (hF 3)
  obtain ⟨hi, hj⟩ := coords1 t
  have hs : (((grid1.coords t) 1 : Fin 9) ≠ (0 : Fin 9)) → Search.Spread (tabled V) ((grid1.coords t) 0).val (heap1 Y H) := fun h => by
    have h' : t.val % 9 ≠ 0 := fun h0 => h (Fin.ext (hj.trans h0))
    have := (hI (fun h0 => h' (by rw [h0]))).1
    rw [hi, show t.val / 9 = (t.val - 1) / 9 by omega]; exact this
  have hp := Search.body_post reads_plain (W := fun k j => weights V k (640 * (t.val % 9) + j)) (tabled V) ((grid1.coords t) 0) ((grid1.coords t) 1) (heap1 Y H)
    (fun k j => (congrFun e3 (ix2 k j)).trans (fetched1_3 t d3 k j))
    (fun g h r l _ => (congrFun e1 (ix4 g h r l)).trans (fetched1_1 t d1 g h r l)) hs
  have hc := fun X (hX : Fed X V) => Search.body_carry reads_plain (X := X) (W := weights V) (T := tabled V) ((grid1.coords t) 0) ((grid1.coords t) 1) (heap1 Y H)
    (fun k j => (congrFun e3 (ix2 k j)).trans ((fetched1_3 t d3 k j).trans (by rw [hj])))
    (fun g h r l _ => (congrFun e1 (ix4 g h r l)).trans (fetched1_1 t d1 g h r l)) hs
    (fun k i l => (congrFun e0 (ix3 k i l)).trans ((fetched1_0 t d0 k i l).trans (hX.1 k i l)))
    (fun i j => (congrFun e2 (ix2 i j)).trans ((fetched1_2 t d2 i j).trans (hX.2 i j)))
    (fun h => by
      have ht0 : t.val ≠ 0 := fun h0 => h ⟨hi.trans (by rw [h0]), hj.trans (by rw [h0])⟩
      obtain ⟨H', c', h12, h13⟩ := (hI ht0).2 X hX
      rw [hi, hj, show 45 * (t.val / 9) + 5 * (t.val % 9) = 5 * t.val by omega]
      exact ⟨fun k i l => (congrFun e0 (ix3 k i l)).trans ((fetched1_0 t d0 k i l).trans (hX.1 k i l)),
        fun i j => (congrFun e2 (ix2 i j)).trans ((fetched1_2 t d2 i j).trans (hX.2 i j)),
        fun s a p l hp => (congrFun h12.symm _).trans (c'.zero s a p l hp), fun hn s hs a p l => (congrFun h12.symm _).trans (c'.held hn s hs a p l),
        fun j i l hn => (congrFun h13.symm _).trans (c'.score j i l hn)⟩)
  rw [hi] at hp
  have hk := (Search.body_writes (reads (F := Ideal)) ((grid1.coords t) 0) ((grid1.coords t) 1)).keep (heap1 Y H)
  refine ⟨fun _ => ⟨hp.1, fun X hX => ⟨_, ?_, rfl, rfl⟩⟩, fun w => ?_⟩
  · have := (hc X hX).1
    rw [hi, hj, show 45 * (t.val / 9) + 5 * (t.val % 9) + 5 = 5 * (t.val + 1) by omega] at this
    exact this
  match w with
  | 0 => exact hk 0 (by decide)
  | 1 => exact hk 1 (by decide)
  | 2 => exact hk 2 (by decide)
  | 3 => exact hk 3 (by decide)
  | 4 => exact fun X hX h => (hc X hX).2 ⟨hi.trans (by rw [h]), hj.trans (by rw [h])⟩
  | 5 => exact fun a r j => hp.2.2 a r j
  | 6 => exact fun a g j => hp.2.1 a g j
  | ⟨_ + 7, h⟩ => exact absurd h (Nat.not_lt.2 (Nat.le_add_left _ _))

end Cert.Proof.Ideal
-- ==== Proof.ValueEnds.lean ====
/-
  What the arrays hold at the end: the outputs, the tokens and the scale table after the first region, the losses, the codes and the
  quantiser scales after the second.
-/
module

public import proofs.«01_k».proof.Proof.ValuePlan
public import Idealize.ShloMosaic.Lib.Pipeline.ArrRel

@[expose] public section

noncomputable section

namespace Cert.Proof.Ideal

open Cert.KernelIdeal Cert.Proof.Code
open Idealize.ShloMosaic Idealize.ShloMosaic.TcCoe
open Idealize.ShloMosaic.Pipeline (Dat RDat)

/-- A property of every element that a point may write back is a property of every element in a block written back. -/
theorem arr_of_leaves {Ix Name U Lvl : Type} [DecidableEq Ix] [DecidableEq Name] [Idealize.SL.RA.URA U]
    {Λ₀ : Idealize.SL.Sem.Labels} {cfg : Pipeline.Cfg sig Λ₀} {c : Dev nD} (rd : RDat τ (Elt Ideal) Ix Name U Lvl cfg c) (w : Fin cfg.W)
    (P : ((cfg.win w).arr.view.loc (c.tc : Thread nD τ)).2.ty.Idx → Elt Ideal ((cfg.win w).arr.view.loc (c.tc : Thread nD τ)).2.ty.elt → Prop)
    (hP : ∀ t, (cfg.win w).flush t = true → ∀ X, rd.Leaves w t X → ∀ y : ((cfg.win w).xblock (cfg.grid.coords t)).Idx,
      P (((cfg.win w).blk t).view.emb y) (_root_.cast (congrArg (Elt Ideal) ((cfg.win w).blk t).view.elt_eq.symm) ((cfg.win w).cut (cfg.grid.coords t) X y)))
    (G) (hG : rd.ArrAt w cfg.N G) (t : Fin cfg.N) (ht : (cfg.win w).flush t = true) (i : ((cfg.win w).arr.view.loc (c.tc : Thread nD τ)).2.ty.Idx) (hi : i ∈ ((cfg.win w).blk t).view.set) : P i (G i) := by
  obtain ⟨X, hX, hA⟩ := hG.exists_exact
  have e := hA (Function.update (fun _ _ _ => Classical.arbitrary _) w X) fun u _ _ => by rw [Function.update_self]
  rw [e]
  refine Dat.arrAt_forall_of_flushed _ w P (fun u hu y => ?_) cfg.N t i t.isLt ht hi
  have h := hP u hu _ (hX u u.isLt hu) y
  rw [← show Function.update (fun _ _ _ => Classical.arbitrary _) w X w u = X u by rw [Function.update_self]] at h
  exact h

/-- Equal scales give equal quantiser scales, and equal codes. -/
theorem amax_congr {W S S' : ℕ → ℕ → EReal} {i : ℕ} (hS : ∀ k, k < 2880 → S i k = S' i k) {g : ℕ} (hg : g < 45) (j : ℕ) : Spec.amax W S i g j = Spec.amax W S' i g j := by
  unfold Spec.amax
  refine Finset.sup_congr rfl fun k hk => ?_
  rw [Finset.mem_range] at hk
  unfold Spec.scaled
  rw [hS _ (by omega)]

theorem qscale_congr {W S S' : ℕ → ℕ → EReal} {i : ℕ} (hS : ∀ k, k < 2880 → S i k = S' i k) {g : ℕ} (hg : g < 45) (j : ℕ) : Spec.qscale W S i g j = Spec.qscale W S' i g j :=
  congrArg Spec.scaleFrom (amax_congr hS hg j)

theorem code_congr {W S S' : ℕ → ℕ → EReal} {i : ℕ} (hS : ∀ k, k < 2880 → S i k = S' i k) (n : ℕ) {k : ℕ} (hk : k < 2880) (j : ℕ) : Spec.code W S n i k j = Spec.code W S' n i k j := by
  unfold Spec.code Spec.scaled
  rw [hS k hk, qscale_congr hS (by omega)]

theorem packed_congr {W S S' : ℕ → ℕ → EReal} {i : ℕ} (hS : ∀ k, k < 2880 → S i k = S' i k) {r : ℕ} (hr : r < 1440) (j : ℕ) : Spec.packed W S i r j = Spec.packed W S' i r j := by
  unfold Spec.packed
  rw [code_congr hS 8 (by omega), code_congr hS 8 (by omega)]

/-- After the first region the table's array holds the scale table. -/
theorem table_at (V V₁ : Val) (c : Dev nD) (h : (rdat0 V (plan.inv0 V) (plan.after0 V) c).ArrAt 4 cfg0.N (V₁ (Proc.devRef .tc main_v1_2)))
    (g : Fin 45) (p : Fin 2) (r : Fin 32) (l : Fin 128) (hl : l.val < 20) : ts V₁ g p r l = Spec.table (tokens V) (weights V) l.val (64 * g.val + 2 * r.val + p.val) := by
  refine arr_of_leaves (rdat0 V (plan.inv0 V) (plan.after0 V) c) 4
    (fun (i : S45x2x32x128.Idx) (v : EReal) => (i 3).val < 20 → v = Spec.table (tokens V) (weights V) (i 3).val (64 * (i 0).val + 2 * (i 2).val + (i 1).val)) (fun t ht X hX y => ?_) _ h
    (⟨8, by decide⟩ : Fin 9) ((Gen.flush0_4 _).mpr rfl) (ix4 g p r l) ?_ hl
  · obtain ⟨Y, -, hX⟩ := hX
    have ht8 : t.val = 8 := by have h' := (Gen.flush0_4 t).mp ht; have : t.val < 9 := t.isLt; omega
    have e : ∀ a, ((win0_4.rect t).emb y a : ℕ) = y a := fun a =>
      win0_4.rect_emb_val_of_index_zero t a (match a with | 0 => rfl | 1 => rfl | 2 => rfl | 3 => rfl) y
    show ((win0_4.rect t).emb y 3 : ℕ) < 20 → X y = Spec.table _ _ ((win0_4.rect t).emb y 3 : ℕ) (64 * ((win0_4.rect t).emb y 0 : ℕ) + 2 * ((win0_4.rect t).emb y 2 : ℕ) + ((win0_4.rect t).emb y 1 : ℕ))
    rw [e 3, e 0, e 2, e 1]
    intro hl'
    refine (congrArg X ?_).trans (hX ht8 (y 0) (y 1) (y 2) (y 3) hl')
    exact funext fun a => match a with | 0 => rfl | 1 => rfl | 2 => rfl | 3 => rfl
  · refine Finset.mem_map.mpr ⟨ix4 g p r l, Finset.mem_univ _, ?_⟩
    refine funext fun a => Fin.ext ?_
    show ((win0_4.rect _).emb _ a : ℕ) = _
    exact win0_4.rect_emb_val_of_index_zero _ a (match a with | 0 => rfl | 1 => rfl | 2 => rfl | 3 => rfl) _

/-- After the second region the scales' array holds every candidate's quantiser scales. -/
theorem scales_at (V V₂ : Val) (c : Dev nD) (h : (rdat1 V (plan.inv1 V) (plan.after1 V) c).ArrAt 6 cfg1.N (V₂ (Proc.devRef .tc main_v2_2)))
    (i : Fin 20) (g : Fin 45) (j : Fin 5760) : V₂ (Proc.devRef .tc main_v2_2) (ix3 i g j) = Spec.qscale (weights V) (tabled V) i.val g.val j.val := by
  refine arr_of_leaves (rdat1 V (plan.inv1 V) (plan.after1 V) c) 6
    (fun (x : S20x45x5760.Idx) (v : EReal) => v = Spec.qscale (weights V) (tabled V) (x 0).val (x 1).val (x 2).val) (fun t ht X hX y => ?_) _ h
    (⟨9 * (i.val / 2) + j.val / 640, by omega⟩ : Fin 90) (Gen.flush1_6 _) (ix3 i g j) ?_
  · obtain ⟨Y, -, hX⟩ := hX
    have e0 : ((win1_6.rect t).emb y 0 : ℕ) = 2 * (t.val / 9) + y 0 := by
      rw [win1_6.rect_emb_val t y 0, show win1_6.index t 0 = t.val / 9 from (by decide : ∀ t : Fin 90, cc1_transform_6 (grid1.coords t) 0 = t.val / 9) t]
      show t.val / 9 * 2 + y 0 = _; omega
    have e1 : ((win1_6.rect t).emb y 1 : ℕ) = y 1 := win1_6.rect_emb_val_of_index_zero t 1 rfl y
    have e2 : ((win1_6.rect t).emb y 2 : ℕ) = 640 * (t.val % 9) + y 2 := by
      rw [win1_6.rect_emb_val t y 2, show win1_6.index t 2 = t.val % 9 from (by decide : ∀ t : Fin 90, cc1_transform_6 (grid1.coords t) 2 = t.val % 9) t]
      show t.val % 9 * 640 + y 2 = _; omega
    show X y = Spec.qscale _ _ ((win1_6.rect t).emb y 0 : ℕ) ((win1_6.rect t).emb y 1 : ℕ) ((win1_6.rect t).emb y 2 : ℕ)
    rw [e0, e1, e2]
    refine (congrArg X ?_).trans (hX (y 0) (y 1) (y 2))
    exact funext fun a => match a with | 0 => rfl | 1 => rfl | 2 => rfl
  · refine Finset.mem_map.mpr ⟨(ix3 ⟨i.val % 2, by omega⟩ g ⟨j.val % 640, by omega⟩ : S2x45x640.Idx), Finset.mem_univ _, ?_⟩
    refine funext fun a => Fin.ext ?_
    show ((win1_6.rect _).emb _ a : ℕ) = _
    match a with
    | 0 =>
      refine (win1_6.rect_emb_val _ _ 0).trans ?_
      show cc1_transform_6 (grid1.coords _) 0 * 2 + i.val % 2 = i.val
      rw [(by decide : ∀ t : Fin 90, cc1_transform_6 (grid1.coords t) 0 = t.val / 9) _]
      show (9 * (i.val / 2) + j.val / 640) / 9 * 2 + i.val % 2 = i.val
      omega
    | 1 => exact win1_6.rect_emb_val_of_index_zero _ 1 rfl _
    | 2 =>
      refine (win1_6.rect_emb_val _ _ 2).trans ?_
      show cc1_transform_6 (grid1.coords _) 2 * 640 + j.val % 640 = j.val
      rw [(by decide : ∀ t : Fin 90, cc1_transform_6 (grid1.coords t) 2 = t.val % 9) _]
      show (9 * (i.val / 2) + j.val / 640) % 9 * 640 + j.val % 640 = j.val
      omega

/-- After the second region the codes' array holds every candidate's packed codes. -/
theorem codes_at (V V₂ : Val) (c : Dev nD) (h : (rdat1 V (plan.inv1 V) (plan.after1 V) c).ArrAt 5 cfg1.N (V₂ (Proc.devRef .tc main_v2_1)))
    (i : Fin 20) (r : Fin 1440) (j : Fin 5760) : V₂ (Proc.devRef .tc main_v2_1) (ix3 i r j) = Spec.packed (weights V) (tabled V) i.val r.val j.val := by
  refine arr_of_leaves (rdat1 V (plan.inv1 V) (plan.after1 V) c) 5
    (fun (x : S20x1440x5760.Idx) (v : BitVec 8) => v = Spec.packed (weights V) (tabled V) (x 0).val (x 1).val (x 2).val) (fun t ht X hX y => ?_) _ h
    (⟨9 * (i.val / 2) + j.val / 640, by omega⟩ : Fin 90) (Gen.flush1_5 _) (ix3 i r j) ?_
  · obtain ⟨Y, -, hX⟩ := hX
    have e0 : ((win1_5.rect t).emb y 0 : ℕ) = 2 * (t.val / 9) + y 0 := by
      rw [win1_5.rect_emb_val t y 0, show win1_5.index t 0 = t.val / 9 from (by decide : ∀ t : Fin 90, cc1_transform_5 (grid1.coords t) 0 = t.val / 9) t]
      show t.val / 9 * 2 + y 0 = _; omega
    have e1 : ((win1_5.rect t).emb y 1 : ℕ) = y 1 := win1_5.rect_emb_val_of_index_zero t 1 rfl y
    have e2 : ((win1_5.rect t).emb y 2 : ℕ) = 640 * (t.val % 9) + y 2 := by
      rw [win1_5.rect_emb_val t y 2, show win1_5.index t 2 = t.val % 9 from (by decide : ∀ t : Fin 90, cc1_transform_5 (grid1.coords t) 2 = t.val % 9) t]
      show t.val % 9 * 640 + y 2 = _; omega
    show X y = Spec.packed _ _ ((win1_5.rect t).emb y 0 : ℕ) ((win1_5.rect t).emb y 1 : ℕ) ((win1_5.rect t).emb y 2 : ℕ)
    rw [e0, e1, e2]
    refine (congrArg X ?_).trans (hX (y 0) (y 1) (y 2))
    exact funext fun a => match a with | 0 => rfl | 1 => rfl | 2 => rfl
  · refine Finset.mem_map.mpr ⟨(ix3 ⟨i.val % 2, by omega⟩ r ⟨j.val % 640, by omega⟩ : S2x1440x640.Idx), Finset.mem_univ _, ?_⟩
    refine funext fun a => Fin.ext ?_
    show ((win1_5.rect _).emb _ a : ℕ) = _
    match a with
    | 0 =>
      refine (win1_5.rect_emb_val _ _ 0).trans ?_
      show cc1_transform_5 (grid1.coords _) 0 * 2 + i.val % 2 = i.val
      rw [(by decide : ∀ t : Fin 90, cc1_transform_5 (grid1.coords t) 0 = t.val / 9) _]
      show (9 * (i.val / 2) + j.val / 640) / 9 * 2 + i.val % 2 = i.val
      omega
    | 1 => exact win1_5.rect_emb_val_of_index_zero _ 1 rfl _
    | 2 =>
      refine (win1_5.rect_emb_val _ _ 2).trans ?_
      show cc1_transform_5 (grid1.coords _) 2 * 640 + j.val % 640 = j.val
      rw [(by decide : ∀ t : Fin 90, cc1_transform_5 (grid1.coords t) 2 = t.val % 9) _]
      show (9 * (i.val / 2) + j.val / 640) % 9 * 640 + j.val % 640 = j.val
      omega

theorem deq_congr {W S S' : ℕ → ℕ → EReal} {i : ℕ} (hS : ∀ k, k < 2880 → S i k = S' i k) {k : ℕ} (hk : k < 2880) (j : ℕ) : Spec.deq W S i k j = Spec.deq W S' i k j := by
  unfold Spec.deq
  rw [code_congr hS 8 hk, qscale_congr hS (by omega), hS k hk]

theorem loss_congr (X : ℕ → ℕ → ℕ → EReal) {W S S' : ℕ → ℕ → EReal} {i : ℕ} (hS : ∀ k, k < 2880 → S i k = S' i k) (j : ℕ) : Spec.loss X W S i j = Spec.loss X W S' i j := by
  have h : ∀ t, Spec.off X W S i t j = Spec.off X W S' i t j := fun t => by
    unfold Spec.off
    refine congrArg (Spec.out X W t j - ·) (Finset.sum_congr rfl fun k hk => ?_)
    rw [deq_congr hS (Finset.mem_range.mp hk)]
  unfold Spec.loss
  rw [Finset.sum_congr rfl fun t _ => by rw [h t]]

/-- After the first region the outputs' array holds the outputs of the weights. -/
theorem outs_at (V V₁ : Val) (c : Dev nD) (h : (rdat0 V (plan.inv0 V) (plan.after0 V) c).ArrAt 2 cfg0.N (V₁ (Proc.devRef .tc main_v1_0)))
    (i : Fin 768) (j : Fin 5760) : ys V₁ i j = Spec.out (tokens V) (weights V) i.val j.val := by
  refine arr_of_leaves (rdat0 V (plan.inv0 V) (plan.after0 V) c) 2
    (fun (x : S768x5760.Idx) (v : EReal) => v = Spec.out (tokens V) (weights V) (x 0).val (x 1).val) (fun t ht X hX y => ?_) _ h
    (⟨j.val / 640, by omega⟩ : Fin 9) (Gen.flush0_2 _) (ix2 i j) ?_
  · obtain ⟨Y, -, hX⟩ := hX
    have e0 : ((win0_2.rect t).emb y 0 : ℕ) = y 0 := win0_2.rect_emb_val_of_index_zero t 0 rfl y
    have e1 : ((win0_2.rect t).emb y 1 : ℕ) = 640 * t.val + y 1 := by
      rw [win0_2.rect_emb_val t y 1, show win0_2.index t 1 = t.val from (by decide : ∀ t : Fin 9, cc0_transform_2 (grid0.coords t) 1 = t.val) t]
      show t.val * 640 + y 1 = _; omega
    show X y = Spec.out _ _ ((win0_2.rect t).emb y 0 : ℕ) ((win0_2.rect t).emb y 1 : ℕ)
    rw [e0, e1]
    refine (congrArg X ?_).trans (hX (y 0) (y 1))
    exact funext fun a => match a with | 0 => rfl | 1 => rfl
  · refine Finset.mem_map.mpr ⟨(ix2 i ⟨j.val % 640, by omega⟩ : S768x640.Idx), Finset.mem_univ _, ?_⟩
    refine funext fun a => Fin.ext ?_
    show ((win0_2.rect _).emb _ a : ℕ) = _
    match a with
    | 0 => exact win0_2.rect_emb_val_of_index_zero _ 0 rfl _
    | 1 =>
      refine (win0_2.rect_emb_val _ _ 1).trans ?_
      show cc0_transform_2 (grid0.coords _) 1 * 640 + j.val % 640 = j.val
      rw [(by decide : ∀ t : Fin 9, cc0_transform_2 (grid0.coords t) 1 = t.val) _]
      show j.val / 640 * 640 + j.val % 640 = j.val
      omega

/-- After the first region the kept tokens' array holds the tokens, as kept. -/
theorem toks_at (V V₁ : Val) (c : Dev nD) (h : (rdat0 V (plan.inv0 V) (plan.after0 V) c).ArrAt 3 cfg0.N (V₁ (Proc.devRef .tc main_v1_1)))
    (k : Fin 24) (i : Fin 768) (l : Fin 128) : xps V₁ k i l = Spec.kept (tokens V (i.val / 256) (i.val % 256)) (128 * k.val + l.val) := by
  refine arr_of_leaves (rdat0 V (plan.inv0 V) (plan.after0 V) c) 3
    (fun (x : S24x768x128.Idx) (v : EReal) => v = Spec.kept (tokens V ((x 1).val / 256) ((x 1).val % 256)) (128 * (x 0).val + (x 2).val)) (fun t ht X hX y => ?_) _ h
    (⟨8, by decide⟩ : Fin 9) ((Gen.flush0_3 _).mpr rfl) (ix3 k i l) ?_
  · obtain ⟨Y, -, hX⟩ := hX
    have e : ∀ a, ((win0_3.rect t).emb y a : ℕ) = y a := fun a =>
      win0_3.rect_emb_val_of_index_zero t a (match a with | 0 => rfl | 1 => rfl | 2 => rfl) y
    show X y = Spec.kept (tokens V (((win0_3.rect t).emb y 1 : ℕ) / 256) (((win0_3.rect t).emb y 1 : ℕ) % 256)) (128 * ((win0_3.rect t).emb y 0 : ℕ) + ((win0_3.rect t).emb y 2 : ℕ))
    rw [e 1, e 0, e 2]
    refine (congrArg X ?_).trans (hX (y 0) (y 1) (y 2))
    exact funext fun a => match a with | 0 => rfl | 1 => rfl | 2 => rfl
  · refine Finset.mem_map.mpr ⟨ix3 k i l, Finset.mem_univ _, ?_⟩
    refine funext fun a => Fin.ext ?_
    show ((win0_3.rect _).emb _ a : ℕ) = _
    exact win0_3.rect_emb_val_of_index_zero _ a (match a with | 0 => rfl | 1 => rfl | 2 => rfl) _

/-- After the second region the losses' array holds every candidate's losses. -/
theorem losses_at (V V₂ : Val) (c : Dev nD) (X : ℕ → ℕ → ℕ → EReal) (hF : Fed X V)
    (h : (rdat1 V (plan.inv1 V) (plan.after1 V) c).ArrAt 4 cfg1.N (V₂ (Proc.devRef .tc main_v2_0)))
    (i : Fin 20) (j : Fin 5760) : V₂ (Proc.devRef .tc main_v2_0) (ix2 i j) = Spec.loss X (weights V) (tabled V) i.val j.val := by
  refine arr_of_leaves (rdat1 V (plan.inv1 V) (plan.after1 V) c) 4
    (fun (x : S20x5760.Idx) (v : EReal) => v = Spec.loss X (weights V) (tabled V) (x 0).val (x 1).val) (fun t ht Z hZ y => ?_) _ h
    (⟨89, by decide⟩ : Fin 90) ((Gen.flush1_4 _).mpr rfl) (ix2 i j) ?_
  · obtain ⟨Y, -, hZ⟩ := hZ
    have h89 : t.val = 89 := by have h' := (Gen.flush1_4 t).mp ht; have : t.val < 90 := t.isLt; omega
    have e : ∀ a, ((win1_4.rect t).emb y a : ℕ) = y a := fun a =>
      win1_4.rect_emb_val_of_index_zero t a (match a with | 0 => rfl | 1 => rfl) y
    show Z y = Spec.loss X _ _ ((win1_4.rect t).emb y 0 : ℕ) ((win1_4.rect t).emb y 1 : ℕ)
    rw [e 0, e 1]
    refine (congrArg Z ?_).trans (hZ X hF h89 (y 0) (y 1))
    exact funext fun a => match a with | 0 => rfl | 1 => rfl
  · refine Finset.mem_map.mpr ⟨ix2 i j, Finset.mem_univ _, ?_⟩
    refine funext fun a => Fin.ext ?_
    show ((win1_4.rect _).emb _ a : ℕ) = _
    exact win1_4.rect_emb_val_of_index_zero _ a (match a with | 0 => rfl | 1 => rfl) _

/-- A run's last valuation holds the losses, the codes and the quantiser scales of the weights under the scale table. -/
theorem ends_values (V : Val) (c : Dev nD) (V₂ : Val) (h : Ends plan V c V₂) :
    (∀ (i : Fin 20) (j : Fin 5760), V₂ (Proc.devRef .tc main_v2_0) (ix2 i j) =
      Spec.loss (tokens V) (weights V) (Spec.table (tokens V) (weights V)) i.val j.val) ∧
    (∀ (i : Fin 20) (r : Fin 1440) (j : Fin 5760), V₂ (Proc.devRef .tc main_v2_1) (ix3 i r j) =
      Spec.packed (weights V) (Spec.table (tokens V) (weights V)) i.val r.val j.val) ∧
    (∀ (i : Fin 20) (g : Fin 45) (j : Fin 5760), V₂ (Proc.devRef .tc main_v2_2) (ix3 i g j) =
      Spec.qscale (weights V) (Spec.table (tokens V) (weights V)) i.val g.val j.val) := by
  obtain ⟨V₁, ⟨ha, hb⟩, ⟨ha', hb'⟩⟩ := h
  have hw : weights V₁ = weights V := by
    have h0 := ha 1
    rw [RDat.ArrAt_in _ _ rfl] at h0
    unfold weights ws
    rw [show V₁ (Proc.devRef .tc main_arg1) = V (Proc.devRef .tc main_arg1) from h0]
  have ht : ∀ l k, l < 20 → k < 2880 → tabled V₁ l k = Spec.table (tokens V) (weights V) l k := by
    intro l k hl hk
    unfold tabled
    rw [dif_pos ⟨hk, by omega⟩, table_at V V₁ c (ha 4) _ _ _ _ hl]
    show Spec.table _ _ l (64 * (k / 64) + 2 * (k % 64 / 2) + k % 2) = _
    rw [show 64 * (k / 64) + 2 * (k % 64 / 2) + k % 2 = k by omega]
  have hF : Fed (tokens V) V₁ := ⟨toks_at V V₁ c (ha 3), fun t j => by rw [hw]; exact outs_at V V₁ c (ha 2) t j⟩
  refine ⟨fun i j => (losses_at V₁ V₂ c _ hF (ha' 4) i j).trans ?_, fun i r j => (codes_at V₁ V₂ c (ha' 5) i r j).trans ?_, fun i g j => (scales_at V₁ V₂ c (ha' 6) i g j).trans ?_⟩
  · rw [hw]; exact loss_congr _ (fun k hk => ht i.val k i.isLt hk) j.val
  · rw [hw]; exact packed_congr (fun k hk => ht i.val k i.isLt hk) r.isLt j.val
  · rw [hw]; exact qscale_congr (fun k hk => ht i.val k i.isLt hk) g.isLt j.val

end Cert.Proof.Ideal
-- ==== Proof.RefStages.lean ====
/-
  The reference's stages as vectors over the extended reals: the scale table first, then the quantiser's scales, the packed codes and the losses.
-/
module

public import proofs.«01_k».proof.Proof.Gen.ReferenceIdeal.Run
public import Idealize.ShloMosaic.Lib.IdealHost

@[expose] public section

noncomputable section

namespace Cert.Proof.Ref

open Cert.ReferenceIdeal Cert.ReferenceIdeal.Gen Cert.Proof
open Idealize.ShloMosaic Idealize.ShloMosaic.TcCoe

/-- The candidates' exponents. -/
def expoA : FVec Ideal S20x1 .f32 :=
  Host.divf (broadcastInDim S20x1 ![0] bcast_S20_S20x1_0 (sitofp .f32 (iotaInDim S20 32 0))) (broadcastInDim S20x1 ![] bcast_S_S20x1 (constant S_ .f32 0x41A00000#32))

/-- The rows' mean token magnitudes. -/
def meanA (x : FVec Ideal S3x256x2880 .bf16) : FVec Ideal S2880 .f32 :=
  mulf (Host.reduceAdd (Host.absf (extf .f32 (shapeCast _ x shapeCasts_S3x256x2880_S768x2880) bitsLt_bf16_f32)) (constant S_ .f32 0x00000000#32) reducesTo_S768x2880_S2880_d0 h_S_)
    (broadcastInDim S2880 ![] bcast_S_S2880 (constant S_ .f32 0x3AAAAAAB#32))

/-- The weights' magnitudes, by group. -/
def absA (w : FVec Ideal S2880x5760 .bf16) : FVec Ideal S45x64x5760 .f32 :=
  shapeCast _ (Host.absf (extf .f32 w bitsLt_bf16_f32)) shapeCasts_S2880x5760_S45x64x5760

/-- The groups' largest magnitudes in every column. -/
def topA (a : FVec Ideal S45x64x5760 .f32) : FVec Ideal S45x5760 .f32 :=
  Host.reduce FloatOps.maximumf a (constant S_ .f32 0xFF800000#32) reducesTo_S45x64x5760_S45x5760_d1 h_S_

/-- Magnitudes relative to their groups' largest. -/
def relA (a : FVec Ideal S45x64x5760 .f32) (t : FVec Ideal S45x5760 .f32) : FVec Ideal S45x64x5760 .f32 :=
  Host.divf a (broadcastInDim S45x64x5760 ![0, 1, 2] bcast_S45x1x5760_S45x64x5760_0_1_2 (addf (broadcastInDim S45x1x5760 ![0, 2] bcast_S45x5760_S45x1x5760_0_2 t) (broadcastInDim S45x1x5760 ![] bcast_S_S45x1x5760 (constant S_ .f32 0x358637BD#32))))

/-- The rows' means over the columns. -/
def relMeanA (r : FVec Ideal S45x64x5760 .f32) : FVec Ideal S2880 .f32 :=
  mulf (shapeCast _ (Host.reduceAdd r (constant S_ .f32 0x00000000#32) reducesTo_S45x64x5760_S45x64_d2 h_S_) shapeCasts_S45x64_S2880)
    (broadcastInDim S2880 ![] bcast_S_S2880 (constant S_ .f32 0x39360B61#32))

/-- The candidates' scales from both means and the exponents, before normalising. -/
def rawA (p q : FVec Ideal S2880 .f32) (e : FVec Ideal S20x1 .f32) : FVec Ideal S20x2880 .f32 :=
  maximumf (Host.divf (Host.powf (broadcastInDim S20x2880 ![0, 1] bcast_S1x2880_S20x2880_0_1 (broadcastInDim S1x2880 ![1] bcast_S2880_S1x2880_1 p)) (broadcastInDim S20x2880 ![0, 1] bcast_S20x1_S20x2880_0_1 e)) (addf (Host.powf (broadcastInDim S20x2880 ![0, 1] bcast_S1x2880_S20x2880_0_1 (broadcastInDim S1x2880 ![1] bcast_S2880_S1x2880_1 q)) (broadcastInDim S20x2880 ![0, 1] bcast_S20x1_S20x2880_0_1 (subf (broadcastInDim S20x1 ![] bcast_S_S20x1 (constant S_ .f32 0x3F800000#32)) e))) (broadcastInDim S20x2880 ![] bcast_S_S20x2880 (constant S_ .f32 0x38D1B717#32)))) (broadcastInDim S20x2880 ![] bcast_S_S20x2880 (constant S_ .f32 0x38D1B717#32))

/-- Scales divided by the geometric mean of each candidate's largest and smallest. -/
def normA (s : FVec Ideal S20x2880 .f32) : FVec Ideal S20x2880 .f32 :=
  Host.divf s (broadcastInDim S20x2880 ![0, 1] bcast_S20x1_S20x2880_0_1 (Host.sqrt (mulf (broadcastInDim S20x1 ![0] bcast_S20_S20x1_0 (Host.reduce FloatOps.maximumf s (constant S_ .f32 0xFF800000#32) reducesTo_S20x2880_S20_d1 h_S_)) (broadcastInDim S20x1 ![0] bcast_S20_S20x1_0 (Host.reduce FloatOps.minimumf s (constant S_ .f32 0x7F800000#32) reducesTo_S20x2880_S20_d1 h_S_)))))

/-- The weights scaled for every candidate, by group. -/
def scaledA (w : FVec Ideal S2880x5760 .bf16) (s : FVec Ideal S20x2880 .f32) : FVec Ideal S20x45x64x5760 .f32 :=
  shapeCast _ (mulf (broadcastInDim S20x2880x5760 ![0, 1, 2] bcast_S1x2880x5760_S20x2880x5760_0_1_2 (broadcastInDim S1x2880x5760 ![1, 2] bcast_S2880x5760_S1x2880x5760_1_2 (extf .f32 w bitsLt_bf16_f32))) (broadcastInDim S20x2880x5760 ![0, 1, 2] bcast_S20x2880x1_S20x2880x5760_0_1_2 (broadcastInDim S20x2880x1 ![0, 1] bcast_S20x2880_S20x2880x1_0_1 s))) shapeCasts_S20x2880x5760_S20x45x64x5760

/-- The groups' largest magnitudes. -/
def amaxA (v : FVec Ideal S20x45x64x5760 .f32) : FVec Ideal S20x45x5760 .f32 :=
  Host.reduce FloatOps.maximumf (Host.absf v) (constant S_ .f32 0xFF800000#32) reducesTo_S20x45x64x5760_S20x45x5760_d2 h_S_

/-- The quantiser's scales from the largest magnitudes. -/
def scaleA (a : FVec Ideal S20x45x5760 .f32) : FVec Ideal S20x45x5760 .f32 :=
  select (cmpf .ogt a (broadcastInDim S20x45x5760 ![] bcast_S_S20x45x5760 (constant S_ .f32 0x00000000#32))) (Host.divf a (broadcastInDim S20x45x5760 ![] bcast_S_S20x45x5760 (constant S_ .f32 0x40E00000#32))) (broadcastInDim S20x45x5760 ![] bcast_S_S20x45x5760 (id (constant S_ .f32 0x3F800000#32)))

/-- The codes, as 32-bit integers. -/
def codesA (v : FVec Ideal S20x45x64x5760 .f32) (s : FVec Ideal S20x45x5760 .f32) : IVec S20x2880x5760 32 :=
  shapeCast _ (fptosi 32 (minimumf (broadcastInDim S20x45x64x5760 ![] bcast_S_S20x45x64x5760 (id (constant S_ .f32 0x40E00000#32))) (maximumf (broadcastInDim S20x45x64x5760 ![] bcast_S_S20x45x64x5760 (id (constant S_ .f32 0xC0E00000#32))) (Host.roundeven (Host.divf v (broadcastInDim S20x45x64x5760 ![0, 1, 2, 3] bcast_S20x45x1x5760_S20x45x64x5760_0_1_2_3 (broadcastInDim S20x45x1x5760 ![0, 1, 3] bcast_S20x45x5760_S20x45x1x5760_0_1_3 s))))))) shapeCasts_S20x45x64x5760_S20x2880x5760

/-- The codes packed two rows in a byte. -/
def packA (k : IVec S20x2880x5760 32) : IVec S20x1440x5760 8 :=
  trunci 8 (ori (andi (shapeCast _ (extractStridedSlice S20x1440x1x5760 ![0, 0, 0, 0] (shapeCast _ k shapeCasts_S20x2880x5760_S20x1440x2x5760) slices_S20x1440x2x5760_S20x1440x1x5760_0_0_0_0) shapeCasts_S20x1440x1x5760_S20x1440x5760) (broadcastInDim S20x1440x5760 ![] bcast_S_S20x1440x5760 (constantI S_ 32 15#32))) (Host.shli (andi (shapeCast _ (extractStridedSlice S20x1440x1x5760 ![0, 0, 1, 0] (shapeCast _ k shapeCasts_S20x2880x5760_S20x1440x2x5760) slices_S20x1440x2x5760_S20x1440x1x5760_0_0_1_0) shapeCasts_S20x1440x1x5760_S20x1440x5760) (broadcastInDim S20x1440x5760 ![] bcast_S_S20x1440x5760 (constantI S_ 32 15#32))) (broadcastInDim S20x1440x5760 ![] bcast_S_S20x1440x5760 (constantI S_ 32 4#32)))) natLt_8_32

/-- The weights' outputs. -/
def outA (x : FVec Ideal S3x256x2880 .bf16) (w : FVec Ideal S2880x5760 .bf16) : FVec Ideal S768x5760 .f32 :=
  Host.dotGeneral dot_S768x2880_S2880x5760_S768x5760_1_0_0_1_n_n none (shapeCast _ x shapeCasts_S3x256x2880_S768x2880 : FVec Ideal S768x2880 .bf16) w

/-- The dequantised weights, with every candidate's scales taken out again. -/
def deqA (k : IVec S20x2880x5760 32) (q : FVec Ideal S20x45x5760 .f32) (s : FVec Ideal S20x2880 .f32) : FVec Ideal S20x2880x5760 .bf16 :=
  mulf (shapeCast _ (mulf (shapeCast _ (sitofp .bf16 k) shapeCasts_S20x2880x5760_S20x45x64x5760) (broadcastInDim S20x45x64x5760 ![0, 1, 2, 3] bcast_S20x45x1x5760_S20x45x64x5760_0_1_2_3 (broadcastInDim S20x45x1x5760 ![0, 1, 3] bcast_S20x45x5760_S20x45x1x5760_0_1_3 (truncf .bf16 q bitsLt_bf16_f32)))) shapeCasts_S20x45x64x5760_S20x2880x5760) (broadcastInDim S20x2880x5760 ![0, 1, 2] bcast_S20x2880x1_S20x2880x5760_0_1_2 (broadcastInDim S20x2880x1 ![0, 1] bcast_S20x2880_S20x2880x1_0_1 (truncf .bf16 (Host.divf (broadcastInDim S20x2880 ![] bcast_S_S20x2880 (constant S_ .f32 0x3F800000#32)) s) bitsLt_bf16_f32)))

/-- The dequantised weights' outputs. -/
def outsA (x : FVec Ideal S3x256x2880 .bf16) (d : FVec Ideal S20x2880x5760 .bf16) : FVec Ideal S768x20x5760 .f32 :=
  Host.dotGeneral dot_S768x2880_S20x2880x5760_S768x20x5760_1_1_0_02_n_n none (shapeCast _ x shapeCasts_S3x256x2880_S768x2880 : FVec Ideal S768x2880 .bf16) d

/-- The outputs' differences. -/
def offA (y : FVec Ideal S768x5760 .f32) (z : FVec Ideal S768x20x5760 .f32) : FVec Ideal S768x20x5760 .f32 :=
  subf (broadcastInDim S768x20x5760 ![0, 1, 2] bcast_S768x1x5760_S768x20x5760_0_1_2 (broadcastInDim S768x1x5760 ![0, 2] bcast_S768x5760_S768x1x5760_0_2 y)) z

/-- The losses from the differences. -/
def lossA (d : FVec Ideal S768x20x5760 .f32) : FVec Ideal S20x5760 .f32 :=
  mulf (Host.reduceAdd (mulf d d) (constant S_ .f32 0x00000000#32) reducesTo_S768x20x5760_S20x5760_d0 h_S_) (broadcastInDim S20x5760 ![] bcast_S_S20x5760 (constant S_ .f32 0x3AAAAAAB#32))

/-- The scale table from both arguments. -/
def tableA (x : FVec Ideal S3x256x2880 .bf16) (w : FVec Ideal S2880x5760 .bf16) : FVec Ideal S20x2880 .f32 := normA (rawA (meanA x) (relMeanA (relA (absA w) (topA (absA w)))) expoA)

/-- The reference's third result is the quantiser's scales of these stages. -/
theorem out_scales (m) (c : Dev nD) : Value.res_out2 (F := Ideal) m c
    = scaleA (amaxA (scaledA (m ((c.tc : Thread nD τ).loc main_arg1)) (tableA (m ((c.tc : Thread nD τ).loc main_arg0)) (m ((c.tc : Thread nD τ).loc main_arg1))))) := by
  unfold Value.res_out2 Value.res_main_v59
  rfl

/-- The reference's second result is the packed codes of these stages. -/
theorem out_codes (m) (c : Dev nD) : Value.res_out1 (F := Ideal) m c
    = packA (codesA (scaledA (m ((c.tc : Thread nD τ).loc main_arg1)) (tableA (m ((c.tc : Thread nD τ).loc main_arg0)) (m ((c.tc : Thread nD τ).loc main_arg1))))
      (scaleA (amaxA (scaledA (m ((c.tc : Thread nD τ).loc main_arg1)) (tableA (m ((c.tc : Thread nD τ).loc main_arg0)) (m ((c.tc : Thread nD τ).loc main_arg1))))))) := by
  unfold Value.res_out1 Value.res_main_v101
  rfl

/-- The reference's first result is the losses of these stages. -/
theorem out_losses (m) (c : Dev nD) : Value.res_out0 (F := Ideal) m c
    = lossA (offA (outA (m ((c.tc : Thread nD τ).loc main_arg0)) (m ((c.tc : Thread nD τ).loc main_arg1)))
      (outsA (m ((c.tc : Thread nD τ).loc main_arg0)) (deqA (codesA (scaledA (m ((c.tc : Thread nD τ).loc main_arg1)) (tableA (m ((c.tc : Thread nD τ).loc main_arg0)) (m ((c.tc : Thread nD τ).loc main_arg1))))
        (scaleA (amaxA (scaledA (m ((c.tc : Thread nD τ).loc main_arg1)) (tableA (m ((c.tc : Thread nD τ).loc main_arg0)) (m ((c.tc : Thread nD τ).loc main_arg1)))))))
        (scaleA (amaxA (scaledA (m ((c.tc : Thread nD τ).loc main_arg1)) (tableA (m ((c.tc : Thread nD τ).loc main_arg0)) (m ((c.tc : Thread nD τ).loc main_arg1))))))
        (tableA (m ((c.tc : Thread nD τ).loc main_arg0)) (m ((c.tc : Thread nD τ).loc main_arg1)))))) := by
  unfold Value.res_out0 Value.res_main_v88
  rfl

end Cert.Proof.Ref
-- ==== Proof.RefTable.lean ====
/-
  The reference's scale table at a place is the table of the search's mathematics.
-/
module

public import proofs.«01_k».proof.Proof.RefStages
public import proofs.«01_k».proof.Proof.SpecFacts
public import Idealize.ShloMosaic.Lib.Pointwise

@[expose] public section

noncomputable section

namespace Cert.Proof.Ref

open Cert.ReferenceIdeal Cert.ReferenceIdeal.Gen Cert.Proof
open Idealize.ShloMosaic Idealize.ShloMosaic.TcCoe

/-- The largest of finitely many values, over the numbers below a bound. -/
theorem fold_sup (n : ℕ) (f : Fin n → EReal) (F : ℕ → EReal) (h : ∀ x, f x = F x.val) :
    Finset.univ.fold max (Ideal.ofBits .f32 0xFF800000#32) f = (Finset.range n).sup F := by
  refine eq_of_forall_ge_iff fun u => ?_
  rw [Finset.fold_max_le, show Ideal.ofBits .f32 0xFF800000#32 = ⊥ from Spec.fl_bot, Finset.sup_le_iff]
  exact ⟨fun H j hj => (h ⟨j, Finset.mem_range.mp hj⟩).symm.le.trans (H.2 _ (Finset.mem_univ _)),
    fun H => ⟨bot_le, fun j _ => (h j).le.trans (H j.val (Finset.mem_range.mpr j.isLt))⟩⟩

/-- The smallest of finitely many values, over the numbers below a bound. -/
theorem fold_inf (n : ℕ) (f : Fin n → EReal) (F : ℕ → EReal) (h : ∀ x, f x = F x.val) :
    Finset.univ.fold min (Ideal.ofBits .f32 0x7F800000#32) f = (Finset.range n).inf F := by
  refine eq_of_forall_le_iff fun u => ?_
  rw [Finset.le_fold_min, show Ideal.ofBits .f32 0x7F800000#32 = ⊤ from Spec.fl_top, Finset.le_inf_iff]
  exact ⟨fun H j hj => (H.2 _ (Finset.mem_univ _)).trans (h ⟨j, Finset.mem_range.mp hj⟩).le,
    fun H => ⟨le_top, fun j _ => (H j.val (Finset.mem_range.mpr j.isLt)).trans (h j).symm.le⟩⟩

/-- A sum over finitely many values, over the numbers below a bound. -/
theorem sum_fin (n : ℕ) (f : Fin n → EReal) (F : ℕ → EReal) (h : ∀ x, f x = F x.val) : ∑ x, f x = ∑ j ∈ Finset.range n, F j := by
  rw [Finset.sum_range]; exact Finset.sum_congr rfl fun x _ => h x

/-- A sum over a range taken block by block. -/
theorem sum_blocks (f : ℕ → EReal) (n m : ℕ) : ∑ b ∈ Finset.range m, ∑ t ∈ Finset.range n, f (n * b + t) = ∑ c ∈ Finset.range (n * m), f c := by
  induction m with
  | zero => simp
  | succ m ih => rw [Finset.sum_range_succ, ih, Nat.mul_succ, Finset.sum_range_add]

/-- A candidate's number as a value. -/
theorem lane_value (i : Fin 20) : FloatOps.sitofp (F := Ideal) .f32 (BitVec.ofNat 32 i.val) = (((i.val : ℝ)) : EReal) := by
  have h : ∀ i : Fin 20, (BitVec.ofNat 32 i.val).toInt = (i.val : ℤ) := by decide
  show ((((BitVec.ofNat 32 i.val).toInt : ℤ) : ℝ) : EReal) = _
  rw [h i]; norm_cast

/-- The exponents. -/
theorem expo_at (i : Fin 20) : expoA (ix2 i 0) = Spec.ratio i.val := by
  unfold expoA Spec.ratio
  pointwise
  rw [lane_value]

/-- The rows' mean token magnitudes. -/
theorem mean_at (x : FVec Ideal S3x256x2880 .bf16) (X : ℕ → ℕ → ℕ → EReal) (hX : ∀ (b : Fin 3) (t : Fin 256) (k : Fin 2880), x (ix3 b t k) = X b.val t.val k.val)
    (k : Fin 2880) : meanA x (ix1 k) = Spec.mean X k.val := by
  unfold meanA Spec.mean
  have hs : ∑ b ∈ Finset.range 3, ∑ t ∈ Finset.range 256, Spec.mag (X b t k.val) = ∑ n ∈ Finset.range (256 * 3), Spec.mag (X (n / 256) (n % 256) k.val) := by
    rw [← sum_blocks]
    refine Finset.sum_congr rfl fun b hb => Finset.sum_congr rfl fun t ht => ?_
    have := Finset.mem_range.mp ht
    rw [show (256 * b + t) / 256 = b by omega, show (256 * b + t) % 256 = t by omega]
  rw [hs]
  pointwise
  refine congrArg (· * _) (sum_fin 768 _ (fun n => Spec.mag (X (n / 256) (n % 256) k.val)) fun n => ?_)
  exact congrArg Spec.mag (hX _ _ _)

/-- The weights' magnitudes, by group. -/
theorem abs_at (w : FVec Ideal S2880x5760 .bf16) (W : ℕ → ℕ → EReal) (hW : ∀ (k : Fin 2880) (j : Fin 5760), w (ix2 k j) = W k.val j.val)
    (g : Fin 45) (p : Fin 64) (j : Fin 5760) : absA w (ix3 g p j) = Spec.mag (W (64 * g.val + p.val) j.val) := by
  unfold absA
  pointwise
  refine congrArg Spec.mag ((hW _ _).trans ?_)
  exact congrArg (W · j.val) (show g.val * 64 + p.val = 64 * g.val + p.val by omega)

/-- The groups' largest magnitudes. -/
theorem top_at (a : FVec Ideal S45x64x5760 .f32) (W : ℕ → ℕ → EReal) (ha : ∀ (g : Fin 45) (p : Fin 64) (j : Fin 5760), a (ix3 g p j) = Spec.mag (W (64 * g.val + p.val) j.val))
    (g : Fin 45) (j : Fin 5760) : topA a (ix2 g j) = Spec.top W g.val j.val := by
  unfold topA Spec.top
  pointwise
  exact fold_sup 64 _ (fun q => Spec.mag (W (64 * g.val + q) j.val)) (fun q => ha g q j)

/-- The relative magnitudes. -/
theorem rel_at (a : FVec Ideal S45x64x5760 .f32) (t : FVec Ideal S45x5760 .f32) (W : ℕ → ℕ → EReal)
    (ha : ∀ (g : Fin 45) (p : Fin 64) (j : Fin 5760), a (ix3 g p j) = Spec.mag (W (64 * g.val + p.val) j.val)) (ht : ∀ (g : Fin 45) (j : Fin 5760), t (ix2 g j) = Spec.top W g.val j.val)
    (g : Fin 45) (p : Fin 64) (j : Fin 5760) : relA a t (ix3 g p j) = Spec.rel W (64 * g.val + p.val) j.val := by
  have e : relA a t (ix3 g p j) = Ideal.div (a (ix3 g p j)) (t (ix2 g j) + Spec.fl 0x358637BD#32) := by
    unfold relA
    pointwise
  rw [e, ha, ht]
  unfold Spec.rel
  rw [show (64 * g.val + p.val) / 64 = g.val by omega]

/-- The rows' mean relative magnitudes. -/
theorem relMean_at (r : FVec Ideal S45x64x5760 .f32) (W : ℕ → ℕ → EReal) (hr : ∀ (g : Fin 45) (p : Fin 64) (j : Fin 5760), r (ix3 g p j) = Spec.rel W (64 * g.val + p.val) j.val)
    (k : Fin 2880) : relMeanA r (ix1 k) = Spec.relMean W k.val := by
  have e : relMeanA r (ix1 k) = (∑ x : Fin 5760, r (ix3 ⟨k.val / 64, by omega⟩ ⟨k.val % 64, by omega⟩ x)) * Spec.fl 0x39360B61#32 := by
    unfold relMeanA
    pointwise
  rw [e, sum_fin 5760 _ (fun n => Spec.rel W k.val n) fun n => (hr _ _ _).trans (congrArg (Spec.rel W · n.val) (show 64 * (k.val / 64) + k.val % 64 = k.val by omega))]
  rfl

/-- The scales before normalising. -/
theorem raw_at (p q : FVec Ideal S2880 .f32) (e : FVec Ideal S20x1 .f32) (X : ℕ → ℕ → ℕ → EReal) (W : ℕ → ℕ → EReal)
    (hp : ∀ k : Fin 2880, p (ix1 k) = Spec.mean X k.val) (hq : ∀ k : Fin 2880, q (ix1 k) = Spec.relMean W k.val) (he : ∀ i : Fin 20, e (ix2 i 0) = Spec.ratio i.val)
    (i : Fin 20) (k : Fin 2880) : rawA p q e (ix2 i k) = Spec.raw X W i.val k.val := by
  unfold rawA Spec.raw
  rw [← hp, ← hq, ← he, Spec.fl_one]
  pointwise

/-- The scales normalised. -/
theorem norm_at (s : FVec Ideal S20x2880 .f32) (X : ℕ → ℕ → ℕ → EReal) (W : ℕ → ℕ → EReal) (hs : ∀ (i : Fin 20) (k : Fin 2880), s (ix2 i k) = Spec.raw X W i.val k.val)
    (i : Fin 20) (k : Fin 2880) : normA s (ix2 i k) = Spec.table X W i.val k.val := by
  unfold normA Spec.table
  pointwise
  rw [fold_sup 2880 _ (fun k => Spec.raw X W i.val k) (fun k => hs i k), fold_inf 2880 _ (fun k => Spec.raw X W i.val k) (fun k => hs i k), hs]

/-- The reference's scale table. -/
theorem table_at (x : FVec Ideal S3x256x2880 .bf16) (w : FVec Ideal S2880x5760 .bf16) (X : ℕ → ℕ → ℕ → EReal) (W : ℕ → ℕ → EReal)
    (hX : ∀ (b : Fin 3) (t : Fin 256) (k : Fin 2880), x (ix3 b t k) = X b.val t.val k.val) (hW : ∀ (k : Fin 2880) (j : Fin 5760), w (ix2 k j) = W k.val j.val)
    (i : Fin 20) (k : Fin 2880) : tableA x w (ix2 i k) = Spec.table X W i.val k.val :=
  norm_at _ X W (raw_at _ _ _ X W (mean_at x X hX) (relMean_at _ W (rel_at _ _ W (abs_at w W hW) (top_at _ W (abs_at w W hW)))) expo_at) i k

end Cert.Proof.Ref
-- ==== Proof.RefValue.lean ====
/-
  The reference's results at a place are the scales and the packed codes of the search's mathematics.
-/
module

public import proofs.«01_k».proof.Proof.RefStages
public import proofs.«01_k».proof.Proof.SpecFacts
public import proofs.«01_k».proof.Proof.RefTable

@[expose] public section

noncomputable section

namespace Cert.Proof.Ref

open Cert.ReferenceIdeal Cert.ReferenceIdeal.Gen Cert.Proof
open Idealize.ShloMosaic Idealize.ShloMosaic.TcCoe

/-- The scaled weights, by group. -/
theorem scaled_at (w : FVec Ideal S2880x5760 .bf16) (s : FVec Ideal S20x2880 .f32) (W S : ℕ → ℕ → EReal)
    (hW : ∀ (k : Fin 2880) (j : Fin 5760), w (ix2 k j) = W k.val j.val) (hS : ∀ (i : Fin 20) (k : Fin 2880), s (ix2 i k) = S i.val k.val)
    (i : Fin 20) (g : Fin 45) (p : Fin 64) (j : Fin 5760) : scaledA w s (ix4 i g p j) = Spec.scaled W S i.val (64 * g.val + p.val) j.val := by
  unfold scaledA Spec.scaled
  pointwise
  have e : g.val * 64 + p.val = 64 * g.val + p.val := by omega
  exact congrArg₂ (· * ·) ((hW _ _).trans (congrArg (W · j.val) e)) ((hS _ _).trans (congrArg (S i.val ·) e))

/-- The groups' largest magnitudes. -/
theorem amax_at (v : FVec Ideal S20x45x64x5760 .f32) (W S : ℕ → ℕ → EReal)
    (hv : ∀ (i : Fin 20) (g : Fin 45) (p : Fin 64) (j : Fin 5760), v (ix4 i g p j) = Spec.scaled W S i.val (64 * g.val + p.val) j.val)
    (i : Fin 20) (g : Fin 45) (j : Fin 5760) : amaxA v (ix3 i g j) = Spec.amax W S i.val g.val j.val := by
  unfold amaxA Spec.amax
  pointwise
  exact fold_sup 64 _ (fun q => Spec.mag (Spec.scaled W S i.val (64 * g.val + q) j.val)) (fun q => congrArg Spec.mag (hv i g q j))

/-- The quantiser's scales. -/
theorem scale_at (a : FVec Ideal S20x45x5760 .f32) (W S : ℕ → ℕ → EReal) (ha : ∀ (i : Fin 20) (g : Fin 45) (j : Fin 5760), a (ix3 i g j) = Spec.amax W S i.val g.val j.val)
    (i : Fin 20) (g : Fin 45) (j : Fin 5760) : scaleA a (ix3 i g j) = Spec.qscale W S i.val g.val j.val := by
  unfold scaleA Spec.qscale Spec.scaleFrom
  rw [← ha]
  pointwise
  exact if_congr Iff.rfl rfl Spec.fl_one

/-- The codes. -/
theorem codes_at (v : FVec Ideal S20x45x64x5760 .f32) (s : FVec Ideal S20x45x5760 .f32) (W S : ℕ → ℕ → EReal)
    (hv : ∀ (i : Fin 20) (g : Fin 45) (p : Fin 64) (j : Fin 5760), v (ix4 i g p j) = Spec.scaled W S i.val (64 * g.val + p.val) j.val)
    (hs : ∀ (i : Fin 20) (g : Fin 45) (j : Fin 5760), s (ix3 i g j) = Spec.qscale W S i.val g.val j.val)
    (i : Fin 20) (k : Fin 2880) (j : Fin 5760) : codesA v s (ix3 i k j) = Spec.code W S 32 i.val k.val j.val := by
  have e : codesA v s (ix3 i k j) = Ideal.fptosi 32 (Spec.clipped (Ideal.div (v (ix4 i ⟨k.val / 64, by omega⟩ ⟨k.val % 64, by omega⟩ j)) (s (ix3 i ⟨k.val / 64, by omega⟩ j)))) := by
    unfold codesA Spec.clipped
    pointwise
    rfl
  rw [e, hv, hs]
  unfold Spec.code
  rw [show 64 * (k.val / 64) + k.val % 64 = k.val by omega]

/-- A clipped value is a whole number from -7 to 7 when converted, at any width of at least four bits. -/
theorem code_int (y : EReal) : ∃ z : ℤ, -7 ≤ z ∧ z ≤ 7 ∧ Ideal.fptosi 32 (Spec.clipped y) = BitVec.ofInt 32 z ∧ Ideal.fptosi 8 (Spec.clipped y) = BitVec.ofInt 8 z := by
  have h1 : Spec.clipped y ≤ ((7 : ℝ) : EReal) := by rw [← Spec.fl_seven]; exact min_le_left _ _
  have h2 : (((-7 : ℝ)) : EReal) ≤ Spec.clipped y := by
    unfold Spec.clipped
    rw [Spec.fl_seven, Spec.fl_neg_seven]
    exact le_min (by exact_mod_cast (by norm_num : (-7 : ℝ) ≤ 7)) (le_max_left _ _)
  generalize Spec.clipped y = u at h1 h2
  induction u with
  | bot => exact absurd h2 (by simp)
  | top => exact absurd h1 (by simp)
  | coe r =>
    have h1 : r ≤ 7 := by exact_mod_cast h1
    have h2 : -7 ≤ r := by exact_mod_cast h2
    have hz : ∃ z : ℤ, (if 0 ≤ r then ⌊r⌋ else ⌈r⌉) = z ∧ -7 ≤ z ∧ z ≤ 7 := by
      refine ⟨_, rfl, ?_, ?_⟩ <;> split
      · next h => exact (by norm_num : (-7 : ℤ) ≤ 0).trans (Int.floor_nonneg.mpr h)
      · exact Int.cast_le (R := ℝ).mp ((by push_cast; exact h2 : ((-7 : ℤ) : ℝ) ≤ r).trans (Int.le_ceil r))
      · exact Int.cast_le (R := ℝ).mp ((Int.floor_le r).trans (by push_cast; exact h1))
      · exact Int.ceil_le.mpr (by push_cast; exact h1)
    obtain ⟨z, e, l, u⟩ := hz
    refine ⟨z, l, u, ?_, ?_⟩
    · show BitVec.ofInt 32 (max (-(2 ^ (32 - 1) : Nat)) (min ((2 ^ (32 - 1) : Nat) - 1) (if 0 ≤ r then ⌊r⌋ else ⌈r⌉))) = _
      rw [e]; congr 1; norm_num; omega
    · show BitVec.ofInt 8 (max (-(2 ^ (8 - 1) : Nat)) (min ((2 ^ (8 - 1) : Nat) - 1) (if 0 ≤ r then ⌊r⌋ else ⌈r⌉))) = _
      rw [e]; congr 1; norm_num; omega

/-- Packing in 32 bits and keeping the low byte is packing in a byte. -/
theorem pack_word (y z : ℤ) (hy : -7 ≤ y ∧ y ≤ 7) (hz : -7 ≤ z ∧ z ≤ 7) :
    BitVec.setWidth 8 (IntOp.ori (IntOp.andi (BitVec.ofInt 32 y) 15#32) (IntOp.shli .host (IntOp.andi (BitVec.ofInt 32 z) 15#32) 4#32))
      = (BitVec.ofInt 8 y &&& 15#8) ||| ((BitVec.ofInt 8 z &&& 15#8) <<< 4) := by
  obtain ⟨y1, y2⟩ := hy
  obtain ⟨z1, z2⟩ := hz
  have hs : ∀ x : BitVec 32, IntOp.shli .host x 4#32 = x <<< 4 := fun x => by simp [IntOp.shli]
  have a : ∀ t : ℤ, -7 ≤ t → t ≤ 7 → BitVec.setWidth 8 (BitVec.ofInt 32 t &&& 15#32) = BitVec.ofInt 8 t &&& 15#8 := by
    intro t h1 h2; interval_cases t <;> decide
  have b : ∀ t : ℤ, -7 ≤ t → t ≤ 7 → BitVec.setWidth 8 ((BitVec.ofInt 32 t &&& 15#32) <<< 4) = (BitVec.ofInt 8 t &&& 15#8) <<< 4 := by
    intro t h1 h2; interval_cases t <;> decide
  rw [hs]
  show BitVec.setWidth 8 ((BitVec.ofInt 32 y &&& 15#32) ||| ((BitVec.ofInt 32 z &&& 15#32) <<< 4)) = _
  rw [BitVec.setWidth_or, a y y1 y2, b z z1 z2]

/-- The packed codes. -/
theorem pack_at (k : IVec S20x2880x5760 32) (W S : ℕ → ℕ → EReal) (hk : ∀ (i : Fin 20) (p : Fin 2880) (j : Fin 5760), k (ix3 i p j) = Spec.code W S 32 i.val p.val j.val)
    (i : Fin 20) (r : Fin 1440) (j : Fin 5760) : packA k (ix3 i r j) = Spec.packed W S i.val r.val j.val := by
  have e : packA k (ix3 i r j) = BitVec.setWidth 8 (IntOp.ori (IntOp.andi (k (ix3 i ⟨r.val * 2, by omega⟩ j)) 15#32) (IntOp.shli .host (IntOp.andi (k (ix3 i ⟨r.val * 2 + 1, by omega⟩ j)) 15#32) 4#32)) := by
    unfold packA
    pointwise
  have e0 : k (ix3 i ⟨r.val * 2, by omega⟩ j) = Spec.code W S 32 i.val (2 * r.val) j.val :=
    (hk _ _ _).trans (congrArg (Spec.code W S 32 i.val · j.val) (show r.val * 2 = 2 * r.val by omega))
  have e1 : k (ix3 i ⟨r.val * 2 + 1, by omega⟩ j) = Spec.code W S 32 i.val (2 * r.val + 1) j.val :=
    (hk _ _ _).trans (congrArg (Spec.code W S 32 i.val · j.val) (show r.val * 2 + 1 = 2 * r.val + 1 by omega))
  rw [e, e0, e1]
  unfold Spec.packed
  unfold Spec.code
  obtain ⟨y, a1, a2, a3, a4⟩ := code_int (Ideal.div (Spec.scaled W S i.val (2 * r.val) j.val) (Spec.qscale W S i.val (2 * r.val / 64) j.val))
  obtain ⟨z, b1, b2, b3, b4⟩ := code_int (Ideal.div (Spec.scaled W S i.val (2 * r.val + 1) j.val) (Spec.qscale W S i.val ((2 * r.val + 1) / 64) j.val))
  rw [a3, a4, b3, b4]
  exact pack_word y z ⟨a1, a2⟩ ⟨b1, b2⟩

section Results

variable (m : (ℓ : Loc nD τ sig) → Buf (Elt Ideal) ℓ) (c : Dev nD) (X : ℕ → ℕ → ℕ → EReal) (W : ℕ → ℕ → EReal)
  (hX : ∀ (b : Fin 3) (t : Fin 256) (k : Fin 2880), m ((c.tc : Thread nD τ).loc main_arg0) (ix3 b t k) = X b.val t.val k.val)
  (hW : ∀ (k : Fin 2880) (j : Fin 5760), m ((c.tc : Thread nD τ).loc main_arg1) (ix2 k j) = W k.val j.val)

include hX hW

/-- The reference's scales are those of the search's mathematics. -/
theorem scales_eq (i : Fin 20) (g : Fin 45) (j : Fin 5760) : Value.res_out2 (F := Ideal) m c (ix3 i g j) = Spec.qscale W (Spec.table X W) i.val g.val j.val := by
  rw [out_scales]
  exact scale_at _ W _ (amax_at _ W _ (scaled_at _ _ W _ hW (table_at _ _ X W hX hW))) i g j

/-- The reference's packed codes are those of the search's mathematics. -/
theorem codes_eq (i : Fin 20) (r : Fin 1440) (j : Fin 5760) : Value.res_out1 (F := Ideal) m c (ix3 i r j) = Spec.packed W (Spec.table X W) i.val r.val j.val := by
  rw [out_codes]
  have hv := scaled_at _ _ W _ hW (table_at _ _ X W hX hW)
  exact pack_at _ W _ (codes_at _ _ W _ hv (scale_at _ W _ (amax_at _ W _ hv))) i r j

end Results

end Cert.Proof.Ref
-- ==== Proof.RefLoss.lean ====
/-
  The reference's losses at a place are those of the search's mathematics.
-/
module

public import proofs.«01_k».proof.Proof.RefValue
public import proofs.«01_k».proof.Proof.SpecLoss

@[expose] public section

noncomputable section

namespace Cert.Proof.Ref

open Cert.ReferenceIdeal Cert.ReferenceIdeal.Gen Cert.Proof
open Idealize.ShloMosaic Idealize.ShloMosaic.TcCoe

/-- A code is the same number in 32 bits and in eight. -/
theorem code_toInt (W S : ℕ → ℕ → EReal) (i k j : ℕ) : (Spec.code W S 32 i k j).toInt = (Spec.code W S 8 i k j).toInt := by
  unfold Spec.code
  obtain ⟨z, l, u, e32, e8⟩ := code_int (Ideal.div (Spec.scaled W S i k j) (Spec.qscale W S i (k / 64) j))
  rw [e32, e8]
  interval_cases z <;> decide

/-- The weights' outputs. -/
theorem out_at (x : FVec Ideal S3x256x2880 .bf16) (w : FVec Ideal S2880x5760 .bf16) (X : ℕ → ℕ → ℕ → EReal) (W : ℕ → ℕ → EReal)
    (hX : ∀ (b : Fin 3) (t : Fin 256) (k : Fin 2880), x (ix3 b t k) = X b.val t.val k.val)
    (hW : ∀ (k : Fin 2880) (j : Fin 5760), w (ix2 k j) = W k.val j.val)
    (t : Fin 768) (j : Fin 5760) : outA x w (ix2 t j) = Spec.out X W t.val j.val := by
  have e : outA x w (ix2 t j) = ∑ k : Fin 2880, x (ix3 ⟨t.val / 256, by omega⟩ ⟨t.val % 256, by omega⟩ k) * w (ix2 k j) := by
    unfold outA
    pointwise
  rw [e]
  exact sum_fin 2880 _ (fun k => X (t.val / 256) (t.val % 256) k * W k j.val) fun k => congrArg₂ (· * ·) (hX _ _ _) (hW _ _)

/-- The dequantised weights. -/
theorem deq_at (k : IVec S20x2880x5760 32) (q : FVec Ideal S20x45x5760 .f32) (s : FVec Ideal S20x2880 .f32) (W S : ℕ → ℕ → EReal)
    (hk : ∀ (i : Fin 20) (p : Fin 2880) (j : Fin 5760), k (ix3 i p j) = Spec.code W S 32 i.val p.val j.val)
    (hq : ∀ (i : Fin 20) (g : Fin 45) (j : Fin 5760), q (ix3 i g j) = Spec.qscale W S i.val g.val j.val)
    (hs : ∀ (i : Fin 20) (p : Fin 2880), s (ix2 i p) = S i.val p.val)
    (i : Fin 20) (p : Fin 2880) (j : Fin 5760) : deqA k q s (ix3 i p j) = Spec.deq W S i.val p.val j.val := by
  have e : deqA k q s (ix3 i p j) = (((k (ix3 i p j)).toInt : ℝ) : EReal) * q (ix3 i ⟨p.val / 64, by omega⟩ j) * Ideal.div (Spec.fl 0x3F800000#32) (s (ix2 i p)) := by
    unfold deqA
    pointwise
    rfl
  rw [e, hk, hq, hs, code_toInt]
  rfl

/-- The dequantised weights' outputs. -/
theorem outs_at (x : FVec Ideal S3x256x2880 .bf16) (d : FVec Ideal S20x2880x5760 .bf16) (X : ℕ → ℕ → ℕ → EReal) (D : ℕ → ℕ → ℕ → EReal)
    (hX : ∀ (b : Fin 3) (t : Fin 256) (k : Fin 2880), x (ix3 b t k) = X b.val t.val k.val)
    (hD : ∀ (i : Fin 20) (k : Fin 2880) (j : Fin 5760), d (ix3 i k j) = D i.val k.val j.val)
    (t : Fin 768) (i : Fin 20) (j : Fin 5760) : outsA x d (ix3 t i j) = Spec.out X (D i.val) t.val j.val := by
  have e : outsA x d (ix3 t i j) = ∑ k : Fin 2880, x (ix3 ⟨t.val / 256, by omega⟩ ⟨t.val % 256, by omega⟩ k) * d (ix3 i k j) := by
    unfold outsA
    pointwise
  rw [e]
  exact sum_fin 2880 _ (fun k => X (t.val / 256) (t.val % 256) k * D i.val k j.val) fun k => congrArg₂ (· * ·) (hX _ _ _) (hD _ _ _)

/-- The differences. -/
theorem off_at (y : FVec Ideal S768x5760 .f32) (z : FVec Ideal S768x20x5760 .f32) (t : Fin 768) (i : Fin 20) (j : Fin 5760) : offA y z (ix3 t i j) = y (ix2 t j) - z (ix3 t i j) := by
  unfold offA
  pointwise

/-- The losses. -/
theorem loss_at (d : FVec Ideal S768x20x5760 .f32) (X : ℕ → ℕ → ℕ → EReal) (W S : ℕ → ℕ → EReal)
    (hd : ∀ (t : Fin 768) (i : Fin 20) (j : Fin 5760), d (ix3 t i j) = Spec.off X W S i.val t.val j.val)
    (i : Fin 20) (j : Fin 5760) : lossA d (ix2 i j) = Spec.loss X W S i.val j.val := by
  have e : lossA d (ix2 i j) = (∑ t : Fin 768, d (ix3 t i j) * d (ix3 t i j)) * Spec.fl 0x3AAAAAAB#32 := by
    unfold lossA
    pointwise
  rw [e]
  exact congrArg (· * _) (sum_fin 768 _ (fun t => Spec.off X W S i.val t j.val * Spec.off X W S i.val t j.val) fun t => congrArg₂ (· * ·) (hd _ _ _) (hd _ _ _))

/-- The reference's losses are those of the search's mathematics. -/
theorem losses_eq (m : (ℓ : Loc nD τ sig) → Buf (Elt Ideal) ℓ) (c : Dev nD) (X : ℕ → ℕ → ℕ → EReal) (W : ℕ → ℕ → EReal)
    (hX : ∀ (b : Fin 3) (t : Fin 256) (k : Fin 2880), m ((c.tc : Thread nD τ).loc main_arg0) (ix3 b t k) = X b.val t.val k.val)
    (hW : ∀ (k : Fin 2880) (j : Fin 5760), m ((c.tc : Thread nD τ).loc main_arg1) (ix2 k j) = W k.val j.val)
    (i : Fin 20) (j : Fin 5760) : Value.res_out0 (F := Ideal) m c (ix2 i j) = Spec.loss X W (Spec.table X W) i.val j.val := by
  rw [out_losses]
  have hT := table_at _ _ X W hX hW
  have hv := scaled_at _ _ W _ hW hT
  have hs := scale_at _ W _ (amax_at _ W _ hv)
  refine loss_at _ X W _ (fun t i j => (off_at _ _ t i j).trans ?_) i j
  exact congrArg₂ (· - ·) (out_at _ _ X W hX hW t j) (outs_at _ _ X _ hX (deq_at _ _ _ W _ (codes_at _ _ W _ hv hs) hs hT) t i j)

end Cert.Proof.Ref
-- ==== Proof.Equation.lean ====
/-
  Both programs end with the same losses, the same codes and the same scales: the kernel's program by its two regions, the reference by its stages, each at
  every place the value of the search's mathematics on the same tokens and weights.
-/
module

public import proofs.«01_k».proof.Defs
public import proofs.«01_k».proof.Proof.ValueEnds
public import proofs.«01_k».proof.Proof.RefLoss
public import proofs.«01_k».proof.Proof.Gen.KernelIdeal
public import proofs.«01_k».proof.Proof.Gen.ReferenceIdeal

@[expose] public section

noncomputable section

namespace Cert.Proof

open Idealize.ShloMosaic Idealize.ShloMosaic.TcCoe
open Cert.KernelIdeal.Gen (hostOps0)

/-- The host part before the regions leaves the first argument transposed. -/
theorem host_tokens (V : Ideal.Val) (b : Fin 3) (k : Fin 2880) (t : Fin 256) :
    StableHlo.after hostOps0 V (Proc.devRef .tc Cert.KernelIdeal.main_v0) (ix3 b k t) = V (Proc.devRef .tc Cert.KernelIdeal.main_arg0) (ix3 b t k) := by
  have e : StableHlo.after hostOps0 V (Proc.devRef .tc Cert.KernelIdeal.main_v0)
      = transpose Cert.KernelIdeal.S3x2880x256 [0, 2, 1] (V (Proc.devRef .tc Cert.KernelIdeal.main_arg0)) Cert.KernelIdeal.Gen.transposes_S3x256x2880_S3x2880x256_0_2_1 := by
    simp only [hostOps0]
    after_results_simp <;> rfl
  rw [e]
  pointwise

/-- The tokens the first region reads are the first argument's. -/
theorem tokens_host (V : Ideal.Val) (b : Fin 3) (t : Fin 256) (k : Fin 2880) :
    V (Proc.devRef .tc Cert.KernelIdeal.main_arg0) (ix3 b t k) = Ideal.tokens (StableHlo.after hostOps0 V) b.val t.val k.val := by
  unfold Ideal.tokens
  rw [dif_pos ⟨b.isLt, k.isLt, t.isLt⟩]
  exact (host_tokens V b k t).symm

/-- The weights both regions read are the second argument's. -/
theorem weights_host (V : Ideal.Val) (k : Fin 2880) (j : Fin 5760) :
    V (Proc.devRef .tc Cert.KernelIdeal.main_arg1) (ix2 k j) = Ideal.weights (StableHlo.after hostOps0 V) k.val j.val := by
  unfold Ideal.weights
  rw [dif_pos ⟨k.isLt, j.isLt⟩]
  exact (congrFun (Ideal.host_args V).2 (ix2 k j)).symm

/-- Arrays of two axes that agree at every place are equal. -/
theorem ext2 {α : Type} {n0 n1 : ℕ} (f g : Shape.Idx ⟨2, ![n0, n1]⟩ → α) (h : ∀ (a : Fin n0) (b : Fin n1), f (ix2 a b) = g (ix2 a b)) : f = g := by
  funext i
  have e : i = ix2 (i 0) (i 1) := by
    funext a
    match a with
    | 0 => rfl
    | 1 => rfl
  rw [e]
  exact h _ _

/-- Arrays of three axes that agree at every place are equal. -/
theorem ext3 {α : Type} {n0 n1 n2 : ℕ} (f g : Shape.Idx ⟨3, ![n0, n1, n2]⟩ → α) (h : ∀ (a : Fin n0) (b : Fin n1) (c : Fin n2), f (ix3 a b c) = g (ix3 a b c)) : f = g := by
  funext i
  have e : i = ix3 (i 0) (i 1) (i 2) := by
    funext a
    match a with
    | 0 => rfl
    | 1 => rfl
    | 2 => rfl
  rw [e]
  exact h _ _ _

/-- The reference's run ends with its arguments as they were and no semaphore raised. -/
theorem frame_reference : Cert.quiescent_ReferenceIdeal := by
  intro m g _
  exact (θ_run Cert.ReferenceIdeal.defs _ _).mono (fun r h => ⟨fun c => (h c).2.2.2, sem_eq_zero_of_no_sems (by decide) r.2⟩)
    (Cert.ReferenceIdeal.Value.run (F := Ideal) m g)

/-- From the same arguments the idealized kernel and the reference end with the same losses, the same codes and the same scales. -/
theorem same_results : Cert.algebraic_KernelIdeal_ReferenceIdeal := by
  intro m g m' g' _ hagree
  refine ⟨fun c => Cert.ReferenceIdeal.Value.res_out0 (F := Ideal) m' c, fun c => Cert.ReferenceIdeal.Value.res_out1 (F := Ideal) m' c,
    fun c => Cert.ReferenceIdeal.Value.res_out2 (F := Ideal) m' c, ?_,
    Cert.ReferenceIdeal.Value.run (F := Ideal) m' g'⟩
  refine θ_run_mono (Ideal.run Ideal.plan (fun _ _ h => absurd rfl h) (fun _ _ h => absurd rfl h) Ideal.step0 Ideal.step1 m g) ?_
  rintro r ⟨h, _⟩ c
  obtain ⟨V₂, hV, hm⟩ := h c
  have e := Ideal.ends_args _ _ c V₂ hV
  have e' := Ideal.host_args (F := Ideal) (fun b => m (c, b))
  obtain ⟨hlosses, hcodes, hscales⟩ := Ideal.ends_values _ c V₂ hV
  have hX : ∀ (b : Fin 3) (t : Fin 256) (k : Fin 2880), m' ((c.tc : Thread Cert.ReferenceIdeal.nD Cert.ReferenceIdeal.τ).loc Cert.ReferenceIdeal.main_arg0) (ix3 b t k)
      = Ideal.tokens (StableHlo.after hostOps0 (fun b => m (c, b))) b.val t.val k.val := fun b t k => by
    rw [(hagree c).1]; exact tokens_host (fun b => m (c, b)) b t k
  have hW : ∀ (k : Fin 2880) (j : Fin 5760), m' ((c.tc : Thread Cert.ReferenceIdeal.nD Cert.ReferenceIdeal.τ).loc Cert.ReferenceIdeal.main_arg1) (ix2 k j)
      = Ideal.weights (StableHlo.after hostOps0 (fun b => m (c, b))) k.val j.val := fun k j => by
    rw [(hagree c).2]; exact weights_host (fun b => m (c, b)) k j
  refine ⟨(hm Cert.KernelIdeal.main_v2_0 rfl).trans (ext2 _ _ fun i j => ?_), (hm Cert.KernelIdeal.main_v2_1 rfl).trans (ext3 _ _ fun i r j => ?_), (hm Cert.KernelIdeal.main_v2_2 rfl).trans (ext3 _ _ fun i q j => ?_),
    (hm Cert.KernelIdeal.main_arg0 rfl).trans (e.1.trans e'.1), (hm Cert.KernelIdeal.main_arg1 rfl).trans (e.2.trans e'.2)⟩
  · exact (hlosses i j).trans (Ref.losses_eq m' c _ _ hX hW i j).symm
  · exact (hcodes i r j).trans (Ref.codes_eq m' c _ _ hX hW i r j).symm
  · exact (hscales i q j).trans (Ref.scales_eq m' c _ _ hX hW i q j).symm

end Cert.Proof

end

end
-- ==== Proof.lean ====
/-
  The claim, from the runs of the programs, the rewrites between the kernel's two programs and the equation with the reference.
-/
module

public import proofs.«01_k».proof.Defs
public import proofs.«01_k».proof.Proof.RunKernel
public import proofs.«01_k».proof.Proof.RunIdeal
public import proofs.«01_k».proof.Proof.Equation
public import Idealize.ShloMosaic.Lib.Bf16Pair

@[expose] public section

namespace Cert.Proof

open Idealize.ShloMosaic

/-- Everything claimed: the three frames, the idealization of the kernel, and its equation with the reference. -/
theorem claim : Cert.Claim :=
  ⟨Cert.Kernel.Gen.facts, Cert.KernelIdeal.Gen.facts, Cert.ReferenceIdeal.Gen.facts,
    fun m g _ => Exact.frame m g, fun m g _ => Ideal.frame m g, frame_reference,
    ⟨IdealRules.bf16_pair.statement _ _ (by decide), IdealRules.bf16_pair.statement _ _ (by decide), IdealRules.truncf_extf.statement _ _ _⟩,
    same_results⟩

end Cert.Proof

end
